-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v677) = v0 c
          ∧ r.2.mem ((c.tc : Thread Cert.ReferenceIdeal.nD Cert.ReferenceIdeal.τ).loc Cert.ReferenceIdeal.main_v679) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x3 : Shape := ⟨3, ![4, 2048, 3]⟩
abbrev S4x2048x64 : Shape := ⟨3, ![4, 2048, 64]⟩
abbrev S4x1x128x128x128 : Shape := ⟨5, ![4, 1, 128, 128, 128]⟩
abbrev S4x8x128x128x128 : Shape := ⟨5, ![4, 8, 128, 128, 128]⟩
abbrev S4x4x4 : Shape := ⟨3, ![4, 4, 4]⟩
abbrev S_ : Shape := ⟨0, ![]⟩
abbrev S4x2048x1 : Shape := ⟨3, ![4, 2048, 1]⟩
abbrev S4x2048x4 : Shape := ⟨3, ![4, 2048, 4]⟩
abbrev S4x3x3 : Shape := ⟨3, ![4, 3, 3]⟩
abbrev S4x2048x1x3 : Shape := ⟨4, ![4, 2048, 1, 3]⟩
abbrev S4x2048x64x1 : Shape := ⟨4, ![4, 2048, 64, 1]⟩
abbrev S4x2048x64x3 : Shape := ⟨4, ![4, 2048, 64, 3]⟩
abbrev S524288 : Shape := ⟨1, ![524288]⟩
abbrev S4x9x128x128x128 : Shape := ⟨5, ![4, 9, 128, 128, 128]⟩
abbrev S4x9x2097152 : Shape := ⟨3, ![4, 9, 2097152]⟩
abbrev S4x2097152x9 : Shape := ⟨3, ![4, 2097152, 9]⟩
abbrev S4x2097152x16 : Shape := ⟨3, ![4, 2097152, 16]⟩
abbrev S8388608x16 : Shape := ⟨2, ![8388608, 16]⟩
abbrev S4194304 : Shape := ⟨1, ![4194304]⟩
abbrev S128 : Shape := ⟨1, ![128]⟩
abbrev S8x128 : Shape := ⟨2, ![8, 128]⟩
abbrev S1024x16 : Shape := ⟨2, ![1024, 16]⟩
abbrev S1024 : Shape := ⟨1, ![1024]⟩
abbrev S16 : Shape := ⟨1, ![16]⟩
abbrev S1x16 : Shape := ⟨2, ![1, 16]⟩
abbrev S128x16 : Shape := ⟨2, ![128, 16]⟩
abbrev S1x128 : Shape := ⟨2, ![1, 128]⟩
abbrev S4x2048x64x8 : Shape := ⟨4, ![4, 2048, 64, 8]⟩

abbrev nBuf : Table → Nat
  | .hbm => 44
  | .local .scVector .vmem => 8
  | _ => 0

abbrev bufTy : (tb : Table) → Fin (nBuf tb) → BufTy
  | .hbm, ⟨0, _⟩ => ⟨S4x2048x3, .f32⟩
  | .hbm, ⟨1, _⟩ => ⟨S4x2048x3, .f32⟩
  | .hbm, ⟨2, _⟩ => ⟨S4x2048x64, .f32⟩
  | .hbm, ⟨3, _⟩ => ⟨S4x1x128x128x128, .f32⟩
  | .hbm, ⟨4, _⟩ => ⟨S4x8x128x128x128, .f32⟩
  | .hbm, ⟨5, _⟩ => ⟨S4x4x4, .f32⟩
  | .hbm, ⟨6, _⟩ => ⟨S_, .f32⟩
  | .hbm, ⟨7, _⟩ => ⟨S4x2048x1, .f32⟩
  | .hbm, ⟨8, _⟩ => ⟨S4x2048x4, .f32⟩
  | .hbm, ⟨9, _⟩ => ⟨S4x2048x4, .f32⟩
  | .hbm, ⟨10, _⟩ => ⟨S4x2048x3, .f32⟩
  | .hbm, ⟨11, _⟩ => ⟨S4x2048x1, .f32⟩
  | .hbm, ⟨12, _⟩ => ⟨S4x2048x3, .f32⟩
  | .hbm, ⟨13, _⟩ => ⟨S4x2048x3, .f32⟩
  | .hbm, ⟨14, _⟩ => ⟨S4x3x3, .f32⟩
  | .hbm, ⟨15, _⟩ => ⟨S4x2048x3, .f32⟩
  | .hbm, ⟨16, _⟩ => ⟨S4x2048x1x3, .f32⟩
  | .hbm, ⟨17, _⟩ => ⟨S4x2048x1x3, .f32⟩
  | .hbm, ⟨18, _⟩ => ⟨S4x2048x64x1, .f32⟩
  | .hbm, ⟨19, _⟩ => ⟨S4x2048x64x3, .f32⟩
  | .hbm, ⟨20, _⟩ => ⟨S4x2048x64x3, .f32⟩
  | .hbm, ⟨21, _⟩ => ⟨S4x2048x64x3, .f32⟩
  | .hbm, ⟨22, _⟩ => ⟨S4x2048x64x3, .f32⟩
  | .hbm, ⟨23, _⟩ => ⟨S4x2048x64x3, .f32⟩
  | .hbm, ⟨24, _⟩ => ⟨S4x2048x64x1, .f32⟩
  | .hbm, ⟨25, _⟩ => ⟨S4x2048x64, .f32⟩
  | .hbm, ⟨26, _⟩ => ⟨S524288, .f32⟩
  | .hbm, ⟨27, _⟩ => ⟨S4x2048x64x1, .f32⟩
  | .hbm, ⟨28, _⟩ => ⟨S4x2048x64, .f32⟩
  | .hbm, ⟨29, _⟩ => ⟨S524288, .f32⟩
  | .hbm, ⟨30, _⟩ => ⟨S4x2048x64x1, .f32⟩
  | .hbm, ⟨31, _⟩ => ⟨S4x2048x64, .f32⟩
  | .hbm, ⟨32, _⟩ => ⟨S524288, .f32⟩
  | .hbm, ⟨33, _⟩ => ⟨S4x9x128x128x128, .f32⟩
  | .hbm, ⟨34, _⟩ => ⟨S4x9x2097152, .f32⟩
  | .hbm, ⟨35, _⟩ => ⟨S4x2097152x9, .f32⟩
  | .hbm, ⟨36, _⟩ => ⟨S_, .i32⟩
  | .hbm, ⟨37, _⟩ => ⟨S_, .f32⟩
  | .hbm, ⟨38, _⟩ => ⟨S4x2097152x16, .f32⟩
  | .hbm, ⟨39, _⟩ => ⟨S8388608x16, .f32⟩
  | .hbm, ⟨40, _⟩ => ⟨S524288, .f32⟩
  | .hbm, ⟨41, _⟩ => ⟨S4194304, .f32⟩
  | .hbm, ⟨42, _⟩ => ⟨S4x2048x64x1, .f32⟩
  | .hbm, ⟨43, _⟩ => ⟨S4x2048x64x8, .f32⟩
  | .local .scVector .vmem, ⟨0, _⟩ => ⟨S128, .f32⟩
  | .local .scVector .vmem, ⟨1, _⟩ => ⟨S128, .f32⟩
  | .local .scVector .vmem, ⟨2, _⟩ => ⟨S128, .f32⟩
  | .local .scVector .vmem, ⟨3, _⟩ => ⟨S8x128, .i32⟩
  | .local .scVector .vmem, ⟨4, _⟩ => ⟨S8x128, .f32⟩
  | .local .scVector .vmem, ⟨5, _⟩ => ⟨S1024x16, .f32⟩
  | .local .scVector .vmem, ⟨6, _⟩ => ⟨S128, .f32⟩
  | .local .scVector .vmem, ⟨7, _⟩ => ⟨S1024, .f32⟩
  | _, _ => ⟨S4x2048x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c : Ref sig .tc := ⟨.hbm, 36, rfl⟩
abbrev main_call0_v0 : Ref sig .tc := ⟨.hbm, 37, rfl⟩
abbrev main_v29 : Ref sig .tc := ⟨.hbm, 38, rfl⟩
abbrev main_v30 : Ref sig .tc := ⟨.hbm, 39, rfl⟩
abbrev main_v31_0 : Ref sig .tc := ⟨.hbm, 40, rfl⟩
abbrev main_v31_1 : Ref sig .tc := ⟨.hbm, 41, rfl⟩
abbrev main_v32 : Ref sig .tc := ⟨.hbm, 42, rfl⟩
abbrev main_v33 : Ref sig .tc := ⟨.hbm, 43, rfl⟩
abbrev main_v30_scv : Ref sig .scVector := ⟨.hbm, 39, rfl⟩
abbrev main_v19_scv : Ref sig .scVector := ⟨.hbm, 26, rfl⟩
abbrev main_v22_scv : Ref sig .scVector := ⟨.hbm, 29, rfl⟩
abbrev main_v25_scv : Ref sig .scVector := ⟨.hbm, 32, rfl⟩
abbrev main_v31_0_scv : Ref sig .scVector := ⟨.hbm, 40, rfl⟩
abbrev main_v31_1_scv : Ref sig .scVector := ⟨.hbm, 41, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_5 : BitVec 32 := 0#32
  let c128_i32 : BitVec 32 := 128#32
  let v21 : BitVec 32 := Scalar.addi c0_i32_5 c128_i32
  let c1_i32_6 : BitVec 32 := 1#32
  ⟨c0_i32_5, v21, c1_i32_6⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v22 : BitVec 32 := Scalar.muli v1 c16384_i32
  let c0_i32_5 : BitVec 32 := 0#32
  let c1_i32_6 : BitVec 32 := 1#32
  let arg17 : BitVec 32 := Scf.iv c0_i32_5 c1_i32_6 k0_t1
  let c128_i32_8 : BitVec 32 := 128#32
  let v23 : BitVec 32 := Scalar.muli arg17 c128_i32_8
  let v24 : BitVec 32 := Scalar.addi v22 v23
  ![v24.toNat]
@[reducible] def k0_t2_loop : Scf.Loop 32 :=
  let c0_i32_10 : BitVec 32 := 0#32
  let c8_i32_11 : BitVec 32 := 8#32
  let v25 : BitVec 32 := Scalar.addi c0_i32_10 c8_i32_11
  let c1_i32_12 : BitVec 32 := 1#32
  ⟨c0_i32_10, v25, c1_i32_12⟩
def k0_off2 (k0_t2 : Fin k0_t2_loop.trips) : Fin 1 → Nat :=
  let c0_i32_10 : BitVec 32 := 0#32
  let c1_i32_12 : BitVec 32 := 1#32
  let arg18 : BitVec 32 := Scf.iv c0_i32_10 c1_i32_12 k0_t2
  let c16_i32 : BitVec 32 := 16#32
  let v92 : BitVec 32 := Scalar.muli arg18 c16_i32
  let v93 : Index := Scalar.indexCast v92
  ![v93.toNat]
def k0_off3 (k0_t2 : Fin k0_t2_loop.trips) : Fin 2 → Nat :=
  let c0_i32_153 : BitVec 32 := 0#32
  let v224 : Index := Scalar.indexCast c0_i32_153
  let c0_i32_10 : BitVec 32 := 0#32
  let c1_i32_12 : BitVec 32 := 1#32
  let arg18 : BitVec 32 := Scf.iv c0_i32_10 c1_i32_12 k0_t2
  let c16_i32 : BitVec 32 := 16#32
  let v92 : BitVec 32 := Scalar.muli arg18 c16_i32
  let v225 : Index := Scalar.indexCast v92
  ![0, v225.toNat]
def k0_off4 (k0_t2 : Fin k0_t2_loop.trips) : Fin 2 → Nat :=
  let c1_i32_157 : BitVec 32 := 1#32
  let v240 : Index := Scalar.indexCast c1_i32_157
  let c0_i32_10 : BitVec 32 := 0#32
  let c1_i32_12 : BitVec 32 := 1#32
  let arg18 : BitVec 32 := Scf.iv c0_i32_10 c1_i32_12 k0_t2
  let c16_i32 : BitVec 32 := 16#32
  let v92 : BitVec 32 := Scalar.muli arg18 c16_i32
  let v241 : Index := Scalar.indexCast v92
  ![1, v241.toNat]
def k0_off5 (k0_t2 : Fin k0_t2_loop.trips) : Fin 2 → Nat :=
  let c2_i32_161 : BitVec 32 := 2#32
  let v256 : Index := Scalar.indexCast c2_i32_161
  let c0_i32_10 : BitVec 32 := 0#32
  let c1_i32_12 : BitVec 32 := 1#32
  let arg18 : BitVec 32 := Scf.iv c0_i32_10 c1_i32_12 k0_t2
  let c16_i32 : BitVec 32 := 16#32
  let v92 : BitVec 32 := Scalar.muli arg18 c16_i32
  let v257 : Index := Scalar.indexCast v92
  ![2, v257.toNat]
def k0_off6 (k0_t2 : Fin k0_t2_loop.trips) : Fin 2 → Nat :=
  let c3_i32_165 : BitVec 32 := 3#32
  let v272 : Index := Scalar.indexCast c3_i32_165
  let c0_i32_10 : BitVec 32 := 0#32
  let c1_i32_12 : BitVec 32 := 1#32
  let arg18 : BitVec 32 := Scf.iv c0_i32_10 c1_i32_12 k0_t2
  let c16_i32 : BitVec 32 := 16#32
  let v92 : BitVec 32 := Scalar.muli arg18 c16_i32
  let v273 : Index := Scalar.indexCast v92
  ![3, v273.toNat]
def k0_off7 (k0_t2 : Fin k0_t2_loop.trips) : Fin 2 → Nat :=
  let c4_i32_169 : BitVec 32 := 4#32
  let v288 : Index := Scalar.indexCast c4_i32_169
  let c0_i32_10 : BitVec 32 := 0#32
  let c1_i32_12 : BitVec 32 := 1#32
  let arg18 : BitVec 32 := Scf.iv c0_i32_10 c1_i32_12 k0_t2
  let c16_i32 : BitVec 32 := 16#32
  let v92 : BitVec 32 := Scalar.muli arg18 c16_i32
  let v289 : Index := Scalar.indexCast v92
  ![4, v289.toNat]
def k0_off8 (k0_t2 : Fin k0_t2_loop.trips) : Fin 2 → Nat :=
  let c5_i32_173 : BitVec 32 := 5#32
  let v304 : Index := Scalar.indexCast c5_i32_173
  let c0_i32_10 : BitVec 32 := 0#32
  let c1_i32_12 : BitVec 32 := 1#32
  let arg18 : BitVec 32 := Scf.iv c0_i32_10 c1_i32_12 k0_t2
  let c16_i32 : BitVec 32 := 16#32
  let v92 : BitVec 32 := Scalar.muli arg18 c16_i32
  let v305 : Index := Scalar.indexCast v92
  ![5, v305.toNat]
def k0_off9 (k0_t2 : Fin k0_t2_loop.trips) : Fin 2 → Nat :=
  let c6_i32_177 : BitVec 32 := 6#32
  let v320 : Index := Scalar.indexCast c6_i32_177
  let c0_i32_10 : BitVec 32 := 0#32
  let c1_i32_12 : BitVec 32 := 1#32
  let arg18 : BitVec 32 := Scf.iv c0_i32_10 c1_i32_12 k0_t2
  let c16_i32 : BitVec 32 := 16#32
  let v92 : BitVec 32 := Scalar.muli arg18 c16_i32
  let v321 : Index := Scalar.indexCast v92
  ![6, v321.toNat]
def k0_off10 (k0_t2 : Fin k0_t2_loop.trips) : Fin 2 → Nat :=
  let c7_i32_181 : BitVec 32 := 7#32
  let v336 : Index := Scalar.indexCast c7_i32_181
  let c0_i32_10 : BitVec 32 := 0#32
  let c1_i32_12 : BitVec 32 := 1#32
  let arg18 : BitVec 32 := Scf.iv c0_i32_10 c1_i32_12 k0_t2
  let c16_i32 : BitVec 32 := 16#32
  let v92 : BitVec 32 := Scalar.muli arg18 c16_i32
  let v337 : Index := Scalar.indexCast v92
  ![7, v337.toNat]
@[reducible] def k0_t3_loop : Scf.Loop 32 :=
  let c0_i32_100 : BitVec 32 := 0#32
  let c8_i32_101 : BitVec 32 := 8#32
  let v90 : BitVec 32 := Scalar.addi c0_i32_100 c8_i32_101
  let c1_i32_102 : BitVec 32 := 1#32
  ⟨c0_i32_100, v90, c1_i32_102⟩

def k0_chk1 (v96 : IVec S16 32) (v99 : IVec S16 32) : Prop :=
  (∀ a x, ((![v99, v96] : Fin 2 → IVec S16 32) a x).toNat < S1024x16.size a)
theorem k0_idx1_inb : ∀ (v96 : IVec S16 32) (v99 : IVec S16 32) (k0_hw1 : k0_chk1 v96 v99), ∀ a x, ((![v99, v96] : Fin 2 → IVec S16 32) a x).toNat < S1024x16.size a := fun v96 v99 k0_hw1 => k0_hw1
def k0_off11 (k0_t3 : Fin k0_t3_loop.trips) : Fin 2 → Nat :=
  let c0_i32_108 : BitVec 32 := 0#32
  let v101 : Index := Scalar.indexCast c0_i32_108
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v102 : Index := Scalar.indexCast v92
  ![0, v102.toNat]

def k0_chk2 (v96 : IVec S16 32) (v107 : IVec S16 32) : Prop :=
  (∀ a x, ((![v107, v96] : Fin 2 → IVec S16 32) a x).toNat < S1024x16.size a)
theorem k0_idx2_inb : ∀ (v96 : IVec S16 32) (v107 : IVec S16 32) (k0_hw2 : k0_chk2 v96 v107), ∀ a x, ((![v107, v96] : Fin 2 → IVec S16 32) a x).toNat < S1024x16.size a := fun v96 v107 k0_hw2 => k0_hw2
def k0_off12 (k0_t3 : Fin k0_t3_loop.trips) : Fin 2 → Nat :=
  let c1_i32_110 : BitVec 32 := 1#32
  let v109 : Index := Scalar.indexCast c1_i32_110
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v110 : Index := Scalar.indexCast v92
  ![1, v110.toNat]

def k0_chk3 (v96 : IVec S16 32) (v115 : IVec S16 32) : Prop :=
  (∀ a x, ((![v115, v96] : Fin 2 → IVec S16 32) a x).toNat < S1024x16.size a)
theorem k0_idx3_inb : ∀ (v96 : IVec S16 32) (v115 : IVec S16 32) (k0_hw3 : k0_chk3 v96 v115), ∀ a x, ((![v115, v96] : Fin 2 → IVec S16 32) a x).toNat < S1024x16.size a := fun v96 v115 k0_hw3 => k0_hw3
def k0_off13 (k0_t3 : Fin k0_t3_loop.trips) : Fin 2 → Nat :=
  let c2_i32_112 : BitVec 32 := 2#32
  let v117 : Index := Scalar.indexCast c2_i32_112
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v118 : Index := Scalar.indexCast v92
  ![2, v118.toNat]

def k0_chk4 (v96 : IVec S16 32) (v123 : IVec S16 32) : Prop :=
  (∀ a x, ((![v123, v96] : Fin 2 → IVec S16 32) a x).toNat < S1024x16.size a)
theorem k0_idx4_inb : ∀ (v96 : IVec S16 32) (v123 : IVec S16 32) (k0_hw4 : k0_chk4 v96 v123), ∀ a x, ((![v123, v96] : Fin 2 → IVec S16 32) a x).toNat < S1024x16.size a := fun v96 v123 k0_hw4 => k0_hw4
def k0_off14 (k0_t3 : Fin k0_t3_loop.trips) : Fin 2 → Nat :=
  let c3_i32_114 : BitVec 32 := 3#32
  let v125 : Index := Scalar.indexCast c3_i32_114
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v126 : Index := Scalar.indexCast v92
  ![3, v126.toNat]

def k0_chk5 (v96 : IVec S16 32) (v131 : IVec S16 32) : Prop :=
  (∀ a x, ((![v131, v96] : Fin 2 → IVec S16 32) a x).toNat < S1024x16.size a)
theorem k0_idx5_inb : ∀ (v96 : IVec S16 32) (v131 : IVec S16 32) (k0_hw5 : k0_chk5 v96 v131), ∀ a x, ((![v131, v96] : Fin 2 → IVec S16 32) a x).toNat < S1024x16.size a := fun v96 v131 k0_hw5 => k0_hw5
def k0_off15 (k0_t3 : Fin k0_t3_loop.trips) : Fin 2 → Nat :=
  let c4_i32_116 : BitVec 32 := 4#32
  let v133 : Index := Scalar.indexCast c4_i32_116
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v134 : Index := Scalar.indexCast v92
  ![4, v134.toNat]

def k0_chk6 (v96 : IVec S16 32) (v139 : IVec S16 32) : Prop :=
  (∀ a x, ((![v139, v96] : Fin 2 → IVec S16 32) a x).toNat < S1024x16.size a)
theorem k0_idx6_inb : ∀ (v96 : IVec S16 32) (v139 : IVec S16 32) (k0_hw6 : k0_chk6 v96 v139), ∀ a x, ((![v139, v96] : Fin 2 → IVec S16 32) a x).toNat < S1024x16.size a := fun v96 v139 k0_hw6 => k0_hw6
def k0_off16 (k0_t3 : Fin k0_t3_loop.trips) : Fin 2 → Nat :=
  let c5_i32_118 : BitVec 32 := 5#32
  let v141 : Index := Scalar.indexCast c5_i32_118
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v142 : Index := Scalar.indexCast v92
  ![5, v142.toNat]

def k0_chk7 (v96 : IVec S16 32) (v147 : IVec S16 32) : Prop :=
  (∀ a x, ((![v147, v96] : Fin 2 → IVec S16 32) a x).toNat < S1024x16.size a)
theorem k0_idx7_inb : ∀ (v96 : IVec S16 32) (v147 : IVec S16 32) (k0_hw7 : k0_chk7 v96 v147), ∀ a x, ((![v147, v96] : Fin 2 → IVec S16 32) a x).toNat < S1024x16.size a := fun v96 v147 k0_hw7 => k0_hw7
def k0_off17 (k0_t3 : Fin k0_t3_loop.trips) : Fin 2 → Nat :=
  let c6_i32_120 : BitVec 32 := 6#32
  let v149 : Index := Scalar.indexCast c6_i32_120
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v150 : Index := Scalar.indexCast v92
  ![6, v150.toNat]

def k0_chk8 (v96 : IVec S16 32) (v155 : IVec S16 32) : Prop :=
  (∀ a x, ((![v155, v96] : Fin 2 → IVec S16 32) a x).toNat < S1024x16.size a)
theorem k0_idx8_inb : ∀ (v96 : IVec S16 32) (v155 : IVec S16 32) (k0_hw8 : k0_chk8 v96 v155), ∀ a x, ((![v155, v96] : Fin 2 → IVec S16 32) a x).toNat < S1024x16.size a := fun v96 v155 k0_hw8 => k0_hw8
def k0_off18 (k0_t3 : Fin k0_t3_loop.trips) : Fin 2 → Nat :=
  let c7_i32_122 : BitVec 32 := 7#32
  let v157 : Index := Scalar.indexCast c7_i32_122
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v158 : Index := Scalar.indexCast v92
  ![7, v158.toNat]
def k0_off19 (k0_t3 : Fin k0_t3_loop.trips) : Fin 1 → Nat :=
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v162 : Index := Scalar.indexCast v92
  ![v162.toNat]

def k0_chk9 (v164 : IVec S16 32) (v167 : IVec S16 32) : Prop :=
  (∀ a x, ((![v167, v164] : Fin 2 → IVec S16 32) a x).toNat < S1024x16.size a)
theorem k0_idx9_inb : ∀ (v164 : IVec S16 32) (v167 : IVec S16 32) (k0_hw9 : k0_chk9 v164 v167), ∀ a x, ((![v167, v164] : Fin 2 → IVec S16 32) a x).toNat < S1024x16.size a := fun v164 v167 k0_hw9 => k0_hw9
def k0_off20 (k0_t3 : Fin k0_t3_loop.trips) : Fin 2 → Nat :=
  let c0_i32_126 : BitVec 32 := 0#32
  let v169 : Index := Scalar.indexCast c0_i32_126
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v170 : Index := Scalar.indexCast v92
  ![0, v170.toNat]

def k0_chk10 (v164 : IVec S16 32) (v175 : IVec S16 32) : Prop :=
  (∀ a x, ((![v175, v164] : Fin 2 → IVec S16 32) a x).toNat < S1024x16.size a)
theorem k0_idx10_inb : ∀ (v164 : IVec S16 32) (v175 : IVec S16 32) (k0_hw10 : k0_chk10 v164 v175), ∀ a x, ((![v175, v164] : Fin 2 → IVec S16 32) a x).toNat < S1024x16.size a := fun v164 v175 k0_hw10 => k0_hw10
def k0_off21 (k0_t3 : Fin k0_t3_loop.trips) : Fin 2 → Nat :=
  let c1_i32_128 : BitVec 32 := 1#32
  let v177 : Index := Scalar.indexCast c1_i32_128
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v178 : Index := Scalar.indexCast v92
  ![1, v178.toNat]

def k0_chk11 (v164 : IVec S16 32) (v183 : IVec S16 32) : Prop :=
  (∀ a x, ((![v183, v164] : Fin 2 → IVec S16 32) a x).toNat < S1024x16.size a)
theorem k0_idx11_inb : ∀ (v164 : IVec S16 32) (v183 : IVec S16 32) (k0_hw11 : k0_chk11 v164 v183), ∀ a x, ((![v183, v164] : Fin 2 → IVec S16 32) a x).toNat < S1024x16.size a := fun v164 v183 k0_hw11 => k0_hw11
def k0_off22 (k0_t3 : Fin k0_t3_loop.trips) : Fin 2 → Nat :=
  let c2_i32_130 : BitVec 32 := 2#32
  let v185 : Index := Scalar.indexCast c2_i32_130
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v186 : Index := Scalar.indexCast v92
  ![2, v186.toNat]

def k0_chk12 (v164 : IVec S16 32) (v191 : IVec S16 32) : Prop :=
  (∀ a x, ((![v191, v164] : Fin 2 → IVec S16 32) a x).toNat < S1024x16.size a)
theorem k0_idx12_inb : ∀ (v164 : IVec S16 32) (v191 : IVec S16 32) (k0_hw12 : k0_chk12 v164 v191), ∀ a x, ((![v191, v164] : Fin 2 → IVec S16 32) a x).toNat < S1024x16.size a := fun v164 v191 k0_hw12 => k0_hw12
def k0_off23 (k0_t3 : Fin k0_t3_loop.trips) : Fin 2 → Nat :=
  let c3_i32_132 : BitVec 32 := 3#32
  let v193 : Index := Scalar.indexCast c3_i32_132
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v194 : Index := Scalar.indexCast v92
  ![3, v194.toNat]

def k0_chk13 (v164 : IVec S16 32) (v199 : IVec S16 32) : Prop :=
  (∀ a x, ((![v199, v164] : Fin 2 → IVec S16 32) a x).toNat < S1024x16.size a)
theorem k0_idx13_inb : ∀ (v164 : IVec S16 32) (v199 : IVec S16 32) (k0_hw13 : k0_chk13 v164 v199), ∀ a x, ((![v199, v164] : Fin 2 → IVec S16 32) a x).toNat < S1024x16.size a := fun v164 v199 k0_hw13 => k0_hw13
def k0_off24 (k0_t3 : Fin k0_t3_loop.trips) : Fin 2 → Nat :=
  let c4_i32_134 : BitVec 32 := 4#32
  let v201 : Index := Scalar.indexCast c4_i32_134
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v202 : Index := Scalar.indexCast v92
  ![4, v202.toNat]

def k0_chk14 (v164 : IVec S16 32) (v207 : IVec S16 32) : Prop :=
  (∀ a x, ((![v207, v164] : Fin 2 → IVec S16 32) a x).toNat < S1024x16.size a)
theorem k0_idx14_inb : ∀ (v164 : IVec S16 32) (v207 : IVec S16 32) (k0_hw14 : k0_chk14 v164 v207), ∀ a x, ((![v207, v164] : Fin 2 → IVec S16 32) a x).toNat < S1024x16.size a := fun v164 v207 k0_hw14 => k0_hw14
def k0_off25 (k0_t3 : Fin k0_t3_loop.trips) : Fin 2 → Nat :=
  let c5_i32_136 : BitVec 32 := 5#32
  let v209 : Index := Scalar.indexCast c5_i32_136
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v210 : Index := Scalar.indexCast v92
  ![5, v210.toNat]

def k0_chk15 (v164 : IVec S16 32) (v215 : IVec S16 32) : Prop :=
  (∀ a x, ((![v215, v164] : Fin 2 → IVec S16 32) a x).toNat < S1024x16.size a)
theorem k0_idx15_inb : ∀ (v164 : IVec S16 32) (v215 : IVec S16 32) (k0_hw15 : k0_chk15 v164 v215), ∀ a x, ((![v215, v164] : Fin 2 → IVec S16 32) a x).toNat < S1024x16.size a := fun v164 v215 k0_hw15 => k0_hw15
def k0_off26 (k0_t3 : Fin k0_t3_loop.trips) : Fin 2 → Nat :=
  let c6_i32_138 : BitVec 32 := 6#32
  let v217 : Index := Scalar.indexCast c6_i32_138
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v218 : Index := Scalar.indexCast v92
  ![6, v218.toNat]

def k0_chk16 (v164 : IVec S16 32) (v223 : IVec S16 32) : Prop :=
  (∀ a x, ((![v223, v164] : Fin 2 → IVec S16 32) a x).toNat < S1024x16.size a)
theorem k0_idx16_inb : ∀ (v164 : IVec S16 32) (v223 : IVec S16 32) (k0_hw16 : k0_chk16 v164 v223), ∀ a x, ((![v223, v164] : Fin 2 → IVec S16 32) a x).toNat < S1024x16.size a := fun v164 v223 k0_hw16 => k0_hw16
def k0_off27 (k0_t3 : Fin k0_t3_loop.trips) : Fin 2 → Nat :=
  let c7_i32_140 : BitVec 32 := 7#32
  let v225 : Index := Scalar.indexCast c7_i32_140
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v226 : Index := Scalar.indexCast v92
  ![7, v226.toNat]

def k0_chk17 (v236 : IVec S16 32) : Prop :=
  (∀ a x, ((![v236] : Fin 1 → IVec S16 32) a x).toNat < S1024.size a)
theorem k0_idx17_inb : ∀ (v236 : IVec S16 32) (k0_hw17 : k0_chk17 v236), ∀ a x, ((![v236] : Fin 1 → IVec S16 32) a x).toNat < S1024.size a := fun v236 k0_hw17 => k0_hw17

def k0_chk18 (v237 : IVec S16 32) (v240 : IVec S16 32) : Prop :=
  (∀ a x, ((![v240, v237] : Fin 2 → IVec S16 32) a x).toNat < S1024x16.size a)
theorem k0_idx18_inb : ∀ (v237 : IVec S16 32) (v240 : IVec S16 32) (k0_hw18 : k0_chk18 v237 v240), ∀ a x, ((![v240, v237] : Fin 2 → IVec S16 32) a x).toNat < S1024x16.size a := fun v237 v240 k0_hw18 => k0_hw18
def k0_off28 (k0_t3 : Fin k0_t3_loop.trips) : Fin 2 → Nat :=
  let c0_i32_147 : BitVec 32 := 0#32
  let v242 : Index := Scalar.indexCast c0_i32_147
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v243 : Index := Scalar.indexCast v92
  ![0, v243.toNat]

def k0_chk19 (v237 : IVec S16 32) (v248 : IVec S16 32) : Prop :=
  (∀ a x, ((![v248, v237] : Fin 2 → IVec S16 32) a x).toNat < S1024x16.size a)
theorem k0_idx19_inb : ∀ (v237 : IVec S16 32) (v248 : IVec S16 32) (k0_hw19 : k0_chk19 v237 v248), ∀ a x, ((![v248, v237] : Fin 2 → IVec S16 32) a x).toNat < S1024x16.size a := fun v237 v248 k0_hw19 => k0_hw19
def k0_off29 (k0_t3 : Fin k0_t3_loop.trips) : Fin 2 → Nat :=
  let c1_i32_149 : BitVec 32 := 1#32
  let v250 : Index := Scalar.indexCast c1_i32_149
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v251 : Index := Scalar.indexCast v92
  ![1, v251.toNat]

def k0_chk20 (v237 : IVec S16 32) (v256 : IVec S16 32) : Prop :=
  (∀ a x, ((![v256, v237] : Fin 2 → IVec S16 32) a x).toNat < S1024x16.size a)
theorem k0_idx20_inb : ∀ (v237 : IVec S16 32) (v256 : IVec S16 32) (k0_hw20 : k0_chk20 v237 v256), ∀ a x, ((![v256, v237] : Fin 2 → IVec S16 32) a x).toNat < S1024x16.size a := fun v237 v256 k0_hw20 => k0_hw20
def k0_off30 (k0_t3 : Fin k0_t3_loop.trips) : Fin 2 → Nat :=
  let c2_i32_151 : BitVec 32 := 2#32
  let v258 : Index := Scalar.indexCast c2_i32_151
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v259 : Index := Scalar.indexCast v92
  ![2, v259.toNat]

def k0_chk21 (v237 : IVec S16 32) (v264 : IVec S16 32) : Prop :=
  (∀ a x, ((![v264, v237] : Fin 2 → IVec S16 32) a x).toNat < S1024x16.size a)
theorem k0_idx21_inb : ∀ (v237 : IVec S16 32) (v264 : IVec S16 32) (k0_hw21 : k0_chk21 v237 v264), ∀ a x, ((![v264, v237] : Fin 2 → IVec S16 32) a x).toNat < S1024x16.size a := fun v237 v264 k0_hw21 => k0_hw21
def k0_off31 (k0_t3 : Fin k0_t3_loop.trips) : Fin 2 → Nat :=
  let c3_i32_153 : BitVec 32 := 3#32
  let v266 : Index := Scalar.indexCast c3_i32_153
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v267 : Index := Scalar.indexCast v92
  ![3, v267.toNat]

def k0_chk22 (v237 : IVec S16 32) (v272 : IVec S16 32) : Prop :=
  (∀ a x, ((![v272, v237] : Fin 2 → IVec S16 32) a x).toNat < S1024x16.size a)
theorem k0_idx22_inb : ∀ (v237 : IVec S16 32) (v272 : IVec S16 32) (k0_hw22 : k0_chk22 v237 v272), ∀ a x, ((![v272, v237] : Fin 2 → IVec S16 32) a x).toNat < S1024x16.size a := fun v237 v272 k0_hw22 => k0_hw22
def k0_off32 (k0_t3 : Fin k0_t3_loop.trips) : Fin 2 → Nat :=
  let c4_i32_155 : BitVec 32 := 4#32
  let v274 : Index := Scalar.indexCast c4_i32_155
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v275 : Index := Scalar.indexCast v92
  ![4, v275.toNat]

def k0_chk23 (v237 : IVec S16 32) (v280 : IVec S16 32) : Prop :=
  (∀ a x, ((![v280, v237] : Fin 2 → IVec S16 32) a x).toNat < S1024x16.size a)
theorem k0_idx23_inb : ∀ (v237 : IVec S16 32) (v280 : IVec S16 32) (k0_hw23 : k0_chk23 v237 v280), ∀ a x, ((![v280, v237] : Fin 2 → IVec S16 32) a x).toNat < S1024x16.size a := fun v237 v280 k0_hw23 => k0_hw23
def k0_off33 (k0_t3 : Fin k0_t3_loop.trips) : Fin 2 → Nat :=
  let c5_i32_157 : BitVec 32 := 5#32
  let v282 : Index := Scalar.indexCast c5_i32_157
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v283 : Index := Scalar.indexCast v92
  ![5, v283.toNat]

def k0_chk24 (v237 : IVec S16 32) (v288 : IVec S16 32) : Prop :=
  (∀ a x, ((![v288, v237] : Fin 2 → IVec S16 32) a x).toNat < S1024x16.size a)
theorem k0_idx24_inb : ∀ (v237 : IVec S16 32) (v288 : IVec S16 32) (k0_hw24 : k0_chk24 v237 v288), ∀ a x, ((![v288, v237] : Fin 2 → IVec S16 32) a x).toNat < S1024x16.size a := fun v237 v288 k0_hw24 => k0_hw24
def k0_off34 (k0_t3 : Fin k0_t3_loop.trips) : Fin 2 → Nat :=
  let c6_i32_159 : BitVec 32 := 6#32
  let v290 : Index := Scalar.indexCast c6_i32_159
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v291 : Index := Scalar.indexCast v92
  ![6, v291.toNat]

def k0_chk25 (v237 : IVec S16 32) (v296 : IVec S16 32) : Prop :=
  (∀ a x, ((![v296, v237] : Fin 2 → IVec S16 32) a x).toNat < S1024x16.size a)
theorem k0_idx25_inb : ∀ (v237 : IVec S16 32) (v296 : IVec S16 32) (k0_hw25 : k0_chk25 v237 v296), ∀ a x, ((![v296, v237] : Fin 2 → IVec S16 32) a x).toNat < S1024x16.size a := fun v237 v296 k0_hw25 => k0_hw25
def k0_off35 (k0_t3 : Fin k0_t3_loop.trips) : Fin 2 → Nat :=
  let c7_i32_161 : BitVec 32 := 7#32
  let v298 : Index := Scalar.indexCast c7_i32_161
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v299 : Index := Scalar.indexCast v92
  ![7, v299.toNat]

def k0_chk26 (v309 : IVec S16 32) : Prop :=
  (∀ a x, ((![v309] : Fin 1 → IVec S16 32) a x).toNat < S1024.size a)
theorem k0_idx26_inb : ∀ (v309 : IVec S16 32) (k0_hw26 : k0_chk26 v309), ∀ a x, ((![v309] : Fin 1 → IVec S16 32) a x).toNat < S1024.size a := fun v309 k0_hw26 => k0_hw26

def k0_chk27 (v310 : IVec S16 32) (v313 : IVec S16 32) : Prop :=
  (∀ a x, ((![v313, v310] : Fin 2 → IVec S16 32) a x).toNat < S1024x16.size a)
theorem k0_idx27_inb : ∀ (v310 : IVec S16 32) (v313 : IVec S16 32) (k0_hw27 : k0_chk27 v310 v313), ∀ a x, ((![v313, v310] : Fin 2 → IVec S16 32) a x).toNat < S1024x16.size a := fun v310 v313 k0_hw27 => k0_hw27
def k0_off36 (k0_t3 : Fin k0_t3_loop.trips) : Fin 2 → Nat :=
  let c0_i32_168 : BitVec 32 := 0#32
  let v315 : Index := Scalar.indexCast c0_i32_168
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v316 : Index := Scalar.indexCast v92
  ![0, v316.toNat]

def k0_chk28 (v310 : IVec S16 32) (v321 : IVec S16 32) : Prop :=
  (∀ a x, ((![v321, v310] : Fin 2 → IVec S16 32) a x).toNat < S1024x16.size a)
theorem k0_idx28_inb : ∀ (v310 : IVec S16 32) (v321 : IVec S16 32) (k0_hw28 : k0_chk28 v310 v321), ∀ a x, ((![v321, v310] : Fin 2 → IVec S16 32) a x).toNat < S1024x16.size a := fun v310 v321 k0_hw28 => k0_hw28
def k0_off37 (k0_t3 : Fin k0_t3_loop.trips) : Fin 2 → Nat :=
  let c1_i32_170 : BitVec 32 := 1#32
  let v323 : Index := Scalar.indexCast c1_i32_170
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v324 : Index := Scalar.indexCast v92
  ![1, v324.toNat]

def k0_chk29 (v310 : IVec S16 32) (v329 : IVec S16 32) : Prop :=
  (∀ a x, ((![v329, v310] : Fin 2 → IVec S16 32) a x).toNat < S1024x16.size a)
theorem k0_idx29_inb : ∀ (v310 : IVec S16 32) (v329 : IVec S16 32) (k0_hw29 : k0_chk29 v310 v329), ∀ a x, ((![v329, v310] : Fin 2 → IVec S16 32) a x).toNat < S1024x16.size a := fun v310 v329 k0_hw29 => k0_hw29
def k0_off38 (k0_t3 : Fin k0_t3_loop.trips) : Fin 2 → Nat :=
  let c2_i32_172 : BitVec 32 := 2#32
  let v331 : Index := Scalar.indexCast c2_i32_172
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v332 : Index := Scalar.indexCast v92
  ![2, v332.toNat]

def k0_chk30 (v310 : IVec S16 32) (v337 : IVec S16 32) : Prop :=
  (∀ a x, ((![v337, v310] : Fin 2 → IVec S16 32) a x).toNat < S1024x16.size a)
theorem k0_idx30_inb : ∀ (v310 : IVec S16 32) (v337 : IVec S16 32) (k0_hw30 : k0_chk30 v310 v337), ∀ a x, ((![v337, v310] : Fin 2 → IVec S16 32) a x).toNat < S1024x16.size a := fun v310 v337 k0_hw30 => k0_hw30
def k0_off39 (k0_t3 : Fin k0_t3_loop.trips) : Fin 2 → Nat :=
  let c3_i32_174 : BitVec 32 := 3#32
  let v339 : Index := Scalar.indexCast c3_i32_174
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v340 : Index := Scalar.indexCast v92
  ![3, v340.toNat]

def k0_chk31 (v310 : IVec S16 32) (v345 : IVec S16 32) : Prop :=
  (∀ a x, ((![v345, v310] : Fin 2 → IVec S16 32) a x).toNat < S1024x16.size a)
theorem k0_idx31_inb : ∀ (v310 : IVec S16 32) (v345 : IVec S16 32) (k0_hw31 : k0_chk31 v310 v345), ∀ a x, ((![v345, v310] : Fin 2 → IVec S16 32) a x).toNat < S1024x16.size a := fun v310 v345 k0_hw31 => k0_hw31
def k0_off40 (k0_t3 : Fin k0_t3_loop.trips) : Fin 2 → Nat :=
  let c4_i32_176 : BitVec 32 := 4#32
  let v347 : Index := Scalar.indexCast c4_i32_176
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v348 : Index := Scalar.indexCast v92
  ![4, v348.toNat]

def k0_chk32 (v310 : IVec S16 32) (v353 : IVec S16 32) : Prop :=
  (∀ a x, ((![v353, v310] : Fin 2 → IVec S16 32) a x).toNat < S1024x16.size a)
theorem k0_idx32_inb : ∀ (v310 : IVec S16 32) (v353 : IVec S16 32) (k0_hw32 : k0_chk32 v310 v353), ∀ a x, ((![v353, v310] : Fin 2 → IVec S16 32) a x).toNat < S1024x16.size a := fun v310 v353 k0_hw32 => k0_hw32
def k0_off41 (k0_t3 : Fin k0_t3_loop.trips) : Fin 2 → Nat :=
  let c5_i32_178 : BitVec 32 := 5#32
  let v355 : Index := Scalar.indexCast c5_i32_178
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v356 : Index := Scalar.indexCast v92
  ![5, v356.toNat]

def k0_chk33 (v310 : IVec S16 32) (v361 : IVec S16 32) : Prop :=
  (∀ a x, ((![v361, v310] : Fin 2 → IVec S16 32) a x).toNat < S1024x16.size a)
theorem k0_idx33_inb : ∀ (v310 : IVec S16 32) (v361 : IVec S16 32) (k0_hw33 : k0_chk33 v310 v361), ∀ a x, ((![v361, v310] : Fin 2 → IVec S16 32) a x).toNat < S1024x16.size a := fun v310 v361 k0_hw33 => k0_hw33
def k0_off42 (k0_t3 : Fin k0_t3_loop.trips) : Fin 2 → Nat :=
  let c6_i32_180 : BitVec 32 := 6#32
  let v363 : Index := Scalar.indexCast c6_i32_180
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v364 : Index := Scalar.indexCast v92
  ![6, v364.toNat]

def k0_chk34 (v310 : IVec S16 32) (v369 : IVec S16 32) : Prop :=
  (∀ a x, ((![v369, v310] : Fin 2 → IVec S16 32) a x).toNat < S1024x16.size a)
theorem k0_idx34_inb : ∀ (v310 : IVec S16 32) (v369 : IVec S16 32) (k0_hw34 : k0_chk34 v310 v369), ∀ a x, ((![v369, v310] : Fin 2 → IVec S16 32) a x).toNat < S1024x16.size a := fun v310 v369 k0_hw34 => k0_hw34
def k0_off43 (k0_t3 : Fin k0_t3_loop.trips) : Fin 2 → Nat :=
  let c7_i32_182 : BitVec 32 := 7#32
  let v371 : Index := Scalar.indexCast c7_i32_182
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v372 : Index := Scalar.indexCast v92
  ![7, v372.toNat]

def k0_chk35 (v382 : IVec S16 32) : Prop :=
  (∀ a x, ((![v382] : Fin 1 → IVec S16 32) a x).toNat < S1024.size a)
theorem k0_idx35_inb : ∀ (v382 : IVec S16 32) (k0_hw35 : k0_chk35 v382), ∀ a x, ((![v382] : Fin 1 → IVec S16 32) a x).toNat < S1024.size a := fun v382 k0_hw35 => k0_hw35

def k0_chk36 (v383 : IVec S16 32) (v386 : IVec S16 32) : Prop :=
  (∀ a x, ((![v386, v383] : Fin 2 → IVec S16 32) a x).toNat < S1024x16.size a)
theorem k0_idx36_inb : ∀ (v383 : IVec S16 32) (v386 : IVec S16 32) (k0_hw36 : k0_chk36 v383 v386), ∀ a x, ((![v386, v383] : Fin 2 → IVec S16 32) a x).toNat < S1024x16.size a := fun v383 v386 k0_hw36 => k0_hw36
def k0_off44 (k0_t3 : Fin k0_t3_loop.trips) : Fin 2 → Nat :=
  let c0_i32_189 : BitVec 32 := 0#32
  let v388 : Index := Scalar.indexCast c0_i32_189
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v389 : Index := Scalar.indexCast v92
  ![0, v389.toNat]

def k0_chk37 (v383 : IVec S16 32) (v394 : IVec S16 32) : Prop :=
  (∀ a x, ((![v394, v383] : Fin 2 → IVec S16 32) a x).toNat < S1024x16.size a)
theorem k0_idx37_inb : ∀ (v383 : IVec S16 32) (v394 : IVec S16 32) (k0_hw37 : k0_chk37 v383 v394), ∀ a x, ((![v394, v383] : Fin 2 → IVec S16 32) a x).toNat < S1024x16.size a := fun v383 v394 k0_hw37 => k0_hw37
def k0_off45 (k0_t3 : Fin k0_t3_loop.trips) : Fin 2 → Nat :=
  let c1_i32_191 : BitVec 32 := 1#32
  let v396 : Index := Scalar.indexCast c1_i32_191
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v397 : Index := Scalar.indexCast v92
  ![1, v397.toNat]

def k0_chk38 (v383 : IVec S16 32) (v402 : IVec S16 32) : Prop :=
  (∀ a x, ((![v402, v383] : Fin 2 → IVec S16 32) a x).toNat < S1024x16.size a)
theorem k0_idx38_inb : ∀ (v383 : IVec S16 32) (v402 : IVec S16 32) (k0_hw38 : k0_chk38 v383 v402), ∀ a x, ((![v402, v383] : Fin 2 → IVec S16 32) a x).toNat < S1024x16.size a := fun v383 v402 k0_hw38 => k0_hw38
def k0_off46 (k0_t3 : Fin k0_t3_loop.trips) : Fin 2 → Nat :=
  let c2_i32_193 : BitVec 32 := 2#32
  let v404 : Index := Scalar.indexCast c2_i32_193
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v405 : Index := Scalar.indexCast v92
  ![2, v405.toNat]

def k0_chk39 (v383 : IVec S16 32) (v410 : IVec S16 32) : Prop :=
  (∀ a x, ((![v410, v383] : Fin 2 → IVec S16 32) a x).toNat < S1024x16.size a)
theorem k0_idx39_inb : ∀ (v383 : IVec S16 32) (v410 : IVec S16 32) (k0_hw39 : k0_chk39 v383 v410), ∀ a x, ((![v410, v383] : Fin 2 → IVec S16 32) a x).toNat < S1024x16.size a := fun v383 v410 k0_hw39 => k0_hw39
def k0_off47 (k0_t3 : Fin k0_t3_loop.trips) : Fin 2 → Nat :=
  let c3_i32_195 : BitVec 32 := 3#32
  let v412 : Index := Scalar.indexCast c3_i32_195
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v413 : Index := Scalar.indexCast v92
  ![3, v413.toNat]

def k0_chk40 (v383 : IVec S16 32) (v418 : IVec S16 32) : Prop :=
  (∀ a x, ((![v418, v383] : Fin 2 → IVec S16 32) a x).toNat < S1024x16.size a)
theorem k0_idx40_inb : ∀ (v383 : IVec S16 32) (v418 : IVec S16 32) (k0_hw40 : k0_chk40 v383 v418), ∀ a x, ((![v418, v383] : Fin 2 → IVec S16 32) a x).toNat < S1024x16.size a := fun v383 v418 k0_hw40 => k0_hw40
def k0_off48 (k0_t3 : Fin k0_t3_loop.trips) : Fin 2 → Nat :=
  let c4_i32_197 : BitVec 32 := 4#32
  let v420 : Index := Scalar.indexCast c4_i32_197
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v421 : Index := Scalar.indexCast v92
  ![4, v421.toNat]

def k0_chk41 (v383 : IVec S16 32) (v426 : IVec S16 32) : Prop :=
  (∀ a x, ((![v426, v383] : Fin 2 → IVec S16 32) a x).toNat < S1024x16.size a)
theorem k0_idx41_inb : ∀ (v383 : IVec S16 32) (v426 : IVec S16 32) (k0_hw41 : k0_chk41 v383 v426), ∀ a x, ((![v426, v383] : Fin 2 → IVec S16 32) a x).toNat < S1024x16.size a := fun v383 v426 k0_hw41 => k0_hw41
def k0_off49 (k0_t3 : Fin k0_t3_loop.trips) : Fin 2 → Nat :=
  let c5_i32_199 : BitVec 32 := 5#32
  let v428 : Index := Scalar.indexCast c5_i32_199
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v429 : Index := Scalar.indexCast v92
  ![5, v429.toNat]

def k0_chk42 (v383 : IVec S16 32) (v434 : IVec S16 32) : Prop :=
  (∀ a x, ((![v434, v383] : Fin 2 → IVec S16 32) a x).toNat < S1024x16.size a)
theorem k0_idx42_inb : ∀ (v383 : IVec S16 32) (v434 : IVec S16 32) (k0_hw42 : k0_chk42 v383 v434), ∀ a x, ((![v434, v383] : Fin 2 → IVec S16 32) a x).toNat < S1024x16.size a := fun v383 v434 k0_hw42 => k0_hw42
def k0_off50 (k0_t3 : Fin k0_t3_loop.trips) : Fin 2 → Nat :=
  let c6_i32_201 : BitVec 32 := 6#32
  let v436 : Index := Scalar.indexCast c6_i32_201
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v437 : Index := Scalar.indexCast v92
  ![6, v437.toNat]

def k0_chk43 (v383 : IVec S16 32) (v442 : IVec S16 32) : Prop :=
  (∀ a x, ((![v442, v383] : Fin 2 → IVec S16 32) a x).toNat < S1024x16.size a)
theorem k0_idx43_inb : ∀ (v383 : IVec S16 32) (v442 : IVec S16 32) (k0_hw43 : k0_chk43 v383 v442), ∀ a x, ((![v442, v383] : Fin 2 → IVec S16 32) a x).toNat < S1024x16.size a := fun v383 v442 k0_hw43 => k0_hw43
def k0_off51 (k0_t3 : Fin k0_t3_loop.trips) : Fin 2 → Nat :=
  let c7_i32_203 : BitVec 32 := 7#32
  let v444 : Index := Scalar.indexCast c7_i32_203
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v445 : Index := Scalar.indexCast v92
  ![7, v445.toNat]

def k0_chk44 (v455 : IVec S16 32) : Prop :=
  (∀ a x, ((![v455] : Fin 1 → IVec S16 32) a x).toNat < S1024.size a)
theorem k0_idx44_inb : ∀ (v455 : IVec S16 32) (k0_hw44 : k0_chk44 v455), ∀ a x, ((![v455] : Fin 1 → IVec S16 32) a x).toNat < S1024.size a := fun v455 k0_hw44 => k0_hw44

def k0_chk45 (v456 : IVec S16 32) (v459 : IVec S16 32) : Prop :=
  (∀ a x, ((![v459, v456] : Fin 2 → IVec S16 32) a x).toNat < S1024x16.size a)
theorem k0_idx45_inb : ∀ (v456 : IVec S16 32) (v459 : IVec S16 32) (k0_hw45 : k0_chk45 v456 v459), ∀ a x, ((![v459, v456] : Fin 2 → IVec S16 32) a x).toNat < S1024x16.size a := fun v456 v459 k0_hw45 => k0_hw45
def k0_off52 (k0_t3 : Fin k0_t3_loop.trips) : Fin 2 → Nat :=
  let c0_i32_210 : BitVec 32 := 0#32
  let v461 : Index := Scalar.indexCast c0_i32_210
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v462 : Index := Scalar.indexCast v92
  ![0, v462.toNat]

def k0_chk46 (v456 : IVec S16 32) (v467 : IVec S16 32) : Prop :=
  (∀ a x, ((![v467, v456] : Fin 2 → IVec S16 32) a x).toNat < S1024x16.size a)
theorem k0_idx46_inb : ∀ (v456 : IVec S16 32) (v467 : IVec S16 32) (k0_hw46 : k0_chk46 v456 v467), ∀ a x, ((![v467, v456] : Fin 2 → IVec S16 32) a x).toNat < S1024x16.size a := fun v456 v467 k0_hw46 => k0_hw46
def k0_off53 (k0_t3 : Fin k0_t3_loop.trips) : Fin 2 → Nat :=
  let c1_i32_212 : BitVec 32 := 1#32
  let v469 : Index := Scalar.indexCast c1_i32_212
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v470 : Index := Scalar.indexCast v92
  ![1, v470.toNat]

def k0_chk47 (v456 : IVec S16 32) (v475 : IVec S16 32) : Prop :=
  (∀ a x, ((![v475, v456] : Fin 2 → IVec S16 32) a x).toNat < S1024x16.size a)
theorem k0_idx47_inb : ∀ (v456 : IVec S16 32) (v475 : IVec S16 32) (k0_hw47 : k0_chk47 v456 v475), ∀ a x, ((![v475, v456] : Fin 2 → IVec S16 32) a x).toNat < S1024x16.size a := fun v456 v475 k0_hw47 => k0_hw47
def k0_off54 (k0_t3 : Fin k0_t3_loop.trips) : Fin 2 → Nat :=
  let c2_i32_214 : BitVec 32 := 2#32
  let v477 : Index := Scalar.indexCast c2_i32_214
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v478 : Index := Scalar.indexCast v92
  ![2, v478.toNat]

def k0_chk48 (v456 : IVec S16 32) (v483 : IVec S16 32) : Prop :=
  (∀ a x, ((![v483, v456] : Fin 2 → IVec S16 32) a x).toNat < S1024x16.size a)
theorem k0_idx48_inb : ∀ (v456 : IVec S16 32) (v483 : IVec S16 32) (k0_hw48 : k0_chk48 v456 v483), ∀ a x, ((![v483, v456] : Fin 2 → IVec S16 32) a x).toNat < S1024x16.size a := fun v456 v483 k0_hw48 => k0_hw48
def k0_off55 (k0_t3 : Fin k0_t3_loop.trips) : Fin 2 → Nat :=
  let c3_i32_216 : BitVec 32 := 3#32
  let v485 : Index := Scalar.indexCast c3_i32_216
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v486 : Index := Scalar.indexCast v92
  ![3, v486.toNat]

def k0_chk49 (v456 : IVec S16 32) (v491 : IVec S16 32) : Prop :=
  (∀ a x, ((![v491, v456] : Fin 2 → IVec S16 32) a x).toNat < S1024x16.size a)
theorem k0_idx49_inb : ∀ (v456 : IVec S16 32) (v491 : IVec S16 32) (k0_hw49 : k0_chk49 v456 v491), ∀ a x, ((![v491, v456] : Fin 2 → IVec S16 32) a x).toNat < S1024x16.size a := fun v456 v491 k0_hw49 => k0_hw49
def k0_off56 (k0_t3 : Fin k0_t3_loop.trips) : Fin 2 → Nat :=
  let c4_i32_218 : BitVec 32 := 4#32
  let v493 : Index := Scalar.indexCast c4_i32_218
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v494 : Index := Scalar.indexCast v92
  ![4, v494.toNat]

def k0_chk50 (v456 : IVec S16 32) (v499 : IVec S16 32) : Prop :=
  (∀ a x, ((![v499, v456] : Fin 2 → IVec S16 32) a x).toNat < S1024x16.size a)
theorem k0_idx50_inb : ∀ (v456 : IVec S16 32) (v499 : IVec S16 32) (k0_hw50 : k0_chk50 v456 v499), ∀ a x, ((![v499, v456] : Fin 2 → IVec S16 32) a x).toNat < S1024x16.size a := fun v456 v499 k0_hw50 => k0_hw50
def k0_off57 (k0_t3 : Fin k0_t3_loop.trips) : Fin 2 → Nat :=
  let c5_i32_220 : BitVec 32 := 5#32
  let v501 : Index := Scalar.indexCast c5_i32_220
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v502 : Index := Scalar.indexCast v92
  ![5, v502.toNat]

def k0_chk51 (v456 : IVec S16 32) (v507 : IVec S16 32) : Prop :=
  (∀ a x, ((![v507, v456] : Fin 2 → IVec S16 32) a x).toNat < S1024x16.size a)
theorem k0_idx51_inb : ∀ (v456 : IVec S16 32) (v507 : IVec S16 32) (k0_hw51 : k0_chk51 v456 v507), ∀ a x, ((![v507, v456] : Fin 2 → IVec S16 32) a x).toNat < S1024x16.size a := fun v456 v507 k0_hw51 => k0_hw51
def k0_off58 (k0_t3 : Fin k0_t3_loop.trips) : Fin 2 → Nat :=
  let c6_i32_222 : BitVec 32 := 6#32
  let v509 : Index := Scalar.indexCast c6_i32_222
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v510 : Index := Scalar.indexCast v92
  ![6, v510.toNat]

def k0_chk52 (v456 : IVec S16 32) (v515 : IVec S16 32) : Prop :=
  (∀ a x, ((![v515, v456] : Fin 2 → IVec S16 32) a x).toNat < S1024x16.size a)
theorem k0_idx52_inb : ∀ (v456 : IVec S16 32) (v515 : IVec S16 32) (k0_hw52 : k0_chk52 v456 v515), ∀ a x, ((![v515, v456] : Fin 2 → IVec S16 32) a x).toNat < S1024x16.size a := fun v456 v515 k0_hw52 => k0_hw52
def k0_off59 (k0_t3 : Fin k0_t3_loop.trips) : Fin 2 → Nat :=
  let c7_i32_224 : BitVec 32 := 7#32
  let v517 : Index := Scalar.indexCast c7_i32_224
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v518 : Index := Scalar.indexCast v92
  ![7, v518.toNat]

def k0_chk53 (v528 : IVec S16 32) : Prop :=
  (∀ a x, ((![v528] : Fin 1 → IVec S16 32) a x).toNat < S1024.size a)
theorem k0_idx53_inb : ∀ (v528 : IVec S16 32) (k0_hw53 : k0_chk53 v528), ∀ a x, ((![v528] : Fin 1 → IVec S16 32) a x).toNat < S1024.size a := fun v528 k0_hw53 => k0_hw53

def k0_chk54 (v529 : IVec S16 32) (v532 : IVec S16 32) : Prop :=
  (∀ a x, ((![v532, v529] : Fin 2 → IVec S16 32) a x).toNat < S1024x16.size a)
theorem k0_idx54_inb : ∀ (v529 : IVec S16 32) (v532 : IVec S16 32) (k0_hw54 : k0_chk54 v529 v532), ∀ a x, ((![v532, v529] : Fin 2 → IVec S16 32) a x).toNat < S1024x16.size a := fun v529 v532 k0_hw54 => k0_hw54
def k0_off60 (k0_t3 : Fin k0_t3_loop.trips) : Fin 2 → Nat :=
  let c0_i32_231 : BitVec 32 := 0#32
  let v534 : Index := Scalar.indexCast c0_i32_231
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v535 : Index := Scalar.indexCast v92
  ![0, v535.toNat]

def k0_chk55 (v529 : IVec S16 32) (v540 : IVec S16 32) : Prop :=
  (∀ a x, ((![v540, v529] : Fin 2 → IVec S16 32) a x).toNat < S1024x16.size a)
theorem k0_idx55_inb : ∀ (v529 : IVec S16 32) (v540 : IVec S16 32) (k0_hw55 : k0_chk55 v529 v540), ∀ a x, ((![v540, v529] : Fin 2 → IVec S16 32) a x).toNat < S1024x16.size a := fun v529 v540 k0_hw55 => k0_hw55
def k0_off61 (k0_t3 : Fin k0_t3_loop.trips) : Fin 2 → Nat :=
  let c1_i32_233 : BitVec 32 := 1#32
  let v542 : Index := Scalar.indexCast c1_i32_233
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v543 : Index := Scalar.indexCast v92
  ![1, v543.toNat]

def k0_chk56 (v529 : IVec S16 32) (v548 : IVec S16 32) : Prop :=
  (∀ a x, ((![v548, v529] : Fin 2 → IVec S16 32) a x).toNat < S1024x16.size a)
theorem k0_idx56_inb : ∀ (v529 : IVec S16 32) (v548 : IVec S16 32) (k0_hw56 : k0_chk56 v529 v548), ∀ a x, ((![v548, v529] : Fin 2 → IVec S16 32) a x).toNat < S1024x16.size a := fun v529 v548 k0_hw56 => k0_hw56
def k0_off62 (k0_t3 : Fin k0_t3_loop.trips) : Fin 2 → Nat :=
  let c2_i32_235 : BitVec 32 := 2#32
  let v550 : Index := Scalar.indexCast c2_i32_235
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v551 : Index := Scalar.indexCast v92
  ![2, v551.toNat]

def k0_chk57 (v529 : IVec S16 32) (v556 : IVec S16 32) : Prop :=
  (∀ a x, ((![v556, v529] : Fin 2 → IVec S16 32) a x).toNat < S1024x16.size a)
theorem k0_idx57_inb : ∀ (v529 : IVec S16 32) (v556 : IVec S16 32) (k0_hw57 : k0_chk57 v529 v556), ∀ a x, ((![v556, v529] : Fin 2 → IVec S16 32) a x).toNat < S1024x16.size a := fun v529 v556 k0_hw57 => k0_hw57
def k0_off63 (k0_t3 : Fin k0_t3_loop.trips) : Fin 2 → Nat :=
  let c3_i32_237 : BitVec 32 := 3#32
  let v558 : Index := Scalar.indexCast c3_i32_237
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v559 : Index := Scalar.indexCast v92
  ![3, v559.toNat]

def k0_chk58 (v529 : IVec S16 32) (v564 : IVec S16 32) : Prop :=
  (∀ a x, ((![v564, v529] : Fin 2 → IVec S16 32) a x).toNat < S1024x16.size a)
theorem k0_idx58_inb : ∀ (v529 : IVec S16 32) (v564 : IVec S16 32) (k0_hw58 : k0_chk58 v529 v564), ∀ a x, ((![v564, v529] : Fin 2 → IVec S16 32) a x).toNat < S1024x16.size a := fun v529 v564 k0_hw58 => k0_hw58
def k0_off64 (k0_t3 : Fin k0_t3_loop.trips) : Fin 2 → Nat :=
  let c4_i32_239 : BitVec 32 := 4#32
  let v566 : Index := Scalar.indexCast c4_i32_239
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v567 : Index := Scalar.indexCast v92
  ![4, v567.toNat]

def k0_chk59 (v529 : IVec S16 32) (v572 : IVec S16 32) : Prop :=
  (∀ a x, ((![v572, v529] : Fin 2 → IVec S16 32) a x).toNat < S1024x16.size a)
theorem k0_idx59_inb : ∀ (v529 : IVec S16 32) (v572 : IVec S16 32) (k0_hw59 : k0_chk59 v529 v572), ∀ a x, ((![v572, v529] : Fin 2 → IVec S16 32) a x).toNat < S1024x16.size a := fun v529 v572 k0_hw59 => k0_hw59
def k0_off65 (k0_t3 : Fin k0_t3_loop.trips) : Fin 2 → Nat :=
  let c5_i32_241 : BitVec 32 := 5#32
  let v574 : Index := Scalar.indexCast c5_i32_241
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v575 : Index := Scalar.indexCast v92
  ![5, v575.toNat]

def k0_chk60 (v529 : IVec S16 32) (v580 : IVec S16 32) : Prop :=
  (∀ a x, ((![v580, v529] : Fin 2 → IVec S16 32) a x).toNat < S1024x16.size a)
theorem k0_idx60_inb : ∀ (v529 : IVec S16 32) (v580 : IVec S16 32) (k0_hw60 : k0_chk60 v529 v580), ∀ a x, ((![v580, v529] : Fin 2 → IVec S16 32) a x).toNat < S1024x16.size a := fun v529 v580 k0_hw60 => k0_hw60
def k0_off66 (k0_t3 : Fin k0_t3_loop.trips) : Fin 2 → Nat :=
  let c6_i32_243 : BitVec 32 := 6#32
  let v582 : Index := Scalar.indexCast c6_i32_243
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v583 : Index := Scalar.indexCast v92
  ![6, v583.toNat]

def k0_chk61 (v529 : IVec S16 32) (v588 : IVec S16 32) : Prop :=
  (∀ a x, ((![v588, v529] : Fin 2 → IVec S16 32) a x).toNat < S1024x16.size a)
theorem k0_idx61_inb : ∀ (v529 : IVec S16 32) (v588 : IVec S16 32) (k0_hw61 : k0_chk61 v529 v588), ∀ a x, ((![v588, v529] : Fin 2 → IVec S16 32) a x).toNat < S1024x16.size a := fun v529 v588 k0_hw61 => k0_hw61
def k0_off67 (k0_t3 : Fin k0_t3_loop.trips) : Fin 2 → Nat :=
  let c7_i32_245 : BitVec 32 := 7#32
  let v590 : Index := Scalar.indexCast c7_i32_245
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v591 : Index := Scalar.indexCast v92
  ![7, v591.toNat]

def k0_chk62 (v601 : IVec S16 32) : Prop :=
  (∀ a x, ((![v601] : Fin 1 → IVec S16 32) a x).toNat < S1024.size a)
theorem k0_idx62_inb : ∀ (v601 : IVec S16 32) (k0_hw62 : k0_chk62 v601), ∀ a x, ((![v601] : Fin 1 → IVec S16 32) a x).toNat < S1024.size a := fun v601 k0_hw62 => k0_hw62

def k0_chk63 (v602 : IVec S16 32) (v605 : IVec S16 32) : Prop :=
  (∀ a x, ((![v605, v602] : Fin 2 → IVec S16 32) a x).toNat < S1024x16.size a)
theorem k0_idx63_inb : ∀ (v602 : IVec S16 32) (v605 : IVec S16 32) (k0_hw63 : k0_chk63 v602 v605), ∀ a x, ((![v605, v602] : Fin 2 → IVec S16 32) a x).toNat < S1024x16.size a := fun v602 v605 k0_hw63 => k0_hw63
def k0_off68 (k0_t3 : Fin k0_t3_loop.trips) : Fin 2 → Nat :=
  let c0_i32_252 : BitVec 32 := 0#32
  let v607 : Index := Scalar.indexCast c0_i32_252
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v608 : Index := Scalar.indexCast v92
  ![0, v608.toNat]

def k0_chk64 (v602 : IVec S16 32) (v613 : IVec S16 32) : Prop :=
  (∀ a x, ((![v613, v602] : Fin 2 → IVec S16 32) a x).toNat < S1024x16.size a)
theorem k0_idx64_inb : ∀ (v602 : IVec S16 32) (v613 : IVec S16 32) (k0_hw64 : k0_chk64 v602 v613), ∀ a x, ((![v613, v602] : Fin 2 → IVec S16 32) a x).toNat < S1024x16.size a := fun v602 v613 k0_hw64 => k0_hw64
def k0_off69 (k0_t3 : Fin k0_t3_loop.trips) : Fin 2 → Nat :=
  let c1_i32_254 : BitVec 32 := 1#32
  let v615 : Index := Scalar.indexCast c1_i32_254
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v616 : Index := Scalar.indexCast v92
  ![1, v616.toNat]

def k0_chk65 (v602 : IVec S16 32) (v621 : IVec S16 32) : Prop :=
  (∀ a x, ((![v621, v602] : Fin 2 → IVec S16 32) a x).toNat < S1024x16.size a)
theorem k0_idx65_inb : ∀ (v602 : IVec S16 32) (v621 : IVec S16 32) (k0_hw65 : k0_chk65 v602 v621), ∀ a x, ((![v621, v602] : Fin 2 → IVec S16 32) a x).toNat < S1024x16.size a := fun v602 v621 k0_hw65 => k0_hw65
def k0_off70 (k0_t3 : Fin k0_t3_loop.trips) : Fin 2 → Nat :=
  let c2_i32_256 : BitVec 32 := 2#32
  let v623 : Index := Scalar.indexCast c2_i32_256
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v624 : Index := Scalar.indexCast v92
  ![2, v624.toNat]

def k0_chk66 (v602 : IVec S16 32) (v629 : IVec S16 32) : Prop :=
  (∀ a x, ((![v629, v602] : Fin 2 → IVec S16 32) a x).toNat < S1024x16.size a)
theorem k0_idx66_inb : ∀ (v602 : IVec S16 32) (v629 : IVec S16 32) (k0_hw66 : k0_chk66 v602 v629), ∀ a x, ((![v629, v602] : Fin 2 → IVec S16 32) a x).toNat < S1024x16.size a := fun v602 v629 k0_hw66 => k0_hw66
def k0_off71 (k0_t3 : Fin k0_t3_loop.trips) : Fin 2 → Nat :=
  let c3_i32_258 : BitVec 32 := 3#32
  let v631 : Index := Scalar.indexCast c3_i32_258
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v632 : Index := Scalar.indexCast v92
  ![3, v632.toNat]

def k0_chk67 (v602 : IVec S16 32) (v637 : IVec S16 32) : Prop :=
  (∀ a x, ((![v637, v602] : Fin 2 → IVec S16 32) a x).toNat < S1024x16.size a)
theorem k0_idx67_inb : ∀ (v602 : IVec S16 32) (v637 : IVec S16 32) (k0_hw67 : k0_chk67 v602 v637), ∀ a x, ((![v637, v602] : Fin 2 → IVec S16 32) a x).toNat < S1024x16.size a := fun v602 v637 k0_hw67 => k0_hw67
def k0_off72 (k0_t3 : Fin k0_t3_loop.trips) : Fin 2 → Nat :=
  let c4_i32_260 : BitVec 32 := 4#32
  let v639 : Index := Scalar.indexCast c4_i32_260
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v640 : Index := Scalar.indexCast v92
  ![4, v640.toNat]

def k0_chk68 (v602 : IVec S16 32) (v645 : IVec S16 32) : Prop :=
  (∀ a x, ((![v645, v602] : Fin 2 → IVec S16 32) a x).toNat < S1024x16.size a)
theorem k0_idx68_inb : ∀ (v602 : IVec S16 32) (v645 : IVec S16 32) (k0_hw68 : k0_chk68 v602 v645), ∀ a x, ((![v645, v602] : Fin 2 → IVec S16 32) a x).toNat < S1024x16.size a := fun v602 v645 k0_hw68 => k0_hw68
def k0_off73 (k0_t3 : Fin k0_t3_loop.trips) : Fin 2 → Nat :=
  let c5_i32_262 : BitVec 32 := 5#32
  let v647 : Index := Scalar.indexCast c5_i32_262
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v648 : Index := Scalar.indexCast v92
  ![5, v648.toNat]

def k0_chk69 (v602 : IVec S16 32) (v653 : IVec S16 32) : Prop :=
  (∀ a x, ((![v653, v602] : Fin 2 → IVec S16 32) a x).toNat < S1024x16.size a)
theorem k0_idx69_inb : ∀ (v602 : IVec S16 32) (v653 : IVec S16 32) (k0_hw69 : k0_chk69 v602 v653), ∀ a x, ((![v653, v602] : Fin 2 → IVec S16 32) a x).toNat < S1024x16.size a := fun v602 v653 k0_hw69 => k0_hw69
def k0_off74 (k0_t3 : Fin k0_t3_loop.trips) : Fin 2 → Nat :=
  let c6_i32_264 : BitVec 32 := 6#32
  let v655 : Index := Scalar.indexCast c6_i32_264
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v656 : Index := Scalar.indexCast v92
  ![6, v656.toNat]

def k0_chk70 (v602 : IVec S16 32) (v661 : IVec S16 32) : Prop :=
  (∀ a x, ((![v661, v602] : Fin 2 → IVec S16 32) a x).toNat < S1024x16.size a)
theorem k0_idx70_inb : ∀ (v602 : IVec S16 32) (v661 : IVec S16 32) (k0_hw70 : k0_chk70 v602 v661), ∀ a x, ((![v661, v602] : Fin 2 → IVec S16 32) a x).toNat < S1024x16.size a := fun v602 v661 k0_hw70 => k0_hw70
def k0_off75 (k0_t3 : Fin k0_t3_loop.trips) : Fin 2 → Nat :=
  let c7_i32_266 : BitVec 32 := 7#32
  let v663 : Index := Scalar.indexCast c7_i32_266
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v664 : Index := Scalar.indexCast v92
  ![7, v664.toNat]

def k0_chk71 (v674 : IVec S16 32) : Prop :=
  (∀ a x, ((![v674] : Fin 1 → IVec S16 32) a x).toNat < S1024.size a)
theorem k0_idx71_inb : ∀ (v674 : IVec S16 32) (k0_hw71 : k0_chk71 v674), ∀ a x, ((![v674] : Fin 1 → IVec S16 32) a x).toNat < S1024.size a := fun v674 k0_hw71 => k0_hw71

def k0_chk72 (v675 : IVec S16 32) (v678 : IVec S16 32) : Prop :=
  (∀ a x, ((![v678, v675] : Fin 2 → IVec S16 32) a x).toNat < S1024x16.size a)
theorem k0_idx72_inb : ∀ (v675 : IVec S16 32) (v678 : IVec S16 32) (k0_hw72 : k0_chk72 v675 v678), ∀ a x, ((![v678, v675] : Fin 2 → IVec S16 32) a x).toNat < S1024x16.size a := fun v675 v678 k0_hw72 => k0_hw72
def k0_off76 (k0_t3 : Fin k0_t3_loop.trips) : Fin 2 → Nat :=
  let c0_i32_273 : BitVec 32 := 0#32
  let v680 : Index := Scalar.indexCast c0_i32_273
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v681 : Index := Scalar.indexCast v92
  ![0, v681.toNat]

def k0_chk73 (v675 : IVec S16 32) (v686 : IVec S16 32) : Prop :=
  (∀ a x, ((![v686, v675] : Fin 2 → IVec S16 32) a x).toNat < S1024x16.size a)
theorem k0_idx73_inb : ∀ (v675 : IVec S16 32) (v686 : IVec S16 32) (k0_hw73 : k0_chk73 v675 v686), ∀ a x, ((![v686, v675] : Fin 2 → IVec S16 32) a x).toNat < S1024x16.size a := fun v675 v686 k0_hw73 => k0_hw73
def k0_off77 (k0_t3 : Fin k0_t3_loop.trips) : Fin 2 → Nat :=
  let c1_i32_275 : BitVec 32 := 1#32
  let v688 : Index := Scalar.indexCast c1_i32_275
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v689 : Index := Scalar.indexCast v92
  ![1, v689.toNat]

def k0_chk74 (v675 : IVec S16 32) (v694 : IVec S16 32) : Prop :=
  (∀ a x, ((![v694, v675] : Fin 2 → IVec S16 32) a x).toNat < S1024x16.size a)
theorem k0_idx74_inb : ∀ (v675 : IVec S16 32) (v694 : IVec S16 32) (k0_hw74 : k0_chk74 v675 v694), ∀ a x, ((![v694, v675] : Fin 2 → IVec S16 32) a x).toNat < S1024x16.size a := fun v675 v694 k0_hw74 => k0_hw74
def k0_off78 (k0_t3 : Fin k0_t3_loop.trips) : Fin 2 → Nat :=
  let c2_i32_277 : BitVec 32 := 2#32
  let v696 : Index := Scalar.indexCast c2_i32_277
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v697 : Index := Scalar.indexCast v92
  ![2, v697.toNat]

def k0_chk75 (v675 : IVec S16 32) (v702 : IVec S16 32) : Prop :=
  (∀ a x, ((![v702, v675] : Fin 2 → IVec S16 32) a x).toNat < S1024x16.size a)
theorem k0_idx75_inb : ∀ (v675 : IVec S16 32) (v702 : IVec S16 32) (k0_hw75 : k0_chk75 v675 v702), ∀ a x, ((![v702, v675] : Fin 2 → IVec S16 32) a x).toNat < S1024x16.size a := fun v675 v702 k0_hw75 => k0_hw75
def k0_off79 (k0_t3 : Fin k0_t3_loop.trips) : Fin 2 → Nat :=
  let c3_i32_279 : BitVec 32 := 3#32
  let v704 : Index := Scalar.indexCast c3_i32_279
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v705 : Index := Scalar.indexCast v92
  ![3, v705.toNat]

def k0_chk76 (v675 : IVec S16 32) (v710 : IVec S16 32) : Prop :=
  (∀ a x, ((![v710, v675] : Fin 2 → IVec S16 32) a x).toNat < S1024x16.size a)
theorem k0_idx76_inb : ∀ (v675 : IVec S16 32) (v710 : IVec S16 32) (k0_hw76 : k0_chk76 v675 v710), ∀ a x, ((![v710, v675] : Fin 2 → IVec S16 32) a x).toNat < S1024x16.size a := fun v675 v710 k0_hw76 => k0_hw76
def k0_off80 (k0_t3 : Fin k0_t3_loop.trips) : Fin 2 → Nat :=
  let c4_i32_281 : BitVec 32 := 4#32
  let v712 : Index := Scalar.indexCast c4_i32_281
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v713 : Index := Scalar.indexCast v92
  ![4, v713.toNat]

def k0_chk77 (v675 : IVec S16 32) (v718 : IVec S16 32) : Prop :=
  (∀ a x, ((![v718, v675] : Fin 2 → IVec S16 32) a x).toNat < S1024x16.size a)
theorem k0_idx77_inb : ∀ (v675 : IVec S16 32) (v718 : IVec S16 32) (k0_hw77 : k0_chk77 v675 v718), ∀ a x, ((![v718, v675] : Fin 2 → IVec S16 32) a x).toNat < S1024x16.size a := fun v675 v718 k0_hw77 => k0_hw77
def k0_off81 (k0_t3 : Fin k0_t3_loop.trips) : Fin 2 → Nat :=
  let c5_i32_283 : BitVec 32 := 5#32
  let v720 : Index := Scalar.indexCast c5_i32_283
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v721 : Index := Scalar.indexCast v92
  ![5, v721.toNat]

def k0_chk78 (v675 : IVec S16 32) (v726 : IVec S16 32) : Prop :=
  (∀ a x, ((![v726, v675] : Fin 2 → IVec S16 32) a x).toNat < S1024x16.size a)
theorem k0_idx78_inb : ∀ (v675 : IVec S16 32) (v726 : IVec S16 32) (k0_hw78 : k0_chk78 v675 v726), ∀ a x, ((![v726, v675] : Fin 2 → IVec S16 32) a x).toNat < S1024x16.size a := fun v675 v726 k0_hw78 => k0_hw78
def k0_off82 (k0_t3 : Fin k0_t3_loop.trips) : Fin 2 → Nat :=
  let c6_i32_285 : BitVec 32 := 6#32
  let v728 : Index := Scalar.indexCast c6_i32_285
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v729 : Index := Scalar.indexCast v92
  ![6, v729.toNat]

def k0_chk79 (v675 : IVec S16 32) (v734 : IVec S16 32) : Prop :=
  (∀ a x, ((![v734, v675] : Fin 2 → IVec S16 32) a x).toNat < S1024x16.size a)
theorem k0_idx79_inb : ∀ (v675 : IVec S16 32) (v734 : IVec S16 32) (k0_hw79 : k0_chk79 v675 v734), ∀ a x, ((![v734, v675] : Fin 2 → IVec S16 32) a x).toNat < S1024x16.size a := fun v675 v734 k0_hw79 => k0_hw79
def k0_off83 (k0_t3 : Fin k0_t3_loop.trips) : Fin 2 → Nat :=
  let c7_i32_287 : BitVec 32 := 7#32
  let v736 : Index := Scalar.indexCast c7_i32_287
  let c0_i32_100 : BitVec 32 := 0#32
  let c1_i32_102 : BitVec 32 := 1#32
  let arg18 : BitVec 32 := Scf.iv c0_i32_100 c1_i32_102 k0_t3
  let c16_i32 : BitVec 32 := 16#32
  let v92 : BitVec 32 := Scalar.muli arg18 c16_i32
  let v737 : Index := Scalar.indexCast v92
  ![7, v737.toNat]

def k0_chk80 (v747 : IVec S16 32) : Prop :=
  (∀ a x, ((![v747] : Fin 1 → IVec S16 32) a x).toNat < S1024.size a)
theorem k0_idx80_inb : ∀ (v747 : IVec S16 32) (k0_hw80 : k0_chk80 v747), ∀ a x, ((![v747] : Fin 1 → IVec S16 32) a x).toNat < S1024.size a := fun v747 k0_hw80 => k0_hw80
def k0_off84 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v22 : BitVec 32 := Scalar.muli v1 c16384_i32
  let c0_i32_5 : BitVec 32 := 0#32
  let c1_i32_6 : BitVec 32 := 1#32
  let arg17 : BitVec 32 := Scf.iv c0_i32_5 c1_i32_6 k0_t1
  let c128_i32_8 : BitVec 32 := 128#32
  let v23 : BitVec 32 := Scalar.muli arg17 c128_i32_8
  let v24 : BitVec 32 := Scalar.addi v22 v23
  let c8_i32_104 : BitVec 32 := 8#32
  let v91 : BitVec 32 := Scalar.muli v24 c8_i32_104
  ![v91.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x2048x3 : Shape := ⟨3, ![4, 2048, 3]⟩
abbrev S4x2048x64 : Shape := ⟨3, ![4, 2048, 64]⟩
abbrev S4x1x128x128x128 : Shape := ⟨5, ![4, 1, 128, 128, 128]⟩
abbrev S4x8x128x128x128 : Shape := ⟨5, ![4, 8, 128, 128, 128]⟩
abbrev S4x4x4 : Shape := ⟨3, ![4, 4, 4]⟩
abbrev S_ : Shape := ⟨0, ![]⟩
abbrev S4x2048x1 : Shape := ⟨3, ![4, 2048, 1]⟩
abbrev S4x2048x4 : Shape := ⟨3, ![4, 2048, 4]⟩
abbrev S4x3x3 : Shape := ⟨3, ![4, 3, 3]⟩
abbrev S4x2048x1x3 : Shape := ⟨4, ![4, 2048, 1, 3]⟩
abbrev S4x2048x64x1 : Shape := ⟨4, ![4, 2048, 64, 1]⟩
abbrev S4x2048x64x3 : Shape := ⟨4, ![4, 2048, 64, 3]⟩
abbrev S4x131072x3 : Shape := ⟨3, ![4, 131072, 3]⟩
abbrev S4x131072x1 : Shape := ⟨3, ![4, 131072, 1]⟩
abbrev S4x131072 : Shape := ⟨2, ![4, 131072]⟩
abbrev S4x1x2097152 : Shape := ⟨3, ![4, 1, 2097152]⟩
abbrev S4x1x131072 : Shape := ⟨3, ![4, 1, 131072]⟩
abbrev S1 : Shape := ⟨1, ![1]⟩
abbrev S1x1x1 : Shape := ⟨3, ![1, 1, 1]⟩
abbrev S4x8x2097152 : Shape := ⟨3, ![4, 8, 2097152]⟩
abbrev S4x8x131072 : Shape := ⟨3, ![4, 8, 131072]⟩
abbrev S4x131072x8 : Shape := ⟨3, ![4, 131072, 8]⟩
abbrev S4x2048x64x8 : Shape := ⟨4, ![4, 2048, 64, 8]⟩

abbrev nBuf : Space → Nat
  | .hbm => 1533
  | .vmem => 0
  | .smem => 0
  | _ => 0

abbrev hbmTy0_0 (i : Nat) : BufTy := match i % 128 with
  | 0 => ⟨S4x2048x3, .f32⟩
  | 1 => ⟨S4x2048x3, .f32⟩
  | 2 => ⟨S4x2048x64, .f32⟩
  | 3 => ⟨S4x1x128x128x128, .f32⟩
  | 4 => ⟨S4x8x128x128x128, .f32⟩
  | 5 => ⟨S4x4x4, .f32⟩
  | 6 => ⟨S_, .f32⟩
  | 7 => ⟨S4x2048x1, .f32⟩
  | 8 => ⟨S4x2048x4, .f32⟩
  | 9 => ⟨S4x2048x4, .f32⟩
  | 10 => ⟨S4x2048x3, .f32⟩
  | 11 => ⟨S4x2048x1, .f32⟩
  | 12 => ⟨S4x2048x3, .f32⟩
  | 13 => ⟨S4x2048x3, .f32⟩
  | 14 => ⟨S4x3x3, .f32⟩
  | 15 => ⟨S4x2048x3, .f32⟩
  | 16 => ⟨S4x2048x1x3, .f32⟩
  | 17 => ⟨S4x2048x1x3, .f32⟩
  | 18 => ⟨S4x2048x64x1, .f32⟩
  | 19 => ⟨S4x2048x64x3, .f32⟩
  | 20 => ⟨S4x2048x64x3, .f32⟩
  | 21 => ⟨S4x2048x64x3, .f32⟩
  | 22 => ⟨S4x2048x64x3, .f32⟩
  | 23 => ⟨S4x2048x64x3, .f32⟩
  | 24 => ⟨S4x131072x3, .f32⟩
  | 25 => ⟨S4x131072x1, .f32⟩
  | 26 => ⟨S4x131072, .f32⟩
  | 27 => ⟨S4x131072x1, .f32⟩
  | 28 => ⟨S4x131072, .f32⟩
  | 29 => ⟨S4x131072x1, .f32⟩
  | 30 => ⟨S4x131072, .f32⟩
  | 31 => ⟨S_, .f32⟩
  | 32 => ⟨S4x131072, .f32⟩
  | 33 => ⟨S4x131072, .f32⟩
  | 34 => ⟨S_, .f32⟩
  | 35 => ⟨S4x131072, .f32⟩
  | 36 => ⟨S4x131072, .f32⟩
  | 37 => ⟨S_, .f32⟩
  | 38 => ⟨S4x131072, .f32⟩
  | 39 => ⟨S4x131072, .f32⟩
  | 40 => ⟨S_, .f32⟩
  | 41 => ⟨S4x131072, .f32⟩
  | 42 => ⟨S4x131072, .f32⟩
  | 43 => ⟨S_, .f32⟩
  | 44 => ⟨S4x131072, .f32⟩
  | 45 => ⟨S4x131072, .f32⟩
  | 46 => ⟨S_, .f32⟩
  | 47 => ⟨S4x131072, .f32⟩
  | 48 => ⟨S4x131072, .f32⟩
  | 49 => ⟨S_, .f32⟩
  | 50 => ⟨S4x131072, .f32⟩
  | 51 => ⟨S4x131072, .f32⟩
  | 52 => ⟨S_, .f32⟩
  | 53 => ⟨S4x131072, .f32⟩
  | 54 => ⟨S4x131072, .f32⟩
  | 55 => ⟨S_, .f32⟩
  | 56 => ⟨S4x131072, .f32⟩
  | 57 => ⟨S4x131072, .f32⟩
  | 58 => ⟨S4x131072, .f32⟩
  | 59 => ⟨S4x131072, .f32⟩
  | 60 => ⟨S4x131072, .f32⟩
  | 61 => ⟨S4x131072, .f32⟩
  | 62 => ⟨S4x131072, .f32⟩
  | 63 => ⟨S4x131072, .f32⟩
  | 64 => ⟨S_, .f32⟩
  | 65 => ⟨S4x131072, .f32⟩
  | 66 => ⟨S4x131072, .f32⟩
  | 67 => ⟨S_, .f32⟩
  | 68 => ⟨S4x131072, .f32⟩
  | 69 => ⟨S4x131072, .f32⟩
  | 70 => ⟨S_, .f32⟩
  | 71 => ⟨S4x131072, .f32⟩
  | 72 => ⟨S4x131072, .f32⟩
  | 73 => ⟨S4x131072, .i32⟩
  | 74 => ⟨S_, .i32⟩
  | 75 => ⟨S4x131072, .i32⟩
  | 76 => ⟨S4x131072, .i32⟩
  | 77 => ⟨S4x131072, .i32⟩
  | 78 => ⟨S_, .i32⟩
  | 79 => ⟨S4x131072, .i32⟩
  | 80 => ⟨S4x131072, .i32⟩
  | 81 => ⟨S4x131072, .i32⟩
  | 82 => ⟨S_, .i32⟩
  | 83 => ⟨S4x131072, .i32⟩
  | 84 => ⟨S4x131072, .i32⟩
  | 85 => ⟨S4x1x2097152, .f32⟩
  | 86 => ⟨S4x131072, .f32⟩
  | 87 => ⟨S4x131072, .f32⟩
  | 88 => ⟨S_, .i32⟩
  | 89 => ⟨S4x131072, .i32⟩
  | 90 => ⟨S4x131072, .i1⟩
  | 91 => ⟨S_, .i32⟩
  | 92 => ⟨S4x131072, .i32⟩
  | 93 => ⟨S4x131072, .i1⟩
  | 94 => ⟨S4x131072, .i1⟩
  | 95 => ⟨S_, .i32⟩
  | 96 => ⟨S4x131072, .i32⟩
  | 97 => ⟨S4x131072, .i1⟩
  | 98 => ⟨S4x131072, .i1⟩
  | 99 => ⟨S_, .i32⟩
  | 100 => ⟨S4x131072, .i32⟩
  | 101 => ⟨S4x131072, .i1⟩
  | 102 => ⟨S4x131072, .i1⟩
  | 103 => ⟨S_, .i32⟩
  | 104 => ⟨S4x131072, .i32⟩
  | 105 => ⟨S4x131072, .i1⟩
  | 106 => ⟨S4x131072, .i1⟩
  | 107 => ⟨S_, .i32⟩
  | 108 => ⟨S4x131072, .i32⟩
  | 109 => ⟨S4x131072, .i1⟩
  | 110 => ⟨S4x131072, .i1⟩
  | 111 => ⟨S4x131072, .f32⟩
  | 112 => ⟨S_, .i32⟩
  | 113 => ⟨S_, .i32⟩
  | 114 => ⟨S_, .i32⟩
  | 115 => ⟨S4x131072, .i32⟩
  | 116 => ⟨S4x131072, .i32⟩
  | 117 => ⟨S_, .i32⟩
  | 118 => ⟨S4x131072, .i32⟩
  | 119 => ⟨S4x131072, .i32⟩
  | 120 => ⟨S_, .i32⟩
  | 121 => ⟨S_, .i32⟩
  | 122 => ⟨S_, .i32⟩
  | 123 => ⟨S4x131072, .i32⟩
  | 124 => ⟨S4x131072, .i32⟩
  | 125 => ⟨S_, .i32⟩
  | 126 => ⟨S4x131072, .i32⟩
  | 127 => ⟨S4x131072, .i32⟩
  | _ => ⟨S4x2048x3, .f32⟩

abbrev hbmTy0_1 (i : Nat) : BufTy := match i % 128 with
  | 0 => ⟨S_, .i32⟩
  | 1 => ⟨S_, .i32⟩
  | 2 => ⟨S_, .i32⟩
  | 3 => ⟨S4x131072, .i32⟩
  | 4 => ⟨S4x131072, .i32⟩
  | 5 => ⟨S_, .i32⟩
  | 6 => ⟨S4x131072, .i32⟩
  | 7 => ⟨S4x131072, .i32⟩
  | 8 => ⟨S_, .i32⟩
  | 9 => ⟨S4x131072, .i32⟩
  | 10 => ⟨S4x131072, .i32⟩
  | 11 => ⟨S4x131072, .i32⟩
  | 12 => ⟨S_, .i32⟩
  | 13 => ⟨S4x131072, .i32⟩
  | 14 => ⟨S4x131072, .i32⟩
  | 15 => ⟨S4x131072, .i32⟩
  | 16 => ⟨S4x1x131072, .i32⟩
  | 17 => ⟨S_, .i32⟩
  | 18 => ⟨S4x1x131072, .i32⟩
  | 19 => ⟨S4x1x131072, .i1⟩
  | 20 => ⟨S_, .i32⟩
  | 21 => ⟨S4x1x131072, .i32⟩
  | 22 => ⟨S4x1x131072, .i32⟩
  | 23 => ⟨S4x1x131072, .i32⟩
  | 24 => ⟨S4x131072x1, .i32⟩
  | 25 => ⟨S1, .i32⟩
  | 26 => ⟨S_, .i32⟩
  | 27 => ⟨S4x131072x1, .i32⟩
  | 28 => ⟨S4x131072x1, .i1⟩
  | 29 => ⟨S1x1x1, .i32⟩
  | 30 => ⟨S4x131072x1, .i32⟩
  | 31 => ⟨S4x131072x1, .i1⟩
  | 32 => ⟨S4x131072x1, .i1⟩
  | 33 => ⟨S_, .i1⟩
  | 34 => ⟨S4x131072, .i1⟩
  | 35 => ⟨S4x1x131072, .f32⟩
  | 36 => ⟨S4x1x131072, .i1⟩
  | 37 => ⟨S_, .f32⟩
  | 38 => ⟨S4x1x131072, .f32⟩
  | 39 => ⟨S4x1x131072, .f32⟩
  | 40 => ⟨S4x131072, .f32⟩
  | 41 => ⟨S4x1x131072, .f32⟩
  | 42 => ⟨S4x1x131072, .f32⟩
  | 43 => ⟨S4x131072, .f32⟩
  | 44 => ⟨S4x131072, .f32⟩
  | 45 => ⟨S_, .i32⟩
  | 46 => ⟨S4x131072, .i32⟩
  | 47 => ⟨S4x131072, .i1⟩
  | 48 => ⟨S_, .i32⟩
  | 49 => ⟨S4x131072, .i32⟩
  | 50 => ⟨S4x131072, .i1⟩
  | 51 => ⟨S4x131072, .i1⟩
  | 52 => ⟨S_, .i32⟩
  | 53 => ⟨S4x131072, .i32⟩
  | 54 => ⟨S4x131072, .i1⟩
  | 55 => ⟨S4x131072, .i1⟩
  | 56 => ⟨S_, .i32⟩
  | 57 => ⟨S4x131072, .i32⟩
  | 58 => ⟨S4x131072, .i1⟩
  | 59 => ⟨S4x131072, .i1⟩
  | 60 => ⟨S_, .i32⟩
  | 61 => ⟨S4x131072, .i32⟩
  | 62 => ⟨S4x131072, .i1⟩
  | 63 => ⟨S4x131072, .i1⟩
  | 64 => ⟨S_, .i32⟩
  | 65 => ⟨S4x131072, .i32⟩
  | 66 => ⟨S4x131072, .i1⟩
  | 67 => ⟨S4x131072, .i1⟩
  | 68 => ⟨S4x131072, .f32⟩
  | 69 => ⟨S_, .i32⟩
  | 70 => ⟨S_, .i32⟩
  | 71 => ⟨S_, .i32⟩
  | 72 => ⟨S4x131072, .i32⟩
  | 73 => ⟨S4x131072, .i32⟩
  | 74 => ⟨S_, .i32⟩
  | 75 => ⟨S4x131072, .i32⟩
  | 76 => ⟨S4x131072, .i32⟩
  | 77 => ⟨S_, .i32⟩
  | 78 => ⟨S_, .i32⟩
  | 79 => ⟨S_, .i32⟩
  | 80 => ⟨S4x131072, .i32⟩
  | 81 => ⟨S4x131072, .i32⟩
  | 82 => ⟨S_, .i32⟩
  | 83 => ⟨S4x131072, .i32⟩
  | 84 => ⟨S4x131072, .i32⟩
  | 85 => ⟨S_, .i32⟩
  | 86 => ⟨S_, .i32⟩
  | 87 => ⟨S_, .i32⟩
  | 88 => ⟨S4x131072, .i32⟩
  | 89 => ⟨S4x131072, .i32⟩
  | 90 => ⟨S_, .i32⟩
  | 91 => ⟨S4x131072, .i32⟩
  | 92 => ⟨S4x131072, .i32⟩
  | 93 => ⟨S_, .i32⟩
  | 94 => ⟨S4x131072, .i32⟩
  | 95 => ⟨S4x131072, .i32⟩
  | 96 => ⟨S4x131072, .i32⟩
  | 97 => ⟨S_, .i32⟩
  | 98 => ⟨S4x131072, .i32⟩
  | 99 => ⟨S4x131072, .i32⟩
  | 100 => ⟨S4x131072, .i32⟩
  | 101 => ⟨S4x1x131072, .i32⟩
  | 102 => ⟨S_, .i32⟩
  | 103 => ⟨S4x1x131072, .i32⟩
  | 104 => ⟨S4x1x131072, .i1⟩
  | 105 => ⟨S_, .i32⟩
  | 106 => ⟨S4x1x131072, .i32⟩
  | 107 => ⟨S4x1x131072, .i32⟩
  | 108 => ⟨S4x1x131072, .i32⟩
  | 109 => ⟨S4x131072x1, .i32⟩
  | 110 => ⟨S1, .i32⟩
  | 111 => ⟨S_, .i32⟩
  | 112 => ⟨S4x131072x1, .i32⟩
  | 113 => ⟨S4x131072x1, .i1⟩
  | 114 => ⟨S1x1x1, .i32⟩
  | 115 => ⟨S4x131072x1, .i32⟩
  | 116 => ⟨S4x131072x1, .i1⟩
  | 117 => ⟨S4x131072x1, .i1⟩
  | 118 => ⟨S_, .i1⟩
  | 119 => ⟨S4x131072, .i1⟩
  | 120 => ⟨S4x1x131072, .f32⟩
  | 121 => ⟨S4x1x131072, .i1⟩
  | 122 => ⟨S_, .f32⟩
  | 123 => ⟨S4x1x131072, .f32⟩
  | 124 => ⟨S4x1x131072, .f32⟩
  | 125 => ⟨S4x131072, .f32⟩
  | 126 => ⟨S4x1x131072, .f32⟩
  | 127 => ⟨S4x1x131072, .f32⟩
  | _ => ⟨S4x2048x3, .f32⟩

abbrev hbmTy0_2 (i : Nat) : BufTy := match i % 128 with
  | 0 => ⟨S4x1x131072, .f32⟩
  | 1 => ⟨S4x131072, .f32⟩
  | 2 => ⟨S4x131072, .f32⟩
  | 3 => ⟨S_, .i32⟩
  | 4 => ⟨S4x131072, .i32⟩
  | 5 => ⟨S4x131072, .i1⟩
  | 6 => ⟨S_, .i32⟩
  | 7 => ⟨S4x131072, .i32⟩
  | 8 => ⟨S4x131072, .i1⟩
  | 9 => ⟨S4x131072, .i1⟩
  | 10 => ⟨S_, .i32⟩
  | 11 => ⟨S4x131072, .i32⟩
  | 12 => ⟨S4x131072, .i1⟩
  | 13 => ⟨S4x131072, .i1⟩
  | 14 => ⟨S_, .i32⟩
  | 15 => ⟨S4x131072, .i32⟩
  | 16 => ⟨S4x131072, .i1⟩
  | 17 => ⟨S4x131072, .i1⟩
  | 18 => ⟨S_, .i32⟩
  | 19 => ⟨S4x131072, .i32⟩
  | 20 => ⟨S4x131072, .i1⟩
  | 21 => ⟨S4x131072, .i1⟩
  | 22 => ⟨S_, .i32⟩
  | 23 => ⟨S4x131072, .i32⟩
  | 24 => ⟨S4x131072, .i1⟩
  | 25 => ⟨S4x131072, .i1⟩
  | 26 => ⟨S4x131072, .f32⟩
  | 27 => ⟨S_, .i32⟩
  | 28 => ⟨S_, .i32⟩
  | 29 => ⟨S_, .i32⟩
  | 30 => ⟨S4x131072, .i32⟩
  | 31 => ⟨S4x131072, .i32⟩
  | 32 => ⟨S_, .i32⟩
  | 33 => ⟨S4x131072, .i32⟩
  | 34 => ⟨S4x131072, .i32⟩
  | 35 => ⟨S_, .i32⟩
  | 36 => ⟨S_, .i32⟩
  | 37 => ⟨S_, .i32⟩
  | 38 => ⟨S4x131072, .i32⟩
  | 39 => ⟨S4x131072, .i32⟩
  | 40 => ⟨S_, .i32⟩
  | 41 => ⟨S4x131072, .i32⟩
  | 42 => ⟨S4x131072, .i32⟩
  | 43 => ⟨S_, .i32⟩
  | 44 => ⟨S_, .i32⟩
  | 45 => ⟨S_, .i32⟩
  | 46 => ⟨S4x131072, .i32⟩
  | 47 => ⟨S4x131072, .i32⟩
  | 48 => ⟨S_, .i32⟩
  | 49 => ⟨S4x131072, .i32⟩
  | 50 => ⟨S4x131072, .i32⟩
  | 51 => ⟨S_, .i32⟩
  | 52 => ⟨S4x131072, .i32⟩
  | 53 => ⟨S4x131072, .i32⟩
  | 54 => ⟨S4x131072, .i32⟩
  | 55 => ⟨S_, .i32⟩
  | 56 => ⟨S4x131072, .i32⟩
  | 57 => ⟨S4x131072, .i32⟩
  | 58 => ⟨S4x131072, .i32⟩
  | 59 => ⟨S4x1x131072, .i32⟩
  | 60 => ⟨S_, .i32⟩
  | 61 => ⟨S4x1x131072, .i32⟩
  | 62 => ⟨S4x1x131072, .i1⟩
  | 63 => ⟨S_, .i32⟩
  | 64 => ⟨S4x1x131072, .i32⟩
  | 65 => ⟨S4x1x131072, .i32⟩
  | 66 => ⟨S4x1x131072, .i32⟩
  | 67 => ⟨S4x131072x1, .i32⟩
  | 68 => ⟨S1, .i32⟩
  | 69 => ⟨S_, .i32⟩
  | 70 => ⟨S4x131072x1, .i32⟩
  | 71 => ⟨S4x131072x1, .i1⟩
  | 72 => ⟨S1x1x1, .i32⟩
  | 73 => ⟨S4x131072x1, .i32⟩
  | 74 => ⟨S4x131072x1, .i1⟩
  | 75 => ⟨S4x131072x1, .i1⟩
  | 76 => ⟨S_, .i1⟩
  | 77 => ⟨S4x131072, .i1⟩
  | 78 => ⟨S4x1x131072, .f32⟩
  | 79 => ⟨S4x1x131072, .i1⟩
  | 80 => ⟨S_, .f32⟩
  | 81 => ⟨S4x1x131072, .f32⟩
  | 82 => ⟨S4x1x131072, .f32⟩
  | 83 => ⟨S4x131072, .f32⟩
  | 84 => ⟨S4x1x131072, .f32⟩
  | 85 => ⟨S4x1x131072, .f32⟩
  | 86 => ⟨S4x1x131072, .f32⟩
  | 87 => ⟨S4x131072, .f32⟩
  | 88 => ⟨S4x131072, .f32⟩
  | 89 => ⟨S_, .i32⟩
  | 90 => ⟨S4x131072, .i32⟩
  | 91 => ⟨S4x131072, .i1⟩
  | 92 => ⟨S_, .i32⟩
  | 93 => ⟨S4x131072, .i32⟩
  | 94 => ⟨S4x131072, .i1⟩
  | 95 => ⟨S4x131072, .i1⟩
  | 96 => ⟨S_, .i32⟩
  | 97 => ⟨S4x131072, .i32⟩
  | 98 => ⟨S4x131072, .i1⟩
  | 99 => ⟨S4x131072, .i1⟩
  | 100 => ⟨S_, .i32⟩
  | 101 => ⟨S4x131072, .i32⟩
  | 102 => ⟨S4x131072, .i1⟩
  | 103 => ⟨S4x131072, .i1⟩
  | 104 => ⟨S_, .i32⟩
  | 105 => ⟨S4x131072, .i32⟩
  | 106 => ⟨S4x131072, .i1⟩
  | 107 => ⟨S4x131072, .i1⟩
  | 108 => ⟨S_, .i32⟩
  | 109 => ⟨S4x131072, .i32⟩
  | 110 => ⟨S4x131072, .i1⟩
  | 111 => ⟨S4x131072, .i1⟩
  | 112 => ⟨S4x131072, .f32⟩
  | 113 => ⟨S_, .i32⟩
  | 114 => ⟨S_, .i32⟩
  | 115 => ⟨S_, .i32⟩
  | 116 => ⟨S4x131072, .i32⟩
  | 117 => ⟨S4x131072, .i32⟩
  | 118 => ⟨S_, .i32⟩
  | 119 => ⟨S4x131072, .i32⟩
  | 120 => ⟨S4x131072, .i32⟩
  | 121 => ⟨S_, .i32⟩
  | 122 => ⟨S_, .i32⟩
  | 123 => ⟨S_, .i32⟩
  | 124 => ⟨S4x131072, .i32⟩
  | 125 => ⟨S4x131072, .i32⟩
  | 126 => ⟨S_, .i32⟩
  | 127 => ⟨S4x131072, .i32⟩
  | _ => ⟨S4x2048x3, .f32⟩

abbrev hbmTy0_3 (i : Nat) : BufTy := match i % 128 with
  | 0 => ⟨S4x131072, .i32⟩
  | 1 => ⟨S_, .i32⟩
  | 2 => ⟨S_, .i32⟩
  | 3 => ⟨S_, .i32⟩
  | 4 => ⟨S4x131072, .i32⟩
  | 5 => ⟨S4x131072, .i32⟩
  | 6 => ⟨S_, .i32⟩
  | 7 => ⟨S4x131072, .i32⟩
  | 8 => ⟨S4x131072, .i32⟩
  | 9 => ⟨S_, .i32⟩
  | 10 => ⟨S4x131072, .i32⟩
  | 11 => ⟨S4x131072, .i32⟩
  | 12 => ⟨S4x131072, .i32⟩
  | 13 => ⟨S_, .i32⟩
  | 14 => ⟨S4x131072, .i32⟩
  | 15 => ⟨S4x131072, .i32⟩
  | 16 => ⟨S4x131072, .i32⟩
  | 17 => ⟨S4x1x131072, .i32⟩
  | 18 => ⟨S_, .i32⟩
  | 19 => ⟨S4x1x131072, .i32⟩
  | 20 => ⟨S4x1x131072, .i1⟩
  | 21 => ⟨S_, .i32⟩
  | 22 => ⟨S4x1x131072, .i32⟩
  | 23 => ⟨S4x1x131072, .i32⟩
  | 24 => ⟨S4x1x131072, .i32⟩
  | 25 => ⟨S4x131072x1, .i32⟩
  | 26 => ⟨S1, .i32⟩
  | 27 => ⟨S_, .i32⟩
  | 28 => ⟨S4x131072x1, .i32⟩
  | 29 => ⟨S4x131072x1, .i1⟩
  | 30 => ⟨S1x1x1, .i32⟩
  | 31 => ⟨S4x131072x1, .i32⟩
  | 32 => ⟨S4x131072x1, .i1⟩
  | 33 => ⟨S4x131072x1, .i1⟩
  | 34 => ⟨S_, .i1⟩
  | 35 => ⟨S4x131072, .i1⟩
  | 36 => ⟨S4x1x131072, .f32⟩
  | 37 => ⟨S4x1x131072, .i1⟩
  | 38 => ⟨S_, .f32⟩
  | 39 => ⟨S4x1x131072, .f32⟩
  | 40 => ⟨S4x1x131072, .f32⟩
  | 41 => ⟨S4x131072, .f32⟩
  | 42 => ⟨S4x1x131072, .f32⟩
  | 43 => ⟨S4x1x131072, .f32⟩
  | 44 => ⟨S4x1x131072, .f32⟩
  | 45 => ⟨S4x131072, .f32⟩
  | 46 => ⟨S4x131072, .f32⟩
  | 47 => ⟨S_, .i32⟩
  | 48 => ⟨S4x131072, .i32⟩
  | 49 => ⟨S4x131072, .i1⟩
  | 50 => ⟨S_, .i32⟩
  | 51 => ⟨S4x131072, .i32⟩
  | 52 => ⟨S4x131072, .i1⟩
  | 53 => ⟨S4x131072, .i1⟩
  | 54 => ⟨S_, .i32⟩
  | 55 => ⟨S4x131072, .i32⟩
  | 56 => ⟨S4x131072, .i1⟩
  | 57 => ⟨S4x131072, .i1⟩
  | 58 => ⟨S_, .i32⟩
  | 59 => ⟨S4x131072, .i32⟩
  | 60 => ⟨S4x131072, .i1⟩
  | 61 => ⟨S4x131072, .i1⟩
  | 62 => ⟨S_, .i32⟩
  | 63 => ⟨S4x131072, .i32⟩
  | 64 => ⟨S4x131072, .i1⟩
  | 65 => ⟨S4x131072, .i1⟩
  | 66 => ⟨S_, .i32⟩
  | 67 => ⟨S4x131072, .i32⟩
  | 68 => ⟨S4x131072, .i1⟩
  | 69 => ⟨S4x131072, .i1⟩
  | 70 => ⟨S4x131072, .f32⟩
  | 71 => ⟨S_, .i32⟩
  | 72 => ⟨S_, .i32⟩
  | 73 => ⟨S_, .i32⟩
  | 74 => ⟨S4x131072, .i32⟩
  | 75 => ⟨S4x131072, .i32⟩
  | 76 => ⟨S_, .i32⟩
  | 77 => ⟨S4x131072, .i32⟩
  | 78 => ⟨S4x131072, .i32⟩
  | 79 => ⟨S_, .i32⟩
  | 80 => ⟨S_, .i32⟩
  | 81 => ⟨S_, .i32⟩
  | 82 => ⟨S4x131072, .i32⟩
  | 83 => ⟨S4x131072, .i32⟩
  | 84 => ⟨S_, .i32⟩
  | 85 => ⟨S4x131072, .i32⟩
  | 86 => ⟨S4x131072, .i32⟩
  | 87 => ⟨S_, .i32⟩
  | 88 => ⟨S_, .i32⟩
  | 89 => ⟨S_, .i32⟩
  | 90 => ⟨S4x131072, .i32⟩
  | 91 => ⟨S4x131072, .i32⟩
  | 92 => ⟨S_, .i32⟩
  | 93 => ⟨S4x131072, .i32⟩
  | 94 => ⟨S4x131072, .i32⟩
  | 95 => ⟨S_, .i32⟩
  | 96 => ⟨S4x131072, .i32⟩
  | 97 => ⟨S4x131072, .i32⟩
  | 98 => ⟨S4x131072, .i32⟩
  | 99 => ⟨S_, .i32⟩
  | 100 => ⟨S4x131072, .i32⟩
  | 101 => ⟨S4x131072, .i32⟩
  | 102 => ⟨S4x131072, .i32⟩
  | 103 => ⟨S4x1x131072, .i32⟩
  | 104 => ⟨S_, .i32⟩
  | 105 => ⟨S4x1x131072, .i32⟩
  | 106 => ⟨S4x1x131072, .i1⟩
  | 107 => ⟨S_, .i32⟩
  | 108 => ⟨S4x1x131072, .i32⟩
  | 109 => ⟨S4x1x131072, .i32⟩
  | 110 => ⟨S4x1x131072, .i32⟩
  | 111 => ⟨S4x131072x1, .i32⟩
  | 112 => ⟨S1, .i32⟩
  | 113 => ⟨S_, .i32⟩
  | 114 => ⟨S4x131072x1, .i32⟩
  | 115 => ⟨S4x131072x1, .i1⟩
  | 116 => ⟨S1x1x1, .i32⟩
  | 117 => ⟨S4x131072x1, .i32⟩
  | 118 => ⟨S4x131072x1, .i1⟩
  | 119 => ⟨S4x131072x1, .i1⟩
  | 120 => ⟨S_, .i1⟩
  | 121 => ⟨S4x131072, .i1⟩
  | 122 => ⟨S4x1x131072, .f32⟩
  | 123 => ⟨S4x1x131072, .i1⟩
  | 124 => ⟨S_, .f32⟩
  | 125 => ⟨S4x1x131072, .f32⟩
  | 126 => ⟨S4x1x131072, .f32⟩
  | 127 => ⟨S4x131072, .f32⟩
  | _ => ⟨S4x2048x3, .f32⟩

abbrev hbmTy0_4 (i : Nat) : BufTy := match i % 128 with
  | 0 => ⟨S4x1x131072, .f32⟩
  | 1 => ⟨S4x1x131072, .f32⟩
  | 2 => ⟨S4x1x131072, .f32⟩
  | 3 => ⟨S4x131072, .f32⟩
  | 4 => ⟨S4x131072, .f32⟩
  | 5 => ⟨S_, .i32⟩
  | 6 => ⟨S4x131072, .i32⟩
  | 7 => ⟨S4x131072, .i1⟩
  | 8 => ⟨S_, .i32⟩
  | 9 => ⟨S4x131072, .i32⟩
  | 10 => ⟨S4x131072, .i1⟩
  | 11 => ⟨S4x131072, .i1⟩
  | 12 => ⟨S_, .i32⟩
  | 13 => ⟨S4x131072, .i32⟩
  | 14 => ⟨S4x131072, .i1⟩
  | 15 => ⟨S4x131072, .i1⟩
  | 16 => ⟨S_, .i32⟩
  | 17 => ⟨S4x131072, .i32⟩
  | 18 => ⟨S4x131072, .i1⟩
  | 19 => ⟨S4x131072, .i1⟩
  | 20 => ⟨S_, .i32⟩
  | 21 => ⟨S4x131072, .i32⟩
  | 22 => ⟨S4x131072, .i1⟩
  | 23 => ⟨S4x131072, .i1⟩
  | 24 => ⟨S_, .i32⟩
  | 25 => ⟨S4x131072, .i32⟩
  | 26 => ⟨S4x131072, .i1⟩
  | 27 => ⟨S4x131072, .i1⟩
  | 28 => ⟨S4x131072, .f32⟩
  | 29 => ⟨S_, .i32⟩
  | 30 => ⟨S_, .i32⟩
  | 31 => ⟨S_, .i32⟩
  | 32 => ⟨S4x131072, .i32⟩
  | 33 => ⟨S4x131072, .i32⟩
  | 34 => ⟨S_, .i32⟩
  | 35 => ⟨S4x131072, .i32⟩
  | 36 => ⟨S4x131072, .i32⟩
  | 37 => ⟨S_, .i32⟩
  | 38 => ⟨S_, .i32⟩
  | 39 => ⟨S_, .i32⟩
  | 40 => ⟨S4x131072, .i32⟩
  | 41 => ⟨S4x131072, .i32⟩
  | 42 => ⟨S_, .i32⟩
  | 43 => ⟨S4x131072, .i32⟩
  | 44 => ⟨S4x131072, .i32⟩
  | 45 => ⟨S_, .i32⟩
  | 46 => ⟨S_, .i32⟩
  | 47 => ⟨S_, .i32⟩
  | 48 => ⟨S4x131072, .i32⟩
  | 49 => ⟨S4x131072, .i32⟩
  | 50 => ⟨S_, .i32⟩
  | 51 => ⟨S4x131072, .i32⟩
  | 52 => ⟨S4x131072, .i32⟩
  | 53 => ⟨S_, .i32⟩
  | 54 => ⟨S4x131072, .i32⟩
  | 55 => ⟨S4x131072, .i32⟩
  | 56 => ⟨S4x131072, .i32⟩
  | 57 => ⟨S_, .i32⟩
  | 58 => ⟨S4x131072, .i32⟩
  | 59 => ⟨S4x131072, .i32⟩
  | 60 => ⟨S4x131072, .i32⟩
  | 61 => ⟨S4x1x131072, .i32⟩
  | 62 => ⟨S_, .i32⟩
  | 63 => ⟨S4x1x131072, .i32⟩
  | 64 => ⟨S4x1x131072, .i1⟩
  | 65 => ⟨S_, .i32⟩
  | 66 => ⟨S4x1x131072, .i32⟩
  | 67 => ⟨S4x1x131072, .i32⟩
  | 68 => ⟨S4x1x131072, .i32⟩
  | 69 => ⟨S4x131072x1, .i32⟩
  | 70 => ⟨S1, .i32⟩
  | 71 => ⟨S_, .i32⟩
  | 72 => ⟨S4x131072x1, .i32⟩
  | 73 => ⟨S4x131072x1, .i1⟩
  | 74 => ⟨S1x1x1, .i32⟩
  | 75 => ⟨S4x131072x1, .i32⟩
  | 76 => ⟨S4x131072x1, .i1⟩
  | 77 => ⟨S4x131072x1, .i1⟩
  | 78 => ⟨S_, .i1⟩
  | 79 => ⟨S4x131072, .i1⟩
  | 80 => ⟨S4x1x131072, .f32⟩
  | 81 => ⟨S4x1x131072, .i1⟩
  | 82 => ⟨S_, .f32⟩
  | 83 => ⟨S4x1x131072, .f32⟩
  | 84 => ⟨S4x1x131072, .f32⟩
  | 85 => ⟨S4x131072, .f32⟩
  | 86 => ⟨S4x1x131072, .f32⟩
  | 87 => ⟨S4x1x131072, .f32⟩
  | 88 => ⟨S4x1x131072, .f32⟩
  | 89 => ⟨S4x131072, .f32⟩
  | 90 => ⟨S4x131072, .f32⟩
  | 91 => ⟨S_, .i32⟩
  | 92 => ⟨S4x131072, .i32⟩
  | 93 => ⟨S4x131072, .i1⟩
  | 94 => ⟨S_, .i32⟩
  | 95 => ⟨S4x131072, .i32⟩
  | 96 => ⟨S4x131072, .i1⟩
  | 97 => ⟨S4x131072, .i1⟩
  | 98 => ⟨S_, .i32⟩
  | 99 => ⟨S4x131072, .i32⟩
  | 100 => ⟨S4x131072, .i1⟩
  | 101 => ⟨S4x131072, .i1⟩
  | 102 => ⟨S_, .i32⟩
  | 103 => ⟨S4x131072, .i32⟩
  | 104 => ⟨S4x131072, .i1⟩
  | 105 => ⟨S4x131072, .i1⟩
  | 106 => ⟨S_, .i32⟩
  | 107 => ⟨S4x131072, .i32⟩
  | 108 => ⟨S4x131072, .i1⟩
  | 109 => ⟨S4x131072, .i1⟩
  | 110 => ⟨S_, .i32⟩
  | 111 => ⟨S4x131072, .i32⟩
  | 112 => ⟨S4x131072, .i1⟩
  | 113 => ⟨S4x131072, .i1⟩
  | 114 => ⟨S4x131072, .f32⟩
  | 115 => ⟨S_, .i32⟩
  | 116 => ⟨S_, .i32⟩
  | 117 => ⟨S_, .i32⟩
  | 118 => ⟨S4x131072, .i32⟩
  | 119 => ⟨S4x131072, .i32⟩
  | 120 => ⟨S_, .i32⟩
  | 121 => ⟨S4x131072, .i32⟩
  | 122 => ⟨S4x131072, .i32⟩
  | 123 => ⟨S_, .i32⟩
  | 124 => ⟨S_, .i32⟩
  | 125 => ⟨S_, .i32⟩
  | 126 => ⟨S4x131072, .i32⟩
  | 127 => ⟨S4x131072, .i32⟩
  | _ => ⟨S4x2048x3, .f32⟩

abbrev hbmTy0_5 (i : Nat) : BufTy := match i % 128 with
  | 0 => ⟨S_, .i32⟩
  | 1 => ⟨S4x131072, .i32⟩
  | 2 => ⟨S4x131072, .i32⟩
  | 3 => ⟨S_, .i32⟩
  | 4 => ⟨S_, .i32⟩
  | 5 => ⟨S_, .i32⟩
  | 6 => ⟨S4x131072, .i32⟩
  | 7 => ⟨S4x131072, .i32⟩
  | 8 => ⟨S_, .i32⟩
  | 9 => ⟨S4x131072, .i32⟩
  | 10 => ⟨S4x131072, .i32⟩
  | 11 => ⟨S_, .i32⟩
  | 12 => ⟨S4x131072, .i32⟩
  | 13 => ⟨S4x131072, .i32⟩
  | 14 => ⟨S4x131072, .i32⟩
  | 15 => ⟨S_, .i32⟩
  | 16 => ⟨S4x131072, .i32⟩
  | 17 => ⟨S4x131072, .i32⟩
  | 18 => ⟨S4x131072, .i32⟩
  | 19 => ⟨S4x1x131072, .i32⟩
  | 20 => ⟨S_, .i32⟩
  | 21 => ⟨S4x1x131072, .i32⟩
  | 22 => ⟨S4x1x131072, .i1⟩
  | 23 => ⟨S_, .i32⟩
  | 24 => ⟨S4x1x131072, .i32⟩
  | 25 => ⟨S4x1x131072, .i32⟩
  | 26 => ⟨S4x1x131072, .i32⟩
  | 27 => ⟨S4x131072x1, .i32⟩
  | 28 => ⟨S1, .i32⟩
  | 29 => ⟨S_, .i32⟩
  | 30 => ⟨S4x131072x1, .i32⟩
  | 31 => ⟨S4x131072x1, .i1⟩
  | 32 => ⟨S1x1x1, .i32⟩
  | 33 => ⟨S4x131072x1, .i32⟩
  | 34 => ⟨S4x131072x1, .i1⟩
  | 35 => ⟨S4x131072x1, .i1⟩
  | 36 => ⟨S_, .i1⟩
  | 37 => ⟨S4x131072, .i1⟩
  | 38 => ⟨S4x1x131072, .f32⟩
  | 39 => ⟨S4x1x131072, .i1⟩
  | 40 => ⟨S_, .f32⟩
  | 41 => ⟨S4x1x131072, .f32⟩
  | 42 => ⟨S4x1x131072, .f32⟩
  | 43 => ⟨S4x131072, .f32⟩
  | 44 => ⟨S4x1x131072, .f32⟩
  | 45 => ⟨S4x1x131072, .f32⟩
  | 46 => ⟨S4x1x131072, .f32⟩
  | 47 => ⟨S4x131072, .f32⟩
  | 48 => ⟨S4x131072, .f32⟩
  | 49 => ⟨S_, .i32⟩
  | 50 => ⟨S4x131072, .i32⟩
  | 51 => ⟨S4x131072, .i1⟩
  | 52 => ⟨S_, .i32⟩
  | 53 => ⟨S4x131072, .i32⟩
  | 54 => ⟨S4x131072, .i1⟩
  | 55 => ⟨S4x131072, .i1⟩
  | 56 => ⟨S_, .i32⟩
  | 57 => ⟨S4x131072, .i32⟩
  | 58 => ⟨S4x131072, .i1⟩
  | 59 => ⟨S4x131072, .i1⟩
  | 60 => ⟨S_, .i32⟩
  | 61 => ⟨S4x131072, .i32⟩
  | 62 => ⟨S4x131072, .i1⟩
  | 63 => ⟨S4x131072, .i1⟩
  | 64 => ⟨S_, .i32⟩
  | 65 => ⟨S4x131072, .i32⟩
  | 66 => ⟨S4x131072, .i1⟩
  | 67 => ⟨S4x131072, .i1⟩
  | 68 => ⟨S_, .i32⟩
  | 69 => ⟨S4x131072, .i32⟩
  | 70 => ⟨S4x131072, .i1⟩
  | 71 => ⟨S4x131072, .i1⟩
  | 72 => ⟨S4x131072, .f32⟩
  | 73 => ⟨S_, .i32⟩
  | 74 => ⟨S_, .i32⟩
  | 75 => ⟨S_, .i32⟩
  | 76 => ⟨S4x131072, .i32⟩
  | 77 => ⟨S4x131072, .i32⟩
  | 78 => ⟨S_, .i32⟩
  | 79 => ⟨S4x131072, .i32⟩
  | 80 => ⟨S4x131072, .i32⟩
  | 81 => ⟨S_, .i32⟩
  | 82 => ⟨S_, .i32⟩
  | 83 => ⟨S_, .i32⟩
  | 84 => ⟨S4x131072, .i32⟩
  | 85 => ⟨S4x131072, .i32⟩
  | 86 => ⟨S_, .i32⟩
  | 87 => ⟨S4x131072, .i32⟩
  | 88 => ⟨S4x131072, .i32⟩
  | 89 => ⟨S_, .i32⟩
  | 90 => ⟨S_, .i32⟩
  | 91 => ⟨S_, .i32⟩
  | 92 => ⟨S4x131072, .i32⟩
  | 93 => ⟨S4x131072, .i32⟩
  | 94 => ⟨S_, .i32⟩
  | 95 => ⟨S4x131072, .i32⟩
  | 96 => ⟨S4x131072, .i32⟩
  | 97 => ⟨S_, .i32⟩
  | 98 => ⟨S4x131072, .i32⟩
  | 99 => ⟨S4x131072, .i32⟩
  | 100 => ⟨S4x131072, .i32⟩
  | 101 => ⟨S_, .i32⟩
  | 102 => ⟨S4x131072, .i32⟩
  | 103 => ⟨S4x131072, .i32⟩
  | 104 => ⟨S4x131072, .i32⟩
  | 105 => ⟨S4x1x131072, .i32⟩
  | 106 => ⟨S_, .i32⟩
  | 107 => ⟨S4x1x131072, .i32⟩
  | 108 => ⟨S4x1x131072, .i1⟩
  | 109 => ⟨S_, .i32⟩
  | 110 => ⟨S4x1x131072, .i32⟩
  | 111 => ⟨S4x1x131072, .i32⟩
  | 112 => ⟨S4x1x131072, .i32⟩
  | 113 => ⟨S4x131072x1, .i32⟩
  | 114 => ⟨S1, .i32⟩
  | 115 => ⟨S_, .i32⟩
  | 116 => ⟨S4x131072x1, .i32⟩
  | 117 => ⟨S4x131072x1, .i1⟩
  | 118 => ⟨S1x1x1, .i32⟩
  | 119 => ⟨S4x131072x1, .i32⟩
  | 120 => ⟨S4x131072x1, .i1⟩
  | 121 => ⟨S4x131072x1, .i1⟩
  | 122 => ⟨S_, .i1⟩
  | 123 => ⟨S4x131072, .i1⟩
  | 124 => ⟨S4x1x131072, .f32⟩
  | 125 => ⟨S4x1x131072, .i1⟩
  | 126 => ⟨S_, .f32⟩
  | 127 => ⟨S4x1x131072, .f32⟩
  | _ => ⟨S4x2048x3, .f32⟩

abbrev hbmTy0_6 (i : Nat) : BufTy := match i % 128 with
  | 0 => ⟨S4x1x131072, .f32⟩
  | 1 => ⟨S4x131072, .f32⟩
  | 2 => ⟨S4x1x131072, .f32⟩
  | 3 => ⟨S4x1x131072, .f32⟩
  | 4 => ⟨S4x1x131072, .f32⟩
  | 5 => ⟨S4x131072x1, .f32⟩
  | 6 => ⟨S4x131072, .f32⟩
  | 7 => ⟨S4x131072x1, .f32⟩
  | 8 => ⟨S4x131072, .f32⟩
  | 9 => ⟨S4x131072x1, .f32⟩
  | 10 => ⟨S4x131072, .f32⟩
  | 11 => ⟨S_, .f32⟩
  | 12 => ⟨S4x131072, .f32⟩
  | 13 => ⟨S4x131072, .f32⟩
  | 14 => ⟨S_, .f32⟩
  | 15 => ⟨S4x131072, .f32⟩
  | 16 => ⟨S4x131072, .f32⟩
  | 17 => ⟨S_, .f32⟩
  | 18 => ⟨S4x131072, .f32⟩
  | 19 => ⟨S4x131072, .f32⟩
  | 20 => ⟨S_, .f32⟩
  | 21 => ⟨S4x131072, .f32⟩
  | 22 => ⟨S4x131072, .f32⟩
  | 23 => ⟨S_, .f32⟩
  | 24 => ⟨S4x131072, .f32⟩
  | 25 => ⟨S4x131072, .f32⟩
  | 26 => ⟨S_, .f32⟩
  | 27 => ⟨S4x131072, .f32⟩
  | 28 => ⟨S4x131072, .f32⟩
  | 29 => ⟨S_, .f32⟩
  | 30 => ⟨S4x131072, .f32⟩
  | 31 => ⟨S4x131072, .f32⟩
  | 32 => ⟨S_, .f32⟩
  | 33 => ⟨S4x131072, .f32⟩
  | 34 => ⟨S4x131072, .f32⟩
  | 35 => ⟨S_, .f32⟩
  | 36 => ⟨S4x131072, .f32⟩
  | 37 => ⟨S4x131072, .f32⟩
  | 38 => ⟨S4x131072, .f32⟩
  | 39 => ⟨S4x131072, .f32⟩
  | 40 => ⟨S4x131072, .f32⟩
  | 41 => ⟨S4x131072, .f32⟩
  | 42 => ⟨S4x131072, .f32⟩
  | 43 => ⟨S4x131072, .f32⟩
  | 44 => ⟨S_, .f32⟩
  | 45 => ⟨S4x131072, .f32⟩
  | 46 => ⟨S4x131072, .f32⟩
  | 47 => ⟨S_, .f32⟩
  | 48 => ⟨S4x131072, .f32⟩
  | 49 => ⟨S4x131072, .f32⟩
  | 50 => ⟨S_, .f32⟩
  | 51 => ⟨S4x131072, .f32⟩
  | 52 => ⟨S4x131072, .f32⟩
  | 53 => ⟨S4x131072, .i32⟩
  | 54 => ⟨S_, .i32⟩
  | 55 => ⟨S4x131072, .i32⟩
  | 56 => ⟨S4x131072, .i32⟩
  | 57 => ⟨S4x131072, .i32⟩
  | 58 => ⟨S_, .i32⟩
  | 59 => ⟨S4x131072, .i32⟩
  | 60 => ⟨S4x131072, .i32⟩
  | 61 => ⟨S4x131072, .i32⟩
  | 62 => ⟨S_, .i32⟩
  | 63 => ⟨S4x131072, .i32⟩
  | 64 => ⟨S4x131072, .i32⟩
  | 65 => ⟨S4x8x2097152, .f32⟩
  | 66 => ⟨S4x131072, .f32⟩
  | 67 => ⟨S4x131072, .f32⟩
  | 68 => ⟨S_, .i32⟩
  | 69 => ⟨S4x131072, .i32⟩
  | 70 => ⟨S4x131072, .i1⟩
  | 71 => ⟨S_, .i32⟩
  | 72 => ⟨S4x131072, .i32⟩
  | 73 => ⟨S4x131072, .i1⟩
  | 74 => ⟨S4x131072, .i1⟩
  | 75 => ⟨S_, .i32⟩
  | 76 => ⟨S4x131072, .i32⟩
  | 77 => ⟨S4x131072, .i1⟩
  | 78 => ⟨S4x131072, .i1⟩
  | 79 => ⟨S_, .i32⟩
  | 80 => ⟨S4x131072, .i32⟩
  | 81 => ⟨S4x131072, .i1⟩
  | 82 => ⟨S4x131072, .i1⟩
  | 83 => ⟨S_, .i32⟩
  | 84 => ⟨S4x131072, .i32⟩
  | 85 => ⟨S4x131072, .i1⟩
  | 86 => ⟨S4x131072, .i1⟩
  | 87 => ⟨S_, .i32⟩
  | 88 => ⟨S4x131072, .i32⟩
  | 89 => ⟨S4x131072, .i1⟩
  | 90 => ⟨S4x131072, .i1⟩
  | 91 => ⟨S4x131072, .f32⟩
  | 92 => ⟨S_, .i32⟩
  | 93 => ⟨S_, .i32⟩
  | 94 => ⟨S_, .i32⟩
  | 95 => ⟨S4x131072, .i32⟩
  | 96 => ⟨S4x131072, .i32⟩
  | 97 => ⟨S_, .i32⟩
  | 98 => ⟨S4x131072, .i32⟩
  | 99 => ⟨S4x131072, .i32⟩
  | 100 => ⟨S_, .i32⟩
  | 101 => ⟨S_, .i32⟩
  | 102 => ⟨S_, .i32⟩
  | 103 => ⟨S4x131072, .i32⟩
  | 104 => ⟨S4x131072, .i32⟩
  | 105 => ⟨S_, .i32⟩
  | 106 => ⟨S4x131072, .i32⟩
  | 107 => ⟨S4x131072, .i32⟩
  | 108 => ⟨S_, .i32⟩
  | 109 => ⟨S_, .i32⟩
  | 110 => ⟨S_, .i32⟩
  | 111 => ⟨S4x131072, .i32⟩
  | 112 => ⟨S4x131072, .i32⟩
  | 113 => ⟨S_, .i32⟩
  | 114 => ⟨S4x131072, .i32⟩
  | 115 => ⟨S4x131072, .i32⟩
  | 116 => ⟨S_, .i32⟩
  | 117 => ⟨S4x131072, .i32⟩
  | 118 => ⟨S4x131072, .i32⟩
  | 119 => ⟨S4x131072, .i32⟩
  | 120 => ⟨S_, .i32⟩
  | 121 => ⟨S4x131072, .i32⟩
  | 122 => ⟨S4x131072, .i32⟩
  | 123 => ⟨S4x131072, .i32⟩
  | 124 => ⟨S4x1x131072, .i32⟩
  | 125 => ⟨S_, .i32⟩
  | 126 => ⟨S4x1x131072, .i32⟩
  | 127 => ⟨S4x1x131072, .i1⟩
  | _ => ⟨S4x2048x3, .f32⟩

abbrev hbmTy0_7 (i : Nat) : BufTy := match i % 128 with
  | 0 => ⟨S_, .i32⟩
  | 1 => ⟨S4x1x131072, .i32⟩
  | 2 => ⟨S4x1x131072, .i32⟩
  | 3 => ⟨S4x1x131072, .i32⟩
  | 4 => ⟨S4x131072x1, .i32⟩
  | 5 => ⟨S1, .i32⟩
  | 6 => ⟨S_, .i32⟩
  | 7 => ⟨S4x131072x1, .i32⟩
  | 8 => ⟨S4x131072x1, .i1⟩
  | 9 => ⟨S1x1x1, .i32⟩
  | 10 => ⟨S4x131072x1, .i32⟩
  | 11 => ⟨S4x131072x1, .i1⟩
  | 12 => ⟨S4x131072x1, .i1⟩
  | 13 => ⟨S_, .i1⟩
  | 14 => ⟨S4x131072, .i1⟩
  | 15 => ⟨S4x8x131072, .f32⟩
  | 16 => ⟨S4x8x131072, .i1⟩
  | 17 => ⟨S_, .f32⟩
  | 18 => ⟨S4x8x131072, .f32⟩
  | 19 => ⟨S4x8x131072, .f32⟩
  | 20 => ⟨S4x131072, .f32⟩
  | 21 => ⟨S4x1x131072, .f32⟩
  | 22 => ⟨S4x8x131072, .f32⟩
  | 23 => ⟨S4x8x131072, .f32⟩
  | 24 => ⟨S4x131072, .f32⟩
  | 25 => ⟨S4x131072, .f32⟩
  | 26 => ⟨S_, .i32⟩
  | 27 => ⟨S4x131072, .i32⟩
  | 28 => ⟨S4x131072, .i1⟩
  | 29 => ⟨S_, .i32⟩
  | 30 => ⟨S4x131072, .i32⟩
  | 31 => ⟨S4x131072, .i1⟩
  | 32 => ⟨S4x131072, .i1⟩
  | 33 => ⟨S_, .i32⟩
  | 34 => ⟨S4x131072, .i32⟩
  | 35 => ⟨S4x131072, .i1⟩
  | 36 => ⟨S4x131072, .i1⟩
  | 37 => ⟨S_, .i32⟩
  | 38 => ⟨S4x131072, .i32⟩
  | 39 => ⟨S4x131072, .i1⟩
  | 40 => ⟨S4x131072, .i1⟩
  | 41 => ⟨S_, .i32⟩
  | 42 => ⟨S4x131072, .i32⟩
  | 43 => ⟨S4x131072, .i1⟩
  | 44 => ⟨S4x131072, .i1⟩
  | 45 => ⟨S_, .i32⟩
  | 46 => ⟨S4x131072, .i32⟩
  | 47 => ⟨S4x131072, .i1⟩
  | 48 => ⟨S4x131072, .i1⟩
  | 49 => ⟨S4x131072, .f32⟩
  | 50 => ⟨S_, .i32⟩
  | 51 => ⟨S_, .i32⟩
  | 52 => ⟨S_, .i32⟩
  | 53 => ⟨S4x131072, .i32⟩
  | 54 => ⟨S4x131072, .i32⟩
  | 55 => ⟨S_, .i32⟩
  | 56 => ⟨S4x131072, .i32⟩
  | 57 => ⟨S4x131072, .i32⟩
  | 58 => ⟨S_, .i32⟩
  | 59 => ⟨S_, .i32⟩
  | 60 => ⟨S_, .i32⟩
  | 61 => ⟨S4x131072, .i32⟩
  | 62 => ⟨S4x131072, .i32⟩
  | 63 => ⟨S_, .i32⟩
  | 64 => ⟨S4x131072, .i32⟩
  | 65 => ⟨S4x131072, .i32⟩
  | 66 => ⟨S_, .i32⟩
  | 67 => ⟨S_, .i32⟩
  | 68 => ⟨S_, .i32⟩
  | 69 => ⟨S4x131072, .i32⟩
  | 70 => ⟨S4x131072, .i32⟩
  | 71 => ⟨S_, .i32⟩
  | 72 => ⟨S4x131072, .i32⟩
  | 73 => ⟨S4x131072, .i32⟩
  | 74 => ⟨S_, .i32⟩
  | 75 => ⟨S4x131072, .i32⟩
  | 76 => ⟨S4x131072, .i32⟩
  | 77 => ⟨S4x131072, .i32⟩
  | 78 => ⟨S_, .i32⟩
  | 79 => ⟨S4x131072, .i32⟩
  | 80 => ⟨S4x131072, .i32⟩
  | 81 => ⟨S4x131072, .i32⟩
  | 82 => ⟨S4x1x131072, .i32⟩
  | 83 => ⟨S_, .i32⟩
  | 84 => ⟨S4x1x131072, .i32⟩
  | 85 => ⟨S4x1x131072, .i1⟩
  | 86 => ⟨S_, .i32⟩
  | 87 => ⟨S4x1x131072, .i32⟩
  | 88 => ⟨S4x1x131072, .i32⟩
  | 89 => ⟨S4x1x131072, .i32⟩
  | 90 => ⟨S4x131072x1, .i32⟩
  | 91 => ⟨S1, .i32⟩
  | 92 => ⟨S_, .i32⟩
  | 93 => ⟨S4x131072x1, .i32⟩
  | 94 => ⟨S4x131072x1, .i1⟩
  | 95 => ⟨S1x1x1, .i32⟩
  | 96 => ⟨S4x131072x1, .i32⟩
  | 97 => ⟨S4x131072x1, .i1⟩
  | 98 => ⟨S4x131072x1, .i1⟩
  | 99 => ⟨S_, .i1⟩
  | 100 => ⟨S4x131072, .i1⟩
  | 101 => ⟨S4x8x131072, .f32⟩
  | 102 => ⟨S4x8x131072, .i1⟩
  | 103 => ⟨S_, .f32⟩
  | 104 => ⟨S4x8x131072, .f32⟩
  | 105 => ⟨S4x8x131072, .f32⟩
  | 106 => ⟨S4x131072, .f32⟩
  | 107 => ⟨S4x1x131072, .f32⟩
  | 108 => ⟨S4x8x131072, .f32⟩
  | 109 => ⟨S4x8x131072, .f32⟩
  | 110 => ⟨S4x8x131072, .f32⟩
  | 111 => ⟨S4x131072, .f32⟩
  | 112 => ⟨S4x131072, .f32⟩
  | 113 => ⟨S_, .i32⟩
  | 114 => ⟨S4x131072, .i32⟩
  | 115 => ⟨S4x131072, .i1⟩
  | 116 => ⟨S_, .i32⟩
  | 117 => ⟨S4x131072, .i32⟩
  | 118 => ⟨S4x131072, .i1⟩
  | 119 => ⟨S4x131072, .i1⟩
  | 120 => ⟨S_, .i32⟩
  | 121 => ⟨S4x131072, .i32⟩
  | 122 => ⟨S4x131072, .i1⟩
  | 123 => ⟨S4x131072, .i1⟩
  | 124 => ⟨S_, .i32⟩
  | 125 => ⟨S4x131072, .i32⟩
  | 126 => ⟨S4x131072, .i1⟩
  | 127 => ⟨S4x131072, .i1⟩
  | _ => ⟨S4x2048x3, .f32⟩

abbrev hbmTy0_8 (i : Nat) : BufTy := match i % 128 with
  | 0 => ⟨S_, .i32⟩
  | 1 => ⟨S4x131072, .i32⟩
  | 2 => ⟨S4x131072, .i1⟩
  | 3 => ⟨S4x131072, .i1⟩
  | 4 => ⟨S_, .i32⟩
  | 5 => ⟨S4x131072, .i32⟩
  | 6 => ⟨S4x131072, .i1⟩
  | 7 => ⟨S4x131072, .i1⟩
  | 8 => ⟨S4x131072, .f32⟩
  | 9 => ⟨S_, .i32⟩
  | 10 => ⟨S_, .i32⟩
  | 11 => ⟨S_, .i32⟩
  | 12 => ⟨S4x131072, .i32⟩
  | 13 => ⟨S4x131072, .i32⟩
  | 14 => ⟨S_, .i32⟩
  | 15 => ⟨S4x131072, .i32⟩
  | 16 => ⟨S4x131072, .i32⟩
  | 17 => ⟨S_, .i32⟩
  | 18 => ⟨S_, .i32⟩
  | 19 => ⟨S_, .i32⟩
  | 20 => ⟨S4x131072, .i32⟩
  | 21 => ⟨S4x131072, .i32⟩
  | 22 => ⟨S_, .i32⟩
  | 23 => ⟨S4x131072, .i32⟩
  | 24 => ⟨S4x131072, .i32⟩
  | 25 => ⟨S_, .i32⟩
  | 26 => ⟨S_, .i32⟩
  | 27 => ⟨S_, .i32⟩
  | 28 => ⟨S4x131072, .i32⟩
  | 29 => ⟨S4x131072, .i32⟩
  | 30 => ⟨S_, .i32⟩
  | 31 => ⟨S4x131072, .i32⟩
  | 32 => ⟨S4x131072, .i32⟩
  | 33 => ⟨S_, .i32⟩
  | 34 => ⟨S4x131072, .i32⟩
  | 35 => ⟨S4x131072, .i32⟩
  | 36 => ⟨S4x131072, .i32⟩
  | 37 => ⟨S_, .i32⟩
  | 38 => ⟨S4x131072, .i32⟩
  | 39 => ⟨S4x131072, .i32⟩
  | 40 => ⟨S4x131072, .i32⟩
  | 41 => ⟨S4x1x131072, .i32⟩
  | 42 => ⟨S_, .i32⟩
  | 43 => ⟨S4x1x131072, .i32⟩
  | 44 => ⟨S4x1x131072, .i1⟩
  | 45 => ⟨S_, .i32⟩
  | 46 => ⟨S4x1x131072, .i32⟩
  | 47 => ⟨S4x1x131072, .i32⟩
  | 48 => ⟨S4x1x131072, .i32⟩
  | 49 => ⟨S4x131072x1, .i32⟩
  | 50 => ⟨S1, .i32⟩
  | 51 => ⟨S_, .i32⟩
  | 52 => ⟨S4x131072x1, .i32⟩
  | 53 => ⟨S4x131072x1, .i1⟩
  | 54 => ⟨S1x1x1, .i32⟩
  | 55 => ⟨S4x131072x1, .i32⟩
  | 56 => ⟨S4x131072x1, .i1⟩
  | 57 => ⟨S4x131072x1, .i1⟩
  | 58 => ⟨S_, .i1⟩
  | 59 => ⟨S4x131072, .i1⟩
  | 60 => ⟨S4x8x131072, .f32⟩
  | 61 => ⟨S4x8x131072, .i1⟩
  | 62 => ⟨S_, .f32⟩
  | 63 => ⟨S4x8x131072, .f32⟩
  | 64 => ⟨S4x8x131072, .f32⟩
  | 65 => ⟨S4x131072, .f32⟩
  | 66 => ⟨S4x1x131072, .f32⟩
  | 67 => ⟨S4x8x131072, .f32⟩
  | 68 => ⟨S4x8x131072, .f32⟩
  | 69 => ⟨S4x8x131072, .f32⟩
  | 70 => ⟨S4x131072, .f32⟩
  | 71 => ⟨S4x131072, .f32⟩
  | 72 => ⟨S_, .i32⟩
  | 73 => ⟨S4x131072, .i32⟩
  | 74 => ⟨S4x131072, .i1⟩
  | 75 => ⟨S_, .i32⟩
  | 76 => ⟨S4x131072, .i32⟩
  | 77 => ⟨S4x131072, .i1⟩
  | 78 => ⟨S4x131072, .i1⟩
  | 79 => ⟨S_, .i32⟩
  | 80 => ⟨S4x131072, .i32⟩
  | 81 => ⟨S4x131072, .i1⟩
  | 82 => ⟨S4x131072, .i1⟩
  | 83 => ⟨S_, .i32⟩
  | 84 => ⟨S4x131072, .i32⟩
  | 85 => ⟨S4x131072, .i1⟩
  | 86 => ⟨S4x131072, .i1⟩
  | 87 => ⟨S_, .i32⟩
  | 88 => ⟨S4x131072, .i32⟩
  | 89 => ⟨S4x131072, .i1⟩
  | 90 => ⟨S4x131072, .i1⟩
  | 91 => ⟨S_, .i32⟩
  | 92 => ⟨S4x131072, .i32⟩
  | 93 => ⟨S4x131072, .i1⟩
  | 94 => ⟨S4x131072, .i1⟩
  | 95 => ⟨S4x131072, .f32⟩
  | 96 => ⟨S_, .i32⟩
  | 97 => ⟨S_, .i32⟩
  | 98 => ⟨S_, .i32⟩
  | 99 => ⟨S4x131072, .i32⟩
  | 100 => ⟨S4x131072, .i32⟩
  | 101 => ⟨S_, .i32⟩
  | 102 => ⟨S4x131072, .i32⟩
  | 103 => ⟨S4x131072, .i32⟩
  | 104 => ⟨S_, .i32⟩
  | 105 => ⟨S_, .i32⟩
  | 106 => ⟨S_, .i32⟩
  | 107 => ⟨S4x131072, .i32⟩
  | 108 => ⟨S4x131072, .i32⟩
  | 109 => ⟨S_, .i32⟩
  | 110 => ⟨S4x131072, .i32⟩
  | 111 => ⟨S4x131072, .i32⟩
  | 112 => ⟨S_, .i32⟩
  | 113 => ⟨S_, .i32⟩
  | 114 => ⟨S_, .i32⟩
  | 115 => ⟨S4x131072, .i32⟩
  | 116 => ⟨S4x131072, .i32⟩
  | 117 => ⟨S_, .i32⟩
  | 118 => ⟨S4x131072, .i32⟩
  | 119 => ⟨S4x131072, .i32⟩
  | 120 => ⟨S_, .i32⟩
  | 121 => ⟨S4x131072, .i32⟩
  | 122 => ⟨S4x131072, .i32⟩
  | 123 => ⟨S4x131072, .i32⟩
  | 124 => ⟨S_, .i32⟩
  | 125 => ⟨S4x131072, .i32⟩
  | 126 => ⟨S4x131072, .i32⟩
  | 127 => ⟨S4x131072, .i32⟩
  | _ => ⟨S4x2048x3, .f32⟩

abbrev hbmTy0_9 (i : Nat) : BufTy := match i % 128 with
  | 0 => ⟨S4x1x131072, .i32⟩
  | 1 => ⟨S_, .i32⟩
  | 2 => ⟨S4x1x131072, .i32⟩
  | 3 => ⟨S4x1x131072, .i1⟩
  | 4 => ⟨S_, .i32⟩
  | 5 => ⟨S4x1x131072, .i32⟩
  | 6 => ⟨S4x1x131072, .i32⟩
  | 7 => ⟨S4x1x131072, .i32⟩
  | 8 => ⟨S4x131072x1, .i32⟩
  | 9 => ⟨S1, .i32⟩
  | 10 => ⟨S_, .i32⟩
  | 11 => ⟨S4x131072x1, .i32⟩
  | 12 => ⟨S4x131072x1, .i1⟩
  | 13 => ⟨S1x1x1, .i32⟩
  | 14 => ⟨S4x131072x1, .i32⟩
  | 15 => ⟨S4x131072x1, .i1⟩
  | 16 => ⟨S4x131072x1, .i1⟩
  | 17 => ⟨S_, .i1⟩
  | 18 => ⟨S4x131072, .i1⟩
  | 19 => ⟨S4x8x131072, .f32⟩
  | 20 => ⟨S4x8x131072, .i1⟩
  | 21 => ⟨S_, .f32⟩
  | 22 => ⟨S4x8x131072, .f32⟩
  | 23 => ⟨S4x8x131072, .f32⟩
  | 24 => ⟨S4x131072, .f32⟩
  | 25 => ⟨S4x1x131072, .f32⟩
  | 26 => ⟨S4x8x131072, .f32⟩
  | 27 => ⟨S4x8x131072, .f32⟩
  | 28 => ⟨S4x8x131072, .f32⟩
  | 29 => ⟨S4x131072, .f32⟩
  | 30 => ⟨S4x131072, .f32⟩
  | 31 => ⟨S_, .i32⟩
  | 32 => ⟨S4x131072, .i32⟩
  | 33 => ⟨S4x131072, .i1⟩
  | 34 => ⟨S_, .i32⟩
  | 35 => ⟨S4x131072, .i32⟩
  | 36 => ⟨S4x131072, .i1⟩
  | 37 => ⟨S4x131072, .i1⟩
  | 38 => ⟨S_, .i32⟩
  | 39 => ⟨S4x131072, .i32⟩
  | 40 => ⟨S4x131072, .i1⟩
  | 41 => ⟨S4x131072, .i1⟩
  | 42 => ⟨S_, .i32⟩
  | 43 => ⟨S4x131072, .i32⟩
  | 44 => ⟨S4x131072, .i1⟩
  | 45 => ⟨S4x131072, .i1⟩
  | 46 => ⟨S_, .i32⟩
  | 47 => ⟨S4x131072, .i32⟩
  | 48 => ⟨S4x131072, .i1⟩
  | 49 => ⟨S4x131072, .i1⟩
  | 50 => ⟨S_, .i32⟩
  | 51 => ⟨S4x131072, .i32⟩
  | 52 => ⟨S4x131072, .i1⟩
  | 53 => ⟨S4x131072, .i1⟩
  | 54 => ⟨S4x131072, .f32⟩
  | 55 => ⟨S_, .i32⟩
  | 56 => ⟨S_, .i32⟩
  | 57 => ⟨S_, .i32⟩
  | 58 => ⟨S4x131072, .i32⟩
  | 59 => ⟨S4x131072, .i32⟩
  | 60 => ⟨S_, .i32⟩
  | 61 => ⟨S4x131072, .i32⟩
  | 62 => ⟨S4x131072, .i32⟩
  | 63 => ⟨S_, .i32⟩
  | 64 => ⟨S_, .i32⟩
  | 65 => ⟨S_, .i32⟩
  | 66 => ⟨S4x131072, .i32⟩
  | 67 => ⟨S4x131072, .i32⟩
  | 68 => ⟨S_, .i32⟩
  | 69 => ⟨S4x131072, .i32⟩
  | 70 => ⟨S4x131072, .i32⟩
  | 71 => ⟨S_, .i32⟩
  | 72 => ⟨S_, .i32⟩
  | 73 => ⟨S_, .i32⟩
  | 74 => ⟨S4x131072, .i32⟩
  | 75 => ⟨S4x131072, .i32⟩
  | 76 => ⟨S_, .i32⟩
  | 77 => ⟨S4x131072, .i32⟩
  | 78 => ⟨S4x131072, .i32⟩
  | 79 => ⟨S_, .i32⟩
  | 80 => ⟨S4x131072, .i32⟩
  | 81 => ⟨S4x131072, .i32⟩
  | 82 => ⟨S4x131072, .i32⟩
  | 83 => ⟨S_, .i32⟩
  | 84 => ⟨S4x131072, .i32⟩
  | 85 => ⟨S4x131072, .i32⟩
  | 86 => ⟨S4x131072, .i32⟩
  | 87 => ⟨S4x1x131072, .i32⟩
  | 88 => ⟨S_, .i32⟩
  | 89 => ⟨S4x1x131072, .i32⟩
  | 90 => ⟨S4x1x131072, .i1⟩
  | 91 => ⟨S_, .i32⟩
  | 92 => ⟨S4x1x131072, .i32⟩
  | 93 => ⟨S4x1x131072, .i32⟩
  | 94 => ⟨S4x1x131072, .i32⟩
  | 95 => ⟨S4x131072x1, .i32⟩
  | 96 => ⟨S1, .i32⟩
  | 97 => ⟨S_, .i32⟩
  | 98 => ⟨S4x131072x1, .i32⟩
  | 99 => ⟨S4x131072x1, .i1⟩
  | 100 => ⟨S1x1x1, .i32⟩
  | 101 => ⟨S4x131072x1, .i32⟩
  | 102 => ⟨S4x131072x1, .i1⟩
  | 103 => ⟨S4x131072x1, .i1⟩
  | 104 => ⟨S_, .i1⟩
  | 105 => ⟨S4x131072, .i1⟩
  | 106 => ⟨S4x8x131072, .f32⟩
  | 107 => ⟨S4x8x131072, .i1⟩
  | 108 => ⟨S_, .f32⟩
  | 109 => ⟨S4x8x131072, .f32⟩
  | 110 => ⟨S4x8x131072, .f32⟩
  | 111 => ⟨S4x131072, .f32⟩
  | 112 => ⟨S4x1x131072, .f32⟩
  | 113 => ⟨S4x8x131072, .f32⟩
  | 114 => ⟨S4x8x131072, .f32⟩
  | 115 => ⟨S4x8x131072, .f32⟩
  | 116 => ⟨S4x131072, .f32⟩
  | 117 => ⟨S4x131072, .f32⟩
  | 118 => ⟨S_, .i32⟩
  | 119 => ⟨S4x131072, .i32⟩
  | 120 => ⟨S4x131072, .i1⟩
  | 121 => ⟨S_, .i32⟩
  | 122 => ⟨S4x131072, .i32⟩
  | 123 => ⟨S4x131072, .i1⟩
  | 124 => ⟨S4x131072, .i1⟩
  | 125 => ⟨S_, .i32⟩
  | 126 => ⟨S4x131072, .i32⟩
  | 127 => ⟨S4x131072, .i1⟩
  | _ => ⟨S4x2048x3, .f32⟩

abbrev hbmTy0_10 (i : Nat) : BufTy := match i % 128 with
  | 0 => ⟨S4x131072, .i1⟩
  | 1 => ⟨S_, .i32⟩
  | 2 => ⟨S4x131072, .i32⟩
  | 3 => ⟨S4x131072, .i1⟩
  | 4 => ⟨S4x131072, .i1⟩
  | 5 => ⟨S_, .i32⟩
  | 6 => ⟨S4x131072, .i32⟩
  | 7 => ⟨S4x131072, .i1⟩
  | 8 => ⟨S4x131072, .i1⟩
  | 9 => ⟨S_, .i32⟩
  | 10 => ⟨S4x131072, .i32⟩
  | 11 => ⟨S4x131072, .i1⟩
  | 12 => ⟨S4x131072, .i1⟩
  | 13 => ⟨S4x131072, .f32⟩
  | 14 => ⟨S_, .i32⟩
  | 15 => ⟨S_, .i32⟩
  | 16 => ⟨S_, .i32⟩
  | 17 => ⟨S4x131072, .i32⟩
  | 18 => ⟨S4x131072, .i32⟩
  | 19 => ⟨S_, .i32⟩
  | 20 => ⟨S4x131072, .i32⟩
  | 21 => ⟨S4x131072, .i32⟩
  | 22 => ⟨S_, .i32⟩
  | 23 => ⟨S_, .i32⟩
  | 24 => ⟨S_, .i32⟩
  | 25 => ⟨S4x131072, .i32⟩
  | 26 => ⟨S4x131072, .i32⟩
  | 27 => ⟨S_, .i32⟩
  | 28 => ⟨S4x131072, .i32⟩
  | 29 => ⟨S4x131072, .i32⟩
  | 30 => ⟨S_, .i32⟩
  | 31 => ⟨S_, .i32⟩
  | 32 => ⟨S_, .i32⟩
  | 33 => ⟨S4x131072, .i32⟩
  | 34 => ⟨S4x131072, .i32⟩
  | 35 => ⟨S_, .i32⟩
  | 36 => ⟨S4x131072, .i32⟩
  | 37 => ⟨S4x131072, .i32⟩
  | 38 => ⟨S_, .i32⟩
  | 39 => ⟨S4x131072, .i32⟩
  | 40 => ⟨S4x131072, .i32⟩
  | 41 => ⟨S4x131072, .i32⟩
  | 42 => ⟨S_, .i32⟩
  | 43 => ⟨S4x131072, .i32⟩
  | 44 => ⟨S4x131072, .i32⟩
  | 45 => ⟨S4x131072, .i32⟩
  | 46 => ⟨S4x1x131072, .i32⟩
  | 47 => ⟨S_, .i32⟩
  | 48 => ⟨S4x1x131072, .i32⟩
  | 49 => ⟨S4x1x131072, .i1⟩
  | 50 => ⟨S_, .i32⟩
  | 51 => ⟨S4x1x131072, .i32⟩
  | 52 => ⟨S4x1x131072, .i32⟩
  | 53 => ⟨S4x1x131072, .i32⟩
  | 54 => ⟨S4x131072x1, .i32⟩
  | 55 => ⟨S1, .i32⟩
  | 56 => ⟨S_, .i32⟩
  | 57 => ⟨S4x131072x1, .i32⟩
  | 58 => ⟨S4x131072x1, .i1⟩
  | 59 => ⟨S1x1x1, .i32⟩
  | 60 => ⟨S4x131072x1, .i32⟩
  | 61 => ⟨S4x131072x1, .i1⟩
  | 62 => ⟨S4x131072x1, .i1⟩
  | 63 => ⟨S_, .i1⟩
  | 64 => ⟨S4x131072, .i1⟩
  | 65 => ⟨S4x8x131072, .f32⟩
  | 66 => ⟨S4x8x131072, .i1⟩
  | 67 => ⟨S_, .f32⟩
  | 68 => ⟨S4x8x131072, .f32⟩
  | 69 => ⟨S4x8x131072, .f32⟩
  | 70 => ⟨S4x131072, .f32⟩
  | 71 => ⟨S4x1x131072, .f32⟩
  | 72 => ⟨S4x8x131072, .f32⟩
  | 73 => ⟨S4x8x131072, .f32⟩
  | 74 => ⟨S4x8x131072, .f32⟩
  | 75 => ⟨S4x131072, .f32⟩
  | 76 => ⟨S4x131072, .f32⟩
  | 77 => ⟨S_, .i32⟩
  | 78 => ⟨S4x131072, .i32⟩
  | 79 => ⟨S4x131072, .i1⟩
  | 80 => ⟨S_, .i32⟩
  | 81 => ⟨S4x131072, .i32⟩
  | 82 => ⟨S4x131072, .i1⟩
  | 83 => ⟨S4x131072, .i1⟩
  | 84 => ⟨S_, .i32⟩
  | 85 => ⟨S4x131072, .i32⟩
  | 86 => ⟨S4x131072, .i1⟩
  | 87 => ⟨S4x131072, .i1⟩
  | 88 => ⟨S_, .i32⟩
  | 89 => ⟨S4x131072, .i32⟩
  | 90 => ⟨S4x131072, .i1⟩
  | 91 => ⟨S4x131072, .i1⟩
  | 92 => ⟨S_, .i32⟩
  | 93 => ⟨S4x131072, .i32⟩
  | 94 => ⟨S4x131072, .i1⟩
  | 95 => ⟨S4x131072, .i1⟩
  | 96 => ⟨S_, .i32⟩
  | 97 => ⟨S4x131072, .i32⟩
  | 98 => ⟨S4x131072, .i1⟩
  | 99 => ⟨S4x131072, .i1⟩
  | 100 => ⟨S4x131072, .f32⟩
  | 101 => ⟨S_, .i32⟩
  | 102 => ⟨S_, .i32⟩
  | 103 => ⟨S_, .i32⟩
  | 104 => ⟨S4x131072, .i32⟩
  | 105 => ⟨S4x131072, .i32⟩
  | 106 => ⟨S_, .i32⟩
  | 107 => ⟨S4x131072, .i32⟩
  | 108 => ⟨S4x131072, .i32⟩
  | 109 => ⟨S_, .i32⟩
  | 110 => ⟨S_, .i32⟩
  | 111 => ⟨S_, .i32⟩
  | 112 => ⟨S4x131072, .i32⟩
  | 113 => ⟨S4x131072, .i32⟩
  | 114 => ⟨S_, .i32⟩
  | 115 => ⟨S4x131072, .i32⟩
  | 116 => ⟨S4x131072, .i32⟩
  | 117 => ⟨S_, .i32⟩
  | 118 => ⟨S_, .i32⟩
  | 119 => ⟨S_, .i32⟩
  | 120 => ⟨S4x131072, .i32⟩
  | 121 => ⟨S4x131072, .i32⟩
  | 122 => ⟨S_, .i32⟩
  | 123 => ⟨S4x131072, .i32⟩
  | 124 => ⟨S4x131072, .i32⟩
  | 125 => ⟨S_, .i32⟩
  | 126 => ⟨S4x131072, .i32⟩
  | 127 => ⟨S4x131072, .i32⟩
  | _ => ⟨S4x2048x3, .f32⟩

abbrev hbmTy0_11 (i : Nat) : BufTy := match i % 128 with
  | 0 => ⟨S4x131072, .i32⟩
  | 1 => ⟨S_, .i32⟩
  | 2 => ⟨S4x131072, .i32⟩
  | 3 => ⟨S4x131072, .i32⟩
  | 4 => ⟨S4x131072, .i32⟩
  | 5 => ⟨S4x1x131072, .i32⟩
  | 6 => ⟨S_, .i32⟩
  | 7 => ⟨S4x1x131072, .i32⟩
  | 8 => ⟨S4x1x131072, .i1⟩
  | 9 => ⟨S_, .i32⟩
  | 10 => ⟨S4x1x131072, .i32⟩
  | 11 => ⟨S4x1x131072, .i32⟩
  | 12 => ⟨S4x1x131072, .i32⟩
  | 13 => ⟨S4x131072x1, .i32⟩
  | 14 => ⟨S1, .i32⟩
  | 15 => ⟨S_, .i32⟩
  | 16 => ⟨S4x131072x1, .i32⟩
  | 17 => ⟨S4x131072x1, .i1⟩
  | 18 => ⟨S1x1x1, .i32⟩
  | 19 => ⟨S4x131072x1, .i32⟩
  | 20 => ⟨S4x131072x1, .i1⟩
  | 21 => ⟨S4x131072x1, .i1⟩
  | 22 => ⟨S_, .i1⟩
  | 23 => ⟨S4x131072, .i1⟩
  | 24 => ⟨S4x8x131072, .f32⟩
  | 25 => ⟨S4x8x131072, .i1⟩
  | 26 => ⟨S_, .f32⟩
  | 27 => ⟨S4x8x131072, .f32⟩
  | 28 => ⟨S4x8x131072, .f32⟩
  | 29 => ⟨S4x131072, .f32⟩
  | 30 => ⟨S4x1x131072, .f32⟩
  | 31 => ⟨S4x8x131072, .f32⟩
  | 32 => ⟨S4x8x131072, .f32⟩
  | 33 => ⟨S4x8x131072, .f32⟩
  | 34 => ⟨S4x131072, .f32⟩
  | 35 => ⟨S4x131072, .f32⟩
  | 36 => ⟨S_, .i32⟩
  | 37 => ⟨S4x131072, .i32⟩
  | 38 => ⟨S4x131072, .i1⟩
  | 39 => ⟨S_, .i32⟩
  | 40 => ⟨S4x131072, .i32⟩
  | 41 => ⟨S4x131072, .i1⟩
  | 42 => ⟨S4x131072, .i1⟩
  | 43 => ⟨S_, .i32⟩
  | 44 => ⟨S4x131072, .i32⟩
  | 45 => ⟨S4x131072, .i1⟩
  | 46 => ⟨S4x131072, .i1⟩
  | 47 => ⟨S_, .i32⟩
  | 48 => ⟨S4x131072, .i32⟩
  | 49 => ⟨S4x131072, .i1⟩
  | 50 => ⟨S4x131072, .i1⟩
  | 51 => ⟨S_, .i32⟩
  | 52 => ⟨S4x131072, .i32⟩
  | 53 => ⟨S4x131072, .i1⟩
  | 54 => ⟨S4x131072, .i1⟩
  | 55 => ⟨S_, .i32⟩
  | 56 => ⟨S4x131072, .i32⟩
  | 57 => ⟨S4x131072, .i1⟩
  | 58 => ⟨S4x131072, .i1⟩
  | 59 => ⟨S4x131072, .f32⟩
  | 60 => ⟨S_, .i32⟩
  | 61 => ⟨S_, .i32⟩
  | 62 => ⟨S_, .i32⟩
  | 63 => ⟨S4x131072, .i32⟩
  | 64 => ⟨S4x131072, .i32⟩
  | 65 => ⟨S_, .i32⟩
  | 66 => ⟨S4x131072, .i32⟩
  | 67 => ⟨S4x131072, .i32⟩
  | 68 => ⟨S_, .i32⟩
  | 69 => ⟨S_, .i32⟩
  | 70 => ⟨S_, .i32⟩
  | 71 => ⟨S4x131072, .i32⟩
  | 72 => ⟨S4x131072, .i32⟩
  | 73 => ⟨S_, .i32⟩
  | 74 => ⟨S4x131072, .i32⟩
  | 75 => ⟨S4x131072, .i32⟩
  | 76 => ⟨S_, .i32⟩
  | 77 => ⟨S_, .i32⟩
  | 78 => ⟨S_, .i32⟩
  | 79 => ⟨S4x131072, .i32⟩
  | 80 => ⟨S4x131072, .i32⟩
  | 81 => ⟨S_, .i32⟩
  | 82 => ⟨S4x131072, .i32⟩
  | 83 => ⟨S4x131072, .i32⟩
  | 84 => ⟨S_, .i32⟩
  | 85 => ⟨S4x131072, .i32⟩
  | 86 => ⟨S4x131072, .i32⟩
  | 87 => ⟨S4x131072, .i32⟩
  | 88 => ⟨S_, .i32⟩
  | 89 => ⟨S4x131072, .i32⟩
  | 90 => ⟨S4x131072, .i32⟩
  | 91 => ⟨S4x131072, .i32⟩
  | 92 => ⟨S4x1x131072, .i32⟩
  | 93 => ⟨S_, .i32⟩
  | 94 => ⟨S4x1x131072, .i32⟩
  | 95 => ⟨S4x1x131072, .i1⟩
  | 96 => ⟨S_, .i32⟩
  | 97 => ⟨S4x1x131072, .i32⟩
  | 98 => ⟨S4x1x131072, .i32⟩
  | 99 => ⟨S4x1x131072, .i32⟩
  | 100 => ⟨S4x131072x1, .i32⟩
  | 101 => ⟨S1, .i32⟩
  | 102 => ⟨S_, .i32⟩
  | 103 => ⟨S4x131072x1, .i32⟩
  | 104 => ⟨S4x131072x1, .i1⟩
  | 105 => ⟨S1x1x1, .i32⟩
  | 106 => ⟨S4x131072x1, .i32⟩
  | 107 => ⟨S4x131072x1, .i1⟩
  | 108 => ⟨S4x131072x1, .i1⟩
  | 109 => ⟨S_, .i1⟩
  | 110 => ⟨S4x131072, .i1⟩
  | 111 => ⟨S4x8x131072, .f32⟩
  | 112 => ⟨S4x8x131072, .i1⟩
  | 113 => ⟨S_, .f32⟩
  | 114 => ⟨S4x8x131072, .f32⟩
  | 115 => ⟨S4x8x131072, .f32⟩
  | 116 => ⟨S4x131072, .f32⟩
  | 117 => ⟨S4x1x131072, .f32⟩
  | 118 => ⟨S4x8x131072, .f32⟩
  | 119 => ⟨S4x8x131072, .f32⟩
  | 120 => ⟨S4x8x131072, .f32⟩
  | 121 => ⟨S4x131072x1, .f32⟩
  | 122 => ⟨S4x2048x64x1, .f32⟩
  | 123 => ⟨S4x131072x8, .f32⟩
  | 124 => ⟨S4x2048x64x8, .f32⟩
  | _ => ⟨S4x2048x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S4x2048x3, .f32⟩

abbrev bufTy : (tb : Table) → Fin (tcTables nBuf tb) → BufTy
  | .hbm, ⟨i, _⟩ => hbmTy i
  | _, _ => ⟨S4x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_14 : Ref sig .tc := ⟨.hbm, 88, rfl⟩
abbrev main_v66 : Ref sig .tc := ⟨.hbm, 89, rfl⟩
abbrev main_v67 : Ref sig .tc := ⟨.hbm, 90, rfl⟩
abbrev main_c_15 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_16 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_17 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_18 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_19 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_20 : Ref sig .tc := ⟨.hbm, 112, rfl⟩
abbrev main_c_21 : Ref sig .tc := ⟨.hbm, 113, rfl⟩
abbrev main_call0_v0 : Ref sig .tc := ⟨.hbm, 114, rfl⟩
abbrev main_call0_v1 : Ref sig .tc := ⟨.hbm, 115, rfl⟩
abbrev main_call0_v2 : Ref sig .tc := ⟨.hbm, 116, rfl⟩
abbrev main_call0_v3 : Ref sig .tc := ⟨.hbm, 117, rfl⟩
abbrev main_call0_v4 : Ref sig .tc := ⟨.hbm, 118, rfl⟩
abbrev main_v84 : Ref sig .tc := ⟨.hbm, 119, rfl⟩
abbrev main_c_22 : Ref sig .tc := ⟨.hbm, 120, rfl⟩
abbrev main_c_23 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_call1_v3 : Ref sig .tc := ⟨.hbm, 125, rfl⟩
abbrev main_call1_v4 : Ref sig .tc := ⟨.hbm, 126, rfl⟩
abbrev main_v85 : Ref sig .tc := ⟨.hbm, 127, rfl⟩
abbrev main_c_24 : Ref sig .tc := ⟨.hbm, 128, rfl⟩
abbrev main_c_25 : Ref sig .tc := ⟨.hbm, 129, rfl⟩
abbrev main_call2_v0 : Ref sig .tc := ⟨.hbm, 130, rfl⟩
abbrev main_call2_v1 : Ref sig .tc := ⟨.hbm, 131, rfl⟩
abbrev main_call2_v2 : Ref sig .tc := ⟨.hbm, 132, rfl⟩
abbrev main_call2_v3 : Ref sig .tc := ⟨.hbm, 133, rfl⟩
abbrev main_call2_v4 : Ref sig .tc := ⟨.hbm, 134, rfl⟩
abbrev main_v86 : Ref sig .tc := ⟨.hbm, 135, rfl⟩
abbrev main_c_26 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_c_27 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_call3_c : Ref sig .tc := ⟨.hbm, 145, rfl⟩
abbrev main_call3_v0 : Ref sig .tc := ⟨.hbm, 146, rfl⟩
abbrev main_call3_v1 : Ref sig .tc := ⟨.hbm, 147, rfl⟩
abbrev main_call3_c_0 : Ref sig .tc := ⟨.hbm, 148, rfl⟩
abbrev main_call3_v2 : Ref sig .tc := ⟨.hbm, 149, rfl⟩
abbrev main_call3_v3 : Ref sig .tc := ⟨.hbm, 150, rfl⟩
abbrev main_call3_v4 : Ref sig .tc := ⟨.hbm, 151, rfl⟩
abbrev main_call3_v5 : Ref sig .tc := ⟨.hbm, 152, rfl⟩
abbrev main_call3_c_1 : Ref sig .tc := ⟨.hbm, 153, rfl⟩
abbrev main_call3_c_2 : Ref sig .tc := ⟨.hbm, 154, rfl⟩
abbrev main_call3_v6 : Ref sig .tc := ⟨.hbm, 155, rfl⟩
abbrev main_call3_v7 : Ref sig .tc := ⟨.hbm, 156, rfl⟩
abbrev main_call3_v8 : Ref sig .tc := ⟨.hbm, 157, rfl⟩
abbrev main_call3_v9 : Ref sig .tc := ⟨.hbm, 158, rfl⟩
abbrev main_call3_v10 : Ref sig .tc := ⟨.hbm, 159, rfl⟩
abbrev main_call3_v11 : Ref sig .tc := ⟨.hbm, 160, rfl⟩
abbrev main_call3_c_3 : Ref sig .tc := ⟨.hbm, 161, rfl⟩
abbrev main_call3_v12 : Ref sig .tc := ⟨.hbm, 162, rfl⟩
abbrev main_call3_v13 : Ref sig .tc := ⟨.hbm, 163, rfl⟩
abbrev main_call3_v14 : Ref sig .tc := ⟨.hbm, 164, rfl⟩
abbrev main_call3_cst : Ref sig .tc := ⟨.hbm, 165, rfl⟩
abbrev main_call3_v15 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_c_28 : Ref sig .tc := ⟨.hbm, 173, rfl⟩
abbrev main_v100 : Ref sig .tc := ⟨.hbm, 174, rfl⟩
abbrev main_v101 : Ref sig .tc := ⟨.hbm, 175, rfl⟩
abbrev main_c_29 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_c_30 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_c_31 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_c_32 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_c_33 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_c_34 : Ref sig .tc := ⟨.hbm, 197, rfl⟩
abbrev main_c_35 : Ref sig .tc := ⟨.hbm, 198, rfl⟩
abbrev main_call4_v0 : Ref sig .tc := ⟨.hbm, 199, rfl⟩
abbrev main_call4_v1 : Ref sig .tc := ⟨.hbm, 200, rfl⟩
abbrev main_call4_v2 : Ref sig .tc := ⟨.hbm, 201, rfl⟩
abbrev main_call4_v3 : Ref sig .tc := ⟨.hbm, 202, rfl⟩
abbrev main_call4_v4 : Ref sig .tc := ⟨.hbm, 203, rfl⟩
abbrev main_v118 : Ref sig .tc := ⟨.hbm, 204, rfl⟩
abbrev main_c_36 : Ref sig .tc := ⟨.hbm, 205, rfl⟩
abbrev main_c_37 : Ref sig .tc := ⟨.hbm, 206, rfl⟩
abbrev main_call5_v0 : Ref sig .tc := ⟨.hbm, 207, rfl⟩
abbrev main_call5_v1 : Ref sig .tc := ⟨.hbm, 208, rfl⟩
abbrev main_call5_v2 : Ref sig .tc := ⟨.hbm, 209, rfl⟩
abbrev main_call5_v3 : Ref sig .tc := ⟨.hbm, 210, rfl⟩
abbrev main_call5_v4 : Ref sig .tc := ⟨.hbm, 211, rfl⟩
abbrev main_v119 : Ref sig .tc := ⟨.hbm, 212, rfl⟩
abbrev main_c_38 : Ref sig .tc := ⟨.hbm, 213, rfl⟩
abbrev main_c_39 : Ref sig .tc := ⟨.hbm, 214, rfl⟩
abbrev main_call6_v0 : Ref sig .tc := ⟨.hbm, 215, rfl⟩
abbrev main_call6_v1 : Ref sig .tc := ⟨.hbm, 216, rfl⟩
abbrev main_call6_v2 : Ref sig .tc := ⟨.hbm, 217, rfl⟩
abbrev main_call6_v3 : Ref sig .tc := ⟨.hbm, 218, rfl⟩
abbrev main_call6_v4 : Ref sig .tc := ⟨.hbm, 219, rfl⟩
abbrev main_v120 : Ref sig .tc := ⟨.hbm, 220, rfl⟩
abbrev main_c_40 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_c_41 : Ref sig .tc := ⟨.hbm, 225, rfl⟩
abbrev main_v124 : Ref sig .tc := ⟨.hbm, 226, rfl⟩
abbrev main_v125 : Ref sig .tc := ⟨.hbm, 227, rfl⟩
abbrev main_v126 : Ref sig .tc := ⟨.hbm, 228, rfl⟩
abbrev main_v127 : Ref sig .tc := ⟨.hbm, 229, rfl⟩
abbrev main_call7_c : Ref sig .tc := ⟨.hbm, 230, rfl⟩
abbrev main_call7_v0 : Ref sig .tc := ⟨.hbm, 231, rfl⟩
abbrev main_call7_v1 : Ref sig .tc := ⟨.hbm, 232, rfl⟩
abbrev main_call7_c_0 : Ref sig .tc := ⟨.hbm, 233, rfl⟩
abbrev main_call7_v2 : Ref sig .tc := ⟨.hbm, 234, rfl⟩
abbrev main_call7_v3 : Ref sig .tc := ⟨.hbm, 235, rfl⟩
abbrev main_call7_v4 : Ref sig .tc := ⟨.hbm, 236, rfl⟩
abbrev main_call7_v5 : Ref sig .tc := ⟨.hbm, 237, rfl⟩
abbrev main_call7_c_1 : Ref sig .tc := ⟨.hbm, 238, rfl⟩
abbrev main_call7_c_2 : Ref sig .tc := ⟨.hbm, 239, rfl⟩
abbrev main_call7_v6 : Ref sig .tc := ⟨.hbm, 240, rfl⟩
abbrev main_call7_v7 : Ref sig .tc := ⟨.hbm, 241, rfl⟩
abbrev main_call7_v8 : Ref sig .tc := ⟨.hbm, 242, rfl⟩
abbrev main_call7_v9 : Ref sig .tc := ⟨.hbm, 243, rfl⟩
abbrev main_call7_v10 : Ref sig .tc := ⟨.hbm, 244, rfl⟩
abbrev main_call7_v11 : Ref sig .tc := ⟨.hbm, 245, rfl⟩
abbrev main_call7_c_3 : Ref sig .tc := ⟨.hbm, 246, rfl⟩
abbrev main_call7_v12 : Ref sig .tc := ⟨.hbm, 247, rfl⟩
abbrev main_call7_v13 : Ref sig .tc := ⟨.hbm, 248, rfl⟩
abbrev main_call7_v14 : Ref sig .tc := ⟨.hbm, 249, rfl⟩
abbrev main_call7_cst : Ref sig .tc := ⟨.hbm, 250, rfl⟩
abbrev main_call7_v15 : Ref sig .tc := ⟨.hbm, 251, rfl⟩
abbrev main_v128 : Ref sig .tc := ⟨.hbm, 252, rfl⟩
abbrev main_v129 : Ref sig .tc := ⟨.hbm, 253, rfl⟩
abbrev main_v130 : Ref sig .tc := ⟨.hbm, 254, rfl⟩
abbrev main_v131 : Ref sig .tc := ⟨.hbm, 255, rfl⟩
abbrev main_v132 : Ref sig .tc := ⟨.hbm, 256, rfl⟩
abbrev main_v133 : Ref sig .tc := ⟨.hbm, 257, rfl⟩
abbrev main_v134 : Ref sig .tc := ⟨.hbm, 258, rfl⟩
abbrev main_c_42 : Ref sig .tc := ⟨.hbm, 259, rfl⟩
abbrev main_v135 : Ref sig .tc := ⟨.hbm, 260, rfl⟩
abbrev main_v136 : Ref sig .tc := ⟨.hbm, 261, rfl⟩
abbrev main_c_43 : Ref sig .tc := ⟨.hbm, 262, rfl⟩
abbrev main_v137 : Ref sig .tc := ⟨.hbm, 263, rfl⟩
abbrev main_v138 : Ref sig .tc := ⟨.hbm, 264, rfl⟩
abbrev main_v139 : Ref sig .tc := ⟨.hbm, 265, rfl⟩
abbrev main_c_44 : Ref sig .tc := ⟨.hbm, 266, rfl⟩
abbrev main_v140 : Ref sig .tc := ⟨.hbm, 267, rfl⟩
abbrev main_v141 : Ref sig .tc := ⟨.hbm, 268, rfl⟩
abbrev main_v142 : Ref sig .tc := ⟨.hbm, 269, rfl⟩
abbrev main_c_45 : Ref sig .tc := ⟨.hbm, 270, rfl⟩
abbrev main_v143 : Ref sig .tc := ⟨.hbm, 271, rfl⟩
abbrev main_v144 : Ref sig .tc := ⟨.hbm, 272, rfl⟩
abbrev main_v145 : Ref sig .tc := ⟨.hbm, 273, rfl⟩
abbrev main_c_46 : Ref sig .tc := ⟨.hbm, 274, rfl⟩
abbrev main_v146 : Ref sig .tc := ⟨.hbm, 275, rfl⟩
abbrev main_v147 : Ref sig .tc := ⟨.hbm, 276, rfl⟩
abbrev main_v148 : Ref sig .tc := ⟨.hbm, 277, rfl⟩
abbrev main_c_47 : Ref sig .tc := ⟨.hbm, 278, rfl⟩
abbrev main_v149 : Ref sig .tc := ⟨.hbm, 279, rfl⟩
abbrev main_v150 : Ref sig .tc := ⟨.hbm, 280, rfl⟩
abbrev main_v151 : Ref sig .tc := ⟨.hbm, 281, rfl⟩
abbrev main_v152 : Ref sig .tc := ⟨.hbm, 282, rfl⟩
abbrev main_c_48 : Ref sig .tc := ⟨.hbm, 283, rfl⟩
abbrev main_c_49 : Ref sig .tc := ⟨.hbm, 284, rfl⟩
abbrev main_call8_v0 : Ref sig .tc := ⟨.hbm, 285, rfl⟩
abbrev main_call8_v1 : Ref sig .tc := ⟨.hbm, 286, rfl⟩
abbrev main_call8_v2 : Ref sig .tc := ⟨.hbm, 287, rfl⟩
abbrev main_call8_v3 : Ref sig .tc := ⟨.hbm, 288, rfl⟩
abbrev main_call8_v4 : Ref sig .tc := ⟨.hbm, 289, rfl⟩
abbrev main_v153 : Ref sig .tc := ⟨.hbm, 290, rfl⟩
abbrev main_c_50 : Ref sig .tc := ⟨.hbm, 291, rfl⟩
abbrev main_c_51 : Ref sig .tc := ⟨.hbm, 292, rfl⟩
abbrev main_call9_v0 : Ref sig .tc := ⟨.hbm, 293, rfl⟩
abbrev main_call9_v1 : Ref sig .tc := ⟨.hbm, 294, rfl⟩
abbrev main_call9_v2 : Ref sig .tc := ⟨.hbm, 295, rfl⟩
abbrev main_call9_v3 : Ref sig .tc := ⟨.hbm, 296, rfl⟩
abbrev main_call9_v4 : Ref sig .tc := ⟨.hbm, 297, rfl⟩
abbrev main_v154 : Ref sig .tc := ⟨.hbm, 298, rfl⟩
abbrev main_c_52 : Ref sig .tc := ⟨.hbm, 299, rfl⟩
abbrev main_c_53 : Ref sig .tc := ⟨.hbm, 300, rfl⟩
abbrev main_call10_v0 : Ref sig .tc := ⟨.hbm, 301, rfl⟩
abbrev main_call10_v1 : Ref sig .tc := ⟨.hbm, 302, rfl⟩
abbrev main_call10_v2 : Ref sig .tc := ⟨.hbm, 303, rfl⟩
abbrev main_call10_v3 : Ref sig .tc := ⟨.hbm, 304, rfl⟩
abbrev main_call10_v4 : Ref sig .tc := ⟨.hbm, 305, rfl⟩
abbrev main_v155 : Ref sig .tc := ⟨.hbm, 306, rfl⟩
abbrev main_c_54 : Ref sig .tc := ⟨.hbm, 307, rfl⟩
abbrev main_v156 : Ref sig .tc := ⟨.hbm, 308, rfl⟩
abbrev main_v157 : Ref sig .tc := ⟨.hbm, 309, rfl⟩
abbrev main_v158 : Ref sig .tc := ⟨.hbm, 310, rfl⟩
abbrev main_c_55 : Ref sig .tc := ⟨.hbm, 311, rfl⟩
abbrev main_v159 : Ref sig .tc := ⟨.hbm, 312, rfl⟩
abbrev main_v160 : Ref sig .tc := ⟨.hbm, 313, rfl⟩
abbrev main_v161 : Ref sig .tc := ⟨.hbm, 314, rfl⟩
abbrev main_v162 : Ref sig .tc := ⟨.hbm, 315, rfl⟩
abbrev main_call11_c : Ref sig .tc := ⟨.hbm, 316, rfl⟩
abbrev main_call11_v0 : Ref sig .tc := ⟨.hbm, 317, rfl⟩
abbrev main_call11_v1 : Ref sig .tc := ⟨.hbm, 318, rfl⟩
abbrev main_call11_c_0 : Ref sig .tc := ⟨.hbm, 319, rfl⟩
abbrev main_call11_v2 : Ref sig .tc := ⟨.hbm, 320, rfl⟩
abbrev main_call11_v3 : Ref sig .tc := ⟨.hbm, 321, rfl⟩
abbrev main_call11_v4 : Ref sig .tc := ⟨.hbm, 322, rfl⟩
abbrev main_call11_v5 : Ref sig .tc := ⟨.hbm, 323, rfl⟩
abbrev main_call11_c_1 : Ref sig .tc := ⟨.hbm, 324, rfl⟩
abbrev main_call11_c_2 : Ref sig .tc := ⟨.hbm, 325, rfl⟩
abbrev main_call11_v6 : Ref sig .tc := ⟨.hbm, 326, rfl⟩
abbrev main_call11_v7 : Ref sig .tc := ⟨.hbm, 327, rfl⟩
abbrev main_call11_v8 : Ref sig .tc := ⟨.hbm, 328, rfl⟩
abbrev main_call11_v9 : Ref sig .tc := ⟨.hbm, 329, rfl⟩
abbrev main_call11_v10 : Ref sig .tc := ⟨.hbm, 330, rfl⟩
abbrev main_call11_v11 : Ref sig .tc := ⟨.hbm, 331, rfl⟩
abbrev main_call11_c_3 : Ref sig .tc := ⟨.hbm, 332, rfl⟩
abbrev main_call11_v12 : Ref sig .tc := ⟨.hbm, 333, rfl⟩
abbrev main_call11_v13 : Ref sig .tc := ⟨.hbm, 334, rfl⟩
abbrev main_call11_v14 : Ref sig .tc := ⟨.hbm, 335, rfl⟩
abbrev main_call11_cst : Ref sig .tc := ⟨.hbm, 336, rfl⟩
abbrev main_call11_v15 : Ref sig .tc := ⟨.hbm, 337, rfl⟩
abbrev main_v163 : Ref sig .tc := ⟨.hbm, 338, rfl⟩
abbrev main_v164 : Ref sig .tc := ⟨.hbm, 339, rfl⟩
abbrev main_v165 : Ref sig .tc := ⟨.hbm, 340, rfl⟩
abbrev main_v166 : Ref sig .tc := ⟨.hbm, 341, rfl⟩
abbrev main_v167 : Ref sig .tc := ⟨.hbm, 342, rfl⟩
abbrev main_v168 : Ref sig .tc := ⟨.hbm, 343, rfl⟩
abbrev main_v169 : Ref sig .tc := ⟨.hbm, 344, rfl⟩
abbrev main_c_56 : Ref sig .tc := ⟨.hbm, 345, rfl⟩
abbrev main_v170 : Ref sig .tc := ⟨.hbm, 346, rfl⟩
abbrev main_v171 : Ref sig .tc := ⟨.hbm, 347, rfl⟩
abbrev main_c_57 : Ref sig .tc := ⟨.hbm, 348, rfl⟩
abbrev main_v172 : Ref sig .tc := ⟨.hbm, 349, rfl⟩
abbrev main_v173 : Ref sig .tc := ⟨.hbm, 350, rfl⟩
abbrev main_v174 : Ref sig .tc := ⟨.hbm, 351, rfl⟩
abbrev main_c_58 : Ref sig .tc := ⟨.hbm, 352, rfl⟩
abbrev main_v175 : Ref sig .tc := ⟨.hbm, 353, rfl⟩
abbrev main_v176 : Ref sig .tc := ⟨.hbm, 354, rfl⟩
abbrev main_v177 : Ref sig .tc := ⟨.hbm, 355, rfl⟩
abbrev main_c_59 : Ref sig .tc := ⟨.hbm, 356, rfl⟩
abbrev main_v178 : Ref sig .tc := ⟨.hbm, 357, rfl⟩
abbrev main_v179 : Ref sig .tc := ⟨.hbm, 358, rfl⟩
abbrev main_v180 : Ref sig .tc := ⟨.hbm, 359, rfl⟩
abbrev main_c_60 : Ref sig .tc := ⟨.hbm, 360, rfl⟩
abbrev main_v181 : Ref sig .tc := ⟨.hbm, 361, rfl⟩
abbrev main_v182 : Ref sig .tc := ⟨.hbm, 362, rfl⟩
abbrev main_v183 : Ref sig .tc := ⟨.hbm, 363, rfl⟩
abbrev main_c_61 : Ref sig .tc := ⟨.hbm, 364, rfl⟩
abbrev main_v184 : Ref sig .tc := ⟨.hbm, 365, rfl⟩
abbrev main_v185 : Ref sig .tc := ⟨.hbm, 366, rfl⟩
abbrev main_v186 : Ref sig .tc := ⟨.hbm, 367, rfl⟩
abbrev main_v187 : Ref sig .tc := ⟨.hbm, 368, rfl⟩
abbrev main_c_62 : Ref sig .tc := ⟨.hbm, 369, rfl⟩
abbrev main_c_63 : Ref sig .tc := ⟨.hbm, 370, rfl⟩
abbrev main_call12_v0 : Ref sig .tc := ⟨.hbm, 371, rfl⟩
abbrev main_call12_v1 : Ref sig .tc := ⟨.hbm, 372, rfl⟩
abbrev main_call12_v2 : Ref sig .tc := ⟨.hbm, 373, rfl⟩
abbrev main_call12_v3 : Ref sig .tc := ⟨.hbm, 374, rfl⟩
abbrev main_call12_v4 : Ref sig .tc := ⟨.hbm, 375, rfl⟩
abbrev main_v188 : Ref sig .tc := ⟨.hbm, 376, rfl⟩
abbrev main_c_64 : Ref sig .tc := ⟨.hbm, 377, rfl⟩
abbrev main_c_65 : Ref sig .tc := ⟨.hbm, 378, rfl⟩
abbrev main_call13_v0 : Ref sig .tc := ⟨.hbm, 379, rfl⟩
abbrev main_call13_v1 : Ref sig .tc := ⟨.hbm, 380, rfl⟩
abbrev main_call13_v2 : Ref sig .tc := ⟨.hbm, 381, rfl⟩
abbrev main_call13_v3 : Ref sig .tc := ⟨.hbm, 382, rfl⟩
abbrev main_call13_v4 : Ref sig .tc := ⟨.hbm, 383, rfl⟩
abbrev main_v189 : Ref sig .tc := ⟨.hbm, 384, rfl⟩
abbrev main_c_66 : Ref sig .tc := ⟨.hbm, 385, rfl⟩
abbrev main_c_67 : Ref sig .tc := ⟨.hbm, 386, rfl⟩
abbrev main_call14_v0 : Ref sig .tc := ⟨.hbm, 387, rfl⟩
abbrev main_call14_v1 : Ref sig .tc := ⟨.hbm, 388, rfl⟩
abbrev main_call14_v2 : Ref sig .tc := ⟨.hbm, 389, rfl⟩
abbrev main_call14_v3 : Ref sig .tc := ⟨.hbm, 390, rfl⟩
abbrev main_call14_v4 : Ref sig .tc := ⟨.hbm, 391, rfl⟩
abbrev main_v190 : Ref sig .tc := ⟨.hbm, 392, rfl⟩
abbrev main_c_68 : Ref sig .tc := ⟨.hbm, 393, rfl⟩
abbrev main_v191 : Ref sig .tc := ⟨.hbm, 394, rfl⟩
abbrev main_v192 : Ref sig .tc := ⟨.hbm, 395, rfl⟩
abbrev main_v193 : Ref sig .tc := ⟨.hbm, 396, rfl⟩
abbrev main_c_69 : Ref sig .tc := ⟨.hbm, 397, rfl⟩
abbrev main_v194 : Ref sig .tc := ⟨.hbm, 398, rfl⟩
abbrev main_v195 : Ref sig .tc := ⟨.hbm, 399, rfl⟩
abbrev main_v196 : Ref sig .tc := ⟨.hbm, 400, rfl⟩
abbrev main_v197 : Ref sig .tc := ⟨.hbm, 401, rfl⟩
abbrev main_call15_c : Ref sig .tc := ⟨.hbm, 402, rfl⟩
abbrev main_call15_v0 : Ref sig .tc := ⟨.hbm, 403, rfl⟩
abbrev main_call15_v1 : Ref sig .tc := ⟨.hbm, 404, rfl⟩
abbrev main_call15_c_0 : Ref sig .tc := ⟨.hbm, 405, rfl⟩
abbrev main_call15_v2 : Ref sig .tc := ⟨.hbm, 406, rfl⟩
abbrev main_call15_v3 : Ref sig .tc := ⟨.hbm, 407, rfl⟩
abbrev main_call15_v4 : Ref sig .tc := ⟨.hbm, 408, rfl⟩
abbrev main_call15_v5 : Ref sig .tc := ⟨.hbm, 409, rfl⟩
abbrev main_call15_c_1 : Ref sig .tc := ⟨.hbm, 410, rfl⟩
abbrev main_call15_c_2 : Ref sig .tc := ⟨.hbm, 411, rfl⟩
abbrev main_call15_v6 : Ref sig .tc := ⟨.hbm, 412, rfl⟩
abbrev main_call15_v7 : Ref sig .tc := ⟨.hbm, 413, rfl⟩
abbrev main_call15_v8 : Ref sig .tc := ⟨.hbm, 414, rfl⟩
abbrev main_call15_v9 : Ref sig .tc := ⟨.hbm, 415, rfl⟩
abbrev main_call15_v10 : Ref sig .tc := ⟨.hbm, 416, rfl⟩
abbrev main_call15_v11 : Ref sig .tc := ⟨.hbm, 417, rfl⟩
abbrev main_call15_c_3 : Ref sig .tc := ⟨.hbm, 418, rfl⟩
abbrev main_call15_v12 : Ref sig .tc := ⟨.hbm, 419, rfl⟩
abbrev main_call15_v13 : Ref sig .tc := ⟨.hbm, 420, rfl⟩
abbrev main_call15_v14 : Ref sig .tc := ⟨.hbm, 421, rfl⟩
abbrev main_call15_cst : Ref sig .tc := ⟨.hbm, 422, rfl⟩
abbrev main_call15_v15 : Ref sig .tc := ⟨.hbm, 423, rfl⟩
abbrev main_v198 : Ref sig .tc := ⟨.hbm, 424, rfl⟩
abbrev main_v199 : Ref sig .tc := ⟨.hbm, 425, rfl⟩
abbrev main_v200 : Ref sig .tc := ⟨.hbm, 426, rfl⟩
abbrev main_v201 : Ref sig .tc := ⟨.hbm, 427, rfl⟩
abbrev main_v202 : Ref sig .tc := ⟨.hbm, 428, rfl⟩
abbrev main_v203 : Ref sig .tc := ⟨.hbm, 429, rfl⟩
abbrev main_v204 : Ref sig .tc := ⟨.hbm, 430, rfl⟩
abbrev main_c_70 : Ref sig .tc := ⟨.hbm, 431, rfl⟩
abbrev main_v205 : Ref sig .tc := ⟨.hbm, 432, rfl⟩
abbrev main_v206 : Ref sig .tc := ⟨.hbm, 433, rfl⟩
abbrev main_c_71 : Ref sig .tc := ⟨.hbm, 434, rfl⟩
abbrev main_v207 : Ref sig .tc := ⟨.hbm, 435, rfl⟩
abbrev main_v208 : Ref sig .tc := ⟨.hbm, 436, rfl⟩
abbrev main_v209 : Ref sig .tc := ⟨.hbm, 437, rfl⟩
abbrev main_c_72 : Ref sig .tc := ⟨.hbm, 438, rfl⟩
abbrev main_v210 : Ref sig .tc := ⟨.hbm, 439, rfl⟩
abbrev main_v211 : Ref sig .tc := ⟨.hbm, 440, rfl⟩
abbrev main_v212 : Ref sig .tc := ⟨.hbm, 441, rfl⟩
abbrev main_c_73 : Ref sig .tc := ⟨.hbm, 442, rfl⟩
abbrev main_v213 : Ref sig .tc := ⟨.hbm, 443, rfl⟩
abbrev main_v214 : Ref sig .tc := ⟨.hbm, 444, rfl⟩
abbrev main_v215 : Ref sig .tc := ⟨.hbm, 445, rfl⟩
abbrev main_c_74 : Ref sig .tc := ⟨.hbm, 446, rfl⟩
abbrev main_v216 : Ref sig .tc := ⟨.hbm, 447, rfl⟩
abbrev main_v217 : Ref sig .tc := ⟨.hbm, 448, rfl⟩
abbrev main_v218 : Ref sig .tc := ⟨.hbm, 449, rfl⟩
abbrev main_c_75 : Ref sig .tc := ⟨.hbm, 450, rfl⟩
abbrev main_v219 : Ref sig .tc := ⟨.hbm, 451, rfl⟩
abbrev main_v220 : Ref sig .tc := ⟨.hbm, 452, rfl⟩
abbrev main_v221 : Ref sig .tc := ⟨.hbm, 453, rfl⟩
abbrev main_v222 : Ref sig .tc := ⟨.hbm, 454, rfl⟩
abbrev main_c_76 : Ref sig .tc := ⟨.hbm, 455, rfl⟩
abbrev main_c_77 : Ref sig .tc := ⟨.hbm, 456, rfl⟩
abbrev main_call16_v0 : Ref sig .tc := ⟨.hbm, 457, rfl⟩
abbrev main_call16_v1 : Ref sig .tc := ⟨.hbm, 458, rfl⟩
abbrev main_call16_v2 : Ref sig .tc := ⟨.hbm, 459, rfl⟩
abbrev main_call16_v3 : Ref sig .tc := ⟨.hbm, 460, rfl⟩
abbrev main_call16_v4 : Ref sig .tc := ⟨.hbm, 461, rfl⟩
abbrev main_v223 : Ref sig .tc := ⟨.hbm, 462, rfl⟩
abbrev main_c_78 : Ref sig .tc := ⟨.hbm, 463, rfl⟩
abbrev main_c_79 : Ref sig .tc := ⟨.hbm, 464, rfl⟩
abbrev main_call17_v0 : Ref sig .tc := ⟨.hbm, 465, rfl⟩
abbrev main_call17_v1 : Ref sig .tc := ⟨.hbm, 466, rfl⟩
abbrev main_call17_v2 : Ref sig .tc := ⟨.hbm, 467, rfl⟩
abbrev main_call17_v3 : Ref sig .tc := ⟨.hbm, 468, rfl⟩
abbrev main_call17_v4 : Ref sig .tc := ⟨.hbm, 469, rfl⟩
abbrev main_v224 : Ref sig .tc := ⟨.hbm, 470, rfl⟩
abbrev main_c_80 : Ref sig .tc := ⟨.hbm, 471, rfl⟩
abbrev main_c_81 : Ref sig .tc := ⟨.hbm, 472, rfl⟩
abbrev main_call18_v0 : Ref sig .tc := ⟨.hbm, 473, rfl⟩
abbrev main_call18_v1 : Ref sig .tc := ⟨.hbm, 474, rfl⟩
abbrev main_call18_v2 : Ref sig .tc := ⟨.hbm, 475, rfl⟩
abbrev main_call18_v3 : Ref sig .tc := ⟨.hbm, 476, rfl⟩
abbrev main_call18_v4 : Ref sig .tc := ⟨.hbm, 477, rfl⟩
abbrev main_v225 : Ref sig .tc := ⟨.hbm, 478, rfl⟩
abbrev main_c_82 : Ref sig .tc := ⟨.hbm, 479, rfl⟩
abbrev main_v226 : Ref sig .tc := ⟨.hbm, 480, rfl⟩
abbrev main_v227 : Ref sig .tc := ⟨.hbm, 481, rfl⟩
abbrev main_v228 : Ref sig .tc := ⟨.hbm, 482, rfl⟩
abbrev main_c_83 : Ref sig .tc := ⟨.hbm, 483, rfl⟩
abbrev main_v229 : Ref sig .tc := ⟨.hbm, 484, rfl⟩
abbrev main_v230 : Ref sig .tc := ⟨.hbm, 485, rfl⟩
abbrev main_v231 : Ref sig .tc := ⟨.hbm, 486, rfl⟩
abbrev main_v232 : Ref sig .tc := ⟨.hbm, 487, rfl⟩
abbrev main_call19_c : Ref sig .tc := ⟨.hbm, 488, rfl⟩
abbrev main_call19_v0 : Ref sig .tc := ⟨.hbm, 489, rfl⟩
abbrev main_call19_v1 : Ref sig .tc := ⟨.hbm, 490, rfl⟩
abbrev main_call19_c_0 : Ref sig .tc := ⟨.hbm, 491, rfl⟩
abbrev main_call19_v2 : Ref sig .tc := ⟨.hbm, 492, rfl⟩
abbrev main_call19_v3 : Ref sig .tc := ⟨.hbm, 493, rfl⟩
abbrev main_call19_v4 : Ref sig .tc := ⟨.hbm, 494, rfl⟩
abbrev main_call19_v5 : Ref sig .tc := ⟨.hbm, 495, rfl⟩
abbrev main_call19_c_1 : Ref sig .tc := ⟨.hbm, 496, rfl⟩
abbrev main_call19_c_2 : Ref sig .tc := ⟨.hbm, 497, rfl⟩
abbrev main_call19_v6 : Ref sig .tc := ⟨.hbm, 498, rfl⟩
abbrev main_call19_v7 : Ref sig .tc := ⟨.hbm, 499, rfl⟩
abbrev main_call19_v8 : Ref sig .tc := ⟨.hbm, 500, rfl⟩
abbrev main_call19_v9 : Ref sig .tc := ⟨.hbm, 501, rfl⟩
abbrev main_call19_v10 : Ref sig .tc := ⟨.hbm, 502, rfl⟩
abbrev main_call19_v11 : Ref sig .tc := ⟨.hbm, 503, rfl⟩
abbrev main_call19_c_3 : Ref sig .tc := ⟨.hbm, 504, rfl⟩
abbrev main_call19_v12 : Ref sig .tc := ⟨.hbm, 505, rfl⟩
abbrev main_call19_v13 : Ref sig .tc := ⟨.hbm, 506, rfl⟩
abbrev main_call19_v14 : Ref sig .tc := ⟨.hbm, 507, rfl⟩
abbrev main_call19_cst : Ref sig .tc := ⟨.hbm, 508, rfl⟩
abbrev main_call19_v15 : Ref sig .tc := ⟨.hbm, 509, rfl⟩
abbrev main_v233 : Ref sig .tc := ⟨.hbm, 510, rfl⟩
abbrev main_v234 : Ref sig .tc := ⟨.hbm, 511, rfl⟩
abbrev main_v235 : Ref sig .tc := ⟨.hbm, 512, rfl⟩
abbrev main_v236 : Ref sig .tc := ⟨.hbm, 513, rfl⟩
abbrev main_v237 : Ref sig .tc := ⟨.hbm, 514, rfl⟩
abbrev main_v238 : Ref sig .tc := ⟨.hbm, 515, rfl⟩
abbrev main_v239 : Ref sig .tc := ⟨.hbm, 516, rfl⟩
abbrev main_c_84 : Ref sig .tc := ⟨.hbm, 517, rfl⟩
abbrev main_v240 : Ref sig .tc := ⟨.hbm, 518, rfl⟩
abbrev main_v241 : Ref sig .tc := ⟨.hbm, 519, rfl⟩
abbrev main_c_85 : Ref sig .tc := ⟨.hbm, 520, rfl⟩
abbrev main_v242 : Ref sig .tc := ⟨.hbm, 521, rfl⟩
abbrev main_v243 : Ref sig .tc := ⟨.hbm, 522, rfl⟩
abbrev main_v244 : Ref sig .tc := ⟨.hbm, 523, rfl⟩
abbrev main_c_86 : Ref sig .tc := ⟨.hbm, 524, rfl⟩
abbrev main_v245 : Ref sig .tc := ⟨.hbm, 525, rfl⟩
abbrev main_v246 : Ref sig .tc := ⟨.hbm, 526, rfl⟩
abbrev main_v247 : Ref sig .tc := ⟨.hbm, 527, rfl⟩
abbrev main_c_87 : Ref sig .tc := ⟨.hbm, 528, rfl⟩
abbrev main_v248 : Ref sig .tc := ⟨.hbm, 529, rfl⟩
abbrev main_v249 : Ref sig .tc := ⟨.hbm, 530, rfl⟩
abbrev main_v250 : Ref sig .tc := ⟨.hbm, 531, rfl⟩
abbrev main_c_88 : Ref sig .tc := ⟨.hbm, 532, rfl⟩
abbrev main_v251 : Ref sig .tc := ⟨.hbm, 533, rfl⟩
abbrev main_v252 : Ref sig .tc := ⟨.hbm, 534, rfl⟩
abbrev main_v253 : Ref sig .tc := ⟨.hbm, 535, rfl⟩
abbrev main_c_89 : Ref sig .tc := ⟨.hbm, 536, rfl⟩
abbrev main_v254 : Ref sig .tc := ⟨.hbm, 537, rfl⟩
abbrev main_v255 : Ref sig .tc := ⟨.hbm, 538, rfl⟩
abbrev main_v256 : Ref sig .tc := ⟨.hbm, 539, rfl⟩
abbrev main_v257 : Ref sig .tc := ⟨.hbm, 540, rfl⟩
abbrev main_c_90 : Ref sig .tc := ⟨.hbm, 541, rfl⟩
abbrev main_c_91 : Ref sig .tc := ⟨.hbm, 542, rfl⟩
abbrev main_call20_v0 : Ref sig .tc := ⟨.hbm, 543, rfl⟩
abbrev main_call20_v1 : Ref sig .tc := ⟨.hbm, 544, rfl⟩
abbrev main_call20_v2 : Ref sig .tc := ⟨.hbm, 545, rfl⟩
abbrev main_call20_v3 : Ref sig .tc := ⟨.hbm, 546, rfl⟩
abbrev main_call20_v4 : Ref sig .tc := ⟨.hbm, 547, rfl⟩
abbrev main_v258 : Ref sig .tc := ⟨.hbm, 548, rfl⟩
abbrev main_c_92 : Ref sig .tc := ⟨.hbm, 549, rfl⟩
abbrev main_c_93 : Ref sig .tc := ⟨.hbm, 550, rfl⟩
abbrev main_call21_v0 : Ref sig .tc := ⟨.hbm, 551, rfl⟩
abbrev main_call21_v1 : Ref sig .tc := ⟨.hbm, 552, rfl⟩
abbrev main_call21_v2 : Ref sig .tc := ⟨.hbm, 553, rfl⟩
abbrev main_call21_v3 : Ref sig .tc := ⟨.hbm, 554, rfl⟩
abbrev main_call21_v4 : Ref sig .tc := ⟨.hbm, 555, rfl⟩
abbrev main_v259 : Ref sig .tc := ⟨.hbm, 556, rfl⟩
abbrev main_c_94 : Ref sig .tc := ⟨.hbm, 557, rfl⟩
abbrev main_c_95 : Ref sig .tc := ⟨.hbm, 558, rfl⟩
abbrev main_call22_v0 : Ref sig .tc := ⟨.hbm, 559, rfl⟩
abbrev main_call22_v1 : Ref sig .tc := ⟨.hbm, 560, rfl⟩
abbrev main_call22_v2 : Ref sig .tc := ⟨.hbm, 561, rfl⟩
abbrev main_call22_v3 : Ref sig .tc := ⟨.hbm, 562, rfl⟩
abbrev main_call22_v4 : Ref sig .tc := ⟨.hbm, 563, rfl⟩
abbrev main_v260 : Ref sig .tc := ⟨.hbm, 564, rfl⟩
abbrev main_c_96 : Ref sig .tc := ⟨.hbm, 565, rfl⟩
abbrev main_v261 : Ref sig .tc := ⟨.hbm, 566, rfl⟩
abbrev main_v262 : Ref sig .tc := ⟨.hbm, 567, rfl⟩
abbrev main_v263 : Ref sig .tc := ⟨.hbm, 568, rfl⟩
abbrev main_c_97 : Ref sig .tc := ⟨.hbm, 569, rfl⟩
abbrev main_v264 : Ref sig .tc := ⟨.hbm, 570, rfl⟩
abbrev main_v265 : Ref sig .tc := ⟨.hbm, 571, rfl⟩
abbrev main_v266 : Ref sig .tc := ⟨.hbm, 572, rfl⟩
abbrev main_v267 : Ref sig .tc := ⟨.hbm, 573, rfl⟩
abbrev main_call23_c : Ref sig .tc := ⟨.hbm, 574, rfl⟩
abbrev main_call23_v0 : Ref sig .tc := ⟨.hbm, 575, rfl⟩
abbrev main_call23_v1 : Ref sig .tc := ⟨.hbm, 576, rfl⟩
abbrev main_call23_c_0 : Ref sig .tc := ⟨.hbm, 577, rfl⟩
abbrev main_call23_v2 : Ref sig .tc := ⟨.hbm, 578, rfl⟩
abbrev main_call23_v3 : Ref sig .tc := ⟨.hbm, 579, rfl⟩
abbrev main_call23_v4 : Ref sig .tc := ⟨.hbm, 580, rfl⟩
abbrev main_call23_v5 : Ref sig .tc := ⟨.hbm, 581, rfl⟩
abbrev main_call23_c_1 : Ref sig .tc := ⟨.hbm, 582, rfl⟩
abbrev main_call23_c_2 : Ref sig .tc := ⟨.hbm, 583, rfl⟩
abbrev main_call23_v6 : Ref sig .tc := ⟨.hbm, 584, rfl⟩
abbrev main_call23_v7 : Ref sig .tc := ⟨.hbm, 585, rfl⟩
abbrev main_call23_v8 : Ref sig .tc := ⟨.hbm, 586, rfl⟩
abbrev main_call23_v9 : Ref sig .tc := ⟨.hbm, 587, rfl⟩
abbrev main_call23_v10 : Ref sig .tc := ⟨.hbm, 588, rfl⟩
abbrev main_call23_v11 : Ref sig .tc := ⟨.hbm, 589, rfl⟩
abbrev main_call23_c_3 : Ref sig .tc := ⟨.hbm, 590, rfl⟩
abbrev main_call23_v12 : Ref sig .tc := ⟨.hbm, 591, rfl⟩
abbrev main_call23_v13 : Ref sig .tc := ⟨.hbm, 592, rfl⟩
abbrev main_call23_v14 : Ref sig .tc := ⟨.hbm, 593, rfl⟩
abbrev main_call23_cst : Ref sig .tc := ⟨.hbm, 594, rfl⟩
abbrev main_call23_v15 : Ref sig .tc := ⟨.hbm, 595, rfl⟩
abbrev main_v268 : Ref sig .tc := ⟨.hbm, 596, rfl⟩
abbrev main_v269 : Ref sig .tc := ⟨.hbm, 597, rfl⟩
abbrev main_v270 : Ref sig .tc := ⟨.hbm, 598, rfl⟩
abbrev main_v271 : Ref sig .tc := ⟨.hbm, 599, rfl⟩
abbrev main_v272 : Ref sig .tc := ⟨.hbm, 600, rfl⟩
abbrev main_v273 : Ref sig .tc := ⟨.hbm, 601, rfl⟩
abbrev main_v274 : Ref sig .tc := ⟨.hbm, 602, rfl⟩
abbrev main_c_98 : Ref sig .tc := ⟨.hbm, 603, rfl⟩
abbrev main_v275 : Ref sig .tc := ⟨.hbm, 604, rfl⟩
abbrev main_v276 : Ref sig .tc := ⟨.hbm, 605, rfl⟩
abbrev main_c_99 : Ref sig .tc := ⟨.hbm, 606, rfl⟩
abbrev main_v277 : Ref sig .tc := ⟨.hbm, 607, rfl⟩
abbrev main_v278 : Ref sig .tc := ⟨.hbm, 608, rfl⟩
abbrev main_v279 : Ref sig .tc := ⟨.hbm, 609, rfl⟩
abbrev main_c_100 : Ref sig .tc := ⟨.hbm, 610, rfl⟩
abbrev main_v280 : Ref sig .tc := ⟨.hbm, 611, rfl⟩
abbrev main_v281 : Ref sig .tc := ⟨.hbm, 612, rfl⟩
abbrev main_v282 : Ref sig .tc := ⟨.hbm, 613, rfl⟩
abbrev main_c_101 : Ref sig .tc := ⟨.hbm, 614, rfl⟩
abbrev main_v283 : Ref sig .tc := ⟨.hbm, 615, rfl⟩
abbrev main_v284 : Ref sig .tc := ⟨.hbm, 616, rfl⟩
abbrev main_v285 : Ref sig .tc := ⟨.hbm, 617, rfl⟩
abbrev main_c_102 : Ref sig .tc := ⟨.hbm, 618, rfl⟩
abbrev main_v286 : Ref sig .tc := ⟨.hbm, 619, rfl⟩
abbrev main_v287 : Ref sig .tc := ⟨.hbm, 620, rfl⟩
abbrev main_v288 : Ref sig .tc := ⟨.hbm, 621, rfl⟩
abbrev main_c_103 : Ref sig .tc := ⟨.hbm, 622, rfl⟩
abbrev main_v289 : Ref sig .tc := ⟨.hbm, 623, rfl⟩
abbrev main_v290 : Ref sig .tc := ⟨.hbm, 624, rfl⟩
abbrev main_v291 : Ref sig .tc := ⟨.hbm, 625, rfl⟩
abbrev main_v292 : Ref sig .tc := ⟨.hbm, 626, rfl⟩
abbrev main_c_104 : Ref sig .tc := ⟨.hbm, 627, rfl⟩
abbrev main_c_105 : Ref sig .tc := ⟨.hbm, 628, rfl⟩
abbrev main_call24_v0 : Ref sig .tc := ⟨.hbm, 629, rfl⟩
abbrev main_call24_v1 : Ref sig .tc := ⟨.hbm, 630, rfl⟩
abbrev main_call24_v2 : Ref sig .tc := ⟨.hbm, 631, rfl⟩
abbrev main_call24_v3 : Ref sig .tc := ⟨.hbm, 632, rfl⟩
abbrev main_call24_v4 : Ref sig .tc := ⟨.hbm, 633, rfl⟩
abbrev main_v293 : Ref sig .tc := ⟨.hbm, 634, rfl⟩
abbrev main_c_106 : Ref sig .tc := ⟨.hbm, 635, rfl⟩
abbrev main_c_107 : Ref sig .tc := ⟨.hbm, 636, rfl⟩
abbrev main_call25_v0 : Ref sig .tc := ⟨.hbm, 637, rfl⟩
abbrev main_call25_v1 : Ref sig .tc := ⟨.hbm, 638, rfl⟩
abbrev main_call25_v2 : Ref sig .tc := ⟨.hbm, 639, rfl⟩
abbrev main_call25_v3 : Ref sig .tc := ⟨.hbm, 640, rfl⟩
abbrev main_call25_v4 : Ref sig .tc := ⟨.hbm, 641, rfl⟩
abbrev main_v294 : Ref sig .tc := ⟨.hbm, 642, rfl⟩
abbrev main_c_108 : Ref sig .tc := ⟨.hbm, 643, rfl⟩
abbrev main_c_109 : Ref sig .tc := ⟨.hbm, 644, rfl⟩
abbrev main_call26_v0 : Ref sig .tc := ⟨.hbm, 645, rfl⟩
abbrev main_call26_v1 : Ref sig .tc := ⟨.hbm, 646, rfl⟩
abbrev main_call26_v2 : Ref sig .tc := ⟨.hbm, 647, rfl⟩
abbrev main_call26_v3 : Ref sig .tc := ⟨.hbm, 648, rfl⟩
abbrev main_call26_v4 : Ref sig .tc := ⟨.hbm, 649, rfl⟩
abbrev main_v295 : Ref sig .tc := ⟨.hbm, 650, rfl⟩
abbrev main_c_110 : Ref sig .tc := ⟨.hbm, 651, rfl⟩
abbrev main_v296 : Ref sig .tc := ⟨.hbm, 652, rfl⟩
abbrev main_v297 : Ref sig .tc := ⟨.hbm, 653, rfl⟩
abbrev main_v298 : Ref sig .tc := ⟨.hbm, 654, rfl⟩
abbrev main_c_111 : Ref sig .tc := ⟨.hbm, 655, rfl⟩
abbrev main_v299 : Ref sig .tc := ⟨.hbm, 656, rfl⟩
abbrev main_v300 : Ref sig .tc := ⟨.hbm, 657, rfl⟩
abbrev main_v301 : Ref sig .tc := ⟨.hbm, 658, rfl⟩
abbrev main_v302 : Ref sig .tc := ⟨.hbm, 659, rfl⟩
abbrev main_call27_c : Ref sig .tc := ⟨.hbm, 660, rfl⟩
abbrev main_call27_v0 : Ref sig .tc := ⟨.hbm, 661, rfl⟩
abbrev main_call27_v1 : Ref sig .tc := ⟨.hbm, 662, rfl⟩
abbrev main_call27_c_0 : Ref sig .tc := ⟨.hbm, 663, rfl⟩
abbrev main_call27_v2 : Ref sig .tc := ⟨.hbm, 664, rfl⟩
abbrev main_call27_v3 : Ref sig .tc := ⟨.hbm, 665, rfl⟩
abbrev main_call27_v4 : Ref sig .tc := ⟨.hbm, 666, rfl⟩
abbrev main_call27_v5 : Ref sig .tc := ⟨.hbm, 667, rfl⟩
abbrev main_call27_c_1 : Ref sig .tc := ⟨.hbm, 668, rfl⟩
abbrev main_call27_c_2 : Ref sig .tc := ⟨.hbm, 669, rfl⟩
abbrev main_call27_v6 : Ref sig .tc := ⟨.hbm, 670, rfl⟩
abbrev main_call27_v7 : Ref sig .tc := ⟨.hbm, 671, rfl⟩
abbrev main_call27_v8 : Ref sig .tc := ⟨.hbm, 672, rfl⟩
abbrev main_call27_v9 : Ref sig .tc := ⟨.hbm, 673, rfl⟩
abbrev main_call27_v10 : Ref sig .tc := ⟨.hbm, 674, rfl⟩
abbrev main_call27_v11 : Ref sig .tc := ⟨.hbm, 675, rfl⟩
abbrev main_call27_c_3 : Ref sig .tc := ⟨.hbm, 676, rfl⟩
abbrev main_call27_v12 : Ref sig .tc := ⟨.hbm, 677, rfl⟩
abbrev main_call27_v13 : Ref sig .tc := ⟨.hbm, 678, rfl⟩
abbrev main_call27_v14 : Ref sig .tc := ⟨.hbm, 679, rfl⟩
abbrev main_call27_cst : Ref sig .tc := ⟨.hbm, 680, rfl⟩
abbrev main_call27_v15 : Ref sig .tc := ⟨.hbm, 681, rfl⟩
abbrev main_v303 : Ref sig .tc := ⟨.hbm, 682, rfl⟩
abbrev main_v304 : Ref sig .tc := ⟨.hbm, 683, rfl⟩
abbrev main_v305 : Ref sig .tc := ⟨.hbm, 684, rfl⟩
abbrev main_v306 : Ref sig .tc := ⟨.hbm, 685, rfl⟩
abbrev main_v307 : Ref sig .tc := ⟨.hbm, 686, rfl⟩
abbrev main_v308 : Ref sig .tc := ⟨.hbm, 687, rfl⟩
abbrev main_v309 : Ref sig .tc := ⟨.hbm, 688, rfl⟩
abbrev main_c_112 : Ref sig .tc := ⟨.hbm, 689, rfl⟩
abbrev main_v310 : Ref sig .tc := ⟨.hbm, 690, rfl⟩
abbrev main_v311 : Ref sig .tc := ⟨.hbm, 691, rfl⟩
abbrev main_c_113 : Ref sig .tc := ⟨.hbm, 692, rfl⟩
abbrev main_v312 : Ref sig .tc := ⟨.hbm, 693, rfl⟩
abbrev main_v313 : Ref sig .tc := ⟨.hbm, 694, rfl⟩
abbrev main_v314 : Ref sig .tc := ⟨.hbm, 695, rfl⟩
abbrev main_c_114 : Ref sig .tc := ⟨.hbm, 696, rfl⟩
abbrev main_v315 : Ref sig .tc := ⟨.hbm, 697, rfl⟩
abbrev main_v316 : Ref sig .tc := ⟨.hbm, 698, rfl⟩
abbrev main_v317 : Ref sig .tc := ⟨.hbm, 699, rfl⟩
abbrev main_c_115 : Ref sig .tc := ⟨.hbm, 700, rfl⟩
abbrev main_v318 : Ref sig .tc := ⟨.hbm, 701, rfl⟩
abbrev main_v319 : Ref sig .tc := ⟨.hbm, 702, rfl⟩
abbrev main_v320 : Ref sig .tc := ⟨.hbm, 703, rfl⟩
abbrev main_c_116 : Ref sig .tc := ⟨.hbm, 704, rfl⟩
abbrev main_v321 : Ref sig .tc := ⟨.hbm, 705, rfl⟩
abbrev main_v322 : Ref sig .tc := ⟨.hbm, 706, rfl⟩
abbrev main_v323 : Ref sig .tc := ⟨.hbm, 707, rfl⟩
abbrev main_c_117 : Ref sig .tc := ⟨.hbm, 708, rfl⟩
abbrev main_v324 : Ref sig .tc := ⟨.hbm, 709, rfl⟩
abbrev main_v325 : Ref sig .tc := ⟨.hbm, 710, rfl⟩
abbrev main_v326 : Ref sig .tc := ⟨.hbm, 711, rfl⟩
abbrev main_v327 : Ref sig .tc := ⟨.hbm, 712, rfl⟩
abbrev main_c_118 : Ref sig .tc := ⟨.hbm, 713, rfl⟩
abbrev main_c_119 : Ref sig .tc := ⟨.hbm, 714, rfl⟩
abbrev main_call28_v0 : Ref sig .tc := ⟨.hbm, 715, rfl⟩
abbrev main_call28_v1 : Ref sig .tc := ⟨.hbm, 716, rfl⟩
abbrev main_call28_v2 : Ref sig .tc := ⟨.hbm, 717, rfl⟩
abbrev main_call28_v3 : Ref sig .tc := ⟨.hbm, 718, rfl⟩
abbrev main_call28_v4 : Ref sig .tc := ⟨.hbm, 719, rfl⟩
abbrev main_v328 : Ref sig .tc := ⟨.hbm, 720, rfl⟩
abbrev main_c_120 : Ref sig .tc := ⟨.hbm, 721, rfl⟩
abbrev main_c_121 : Ref sig .tc := ⟨.hbm, 722, rfl⟩
abbrev main_call29_v0 : Ref sig .tc := ⟨.hbm, 723, rfl⟩
abbrev main_call29_v1 : Ref sig .tc := ⟨.hbm, 724, rfl⟩
abbrev main_call29_v2 : Ref sig .tc := ⟨.hbm, 725, rfl⟩
abbrev main_call29_v3 : Ref sig .tc := ⟨.hbm, 726, rfl⟩
abbrev main_call29_v4 : Ref sig .tc := ⟨.hbm, 727, rfl⟩
abbrev main_v329 : Ref sig .tc := ⟨.hbm, 728, rfl⟩
abbrev main_c_122 : Ref sig .tc := ⟨.hbm, 729, rfl⟩
abbrev main_c_123 : Ref sig .tc := ⟨.hbm, 730, rfl⟩
abbrev main_call30_v0 : Ref sig .tc := ⟨.hbm, 731, rfl⟩
abbrev main_call30_v1 : Ref sig .tc := ⟨.hbm, 732, rfl⟩
abbrev main_call30_v2 : Ref sig .tc := ⟨.hbm, 733, rfl⟩
abbrev main_call30_v3 : Ref sig .tc := ⟨.hbm, 734, rfl⟩
abbrev main_call30_v4 : Ref sig .tc := ⟨.hbm, 735, rfl⟩
abbrev main_v330 : Ref sig .tc := ⟨.hbm, 736, rfl⟩
abbrev main_c_124 : Ref sig .tc := ⟨.hbm, 737, rfl⟩
abbrev main_v331 : Ref sig .tc := ⟨.hbm, 738, rfl⟩
abbrev main_v332 : Ref sig .tc := ⟨.hbm, 739, rfl⟩
abbrev main_v333 : Ref sig .tc := ⟨.hbm, 740, rfl⟩
abbrev main_c_125 : Ref sig .tc := ⟨.hbm, 741, rfl⟩
abbrev main_v334 : Ref sig .tc := ⟨.hbm, 742, rfl⟩
abbrev main_v335 : Ref sig .tc := ⟨.hbm, 743, rfl⟩
abbrev main_v336 : Ref sig .tc := ⟨.hbm, 744, rfl⟩
abbrev main_v337 : Ref sig .tc := ⟨.hbm, 745, rfl⟩
abbrev main_call31_c : Ref sig .tc := ⟨.hbm, 746, rfl⟩
abbrev main_call31_v0 : Ref sig .tc := ⟨.hbm, 747, rfl⟩
abbrev main_call31_v1 : Ref sig .tc := ⟨.hbm, 748, rfl⟩
abbrev main_call31_c_0 : Ref sig .tc := ⟨.hbm, 749, rfl⟩
abbrev main_call31_v2 : Ref sig .tc := ⟨.hbm, 750, rfl⟩
abbrev main_call31_v3 : Ref sig .tc := ⟨.hbm, 751, rfl⟩
abbrev main_call31_v4 : Ref sig .tc := ⟨.hbm, 752, rfl⟩
abbrev main_call31_v5 : Ref sig .tc := ⟨.hbm, 753, rfl⟩
abbrev main_call31_c_1 : Ref sig .tc := ⟨.hbm, 754, rfl⟩
abbrev main_call31_c_2 : Ref sig .tc := ⟨.hbm, 755, rfl⟩
abbrev main_call31_v6 : Ref sig .tc := ⟨.hbm, 756, rfl⟩
abbrev main_call31_v7 : Ref sig .tc := ⟨.hbm, 757, rfl⟩
abbrev main_call31_v8 : Ref sig .tc := ⟨.hbm, 758, rfl⟩
abbrev main_call31_v9 : Ref sig .tc := ⟨.hbm, 759, rfl⟩
abbrev main_call31_v10 : Ref sig .tc := ⟨.hbm, 760, rfl⟩
abbrev main_call31_v11 : Ref sig .tc := ⟨.hbm, 761, rfl⟩
abbrev main_call31_c_3 : Ref sig .tc := ⟨.hbm, 762, rfl⟩
abbrev main_call31_v12 : Ref sig .tc := ⟨.hbm, 763, rfl⟩
abbrev main_call31_v13 : Ref sig .tc := ⟨.hbm, 764, rfl⟩
abbrev main_call31_v14 : Ref sig .tc := ⟨.hbm, 765, rfl⟩
abbrev main_call31_cst : Ref sig .tc := ⟨.hbm, 766, rfl⟩
abbrev main_call31_v15 : Ref sig .tc := ⟨.hbm, 767, rfl⟩
abbrev main_v338 : Ref sig .tc := ⟨.hbm, 768, rfl⟩
abbrev main_v339 : Ref sig .tc := ⟨.hbm, 769, rfl⟩
abbrev main_v340 : Ref sig .tc := ⟨.hbm, 770, rfl⟩
abbrev main_v341 : Ref sig .tc := ⟨.hbm, 771, rfl⟩
abbrev main_v342 : Ref sig .tc := ⟨.hbm, 772, rfl⟩
abbrev main_v343 : Ref sig .tc := ⟨.hbm, 773, rfl⟩
abbrev main_v344 : Ref sig .tc := ⟨.hbm, 774, rfl⟩
abbrev main_v345 : Ref sig .tc := ⟨.hbm, 775, rfl⟩
abbrev main_v346 : Ref sig .tc := ⟨.hbm, 776, rfl⟩
abbrev main_v347 : Ref sig .tc := ⟨.hbm, 777, rfl⟩
abbrev main_v348 : Ref sig .tc := ⟨.hbm, 778, rfl⟩
abbrev main_cst_126 : Ref sig .tc := ⟨.hbm, 779, rfl⟩
abbrev main_v349 : Ref sig .tc := ⟨.hbm, 780, rfl⟩
abbrev main_v350 : Ref sig .tc := ⟨.hbm, 781, rfl⟩
abbrev main_cst_127 : Ref sig .tc := ⟨.hbm, 782, rfl⟩
abbrev main_v351 : Ref sig .tc := ⟨.hbm, 783, rfl⟩
abbrev main_v352 : Ref sig .tc := ⟨.hbm, 784, rfl⟩
abbrev main_cst_128 : Ref sig .tc := ⟨.hbm, 785, rfl⟩
abbrev main_v353 : Ref sig .tc := ⟨.hbm, 786, rfl⟩
abbrev main_v354 : Ref sig .tc := ⟨.hbm, 787, rfl⟩
abbrev main_cst_129 : Ref sig .tc := ⟨.hbm, 788, rfl⟩
abbrev main_v355 : Ref sig .tc := ⟨.hbm, 789, rfl⟩
abbrev main_v356 : Ref sig .tc := ⟨.hbm, 790, rfl⟩
abbrev main_cst_130 : Ref sig .tc := ⟨.hbm, 791, rfl⟩
abbrev main_v357 : Ref sig .tc := ⟨.hbm, 792, rfl⟩
abbrev main_v358 : Ref sig .tc := ⟨.hbm, 793, rfl⟩
abbrev main_cst_131 : Ref sig .tc := ⟨.hbm, 794, rfl⟩
abbrev main_v359 : Ref sig .tc := ⟨.hbm, 795, rfl⟩
abbrev main_v360 : Ref sig .tc := ⟨.hbm, 796, rfl⟩
abbrev main_cst_132 : Ref sig .tc := ⟨.hbm, 797, rfl⟩
abbrev main_v361 : Ref sig .tc := ⟨.hbm, 798, rfl⟩
abbrev main_v362 : Ref sig .tc := ⟨.hbm, 799, rfl⟩
abbrev main_cst_133 : Ref sig .tc := ⟨.hbm, 800, rfl⟩
abbrev main_v363 : Ref sig .tc := ⟨.hbm, 801, rfl⟩
abbrev main_v364 : Ref sig .tc := ⟨.hbm, 802, rfl⟩
abbrev main_cst_134 : Ref sig .tc := ⟨.hbm, 803, rfl⟩
abbrev main_v365 : Ref sig .tc := ⟨.hbm, 804, rfl⟩
abbrev main_v366 : Ref sig .tc := ⟨.hbm, 805, rfl⟩
abbrev main_v367 : Ref sig .tc := ⟨.hbm, 806, rfl⟩
abbrev main_v368 : Ref sig .tc := ⟨.hbm, 807, rfl⟩
abbrev main_v369 : Ref sig .tc := ⟨.hbm, 808, rfl⟩
abbrev main_v370 : Ref sig .tc := ⟨.hbm, 809, rfl⟩
abbrev main_v371 : Ref sig .tc := ⟨.hbm, 810, rfl⟩
abbrev main_v372 : Ref sig .tc := ⟨.hbm, 811, rfl⟩
abbrev main_cst_135 : Ref sig .tc := ⟨.hbm, 812, rfl⟩
abbrev main_v373 : Ref sig .tc := ⟨.hbm, 813, rfl⟩
abbrev main_v374 : Ref sig .tc := ⟨.hbm, 814, rfl⟩
abbrev main_cst_136 : Ref sig .tc := ⟨.hbm, 815, rfl⟩
abbrev main_v375 : Ref sig .tc := ⟨.hbm, 816, rfl⟩
abbrev main_v376 : Ref sig .tc := ⟨.hbm, 817, rfl⟩
abbrev main_cst_137 : Ref sig .tc := ⟨.hbm, 818, rfl⟩
abbrev main_v377 : Ref sig .tc := ⟨.hbm, 819, rfl⟩
abbrev main_v378 : Ref sig .tc := ⟨.hbm, 820, rfl⟩
abbrev main_v379 : Ref sig .tc := ⟨.hbm, 821, rfl⟩
abbrev main_c_138 : Ref sig .tc := ⟨.hbm, 822, rfl⟩
abbrev main_v380 : Ref sig .tc := ⟨.hbm, 823, rfl⟩
abbrev main_v381 : Ref sig .tc := ⟨.hbm, 824, rfl⟩
abbrev main_v382 : Ref sig .tc := ⟨.hbm, 825, rfl⟩
abbrev main_c_139 : Ref sig .tc := ⟨.hbm, 826, rfl⟩
abbrev main_v383 : Ref sig .tc := ⟨.hbm, 827, rfl⟩
abbrev main_v384 : Ref sig .tc := ⟨.hbm, 828, rfl⟩
abbrev main_v385 : Ref sig .tc := ⟨.hbm, 829, rfl⟩
abbrev main_c_140 : Ref sig .tc := ⟨.hbm, 830, rfl⟩
abbrev main_v386 : Ref sig .tc := ⟨.hbm, 831, rfl⟩
abbrev main_v387 : Ref sig .tc := ⟨.hbm, 832, rfl⟩
abbrev main_v388 : Ref sig .tc := ⟨.hbm, 833, rfl⟩
abbrev main_v389 : Ref sig .tc := ⟨.hbm, 834, rfl⟩
abbrev main_v390 : Ref sig .tc := ⟨.hbm, 835, rfl⟩
abbrev main_c_141 : Ref sig .tc := ⟨.hbm, 836, rfl⟩
abbrev main_v391 : Ref sig .tc := ⟨.hbm, 837, rfl⟩
abbrev main_v392 : Ref sig .tc := ⟨.hbm, 838, rfl⟩
abbrev main_c_142 : Ref sig .tc := ⟨.hbm, 839, rfl⟩
abbrev main_v393 : Ref sig .tc := ⟨.hbm, 840, rfl⟩
abbrev main_v394 : Ref sig .tc := ⟨.hbm, 841, rfl⟩
abbrev main_v395 : Ref sig .tc := ⟨.hbm, 842, rfl⟩
abbrev main_c_143 : Ref sig .tc := ⟨.hbm, 843, rfl⟩
abbrev main_v396 : Ref sig .tc := ⟨.hbm, 844, rfl⟩
abbrev main_v397 : Ref sig .tc := ⟨.hbm, 845, rfl⟩
abbrev main_v398 : Ref sig .tc := ⟨.hbm, 846, rfl⟩
abbrev main_c_144 : Ref sig .tc := ⟨.hbm, 847, rfl⟩
abbrev main_v399 : Ref sig .tc := ⟨.hbm, 848, rfl⟩
abbrev main_v400 : Ref sig .tc := ⟨.hbm, 849, rfl⟩
abbrev main_v401 : Ref sig .tc := ⟨.hbm, 850, rfl⟩
abbrev main_c_145 : Ref sig .tc := ⟨.hbm, 851, rfl⟩
abbrev main_v402 : Ref sig .tc := ⟨.hbm, 852, rfl⟩
abbrev main_v403 : Ref sig .tc := ⟨.hbm, 853, rfl⟩
abbrev main_v404 : Ref sig .tc := ⟨.hbm, 854, rfl⟩
abbrev main_c_146 : Ref sig .tc := ⟨.hbm, 855, rfl⟩
abbrev main_v405 : Ref sig .tc := ⟨.hbm, 856, rfl⟩
abbrev main_v406 : Ref sig .tc := ⟨.hbm, 857, rfl⟩
abbrev main_v407 : Ref sig .tc := ⟨.hbm, 858, rfl⟩
abbrev main_v408 : Ref sig .tc := ⟨.hbm, 859, rfl⟩
abbrev main_c_147 : Ref sig .tc := ⟨.hbm, 860, rfl⟩
abbrev main_c_148 : Ref sig .tc := ⟨.hbm, 861, rfl⟩
abbrev main_call32_v0 : Ref sig .tc := ⟨.hbm, 862, rfl⟩
abbrev main_call32_v1 : Ref sig .tc := ⟨.hbm, 863, rfl⟩
abbrev main_call32_v2 : Ref sig .tc := ⟨.hbm, 864, rfl⟩
abbrev main_call32_v3 : Ref sig .tc := ⟨.hbm, 865, rfl⟩
abbrev main_call32_v4 : Ref sig .tc := ⟨.hbm, 866, rfl⟩
abbrev main_v409 : Ref sig .tc := ⟨.hbm, 867, rfl⟩
abbrev main_c_149 : Ref sig .tc := ⟨.hbm, 868, rfl⟩
abbrev main_c_150 : Ref sig .tc := ⟨.hbm, 869, rfl⟩
abbrev main_call33_v0 : Ref sig .tc := ⟨.hbm, 870, rfl⟩
abbrev main_call33_v1 : Ref sig .tc := ⟨.hbm, 871, rfl⟩
abbrev main_call33_v2 : Ref sig .tc := ⟨.hbm, 872, rfl⟩
abbrev main_call33_v3 : Ref sig .tc := ⟨.hbm, 873, rfl⟩
abbrev main_call33_v4 : Ref sig .tc := ⟨.hbm, 874, rfl⟩
abbrev main_v410 : Ref sig .tc := ⟨.hbm, 875, rfl⟩
abbrev main_c_151 : Ref sig .tc := ⟨.hbm, 876, rfl⟩
abbrev main_c_152 : Ref sig .tc := ⟨.hbm, 877, rfl⟩
abbrev main_call34_v0 : Ref sig .tc := ⟨.hbm, 878, rfl⟩
abbrev main_call34_v1 : Ref sig .tc := ⟨.hbm, 879, rfl⟩
abbrev main_call34_v2 : Ref sig .tc := ⟨.hbm, 880, rfl⟩
abbrev main_call34_v3 : Ref sig .tc := ⟨.hbm, 881, rfl⟩
abbrev main_call34_v4 : Ref sig .tc := ⟨.hbm, 882, rfl⟩
abbrev main_v411 : Ref sig .tc := ⟨.hbm, 883, rfl⟩
abbrev main_c_153 : Ref sig .tc := ⟨.hbm, 884, rfl⟩
abbrev main_v412 : Ref sig .tc := ⟨.hbm, 885, rfl⟩
abbrev main_v413 : Ref sig .tc := ⟨.hbm, 886, rfl⟩
abbrev main_v414 : Ref sig .tc := ⟨.hbm, 887, rfl⟩
abbrev main_c_154 : Ref sig .tc := ⟨.hbm, 888, rfl⟩
abbrev main_v415 : Ref sig .tc := ⟨.hbm, 889, rfl⟩
abbrev main_v416 : Ref sig .tc := ⟨.hbm, 890, rfl⟩
abbrev main_v417 : Ref sig .tc := ⟨.hbm, 891, rfl⟩
abbrev main_v418 : Ref sig .tc := ⟨.hbm, 892, rfl⟩
abbrev main_call35_c : Ref sig .tc := ⟨.hbm, 893, rfl⟩
abbrev main_call35_v0 : Ref sig .tc := ⟨.hbm, 894, rfl⟩
abbrev main_call35_v1 : Ref sig .tc := ⟨.hbm, 895, rfl⟩
abbrev main_call35_c_0 : Ref sig .tc := ⟨.hbm, 896, rfl⟩
abbrev main_call35_v2 : Ref sig .tc := ⟨.hbm, 897, rfl⟩
abbrev main_call35_v3 : Ref sig .tc := ⟨.hbm, 898, rfl⟩
abbrev main_call35_v4 : Ref sig .tc := ⟨.hbm, 899, rfl⟩
abbrev main_call35_v5 : Ref sig .tc := ⟨.hbm, 900, rfl⟩
abbrev main_call35_c_1 : Ref sig .tc := ⟨.hbm, 901, rfl⟩
abbrev main_call35_c_2 : Ref sig .tc := ⟨.hbm, 902, rfl⟩
abbrev main_call35_v6 : Ref sig .tc := ⟨.hbm, 903, rfl⟩
abbrev main_call35_v7 : Ref sig .tc := ⟨.hbm, 904, rfl⟩
abbrev main_call35_v8 : Ref sig .tc := ⟨.hbm, 905, rfl⟩
abbrev main_call35_v9 : Ref sig .tc := ⟨.hbm, 906, rfl⟩
abbrev main_call35_v10 : Ref sig .tc := ⟨.hbm, 907, rfl⟩
abbrev main_call35_v11 : Ref sig .tc := ⟨.hbm, 908, rfl⟩
abbrev main_call35_c_3 : Ref sig .tc := ⟨.hbm, 909, rfl⟩
abbrev main_call35_v12 : Ref sig .tc := ⟨.hbm, 910, rfl⟩
abbrev main_call35_v13 : Ref sig .tc := ⟨.hbm, 911, rfl⟩
abbrev main_call35_v14 : Ref sig .tc := ⟨.hbm, 912, rfl⟩
abbrev main_call35_cst : Ref sig .tc := ⟨.hbm, 913, rfl⟩
abbrev main_call35_v15 : Ref sig .tc := ⟨.hbm, 914, rfl⟩
abbrev main_v419 : Ref sig .tc := ⟨.hbm, 915, rfl⟩
abbrev main_v420 : Ref sig .tc := ⟨.hbm, 916, rfl⟩
abbrev main_v421 : Ref sig .tc := ⟨.hbm, 917, rfl⟩
abbrev main_v422 : Ref sig .tc := ⟨.hbm, 918, rfl⟩
abbrev main_v423 : Ref sig .tc := ⟨.hbm, 919, rfl⟩
abbrev main_v424 : Ref sig .tc := ⟨.hbm, 920, rfl⟩
abbrev main_v425 : Ref sig .tc := ⟨.hbm, 921, rfl⟩
abbrev main_c_155 : Ref sig .tc := ⟨.hbm, 922, rfl⟩
abbrev main_v426 : Ref sig .tc := ⟨.hbm, 923, rfl⟩
abbrev main_v427 : Ref sig .tc := ⟨.hbm, 924, rfl⟩
abbrev main_c_156 : Ref sig .tc := ⟨.hbm, 925, rfl⟩
abbrev main_v428 : Ref sig .tc := ⟨.hbm, 926, rfl⟩
abbrev main_v429 : Ref sig .tc := ⟨.hbm, 927, rfl⟩
abbrev main_v430 : Ref sig .tc := ⟨.hbm, 928, rfl⟩
abbrev main_c_157 : Ref sig .tc := ⟨.hbm, 929, rfl⟩
abbrev main_v431 : Ref sig .tc := ⟨.hbm, 930, rfl⟩
abbrev main_v432 : Ref sig .tc := ⟨.hbm, 931, rfl⟩
abbrev main_v433 : Ref sig .tc := ⟨.hbm, 932, rfl⟩
abbrev main_c_158 : Ref sig .tc := ⟨.hbm, 933, rfl⟩
abbrev main_v434 : Ref sig .tc := ⟨.hbm, 934, rfl⟩
abbrev main_v435 : Ref sig .tc := ⟨.hbm, 935, rfl⟩
abbrev main_v436 : Ref sig .tc := ⟨.hbm, 936, rfl⟩
abbrev main_c_159 : Ref sig .tc := ⟨.hbm, 937, rfl⟩
abbrev main_v437 : Ref sig .tc := ⟨.hbm, 938, rfl⟩
abbrev main_v438 : Ref sig .tc := ⟨.hbm, 939, rfl⟩
abbrev main_v439 : Ref sig .tc := ⟨.hbm, 940, rfl⟩
abbrev main_c_160 : Ref sig .tc := ⟨.hbm, 941, rfl⟩
abbrev main_v440 : Ref sig .tc := ⟨.hbm, 942, rfl⟩
abbrev main_v441 : Ref sig .tc := ⟨.hbm, 943, rfl⟩
abbrev main_v442 : Ref sig .tc := ⟨.hbm, 944, rfl⟩
abbrev main_v443 : Ref sig .tc := ⟨.hbm, 945, rfl⟩
abbrev main_c_161 : Ref sig .tc := ⟨.hbm, 946, rfl⟩
abbrev main_c_162 : Ref sig .tc := ⟨.hbm, 947, rfl⟩
abbrev main_call36_v0 : Ref sig .tc := ⟨.hbm, 948, rfl⟩
abbrev main_call36_v1 : Ref sig .tc := ⟨.hbm, 949, rfl⟩
abbrev main_call36_v2 : Ref sig .tc := ⟨.hbm, 950, rfl⟩
abbrev main_call36_v3 : Ref sig .tc := ⟨.hbm, 951, rfl⟩
abbrev main_call36_v4 : Ref sig .tc := ⟨.hbm, 952, rfl⟩
abbrev main_v444 : Ref sig .tc := ⟨.hbm, 953, rfl⟩
abbrev main_c_163 : Ref sig .tc := ⟨.hbm, 954, rfl⟩
abbrev main_c_164 : Ref sig .tc := ⟨.hbm, 955, rfl⟩
abbrev main_call37_v0 : Ref sig .tc := ⟨.hbm, 956, rfl⟩
abbrev main_call37_v1 : Ref sig .tc := ⟨.hbm, 957, rfl⟩
abbrev main_call37_v2 : Ref sig .tc := ⟨.hbm, 958, rfl⟩
abbrev main_call37_v3 : Ref sig .tc := ⟨.hbm, 959, rfl⟩
abbrev main_call37_v4 : Ref sig .tc := ⟨.hbm, 960, rfl⟩
abbrev main_v445 : Ref sig .tc := ⟨.hbm, 961, rfl⟩
abbrev main_c_165 : Ref sig .tc := ⟨.hbm, 962, rfl⟩
abbrev main_c_166 : Ref sig .tc := ⟨.hbm, 963, rfl⟩
abbrev main_call38_v0 : Ref sig .tc := ⟨.hbm, 964, rfl⟩
abbrev main_call38_v1 : Ref sig .tc := ⟨.hbm, 965, rfl⟩
abbrev main_call38_v2 : Ref sig .tc := ⟨.hbm, 966, rfl⟩
abbrev main_call38_v3 : Ref sig .tc := ⟨.hbm, 967, rfl⟩
abbrev main_call38_v4 : Ref sig .tc := ⟨.hbm, 968, rfl⟩
abbrev main_v446 : Ref sig .tc := ⟨.hbm, 969, rfl⟩
abbrev main_c_167 : Ref sig .tc := ⟨.hbm, 970, rfl⟩
abbrev main_v447 : Ref sig .tc := ⟨.hbm, 971, rfl⟩
abbrev main_v448 : Ref sig .tc := ⟨.hbm, 972, rfl⟩
abbrev main_v449 : Ref sig .tc := ⟨.hbm, 973, rfl⟩
abbrev main_c_168 : Ref sig .tc := ⟨.hbm, 974, rfl⟩
abbrev main_v450 : Ref sig .tc := ⟨.hbm, 975, rfl⟩
abbrev main_v451 : Ref sig .tc := ⟨.hbm, 976, rfl⟩
abbrev main_v452 : Ref sig .tc := ⟨.hbm, 977, rfl⟩
abbrev main_v453 : Ref sig .tc := ⟨.hbm, 978, rfl⟩
abbrev main_call39_c : Ref sig .tc := ⟨.hbm, 979, rfl⟩
abbrev main_call39_v0 : Ref sig .tc := ⟨.hbm, 980, rfl⟩
abbrev main_call39_v1 : Ref sig .tc := ⟨.hbm, 981, rfl⟩
abbrev main_call39_c_0 : Ref sig .tc := ⟨.hbm, 982, rfl⟩
abbrev main_call39_v2 : Ref sig .tc := ⟨.hbm, 983, rfl⟩
abbrev main_call39_v3 : Ref sig .tc := ⟨.hbm, 984, rfl⟩
abbrev main_call39_v4 : Ref sig .tc := ⟨.hbm, 985, rfl⟩
abbrev main_call39_v5 : Ref sig .tc := ⟨.hbm, 986, rfl⟩
abbrev main_call39_c_1 : Ref sig .tc := ⟨.hbm, 987, rfl⟩
abbrev main_call39_c_2 : Ref sig .tc := ⟨.hbm, 988, rfl⟩
abbrev main_call39_v6 : Ref sig .tc := ⟨.hbm, 989, rfl⟩
abbrev main_call39_v7 : Ref sig .tc := ⟨.hbm, 990, rfl⟩
abbrev main_call39_v8 : Ref sig .tc := ⟨.hbm, 991, rfl⟩
abbrev main_call39_v9 : Ref sig .tc := ⟨.hbm, 992, rfl⟩
abbrev main_call39_v10 : Ref sig .tc := ⟨.hbm, 993, rfl⟩
abbrev main_call39_v11 : Ref sig .tc := ⟨.hbm, 994, rfl⟩
abbrev main_call39_c_3 : Ref sig .tc := ⟨.hbm, 995, rfl⟩
abbrev main_call39_v12 : Ref sig .tc := ⟨.hbm, 996, rfl⟩
abbrev main_call39_v13 : Ref sig .tc := ⟨.hbm, 997, rfl⟩
abbrev main_call39_v14 : Ref sig .tc := ⟨.hbm, 998, rfl⟩
abbrev main_call39_cst : Ref sig .tc := ⟨.hbm, 999, rfl⟩
abbrev main_call39_v15 : Ref sig .tc := ⟨.hbm, 1000, rfl⟩
abbrev main_v454 : Ref sig .tc := ⟨.hbm, 1001, rfl⟩
abbrev main_v455 : Ref sig .tc := ⟨.hbm, 1002, rfl⟩
abbrev main_v456 : Ref sig .tc := ⟨.hbm, 1003, rfl⟩
abbrev main_v457 : Ref sig .tc := ⟨.hbm, 1004, rfl⟩
abbrev main_v458 : Ref sig .tc := ⟨.hbm, 1005, rfl⟩
abbrev main_v459 : Ref sig .tc := ⟨.hbm, 1006, rfl⟩
abbrev main_v460 : Ref sig .tc := ⟨.hbm, 1007, rfl⟩
abbrev main_v461 : Ref sig .tc := ⟨.hbm, 1008, rfl⟩
abbrev main_c_169 : Ref sig .tc := ⟨.hbm, 1009, rfl⟩
abbrev main_v462 : Ref sig .tc := ⟨.hbm, 1010, rfl⟩
abbrev main_v463 : Ref sig .tc := ⟨.hbm, 1011, rfl⟩
abbrev main_c_170 : Ref sig .tc := ⟨.hbm, 1012, rfl⟩
abbrev main_v464 : Ref sig .tc := ⟨.hbm, 1013, rfl⟩
abbrev main_v465 : Ref sig .tc := ⟨.hbm, 1014, rfl⟩
abbrev main_v466 : Ref sig .tc := ⟨.hbm, 1015, rfl⟩
abbrev main_c_171 : Ref sig .tc := ⟨.hbm, 1016, rfl⟩
abbrev main_v467 : Ref sig .tc := ⟨.hbm, 1017, rfl⟩
abbrev main_v468 : Ref sig .tc := ⟨.hbm, 1018, rfl⟩
abbrev main_v469 : Ref sig .tc := ⟨.hbm, 1019, rfl⟩
abbrev main_c_172 : Ref sig .tc := ⟨.hbm, 1020, rfl⟩
abbrev main_v470 : Ref sig .tc := ⟨.hbm, 1021, rfl⟩
abbrev main_v471 : Ref sig .tc := ⟨.hbm, 1022, rfl⟩
abbrev main_v472 : Ref sig .tc := ⟨.hbm, 1023, rfl⟩
abbrev main_c_173 : Ref sig .tc := ⟨.hbm, 1024, rfl⟩
abbrev main_v473 : Ref sig .tc := ⟨.hbm, 1025, rfl⟩
abbrev main_v474 : Ref sig .tc := ⟨.hbm, 1026, rfl⟩
abbrev main_v475 : Ref sig .tc := ⟨.hbm, 1027, rfl⟩
abbrev main_c_174 : Ref sig .tc := ⟨.hbm, 1028, rfl⟩
abbrev main_v476 : Ref sig .tc := ⟨.hbm, 1029, rfl⟩
abbrev main_v477 : Ref sig .tc := ⟨.hbm, 1030, rfl⟩
abbrev main_v478 : Ref sig .tc := ⟨.hbm, 1031, rfl⟩
abbrev main_v479 : Ref sig .tc := ⟨.hbm, 1032, rfl⟩
abbrev main_c_175 : Ref sig .tc := ⟨.hbm, 1033, rfl⟩
abbrev main_c_176 : Ref sig .tc := ⟨.hbm, 1034, rfl⟩
abbrev main_call40_v0 : Ref sig .tc := ⟨.hbm, 1035, rfl⟩
abbrev main_call40_v1 : Ref sig .tc := ⟨.hbm, 1036, rfl⟩
abbrev main_call40_v2 : Ref sig .tc := ⟨.hbm, 1037, rfl⟩
abbrev main_call40_v3 : Ref sig .tc := ⟨.hbm, 1038, rfl⟩
abbrev main_call40_v4 : Ref sig .tc := ⟨.hbm, 1039, rfl⟩
abbrev main_v480 : Ref sig .tc := ⟨.hbm, 1040, rfl⟩
abbrev main_c_177 : Ref sig .tc := ⟨.hbm, 1041, rfl⟩
abbrev main_c_178 : Ref sig .tc := ⟨.hbm, 1042, rfl⟩
abbrev main_call41_v0 : Ref sig .tc := ⟨.hbm, 1043, rfl⟩
abbrev main_call41_v1 : Ref sig .tc := ⟨.hbm, 1044, rfl⟩
abbrev main_call41_v2 : Ref sig .tc := ⟨.hbm, 1045, rfl⟩
abbrev main_call41_v3 : Ref sig .tc := ⟨.hbm, 1046, rfl⟩
abbrev main_call41_v4 : Ref sig .tc := ⟨.hbm, 1047, rfl⟩
abbrev main_v481 : Ref sig .tc := ⟨.hbm, 1048, rfl⟩
abbrev main_c_179 : Ref sig .tc := ⟨.hbm, 1049, rfl⟩
abbrev main_c_180 : Ref sig .tc := ⟨.hbm, 1050, rfl⟩
abbrev main_call42_v0 : Ref sig .tc := ⟨.hbm, 1051, rfl⟩
abbrev main_call42_v1 : Ref sig .tc := ⟨.hbm, 1052, rfl⟩
abbrev main_call42_v2 : Ref sig .tc := ⟨.hbm, 1053, rfl⟩
abbrev main_call42_v3 : Ref sig .tc := ⟨.hbm, 1054, rfl⟩
abbrev main_call42_v4 : Ref sig .tc := ⟨.hbm, 1055, rfl⟩
abbrev main_v482 : Ref sig .tc := ⟨.hbm, 1056, rfl⟩
abbrev main_c_181 : Ref sig .tc := ⟨.hbm, 1057, rfl⟩
abbrev main_v483 : Ref sig .tc := ⟨.hbm, 1058, rfl⟩
abbrev main_v484 : Ref sig .tc := ⟨.hbm, 1059, rfl⟩
abbrev main_v485 : Ref sig .tc := ⟨.hbm, 1060, rfl⟩
abbrev main_c_182 : Ref sig .tc := ⟨.hbm, 1061, rfl⟩
abbrev main_v486 : Ref sig .tc := ⟨.hbm, 1062, rfl⟩
abbrev main_v487 : Ref sig .tc := ⟨.hbm, 1063, rfl⟩
abbrev main_v488 : Ref sig .tc := ⟨.hbm, 1064, rfl⟩
abbrev main_v489 : Ref sig .tc := ⟨.hbm, 1065, rfl⟩
abbrev main_call43_c : Ref sig .tc := ⟨.hbm, 1066, rfl⟩
abbrev main_call43_v0 : Ref sig .tc := ⟨.hbm, 1067, rfl⟩
abbrev main_call43_v1 : Ref sig .tc := ⟨.hbm, 1068, rfl⟩
abbrev main_call43_c_0 : Ref sig .tc := ⟨.hbm, 1069, rfl⟩
abbrev main_call43_v2 : Ref sig .tc := ⟨.hbm, 1070, rfl⟩
abbrev main_call43_v3 : Ref sig .tc := ⟨.hbm, 1071, rfl⟩
abbrev main_call43_v4 : Ref sig .tc := ⟨.hbm, 1072, rfl⟩
abbrev main_call43_v5 : Ref sig .tc := ⟨.hbm, 1073, rfl⟩
abbrev main_call43_c_1 : Ref sig .tc := ⟨.hbm, 1074, rfl⟩
abbrev main_call43_c_2 : Ref sig .tc := ⟨.hbm, 1075, rfl⟩
abbrev main_call43_v6 : Ref sig .tc := ⟨.hbm, 1076, rfl⟩
abbrev main_call43_v7 : Ref sig .tc := ⟨.hbm, 1077, rfl⟩
abbrev main_call43_v8 : Ref sig .tc := ⟨.hbm, 1078, rfl⟩
abbrev main_call43_v9 : Ref sig .tc := ⟨.hbm, 1079, rfl⟩
abbrev main_call43_v10 : Ref sig .tc := ⟨.hbm, 1080, rfl⟩
abbrev main_call43_v11 : Ref sig .tc := ⟨.hbm, 1081, rfl⟩
abbrev main_call43_c_3 : Ref sig .tc := ⟨.hbm, 1082, rfl⟩
abbrev main_call43_v12 : Ref sig .tc := ⟨.hbm, 1083, rfl⟩
abbrev main_call43_v13 : Ref sig .tc := ⟨.hbm, 1084, rfl⟩
abbrev main_call43_v14 : Ref sig .tc := ⟨.hbm, 1085, rfl⟩
abbrev main_call43_cst : Ref sig .tc := ⟨.hbm, 1086, rfl⟩
abbrev main_call43_v15 : Ref sig .tc := ⟨.hbm, 1087, rfl⟩
abbrev main_v490 : Ref sig .tc := ⟨.hbm, 1088, rfl⟩
abbrev main_v491 : Ref sig .tc := ⟨.hbm, 1089, rfl⟩
abbrev main_v492 : Ref sig .tc := ⟨.hbm, 1090, rfl⟩
abbrev main_v493 : Ref sig .tc := ⟨.hbm, 1091, rfl⟩
abbrev main_v494 : Ref sig .tc := ⟨.hbm, 1092, rfl⟩
abbrev main_v495 : Ref sig .tc := ⟨.hbm, 1093, rfl⟩
abbrev main_v496 : Ref sig .tc := ⟨.hbm, 1094, rfl⟩
abbrev main_v497 : Ref sig .tc := ⟨.hbm, 1095, rfl⟩
abbrev main_c_183 : Ref sig .tc := ⟨.hbm, 1096, rfl⟩
abbrev main_v498 : Ref sig .tc := ⟨.hbm, 1097, rfl⟩
abbrev main_v499 : Ref sig .tc := ⟨.hbm, 1098, rfl⟩
abbrev main_c_184 : Ref sig .tc := ⟨.hbm, 1099, rfl⟩
abbrev main_v500 : Ref sig .tc := ⟨.hbm, 1100, rfl⟩
abbrev main_v501 : Ref sig .tc := ⟨.hbm, 1101, rfl⟩
abbrev main_v502 : Ref sig .tc := ⟨.hbm, 1102, rfl⟩
abbrev main_c_185 : Ref sig .tc := ⟨.hbm, 1103, rfl⟩
abbrev main_v503 : Ref sig .tc := ⟨.hbm, 1104, rfl⟩
abbrev main_v504 : Ref sig .tc := ⟨.hbm, 1105, rfl⟩
abbrev main_v505 : Ref sig .tc := ⟨.hbm, 1106, rfl⟩
abbrev main_c_186 : Ref sig .tc := ⟨.hbm, 1107, rfl⟩
abbrev main_v506 : Ref sig .tc := ⟨.hbm, 1108, rfl⟩
abbrev main_v507 : Ref sig .tc := ⟨.hbm, 1109, rfl⟩
abbrev main_v508 : Ref sig .tc := ⟨.hbm, 1110, rfl⟩
abbrev main_c_187 : Ref sig .tc := ⟨.hbm, 1111, rfl⟩
abbrev main_v509 : Ref sig .tc := ⟨.hbm, 1112, rfl⟩
abbrev main_v510 : Ref sig .tc := ⟨.hbm, 1113, rfl⟩
abbrev main_v511 : Ref sig .tc := ⟨.hbm, 1114, rfl⟩
abbrev main_c_188 : Ref sig .tc := ⟨.hbm, 1115, rfl⟩
abbrev main_v512 : Ref sig .tc := ⟨.hbm, 1116, rfl⟩
abbrev main_v513 : Ref sig .tc := ⟨.hbm, 1117, rfl⟩
abbrev main_v514 : Ref sig .tc := ⟨.hbm, 1118, rfl⟩
abbrev main_v515 : Ref sig .tc := ⟨.hbm, 1119, rfl⟩
abbrev main_c_189 : Ref sig .tc := ⟨.hbm, 1120, rfl⟩
abbrev main_c_190 : Ref sig .tc := ⟨.hbm, 1121, rfl⟩
abbrev main_call44_v0 : Ref sig .tc := ⟨.hbm, 1122, rfl⟩
abbrev main_call44_v1 : Ref sig .tc := ⟨.hbm, 1123, rfl⟩
abbrev main_call44_v2 : Ref sig .tc := ⟨.hbm, 1124, rfl⟩
abbrev main_call44_v3 : Ref sig .tc := ⟨.hbm, 1125, rfl⟩
abbrev main_call44_v4 : Ref sig .tc := ⟨.hbm, 1126, rfl⟩
abbrev main_v516 : Ref sig .tc := ⟨.hbm, 1127, rfl⟩
abbrev main_c_191 : Ref sig .tc := ⟨.hbm, 1128, rfl⟩
abbrev main_c_192 : Ref sig .tc := ⟨.hbm, 1129, rfl⟩
abbrev main_call45_v0 : Ref sig .tc := ⟨.hbm, 1130, rfl⟩
abbrev main_call45_v1 : Ref sig .tc := ⟨.hbm, 1131, rfl⟩
abbrev main_call45_v2 : Ref sig .tc := ⟨.hbm, 1132, rfl⟩
abbrev main_call45_v3 : Ref sig .tc := ⟨.hbm, 1133, rfl⟩
abbrev main_call45_v4 : Ref sig .tc := ⟨.hbm, 1134, rfl⟩
abbrev main_v517 : Ref sig .tc := ⟨.hbm, 1135, rfl⟩
abbrev main_c_193 : Ref sig .tc := ⟨.hbm, 1136, rfl⟩
abbrev main_c_194 : Ref sig .tc := ⟨.hbm, 1137, rfl⟩
abbrev main_call46_v0 : Ref sig .tc := ⟨.hbm, 1138, rfl⟩
abbrev main_call46_v1 : Ref sig .tc := ⟨.hbm, 1139, rfl⟩
abbrev main_call46_v2 : Ref sig .tc := ⟨.hbm, 1140, rfl⟩
abbrev main_call46_v3 : Ref sig .tc := ⟨.hbm, 1141, rfl⟩
abbrev main_call46_v4 : Ref sig .tc := ⟨.hbm, 1142, rfl⟩
abbrev main_v518 : Ref sig .tc := ⟨.hbm, 1143, rfl⟩
abbrev main_c_195 : Ref sig .tc := ⟨.hbm, 1144, rfl⟩
abbrev main_v519 : Ref sig .tc := ⟨.hbm, 1145, rfl⟩
abbrev main_v520 : Ref sig .tc := ⟨.hbm, 1146, rfl⟩
abbrev main_v521 : Ref sig .tc := ⟨.hbm, 1147, rfl⟩
abbrev main_c_196 : Ref sig .tc := ⟨.hbm, 1148, rfl⟩
abbrev main_v522 : Ref sig .tc := ⟨.hbm, 1149, rfl⟩
abbrev main_v523 : Ref sig .tc := ⟨.hbm, 1150, rfl⟩
abbrev main_v524 : Ref sig .tc := ⟨.hbm, 1151, rfl⟩
abbrev main_v525 : Ref sig .tc := ⟨.hbm, 1152, rfl⟩
abbrev main_call47_c : Ref sig .tc := ⟨.hbm, 1153, rfl⟩
abbrev main_call47_v0 : Ref sig .tc := ⟨.hbm, 1154, rfl⟩
abbrev main_call47_v1 : Ref sig .tc := ⟨.hbm, 1155, rfl⟩
abbrev main_call47_c_0 : Ref sig .tc := ⟨.hbm, 1156, rfl⟩
abbrev main_call47_v2 : Ref sig .tc := ⟨.hbm, 1157, rfl⟩
abbrev main_call47_v3 : Ref sig .tc := ⟨.hbm, 1158, rfl⟩
abbrev main_call47_v4 : Ref sig .tc := ⟨.hbm, 1159, rfl⟩
abbrev main_call47_v5 : Ref sig .tc := ⟨.hbm, 1160, rfl⟩
abbrev main_call47_c_1 : Ref sig .tc := ⟨.hbm, 1161, rfl⟩
abbrev main_call47_c_2 : Ref sig .tc := ⟨.hbm, 1162, rfl⟩
abbrev main_call47_v6 : Ref sig .tc := ⟨.hbm, 1163, rfl⟩
abbrev main_call47_v7 : Ref sig .tc := ⟨.hbm, 1164, rfl⟩
abbrev main_call47_v8 : Ref sig .tc := ⟨.hbm, 1165, rfl⟩
abbrev main_call47_v9 : Ref sig .tc := ⟨.hbm, 1166, rfl⟩
abbrev main_call47_v10 : Ref sig .tc := ⟨.hbm, 1167, rfl⟩
abbrev main_call47_v11 : Ref sig .tc := ⟨.hbm, 1168, rfl⟩
abbrev main_call47_c_3 : Ref sig .tc := ⟨.hbm, 1169, rfl⟩
abbrev main_call47_v12 : Ref sig .tc := ⟨.hbm, 1170, rfl⟩
abbrev main_call47_v13 : Ref sig .tc := ⟨.hbm, 1171, rfl⟩
abbrev main_call47_v14 : Ref sig .tc := ⟨.hbm, 1172, rfl⟩
abbrev main_call47_cst : Ref sig .tc := ⟨.hbm, 1173, rfl⟩
abbrev main_call47_v15 : Ref sig .tc := ⟨.hbm, 1174, rfl⟩
abbrev main_v526 : Ref sig .tc := ⟨.hbm, 1175, rfl⟩
abbrev main_v527 : Ref sig .tc := ⟨.hbm, 1176, rfl⟩
abbrev main_v528 : Ref sig .tc := ⟨.hbm, 1177, rfl⟩
abbrev main_v529 : Ref sig .tc := ⟨.hbm, 1178, rfl⟩
abbrev main_v530 : Ref sig .tc := ⟨.hbm, 1179, rfl⟩
abbrev main_v531 : Ref sig .tc := ⟨.hbm, 1180, rfl⟩
abbrev main_v532 : Ref sig .tc := ⟨.hbm, 1181, rfl⟩
abbrev main_v533 : Ref sig .tc := ⟨.hbm, 1182, rfl⟩
abbrev main_c_197 : Ref sig .tc := ⟨.hbm, 1183, rfl⟩
abbrev main_v534 : Ref sig .tc := ⟨.hbm, 1184, rfl⟩
abbrev main_v535 : Ref sig .tc := ⟨.hbm, 1185, rfl⟩
abbrev main_c_198 : Ref sig .tc := ⟨.hbm, 1186, rfl⟩
abbrev main_v536 : Ref sig .tc := ⟨.hbm, 1187, rfl⟩
abbrev main_v537 : Ref sig .tc := ⟨.hbm, 1188, rfl⟩
abbrev main_v538 : Ref sig .tc := ⟨.hbm, 1189, rfl⟩
abbrev main_c_199 : Ref sig .tc := ⟨.hbm, 1190, rfl⟩
abbrev main_v539 : Ref sig .tc := ⟨.hbm, 1191, rfl⟩
abbrev main_v540 : Ref sig .tc := ⟨.hbm, 1192, rfl⟩
abbrev main_v541 : Ref sig .tc := ⟨.hbm, 1193, rfl⟩
abbrev main_c_200 : Ref sig .tc := ⟨.hbm, 1194, rfl⟩
abbrev main_v542 : Ref sig .tc := ⟨.hbm, 1195, rfl⟩
abbrev main_v543 : Ref sig .tc := ⟨.hbm, 1196, rfl⟩
abbrev main_v544 : Ref sig .tc := ⟨.hbm, 1197, rfl⟩
abbrev main_c_201 : Ref sig .tc := ⟨.hbm, 1198, rfl⟩
abbrev main_v545 : Ref sig .tc := ⟨.hbm, 1199, rfl⟩
abbrev main_v546 : Ref sig .tc := ⟨.hbm, 1200, rfl⟩
abbrev main_v547 : Ref sig .tc := ⟨.hbm, 1201, rfl⟩
abbrev main_c_202 : Ref sig .tc := ⟨.hbm, 1202, rfl⟩
abbrev main_v548 : Ref sig .tc := ⟨.hbm, 1203, rfl⟩
abbrev main_v549 : Ref sig .tc := ⟨.hbm, 1204, rfl⟩
abbrev main_v550 : Ref sig .tc := ⟨.hbm, 1205, rfl⟩
abbrev main_v551 : Ref sig .tc := ⟨.hbm, 1206, rfl⟩
abbrev main_c_203 : Ref sig .tc := ⟨.hbm, 1207, rfl⟩
abbrev main_c_204 : Ref sig .tc := ⟨.hbm, 1208, rfl⟩
abbrev main_call48_v0 : Ref sig .tc := ⟨.hbm, 1209, rfl⟩
abbrev main_call48_v1 : Ref sig .tc := ⟨.hbm, 1210, rfl⟩
abbrev main_call48_v2 : Ref sig .tc := ⟨.hbm, 1211, rfl⟩
abbrev main_call48_v3 : Ref sig .tc := ⟨.hbm, 1212, rfl⟩
abbrev main_call48_v4 : Ref sig .tc := ⟨.hbm, 1213, rfl⟩
abbrev main_v552 : Ref sig .tc := ⟨.hbm, 1214, rfl⟩
abbrev main_c_205 : Ref sig .tc := ⟨.hbm, 1215, rfl⟩
abbrev main_c_206 : Ref sig .tc := ⟨.hbm, 1216, rfl⟩
abbrev main_call49_v0 : Ref sig .tc := ⟨.hbm, 1217, rfl⟩
abbrev main_call49_v1 : Ref sig .tc := ⟨.hbm, 1218, rfl⟩
abbrev main_call49_v2 : Ref sig .tc := ⟨.hbm, 1219, rfl⟩
abbrev main_call49_v3 : Ref sig .tc := ⟨.hbm, 1220, rfl⟩
abbrev main_call49_v4 : Ref sig .tc := ⟨.hbm, 1221, rfl⟩
abbrev main_v553 : Ref sig .tc := ⟨.hbm, 1222, rfl⟩
abbrev main_c_207 : Ref sig .tc := ⟨.hbm, 1223, rfl⟩
abbrev main_c_208 : Ref sig .tc := ⟨.hbm, 1224, rfl⟩
abbrev main_call50_v0 : Ref sig .tc := ⟨.hbm, 1225, rfl⟩
abbrev main_call50_v1 : Ref sig .tc := ⟨.hbm, 1226, rfl⟩
abbrev main_call50_v2 : Ref sig .tc := ⟨.hbm, 1227, rfl⟩
abbrev main_call50_v3 : Ref sig .tc := ⟨.hbm, 1228, rfl⟩
abbrev main_call50_v4 : Ref sig .tc := ⟨.hbm, 1229, rfl⟩
abbrev main_v554 : Ref sig .tc := ⟨.hbm, 1230, rfl⟩
abbrev main_c_209 : Ref sig .tc := ⟨.hbm, 1231, rfl⟩
abbrev main_v555 : Ref sig .tc := ⟨.hbm, 1232, rfl⟩
abbrev main_v556 : Ref sig .tc := ⟨.hbm, 1233, rfl⟩
abbrev main_v557 : Ref sig .tc := ⟨.hbm, 1234, rfl⟩
abbrev main_c_210 : Ref sig .tc := ⟨.hbm, 1235, rfl⟩
abbrev main_v558 : Ref sig .tc := ⟨.hbm, 1236, rfl⟩
abbrev main_v559 : Ref sig .tc := ⟨.hbm, 1237, rfl⟩
abbrev main_v560 : Ref sig .tc := ⟨.hbm, 1238, rfl⟩
abbrev main_v561 : Ref sig .tc := ⟨.hbm, 1239, rfl⟩
abbrev main_call51_c : Ref sig .tc := ⟨.hbm, 1240, rfl⟩
abbrev main_call51_v0 : Ref sig .tc := ⟨.hbm, 1241, rfl⟩
abbrev main_call51_v1 : Ref sig .tc := ⟨.hbm, 1242, rfl⟩
abbrev main_call51_c_0 : Ref sig .tc := ⟨.hbm, 1243, rfl⟩
abbrev main_call51_v2 : Ref sig .tc := ⟨.hbm, 1244, rfl⟩
abbrev main_call51_v3 : Ref sig .tc := ⟨.hbm, 1245, rfl⟩
abbrev main_call51_v4 : Ref sig .tc := ⟨.hbm, 1246, rfl⟩
abbrev main_call51_v5 : Ref sig .tc := ⟨.hbm, 1247, rfl⟩
abbrev main_call51_c_1 : Ref sig .tc := ⟨.hbm, 1248, rfl⟩
abbrev main_call51_c_2 : Ref sig .tc := ⟨.hbm, 1249, rfl⟩
abbrev main_call51_v6 : Ref sig .tc := ⟨.hbm, 1250, rfl⟩
abbrev main_call51_v7 : Ref sig .tc := ⟨.hbm, 1251, rfl⟩
abbrev main_call51_v8 : Ref sig .tc := ⟨.hbm, 1252, rfl⟩
abbrev main_call51_v9 : Ref sig .tc := ⟨.hbm, 1253, rfl⟩
abbrev main_call51_v10 : Ref sig .tc := ⟨.hbm, 1254, rfl⟩
abbrev main_call51_v11 : Ref sig .tc := ⟨.hbm, 1255, rfl⟩
abbrev main_call51_c_3 : Ref sig .tc := ⟨.hbm, 1256, rfl⟩
abbrev main_call51_v12 : Ref sig .tc := ⟨.hbm, 1257, rfl⟩
abbrev main_call51_v13 : Ref sig .tc := ⟨.hbm, 1258, rfl⟩
abbrev main_call51_v14 : Ref sig .tc := ⟨.hbm, 1259, rfl⟩
abbrev main_call51_cst : Ref sig .tc := ⟨.hbm, 1260, rfl⟩
abbrev main_call51_v15 : Ref sig .tc := ⟨.hbm, 1261, rfl⟩
abbrev main_v562 : Ref sig .tc := ⟨.hbm, 1262, rfl⟩
abbrev main_v563 : Ref sig .tc := ⟨.hbm, 1263, rfl⟩
abbrev main_v564 : Ref sig .tc := ⟨.hbm, 1264, rfl⟩
abbrev main_v565 : Ref sig .tc := ⟨.hbm, 1265, rfl⟩
abbrev main_v566 : Ref sig .tc := ⟨.hbm, 1266, rfl⟩
abbrev main_v567 : Ref sig .tc := ⟨.hbm, 1267, rfl⟩
abbrev main_v568 : Ref sig .tc := ⟨.hbm, 1268, rfl⟩
abbrev main_v569 : Ref sig .tc := ⟨.hbm, 1269, rfl⟩
abbrev main_c_211 : Ref sig .tc := ⟨.hbm, 1270, rfl⟩
abbrev main_v570 : Ref sig .tc := ⟨.hbm, 1271, rfl⟩
abbrev main_v571 : Ref sig .tc := ⟨.hbm, 1272, rfl⟩
abbrev main_c_212 : Ref sig .tc := ⟨.hbm, 1273, rfl⟩
abbrev main_v572 : Ref sig .tc := ⟨.hbm, 1274, rfl⟩
abbrev main_v573 : Ref sig .tc := ⟨.hbm, 1275, rfl⟩
abbrev main_v574 : Ref sig .tc := ⟨.hbm, 1276, rfl⟩
abbrev main_c_213 : Ref sig .tc := ⟨.hbm, 1277, rfl⟩
abbrev main_v575 : Ref sig .tc := ⟨.hbm, 1278, rfl⟩
abbrev main_v576 : Ref sig .tc := ⟨.hbm, 1279, rfl⟩
abbrev main_v577 : Ref sig .tc := ⟨.hbm, 1280, rfl⟩
abbrev main_c_214 : Ref sig .tc := ⟨.hbm, 1281, rfl⟩
abbrev main_v578 : Ref sig .tc := ⟨.hbm, 1282, rfl⟩
abbrev main_v579 : Ref sig .tc := ⟨.hbm, 1283, rfl⟩
abbrev main_v580 : Ref sig .tc := ⟨.hbm, 1284, rfl⟩
abbrev main_c_215 : Ref sig .tc := ⟨.hbm, 1285, rfl⟩
abbrev main_v581 : Ref sig .tc := ⟨.hbm, 1286, rfl⟩
abbrev main_v582 : Ref sig .tc := ⟨.hbm, 1287, rfl⟩
abbrev main_v583 : Ref sig .tc := ⟨.hbm, 1288, rfl⟩
abbrev main_c_216 : Ref sig .tc := ⟨.hbm, 1289, rfl⟩
abbrev main_v584 : Ref sig .tc := ⟨.hbm, 1290, rfl⟩
abbrev main_v585 : Ref sig .tc := ⟨.hbm, 1291, rfl⟩
abbrev main_v586 : Ref sig .tc := ⟨.hbm, 1292, rfl⟩
abbrev main_v587 : Ref sig .tc := ⟨.hbm, 1293, rfl⟩
abbrev main_c_217 : Ref sig .tc := ⟨.hbm, 1294, rfl⟩
abbrev main_c_218 : Ref sig .tc := ⟨.hbm, 1295, rfl⟩
abbrev main_call52_v0 : Ref sig .tc := ⟨.hbm, 1296, rfl⟩
abbrev main_call52_v1 : Ref sig .tc := ⟨.hbm, 1297, rfl⟩
abbrev main_call52_v2 : Ref sig .tc := ⟨.hbm, 1298, rfl⟩
abbrev main_call52_v3 : Ref sig .tc := ⟨.hbm, 1299, rfl⟩
abbrev main_call52_v4 : Ref sig .tc := ⟨.hbm, 1300, rfl⟩
abbrev main_v588 : Ref sig .tc := ⟨.hbm, 1301, rfl⟩
abbrev main_c_219 : Ref sig .tc := ⟨.hbm, 1302, rfl⟩
abbrev main_c_220 : Ref sig .tc := ⟨.hbm, 1303, rfl⟩
abbrev main_call53_v0 : Ref sig .tc := ⟨.hbm, 1304, rfl⟩
abbrev main_call53_v1 : Ref sig .tc := ⟨.hbm, 1305, rfl⟩
abbrev main_call53_v2 : Ref sig .tc := ⟨.hbm, 1306, rfl⟩
abbrev main_call53_v3 : Ref sig .tc := ⟨.hbm, 1307, rfl⟩
abbrev main_call53_v4 : Ref sig .tc := ⟨.hbm, 1308, rfl⟩
abbrev main_v589 : Ref sig .tc := ⟨.hbm, 1309, rfl⟩
abbrev main_c_221 : Ref sig .tc := ⟨.hbm, 1310, rfl⟩
abbrev main_c_222 : Ref sig .tc := ⟨.hbm, 1311, rfl⟩
abbrev main_call54_v0 : Ref sig .tc := ⟨.hbm, 1312, rfl⟩
abbrev main_call54_v1 : Ref sig .tc := ⟨.hbm, 1313, rfl⟩
abbrev main_call54_v2 : Ref sig .tc := ⟨.hbm, 1314, rfl⟩
abbrev main_call54_v3 : Ref sig .tc := ⟨.hbm, 1315, rfl⟩
abbrev main_call54_v4 : Ref sig .tc := ⟨.hbm, 1316, rfl⟩
abbrev main_v590 : Ref sig .tc := ⟨.hbm, 1317, rfl⟩
abbrev main_c_223 : Ref sig .tc := ⟨.hbm, 1318, rfl⟩
abbrev main_v591 : Ref sig .tc := ⟨.hbm, 1319, rfl⟩
abbrev main_v592 : Ref sig .tc := ⟨.hbm, 1320, rfl⟩
abbrev main_v593 : Ref sig .tc := ⟨.hbm, 1321, rfl⟩
abbrev main_c_224 : Ref sig .tc := ⟨.hbm, 1322, rfl⟩
abbrev main_v594 : Ref sig .tc := ⟨.hbm, 1323, rfl⟩
abbrev main_v595 : Ref sig .tc := ⟨.hbm, 1324, rfl⟩
abbrev main_v596 : Ref sig .tc := ⟨.hbm, 1325, rfl⟩
abbrev main_v597 : Ref sig .tc := ⟨.hbm, 1326, rfl⟩
abbrev main_call55_c : Ref sig .tc := ⟨.hbm, 1327, rfl⟩
abbrev main_call55_v0 : Ref sig .tc := ⟨.hbm, 1328, rfl⟩
abbrev main_call55_v1 : Ref sig .tc := ⟨.hbm, 1329, rfl⟩
abbrev main_call55_c_0 : Ref sig .tc := ⟨.hbm, 1330, rfl⟩
abbrev main_call55_v2 : Ref sig .tc := ⟨.hbm, 1331, rfl⟩
abbrev main_call55_v3 : Ref sig .tc := ⟨.hbm, 1332, rfl⟩
abbrev main_call55_v4 : Ref sig .tc := ⟨.hbm, 1333, rfl⟩
abbrev main_call55_v5 : Ref sig .tc := ⟨.hbm, 1334, rfl⟩
abbrev main_call55_c_1 : Ref sig .tc := ⟨.hbm, 1335, rfl⟩
abbrev main_call55_c_2 : Ref sig .tc := ⟨.hbm, 1336, rfl⟩
abbrev main_call55_v6 : Ref sig .tc := ⟨.hbm, 1337, rfl⟩
abbrev main_call55_v7 : Ref sig .tc := ⟨.hbm, 1338, rfl⟩
abbrev main_call55_v8 : Ref sig .tc := ⟨.hbm, 1339, rfl⟩
abbrev main_call55_v9 : Ref sig .tc := ⟨.hbm, 1340, rfl⟩
abbrev main_call55_v10 : Ref sig .tc := ⟨.hbm, 1341, rfl⟩
abbrev main_call55_v11 : Ref sig .tc := ⟨.hbm, 1342, rfl⟩
abbrev main_call55_c_3 : Ref sig .tc := ⟨.hbm, 1343, rfl⟩
abbrev main_call55_v12 : Ref sig .tc := ⟨.hbm, 1344, rfl⟩
abbrev main_call55_v13 : Ref sig .tc := ⟨.hbm, 1345, rfl⟩
abbrev main_call55_v14 : Ref sig .tc := ⟨.hbm, 1346, rfl⟩
abbrev main_call55_cst : Ref sig .tc := ⟨.hbm, 1347, rfl⟩
abbrev main_call55_v15 : Ref sig .tc := ⟨.hbm, 1348, rfl⟩
abbrev main_v598 : Ref sig .tc := ⟨.hbm, 1349, rfl⟩
abbrev main_v599 : Ref sig .tc := ⟨.hbm, 1350, rfl⟩
abbrev main_v600 : Ref sig .tc := ⟨.hbm, 1351, rfl⟩
abbrev main_v601 : Ref sig .tc := ⟨.hbm, 1352, rfl⟩
abbrev main_v602 : Ref sig .tc := ⟨.hbm, 1353, rfl⟩
abbrev main_v603 : Ref sig .tc := ⟨.hbm, 1354, rfl⟩
abbrev main_v604 : Ref sig .tc := ⟨.hbm, 1355, rfl⟩
abbrev main_v605 : Ref sig .tc := ⟨.hbm, 1356, rfl⟩
abbrev main_c_225 : Ref sig .tc := ⟨.hbm, 1357, rfl⟩
abbrev main_v606 : Ref sig .tc := ⟨.hbm, 1358, rfl⟩
abbrev main_v607 : Ref sig .tc := ⟨.hbm, 1359, rfl⟩
abbrev main_c_226 : Ref sig .tc := ⟨.hbm, 1360, rfl⟩
abbrev main_v608 : Ref sig .tc := ⟨.hbm, 1361, rfl⟩
abbrev main_v609 : Ref sig .tc := ⟨.hbm, 1362, rfl⟩
abbrev main_v610 : Ref sig .tc := ⟨.hbm, 1363, rfl⟩
abbrev main_c_227 : Ref sig .tc := ⟨.hbm, 1364, rfl⟩
abbrev main_v611 : Ref sig .tc := ⟨.hbm, 1365, rfl⟩
abbrev main_v612 : Ref sig .tc := ⟨.hbm, 1366, rfl⟩
abbrev main_v613 : Ref sig .tc := ⟨.hbm, 1367, rfl⟩
abbrev main_c_228 : Ref sig .tc := ⟨.hbm, 1368, rfl⟩
abbrev main_v614 : Ref sig .tc := ⟨.hbm, 1369, rfl⟩
abbrev main_v615 : Ref sig .tc := ⟨.hbm, 1370, rfl⟩
abbrev main_v616 : Ref sig .tc := ⟨.hbm, 1371, rfl⟩
abbrev main_c_229 : Ref sig .tc := ⟨.hbm, 1372, rfl⟩
abbrev main_v617 : Ref sig .tc := ⟨.hbm, 1373, rfl⟩
abbrev main_v618 : Ref sig .tc := ⟨.hbm, 1374, rfl⟩
abbrev main_v619 : Ref sig .tc := ⟨.hbm, 1375, rfl⟩
abbrev main_c_230 : Ref sig .tc := ⟨.hbm, 1376, rfl⟩
abbrev main_v620 : Ref sig .tc := ⟨.hbm, 1377, rfl⟩
abbrev main_v621 : Ref sig .tc := ⟨.hbm, 1378, rfl⟩
abbrev main_v622 : Ref sig .tc := ⟨.hbm, 1379, rfl⟩
abbrev main_v623 : Ref sig .tc := ⟨.hbm, 1380, rfl⟩
abbrev main_c_231 : Ref sig .tc := ⟨.hbm, 1381, rfl⟩
abbrev main_c_232 : Ref sig .tc := ⟨.hbm, 1382, rfl⟩
abbrev main_call56_v0 : Ref sig .tc := ⟨.hbm, 1383, rfl⟩
abbrev main_call56_v1 : Ref sig .tc := ⟨.hbm, 1384, rfl⟩
abbrev main_call56_v2 : Ref sig .tc := ⟨.hbm, 1385, rfl⟩
abbrev main_call56_v3 : Ref sig .tc := ⟨.hbm, 1386, rfl⟩
abbrev main_call56_v4 : Ref sig .tc := ⟨.hbm, 1387, rfl⟩
abbrev main_v624 : Ref sig .tc := ⟨.hbm, 1388, rfl⟩
abbrev main_c_233 : Ref sig .tc := ⟨.hbm, 1389, rfl⟩
abbrev main_c_234 : Ref sig .tc := ⟨.hbm, 1390, rfl⟩
abbrev main_call57_v0 : Ref sig .tc := ⟨.hbm, 1391, rfl⟩
abbrev main_call57_v1 : Ref sig .tc := ⟨.hbm, 1392, rfl⟩
abbrev main_call57_v2 : Ref sig .tc := ⟨.hbm, 1393, rfl⟩
abbrev main_call57_v3 : Ref sig .tc := ⟨.hbm, 1394, rfl⟩
abbrev main_call57_v4 : Ref sig .tc := ⟨.hbm, 1395, rfl⟩
abbrev main_v625 : Ref sig .tc := ⟨.hbm, 1396, rfl⟩
abbrev main_c_235 : Ref sig .tc := ⟨.hbm, 1397, rfl⟩
abbrev main_c_236 : Ref sig .tc := ⟨.hbm, 1398, rfl⟩
abbrev main_call58_v0 : Ref sig .tc := ⟨.hbm, 1399, rfl⟩
abbrev main_call58_v1 : Ref sig .tc := ⟨.hbm, 1400, rfl⟩
abbrev main_call58_v2 : Ref sig .tc := ⟨.hbm, 1401, rfl⟩
abbrev main_call58_v3 : Ref sig .tc := ⟨.hbm, 1402, rfl⟩
abbrev main_call58_v4 : Ref sig .tc := ⟨.hbm, 1403, rfl⟩
abbrev main_v626 : Ref sig .tc := ⟨.hbm, 1404, rfl⟩
abbrev main_c_237 : Ref sig .tc := ⟨.hbm, 1405, rfl⟩
abbrev main_v627 : Ref sig .tc := ⟨.hbm, 1406, rfl⟩
abbrev main_v628 : Ref sig .tc := ⟨.hbm, 1407, rfl⟩
abbrev main_v629 : Ref sig .tc := ⟨.hbm, 1408, rfl⟩
abbrev main_c_238 : Ref sig .tc := ⟨.hbm, 1409, rfl⟩
abbrev main_v630 : Ref sig .tc := ⟨.hbm, 1410, rfl⟩
abbrev main_v631 : Ref sig .tc := ⟨.hbm, 1411, rfl⟩
abbrev main_v632 : Ref sig .tc := ⟨.hbm, 1412, rfl⟩
abbrev main_v633 : Ref sig .tc := ⟨.hbm, 1413, rfl⟩
abbrev main_call59_c : Ref sig .tc := ⟨.hbm, 1414, rfl⟩
abbrev main_call59_v0 : Ref sig .tc := ⟨.hbm, 1415, rfl⟩
abbrev main_call59_v1 : Ref sig .tc := ⟨.hbm, 1416, rfl⟩
abbrev main_call59_c_0 : Ref sig .tc := ⟨.hbm, 1417, rfl⟩
abbrev main_call59_v2 : Ref sig .tc := ⟨.hbm, 1418, rfl⟩
abbrev main_call59_v3 : Ref sig .tc := ⟨.hbm, 1419, rfl⟩
abbrev main_call59_v4 : Ref sig .tc := ⟨.hbm, 1420, rfl⟩
abbrev main_call59_v5 : Ref sig .tc := ⟨.hbm, 1421, rfl⟩
abbrev main_call59_c_1 : Ref sig .tc := ⟨.hbm, 1422, rfl⟩
abbrev main_call59_c_2 : Ref sig .tc := ⟨.hbm, 1423, rfl⟩
abbrev main_call59_v6 : Ref sig .tc := ⟨.hbm, 1424, rfl⟩
abbrev main_call59_v7 : Ref sig .tc := ⟨.hbm, 1425, rfl⟩
abbrev main_call59_v8 : Ref sig .tc := ⟨.hbm, 1426, rfl⟩
abbrev main_call59_v9 : Ref sig .tc := ⟨.hbm, 1427, rfl⟩
abbrev main_call59_v10 : Ref sig .tc := ⟨.hbm, 1428, rfl⟩
abbrev main_call59_v11 : Ref sig .tc := ⟨.hbm, 1429, rfl⟩
abbrev main_call59_c_3 : Ref sig .tc := ⟨.hbm, 1430, rfl⟩
abbrev main_call59_v12 : Ref sig .tc := ⟨.hbm, 1431, rfl⟩
abbrev main_call59_v13 : Ref sig .tc := ⟨.hbm, 1432, rfl⟩
abbrev main_call59_v14 : Ref sig .tc := ⟨.hbm, 1433, rfl⟩
abbrev main_call59_cst : Ref sig .tc := ⟨.hbm, 1434, rfl⟩
abbrev main_call59_v15 : Ref sig .tc := ⟨.hbm, 1435, rfl⟩
abbrev main_v634 : Ref sig .tc := ⟨.hbm, 1436, rfl⟩
abbrev main_v635 : Ref sig .tc := ⟨.hbm, 1437, rfl⟩
abbrev main_v636 : Ref sig .tc := ⟨.hbm, 1438, rfl⟩
abbrev main_v637 : Ref sig .tc := ⟨.hbm, 1439, rfl⟩
abbrev main_v638 : Ref sig .tc := ⟨.hbm, 1440, rfl⟩
abbrev main_v639 : Ref sig .tc := ⟨.hbm, 1441, rfl⟩
abbrev main_v640 : Ref sig .tc := ⟨.hbm, 1442, rfl⟩
abbrev main_v641 : Ref sig .tc := ⟨.hbm, 1443, rfl⟩
abbrev main_c_239 : Ref sig .tc := ⟨.hbm, 1444, rfl⟩
abbrev main_v642 : Ref sig .tc := ⟨.hbm, 1445, rfl⟩
abbrev main_v643 : Ref sig .tc := ⟨.hbm, 1446, rfl⟩
abbrev main_c_240 : Ref sig .tc := ⟨.hbm, 1447, rfl⟩
abbrev main_v644 : Ref sig .tc := ⟨.hbm, 1448, rfl⟩
abbrev main_v645 : Ref sig .tc := ⟨.hbm, 1449, rfl⟩
abbrev main_v646 : Ref sig .tc := ⟨.hbm, 1450, rfl⟩
abbrev main_c_241 : Ref sig .tc := ⟨.hbm, 1451, rfl⟩
abbrev main_v647 : Ref sig .tc := ⟨.hbm, 1452, rfl⟩
abbrev main_v648 : Ref sig .tc := ⟨.hbm, 1453, rfl⟩
abbrev main_v649 : Ref sig .tc := ⟨.hbm, 1454, rfl⟩
abbrev main_c_242 : Ref sig .tc := ⟨.hbm, 1455, rfl⟩
abbrev main_v650 : Ref sig .tc := ⟨.hbm, 1456, rfl⟩
abbrev main_v651 : Ref sig .tc := ⟨.hbm, 1457, rfl⟩
abbrev main_v652 : Ref sig .tc := ⟨.hbm, 1458, rfl⟩
abbrev main_c_243 : Ref sig .tc := ⟨.hbm, 1459, rfl⟩
abbrev main_v653 : Ref sig .tc := ⟨.hbm, 1460, rfl⟩
abbrev main_v654 : Ref sig .tc := ⟨.hbm, 1461, rfl⟩
abbrev main_v655 : Ref sig .tc := ⟨.hbm, 1462, rfl⟩
abbrev main_c_244 : Ref sig .tc := ⟨.hbm, 1463, rfl⟩
abbrev main_v656 : Ref sig .tc := ⟨.hbm, 1464, rfl⟩
abbrev main_v657 : Ref sig .tc := ⟨.hbm, 1465, rfl⟩
abbrev main_v658 : Ref sig .tc := ⟨.hbm, 1466, rfl⟩
abbrev main_v659 : Ref sig .tc := ⟨.hbm, 1467, rfl⟩
abbrev main_c_245 : Ref sig .tc := ⟨.hbm, 1468, rfl⟩
abbrev main_c_246 : Ref sig .tc := ⟨.hbm, 1469, rfl⟩
abbrev main_call60_v0 : Ref sig .tc := ⟨.hbm, 1470, rfl⟩
abbrev main_call60_v1 : Ref sig .tc := ⟨.hbm, 1471, rfl⟩
abbrev main_call60_v2 : Ref sig .tc := ⟨.hbm, 1472, rfl⟩
abbrev main_call60_v3 : Ref sig .tc := ⟨.hbm, 1473, rfl⟩
abbrev main_call60_v4 : Ref sig .tc := ⟨.hbm, 1474, rfl⟩
abbrev main_v660 : Ref sig .tc := ⟨.hbm, 1475, rfl⟩
abbrev main_c_247 : Ref sig .tc := ⟨.hbm, 1476, rfl⟩
abbrev main_c_248 : Ref sig .tc := ⟨.hbm, 1477, rfl⟩
abbrev main_call61_v0 : Ref sig .tc := ⟨.hbm, 1478, rfl⟩
abbrev main_call61_v1 : Ref sig .tc := ⟨.hbm, 1479, rfl⟩
abbrev main_call61_v2 : Ref sig .tc := ⟨.hbm, 1480, rfl⟩
abbrev main_call61_v3 : Ref sig .tc := ⟨.hbm, 1481, rfl⟩
abbrev main_call61_v4 : Ref sig .tc := ⟨.hbm, 1482, rfl⟩
abbrev main_v661 : Ref sig .tc := ⟨.hbm, 1483, rfl⟩
abbrev main_c_249 : Ref sig .tc := ⟨.hbm, 1484, rfl⟩
abbrev main_c_250 : Ref sig .tc := ⟨.hbm, 1485, rfl⟩
abbrev main_call62_v0 : Ref sig .tc := ⟨.hbm, 1486, rfl⟩
abbrev main_call62_v1 : Ref sig .tc := ⟨.hbm, 1487, rfl⟩
abbrev main_call62_v2 : Ref sig .tc := ⟨.hbm, 1488, rfl⟩
abbrev main_call62_v3 : Ref sig .tc := ⟨.hbm, 1489, rfl⟩
abbrev main_call62_v4 : Ref sig .tc := ⟨.hbm, 1490, rfl⟩
abbrev main_v662 : Ref sig .tc := ⟨.hbm, 1491, rfl⟩
abbrev main_c_251 : Ref sig .tc := ⟨.hbm, 1492, rfl⟩
abbrev main_v663 : Ref sig .tc := ⟨.hbm, 1493, rfl⟩
abbrev main_v664 : Ref sig .tc := ⟨.hbm, 1494, rfl⟩
abbrev main_v665 : Ref sig .tc := ⟨.hbm, 1495, rfl⟩
abbrev main_c_252 : Ref sig .tc := ⟨.hbm, 1496, rfl⟩
abbrev main_v666 : Ref sig .tc := ⟨.hbm, 1497, rfl⟩
abbrev main_v667 : Ref sig .tc := ⟨.hbm, 1498, rfl⟩
abbrev main_v668 : Ref sig .tc := ⟨.hbm, 1499, rfl⟩
abbrev main_v669 : Ref sig .tc := ⟨.hbm, 1500, rfl⟩
abbrev main_call63_c : Ref sig .tc := ⟨.hbm, 1501, rfl⟩
abbrev main_call63_v0 : Ref sig .tc := ⟨.hbm, 1502, rfl⟩
abbrev main_call63_v1 : Ref sig .tc := ⟨.hbm, 1503, rfl⟩
abbrev main_call63_c_0 : Ref sig .tc := ⟨.hbm, 1504, rfl⟩
abbrev main_call63_v2 : Ref sig .tc := ⟨.hbm, 1505, rfl⟩
abbrev main_call63_v3 : Ref sig .tc := ⟨.hbm, 1506, rfl⟩
abbrev main_call63_v4 : Ref sig .tc := ⟨.hbm, 1507, rfl⟩
abbrev main_call63_v5 : Ref sig .tc := ⟨.hbm, 1508, rfl⟩
abbrev main_call63_c_1 : Ref sig .tc := ⟨.hbm, 1509, rfl⟩
abbrev main_call63_c_2 : Ref sig .tc := ⟨.hbm, 1510, rfl⟩
abbrev main_call63_v6 : Ref sig .tc := ⟨.hbm, 1511, rfl⟩
abbrev main_call63_v7 : Ref sig .tc := ⟨.hbm, 1512, rfl⟩
abbrev main_call63_v8 : Ref sig .tc := ⟨.hbm, 1513, rfl⟩
abbrev main_call63_v9 : Ref sig .tc := ⟨.hbm, 1514, rfl⟩
abbrev main_call63_v10 : Ref sig .tc := ⟨.hbm, 1515, rfl⟩
abbrev main_call63_v11 : Ref sig .tc := ⟨.hbm, 1516, rfl⟩
abbrev main_call63_c_3 : Ref sig .tc := ⟨.hbm, 1517, rfl⟩
abbrev main_call63_v12 : Ref sig .tc := ⟨.hbm, 1518, rfl⟩
abbrev main_call63_v13 : Ref sig .tc := ⟨.hbm, 1519, rfl⟩
abbrev main_call63_v14 : Ref sig .tc := ⟨.hbm, 1520, rfl⟩
abbrev main_call63_cst : Ref sig .tc := ⟨.hbm, 1521, rfl⟩
abbrev main_call63_v15 : Ref sig .tc := ⟨.hbm, 1522, rfl⟩
abbrev main_v670 : Ref sig .tc := ⟨.hbm, 1523, rfl⟩
abbrev main_v671 : Ref sig .tc := ⟨.hbm, 1524, rfl⟩
abbrev main_v672 : Ref sig .tc := ⟨.hbm, 1525, rfl⟩
abbrev main_v673 : Ref sig .tc := ⟨.hbm, 1526, rfl⟩
abbrev main_v674 : Ref sig .tc := ⟨.hbm, 1527, rfl⟩
abbrev main_v675 : Ref sig .tc := ⟨.hbm, 1528, rfl⟩
abbrev main_v676 : Ref sig .tc := ⟨.hbm, 1529, rfl⟩
abbrev main_v677 : Ref sig .tc := ⟨.hbm, 1530, rfl⟩
abbrev main_v678 : Ref sig .tc := ⟨.hbm, 1531, rfl⟩
abbrev main_v679 : Ref sig .tc := ⟨.hbm, 1532, rfl⟩

abbrev nD : Nat := 1
abbrev τ : Topo := Topo.v7x

variable {F : FTy → Type} [FloatOps F]
-- ==== Proof.Spec.lean ====
/-
  The interpolation the kernel computes, one point and one channel at a time, over any float instance: from a
  point's three coordinates the eight corner indices into the table of voxels and the eight corner weights, and the
  weighted sum of a channel's eight voxels in the kernel's order of corners.
-/
module

public import Idealize.ShloMosaic.PureOps

@[expose] public section

noncomputable section

namespace Cert.Interp

open Idealize.ShloMosaic

variable {F : FTy → Type} [FloatOps F]

/-- A normalised coordinate in voxels: `(x + 1) * 63.5`. -/
def vox (x : F .f32) : F .f32 :=
  FloatOps.mulf (FloatOps.addf x (Scalar.ofBits .f32 0x3F800000#32)) (Scalar.ofBits .f32 0x427E0000#32)

/-- The voxel at or below the coordinate: its truncation, less one where that is above it. -/
def lo (x : F .f32) : BitVec 32 :=
  IntOp.subi (FloatOps.fptosi 32 (vox x))
    (if FloatOps.cmpf .ogt (FloatOps.sitofp .f32 (FloatOps.fptosi 32 (vox x) : BitVec 32)) (vox x) = 1 then 1#32 else 0#32)

/-- The voxel above it. -/
def hi (x : F .f32) : BitVec 32 := IntOp.addi (lo x) 1#32

/-- The coordinate's distance from the lower voxel. -/
def frac (x : F .f32) : F .f32 := FloatOps.subf (vox x) (FloatOps.sitofp .f32 (lo x))

/-- A voxel's position clipped to the axis. -/
def clip (v : BitVec 32) : BitVec 32 := IntOp.minsi 127#32 (IntOp.maxsi 0#32 v)

/-- Whether a voxel's position is on the axis. -/
def onAxis (v : BitVec 32) : BitVec 1 := IntOp.andi (IntOp.cmpi .sge v 0#32) (IntOp.cmpi .slt v 128#32)

/-- The lower voxel's weight, zero off the axis. -/
def wLo (x : F .f32) : F .f32 :=
  if onAxis (lo x) = 1 then FloatOps.subf (Scalar.ofBits .f32 0x3F800000#32) (frac x) else Scalar.ofBits .f32 0x00000000#32

/-- The upper voxel's weight, zero off the axis. -/
def wHi (x : F .f32) : F .f32 :=
  if onAxis (hi x) = 1 then frac x else Scalar.ofBits .f32 0x00000000#32

/-- The position along an axis of the lower (`false`) or upper (`true`) voxel, clipped. -/
def pos (b : Bool) (x : F .f32) : BitVec 32 := if b then clip (hi x) else clip (lo x)

/-- The weight along an axis of the lower or upper voxel. -/
def wt (b : Bool) (x : F .f32) : F .f32 := if b then wHi x else wLo x

/-- The row of the table a corner's voxel lies in, the batch's rows starting at `base`. -/
def rowIx (base z y x : BitVec 32) : BitVec 32 :=
  IntOp.addi (IntOp.addi base (IntOp.muli (IntOp.addi (IntOp.muli z 128#32) y) 128#32)) x

/-- Whether corner `c` takes the upper voxel along x, y, z: the corners count along x first, z last. -/
def cx (c : ℕ) : Bool := c.testBit 0
def cy (c : ℕ) : Bool := c.testBit 1
def cz (c : ℕ) : Bool := c.testBit 2

/-- Corner `c`'s row of the table for the point `(x, y, z)`. -/
def corner (base : BitVec 32) (c : ℕ) (x y z : F .f32) : BitVec 32 :=
  rowIx base (pos (cz c) z) (pos (cy c) y) (pos (cx c) x)

/-- Corner `c`'s weight for the point `(x, y, z)`. -/
def weight (c : ℕ) (x y z : F .f32) : F .f32 :=
  FloatOps.mulf (FloatOps.mulf (wt (cz c) z) (wt (cy c) y)) (wt (cx c) x)

/-- The sum of the first `n` corners' weighted values, from zero, in order. -/
def accum (v w : ℕ → F .f32) : ℕ → F .f32
  | 0 => Scalar.ofBits .f32 0x00000000#32
  | n + 1 => FloatOps.addf (accum v w n) (FloatOps.mulf (v n) (w n))

theorem accum_congr {v v' w w' : ℕ → F .f32} : ∀ {n : ℕ}, (∀ c < n, v c = v' c) → (∀ c < n, w c = w' c) → accum v w n = accum v' w' n
  | 0, _, _ => rfl
  | n + 1, hv, hw => by
    rw [accum, accum, accum_congr (fun c h => hv c (by omega)) (fun c h => hw c (by omega)), hv n (by omega), hw n (by omega)]

/-- A clipped position lies on the axis. -/
theorem clip_toNat_lt (v : BitVec 32) : (clip v).toNat < 128 := by
  unfold clip IntOp.minsi IntOp.maxsi
  split_ifs with h h' h' <;> simp_all [BitVec.slt, BitVec.toInt_eq_toNat_cond] <;> split at h' <;> omega

theorem pos_toNat_lt (b : Bool) (x : F .f32) : (pos b x).toNat < 128 := by
  unfold pos; split <;> exact clip_toNat_lt _

/-- The row's number, as a natural: positions on the axis do not wrap. -/
theorem rowIx_toNat {base z y x : BitVec 32} (hb : base.toNat ≤ 6291456) (hz : z.toNat < 128) (hy : y.toNat < 128) (hx : x.toNat < 128) :
    (rowIx base z y x).toNat = base.toNat + (z.toNat * 128 + y.toNat) * 128 + x.toNat := by
  unfold rowIx IntOp.addi IntOp.muli
  simp only [BitVec.toNat_add, BitVec.toNat_mul, BitVec.toNat_ofNat]
  omega

theorem corner_toNat {base : BitVec 32} (hb : base.toNat ≤ 6291456) (c : ℕ) (x y z : F .f32) :
    (corner base c x y z).toNat = base.toNat + ((pos (cz c) z).toNat * 128 + (pos (cy c) y).toNat) * 128 + (pos (cx c) x).toNat :=
  rowIx_toNat hb (pos_toNat_lt _ _) (pos_toNat_lt _ _) (pos_toNat_lt _ _)

theorem corner_lt {base : BitVec 32} (hb : base.toNat ≤ 6291456) (c : ℕ) (x y z : F .f32) :
    (corner base c x y z).toNat < 8388608 := by
  rw [corner_toNat hb]
  have := pos_toNat_lt (cz c) z; have := pos_toNat_lt (cy c) y; have := pos_toNat_lt (cx c) x
  omega

end Cert.Interp

end
-- ==== Proof.Lanes.lean ====
/-
  Elements written through a vector of indices: where no two lanes name one element, the element a lane names holds that
  lane's value and any other keeps its own.
-/
module

public import Idealize.ShloMosaic.PureOps

@[expose] public section

namespace Cert.Interp

open Idealize.ShloMosaic

/-- Of a list's entries, each overwriting the value when it matches, at most one of them `k₀` matching: the result. -/
theorem foldl_pick {κ β : Type} (M : κ → Prop) [DecidablePred M] (v : κ → β) (k₀ : κ) (hu : ∀ k, M k → k = k₀) :
    ∀ (l : List κ) (y : β), M k₀ → k₀ ∈ l → l.foldl (fun y k => if M k then v k else y) y = v k₀ := by
  have keep : ∀ (l : List κ), l.foldl (fun y k => if M k then v k else y) (v k₀) = v k₀ := by
    intro l
    induction l with
    | nil => rfl
    | cons a l ih =>
      rw [List.foldl_cons]
      by_cases h : M a
      · rw [if_pos h, hu a h]; exact ih
      · rw [if_neg h]; exact ih
  intro l
  induction l with
  | nil => intro y _ h; cases h
  | cons a l ih =>
    intro y hm h
    rw [List.foldl_cons]
    by_cases ha : M a
    · rw [if_pos ha, hu a ha]; exact keep l
    · rw [if_neg ha]
      refine ih y hm ?_
      rcases List.mem_cons.mp h with h | h
      · exact absurd (h ▸ hm) ha
      · exact h

/-- No entry matching, the value stays. -/
theorem foldl_keep {κ β : Type} (M : κ → Prop) [DecidablePred M] (v : κ → β) (hn : ∀ k, ¬M k) :
    ∀ (l : List κ) (y : β), l.foldl (fun y k => if M k then v k else y) y = y
  | [], _ => rfl
  | a :: l, y => by rw [List.foldl_cons, if_neg (hn a)]; exact foldl_keep M v hn l y

variable {F : FTy → Type} [FloatOps F]

/-- Whether element `j` of a vector is the one lane `k` names. -/
abbrev names {N n : ℕ} (i : IVec ⟨1, ![n]⟩ 32) (j : (⟨1, ![N]⟩ : Shape).Idx) (k : Fin n) : Prop :=
  (j 0).val = (i (Shape.ofLane (d := ![n]) k)).toNat

/-- A scatter of every lane into a vector, read at an element, as the fold over the lanes. -/
theorem storeIdx_fold {N n : ℕ} {e : EltTy} (f : Vec F ⟨1, ![N]⟩ e) (i : IVec ⟨1, ![n]⟩ 32) (v : Vec F ⟨1, ![n]⟩ e)
    (h : ∀ a x, ((![i] : Fin 1 → IVec ⟨1, ![n]⟩ 32) a x).toNat < (⟨1, ![N]⟩ : Shape).size a) (j : (⟨1, ![N]⟩ : Shape).Idx) :
    storeIdx (d := ![n]) f ![i] v (fun _ => 1#1) false h j
      = (List.finRange n).foldl (fun y k => if names i j k then v (Shape.ofLane (d := ![n]) k) else y) (f j) := by
  have key : ∀ (l : List (Fin n)) (f : Vec F ⟨1, ![N]⟩ e),
      l.foldl (fun (g : Vec F ⟨1, ![N]⟩ e) (k : Fin n) => fun j => if names i j k then v (Shape.ofLane (d := ![n]) k) else g j) f j
        = l.foldl (fun y k => if names i j k then v (Shape.ofLane (d := ![n]) k) else y) (f j) := by
    intro l
    induction l with
    | nil => intro f; rfl
    | cons a l ih => intro f; exact ih _
  refine Eq.trans ?_ (key (List.finRange n) f)
  unfold storeIdx
  refine congrFun (congrArg (fun s => List.foldl s f (List.finRange n)) ?_) j
  funext g k j'
  show (if ∀ a, (j' a).val = (idxAt ![i] h (Shape.ofLane (d := ![n]) k) a).val then v (Shape.ofLane (d := ![n]) k) else g j') = _
  refine if_congr ?_ rfl rfl
  exact Fin.forall_fin_one

/-- The element a lane names, no other lane naming it, holds the lane's value. -/
theorem storeIdx_hit {N n : ℕ} {e : EltTy} (f : Vec F ⟨1, ![N]⟩ e) (i : IVec ⟨1, ![n]⟩ 32) (v : Vec F ⟨1, ![n]⟩ e)
    (h : ∀ a x, ((![i] : Fin 1 → IVec ⟨1, ![n]⟩ 32) a x).toNat < (⟨1, ![N]⟩ : Shape).size a) (j : (⟨1, ![N]⟩ : Shape).Idx)
    (k : Fin n) (hk : names i j k) (hu : ∀ k', names i j k' → k' = k) :
    storeIdx (d := ![n]) f ![i] v (fun _ => 1#1) false h j = v (Shape.ofLane (d := ![n]) k) := by
  rw [storeIdx_fold]
  exact foldl_pick (names i j) (fun k => v (Shape.ofLane (d := ![n]) k)) k hu _ _ hk (List.mem_finRange k)

/-- An element no lane names keeps its value. -/
theorem storeIdx_miss {N n : ℕ} {e : EltTy} (f : Vec F ⟨1, ![N]⟩ e) (i : IVec ⟨1, ![n]⟩ 32) (v : Vec F ⟨1, ![n]⟩ e)
    (h : ∀ a x, ((![i] : Fin 1 → IVec ⟨1, ![n]⟩ 32) a x).toNat < (⟨1, ![N]⟩ : Shape).size a) (j : (⟨1, ![N]⟩ : Shape).Idx)
    (hn : ∀ k, ¬names i j k) :
    storeIdx (d := ![n]) f ![i] v (fun _ => 1#1) false h j = f j := by
  rw [storeIdx_fold]
  exact foldl_keep (names i j) _ hn _ _

/-- A scatter whose lane `k` names element `pos k` and carries `val k`, read at an element exactly lane `k` names. -/
theorem storeIdx_at {N n : ℕ} {e : EltTy} (f : Vec F ⟨1, ![N]⟩ e) (i : IVec ⟨1, ![n]⟩ 32) (v : Vec F ⟨1, ![n]⟩ e)
    (h : ∀ a x, ((![i] : Fin 1 → IVec ⟨1, ![n]⟩ 32) a x).toNat < (⟨1, ![N]⟩ : Shape).size a) (pos : ℕ → ℕ)
    (hp : ∀ x : (⟨1, ![n]⟩ : Shape).Idx, (i x).toNat = pos (x 0).val) (j : (⟨1, ![N]⟩ : Shape).Idx) (k : Fin n)
    (hk : (j 0).val = pos k.val) (hu : ∀ k' : Fin n, (j 0).val = pos k'.val → k' = k) :
    storeIdx (d := ![n]) f ![i] v (fun _ => 1#1) false h j = v (Shape.ofLane (d := ![n]) k) :=
  storeIdx_hit f i v h j k (hk.trans (hp (Shape.ofLane (d := ![n]) k)).symm) fun k' hk' => hu k' (hk'.trans (hp (Shape.ofLane (d := ![n]) k')))

/-- The same scatter, read at an element no lane names. -/
theorem storeIdx_off {N n : ℕ} {e : EltTy} (f : Vec F ⟨1, ![N]⟩ e) (i : IVec ⟨1, ![n]⟩ 32) (v : Vec F ⟨1, ![n]⟩ e)
    (h : ∀ a x, ((![i] : Fin 1 → IVec ⟨1, ![n]⟩ 32) a x).toNat < (⟨1, ![N]⟩ : Shape).size a) (pos : ℕ → ℕ)
    (hp : ∀ x : (⟨1, ![n]⟩ : Shape).Idx, (i x).toNat = pos (x 0).val) (j : (⟨1, ![N]⟩ : Shape).Idx)
    (hn : ∀ k : Fin n, (j 0).val ≠ pos k.val) :
    storeIdx (d := ![n]) f ![i] v (fun _ => 1#1) false h j = f j :=
  storeIdx_miss f i v h j fun k hk => hn k (hk.trans (hp (Shape.ofLane (d := ![n]) k)))

end Cert.Interp
-- ==== Proof.Gather.lean ====
/-
  Several indirect gathers outstanding on one DMA semaphore. Each gather of `o` rows is `o` row transfers of one
  counted batch (`Transfers.Batch`): the gather's issue gives up the next `o` issue rights of the batch, and
  the batch's deliveries — each row written, its entry of the list and its piece of the source back — come out once the
  waits have consumed every row's units.
-/
module

public import Idealize.ShloMosaic.Lib.SparseCore.Stream
public import Idealize.ShloMosaic.Lib.Batch

@[expose] public section

noncomputable section

namespace Cert.Interp

open Idealize.ShloMosaic Idealize.ShloMosaic.SparseCore
open Idealize.SL Idealize.SL.RA
open Idealize.SL.BI (sProp Storable bigSep bigSep_insert bigSep_empty bigSep_singleton)
open scoped Idealize.SL.BI
open Idealize.SL.BI.BIBase Idealize.SL.BI.Laws Idealize.SL.Sem Idealize.SL.ProofMode
open Idealize.ShloMosaic.Transfers (Batch pending batchBody)

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The `o` members of a batch from `j` on. -/
def nextEmb {n j o : ℕ} (h : j + o ≤ n) : Fin o ↪ Fin n where
  toFun k := ⟨j + k.val, by omega⟩
  inj' := by
    intro k k' e
    have := congrArg Fin.val e
    simp only at this
    exact Fin.ext (by omega)

theorem nextEmb_apply {n j o : ℕ} (h : j + o ≤ n) (k : Fin o) : nextEmb h k = ⟨j + k.val, by omega⟩ := rfl

/-- The members pending from `j` are the next `o` and those pending from `j + o`. -/
theorem pending_add {n j o : ℕ} (h : j + o ≤ n) : pending (n := n) j = (Finset.univ.map (nextEmb h)) ∪ pending (j + o) := by
  ext t
  simp only [pending, Finset.mem_filter, Finset.mem_univ, _root_.true_and, Finset.mem_union, Finset.mem_map, nextEmb_apply]
  constructor
  · intro ht
    by_cases h' : t.val < j + o
    · exact .inl ⟨⟨t.val - j, by omega⟩, Fin.ext (by simp only; omega)⟩
    · exact .inr (by omega)
  · rintro (⟨k, rfl⟩ | ht)
    · simp
    · omega

theorem pending_add_disjoint {n j o : ℕ} (h : j + o ≤ n) : Disjoint (Finset.univ.map (nextEmb h)) (pending (n := n) (j + o)) := by
  rw [Finset.disjoint_left]
  intro t ht ht'
  simp only [pending, Finset.mem_filter, Finset.mem_univ, _root_.true_and, Finset.mem_map, nextEmb_apply] at ht ht'
  obtain ⟨k, rfl⟩ := ht
  simp only at ht'
  omega

/-- A family over the members pending from `j` is the next `o` of it and the family pending from `j + o`. -/
theorem bigSep_pending_add {n j o : ℕ} (h : j + o ≤ n) (Φ : Fin n → sProp 𝕄) :
    bigSep (pending j) Φ = iprop((bigSep Finset.univ fun k : Fin o => Φ (nextEmb h k)) ∗ bigSep (pending (j + o)) Φ) := by
  rw [pending_add h, BI.bigSep_union (pending_add_disjoint h), BI.bigSep_map]; rfl

/-- An indirect gather issued as the next `o` transfers of a batch: from each row of the destination, the row's entry
    of the list and a piece of the source, with every delivered row entailing the batch's delivery, the batch with `o`
    more transfers issued. -/
theorem wp_gatherOnBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {qk : Fin (s.size hg.axis') → PosShare TreeShare} {qo : PosShare TreeShare}
    {fs : Buf (Elt F) (src.view.loc c)} {fd : Buf (Elt F) (dst.view.loc c)} {fo : Buf (Elt F) (offs.view.loc c)}
    {n N j u : ℕ} {D : Fin n → sProp 𝕄} (ι : Ix)
    (hN : ∀ k, (dst.slice (s.rowRect hg.axis' k) (s.stride_rowRect hg.axis' k)).view.dmaCredit = N)
    (hj : j + s.size hg.axis' ≤ n) (hu : u ≤ j * N)
    (hin : ∀ x, (offs.view.read (Elt F) fo x).toNat < s₀.size hg.axis)
    (hD : ∀ k : Fin (s.size hg.axis'),
      iprop(((dst.view.loc c ↦[(dst.view.slice (s.rowRect hg.axis' k)).set]{fullShare}
              ((dst.view.slice (s.rowRect hg.axis' k)).write (Elt F) fd
                (fun i => src.view.read (Elt F) fs (hg.rowIdx (rows (offs.view.read (Elt F) fo) hn hin k) i)) Finset.univ))
          ∗ (offs.view.loc c ↦[{offs.view.emb (si.rowMajor.symm (k.cast hn.symm))}]{qo} fo))
        ∗ (src.view.loc c ↦[src.view.set]{qk k} fs)) ⊢ D ⟨j + k.val, by omega⟩) :
    iprop((bigSep Finset.univ fun k : Fin (s.size hg.axis') =>
            iprop(((dst.view.loc c ↦[(dst.view.slice (s.rowRect hg.axis' k)).set]{fullShare} fd)
              ∗ (offs.view.loc c ↦[{offs.view.emb (si.rowMajor.symm (k.cast hn.symm))}]{qo} fo))
            ∗ (src.view.loc c ↦[src.view.set]{qk k} fs)))
        ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let w : (j : Fin (s.size hg.axis')) → (s.rowShape hg.axis').Idx → Elt F e := fun j i => src.view.read (Elt F) fs (hg.rowIdx (r j) i)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ k, (rd k).dst.view.dmaCredit = s.size hg.axis' * N := by
    rw [Finset.sum_congr rfl fun k _ => hN k, Finset.sum_const, Finset.card_univ, Fintype.card_fin, smul_eq_mul]
  unfold Transfers.Batch
  iintro ⟨Hrows, %γ, %γ₀, %κ, #Hinv, HI, H0, Hcred⟩ Hk
  ihave HI' := (Entails.of_eq (bigSep_pending_add hj (fun t => Idealize.SL.ExclCount.count EC (γ t) 0))) $$ HI
  icases HI' with ⟨Hγ, HI⟩
  iapply (wp_enqueueIndirectDma 𝒱 c bd Set.univ (qo := qo) (fo := fo) (rd := rd) ι (s.size hg.axis' * N) hA hrd hsum) $$ [Hrows Hγ]
  · have hrow : ∀ k : Fin (s.size hg.axis'), iprop(inv κ (batchBody EC (c, SemLoc.dma sem) N D γ γ₀)
          ∗ ((((dst.view.loc c ↦[(dst.view.slice (s.rowRect hg.axis' k)).set]{fullShare} fd) ∗ S.heldEntry qo fo k)
          ∗ (src.view.loc c ↦[src.view.set]{qk k} fs)) ∗ Idealize.SL.ExclCount.count EC (γ ⟨j + k.val, by omega⟩) 0))
        ⊢ iprop(S.heldEntry qo fo k ∗ (S.heldEntry qo fo k -∗ rowRes c (rd k))) := fun k => by
      iintro ⟨#Hinv, ⟨⟨Hr, He⟩, Hsq⟩, Hγk⟩
      isplitl [He]; · iexact He
      iintro He
      unfold rowRes
      iexists qk k, fs, iprop((dst.view.loc c ↦[(dst.view.slice (s.rowRect hg.axis' k)).set]{fullShare} ((dst.view.slice (s.rowRect hg.axis' k)).write (Elt F) fd (w k) Finset.univ)) ∗ S.heldEntry qo fo k)
      isplitl [Hsq]; · iexact Hsq
      isplitl [Hr He]
      · iapply writeUpdate_frame
        isplitl [Hr]
        · iapply (pointsTo_writeUpdate c (v := dst.view.slice (s.rowRect hg.axis' k)) subset_rfl) $$ Hr
        · iexact He
      · rw [show (rd k).dst.view.amount (SemLoc.dma sem) = N from hN k]
        iapply (Transfers.batch_creditUpdate EC ⟨j + k.val, by omega⟩ (hD k))
        isplitr; · iexact Hinv
        iexact Hγk
    unfold Stream.res
    ihave H3 := Transfers.bigSep_sep_in _ _ _ $$ [Hrows Hγ]; · isplitl [Hrows] <;> iassumption
    iapply (Transfers.bigSep_mono_pers Finset.univ _ _ _ fun k _ => hrow k)
    isplitr; · iexact Hinv
    iexact H3
  · iintro Hcred'
    iapply Hk
    iexists γ, γ₀, κ
    isplitr; · iexact Hinv
    isplitl [HI]; · iexact HI
    isplitl [H0]; · iexact H0
    have hsplit : (j + s.size hg.axis') * N - u = (j * N - u) + s.size hg.axis' * N := by rw [Nat.add_mul]; omega
    rw [hsplit, ← tallyAt_add]
    isplitl [Hcred] <;> iassumption

end Cert.Interp

end
-- ==== Proof.KernelIdeal.Setup.lean ====
/-
  The kernel's launch as the proof sees it: the device's parameters, the ghost state, the buffers a tile works on,
  and the contents the proof speaks of, each as a total function of naturals.
-/
module

public import Idealize.ShloMosaic.Lib.SparseCore.Quiescent
public import Idealize.ShloMosaic.Lib.StableHlo.Run
public import Idealize.ShloMosaic.Lib.Pipeline.Kit
public import Idealize.ShloMosaic.Lib.Pointwise.Index
public import Idealize.ShloMosaic.Lib.Tactic
public import proofs.«01_k».proof.Proof.Gen.KernelIdeal
public import proofs.«01_k».proof.Proof.Gen.KernelIdeal.Skeleton
public import proofs.«01_k».proof.Proof.Spec

@[expose] public section

noncomputable section

namespace Cert.KernelIdeal.Tile

open Cert.KernelIdeal Cert.KernelIdeal.Gen Cert.Interp

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters
/-- The resources the proof's assertions speak of. -/
abbrev MM (F : FTy → Type) := MT nD τ sig (HIx 1) (Elt F) ℕ UU ℕ
abbrev EH : Emb UH (MM F) := embL

/-! ## A tile and its buffers -/

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

abbrev tabV : Memref sig .scVector .hbm S8388608x16 .f32 := Memref.whole main_v30_scv
abbrev gxV : Memref sig .scVector .hbm S524288 .f32 := Memref.whole main_v19_scv
abbrev gyV : Memref sig .scVector .hbm S524288 .f32 := Memref.whole main_v22_scv
abbrev gzV : Memref sig .scVector .hbm S524288 .f32 := Memref.whole main_v25_scv
abbrev densV : Memref sig .scVector .hbm S524288 .f32 := Memref.whole main_v31_0_scv
abbrev featV : Memref sig .scVector .hbm S4194304 .f32 := Memref.whole main_v31_1_scv
abbrev xV : Memref sig .scVector .vmem S128 .f32 := Memref.whole cc0_scratch0
abbrev yV : Memref sig .scVector .vmem S128 .f32 := Memref.whole cc0_scratch1
abbrev zV : Memref sig .scVector .vmem S128 .f32 := Memref.whole cc0_scratch2
abbrev idxV : Memref sig .scVector .vmem S8x128 .i32 := Memref.whole cc0_scratch3
abbrev wV : Memref sig .scVector .vmem S8x128 .f32 := Memref.whole cc0_scratch4
abbrev rowsV : Memref sig .scVector .vmem S1024x16 .f32 := Memref.whole cc0_scratch5
abbrev dV : Memref sig .scVector .vmem S128 .f32 := Memref.whole cc0_scratch6
abbrev fV : Memref sig .scVector .vmem S1024 .f32 := Memref.whole cc0_scratch7

/-! ## Arrays read at naturals -/

/-- A vector's element at a natural, any position past the end taken round. -/
def at1 {N : ℕ} [NeZero N] {α : Type} (f : (⟨1, ![N]⟩ : Shape).Idx → α) (n : ℕ) : α := f (ix1 (Fin.ofNat N n))
/-- A rectangle's element at two naturals. -/
def at2 {N M : ℕ} [NeZero N] [NeZero M] {α : Type} (f : (⟨2, ![N, M]⟩ : Shape).Idx → α) (n k : ℕ) : α :=
  f (ix2 (Fin.ofNat N n) (Fin.ofNat M k))

theorem at1_val {N : ℕ} [NeZero N] {α : Type} (f : (⟨1, ![N]⟩ : Shape).Idx → α) (j : (⟨1, ![N]⟩ : Shape).Idx) : at1 f (j 0).val = f j := by
  unfold at1
  congr 1
  conv_rhs => rw [eq_ix1 j]
  congr 1
  exact Fin.ext (Nat.mod_eq_of_lt (j 0).isLt)

theorem at2_val {N M : ℕ} [NeZero N] [NeZero M] {α : Type} (f : (⟨2, ![N, M]⟩ : Shape).Idx → α) (j : (⟨2, ![N, M]⟩ : Shape).Idx) :
    at2 f (j 0).val (j 1).val = f j := by
  unfold at2
  congr 1
  conv_rhs => rw [eq_ix2 j]
  congr 1 <;> exact Fin.ext (Nat.mod_eq_of_lt (Fin.isLt _))

theorem at1_ix {N : ℕ} [NeZero N] {α : Type} (f : (⟨1, ![N]⟩ : Shape).Idx → α) (a : Fin N) : at1 f a.val = f (ix1 a) := at1_val f (ix1 a)
theorem at2_ix {N M : ℕ} [NeZero N] [NeZero M] {α : Type} (f : (⟨2, ![N, M]⟩ : Shape).Idx → α) (a : Fin N) (b : Fin M) :
    at2 f a.val b.val = f (ix2 a b) := at2_val f (ix2 a b)

/-! ## What the kernel computes, from the table and the three arrays of coordinates -/

section Spec
variable [FloatOps F]
variable (tab : S8388608x16.Idx → F .f32) (gx gy gz : S524288.Idx → F .f32)

/-- The number of the tile at `(core, subcore)`. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- The table's first row of point `n`'s batch. -/
def rowBase (n : ℕ) : BitVec 32 := BitVec.ofNat 32 (n / 131072 * 2097152)

/-- The table's row of corner `c` of point `n`. -/
def cornerAt (n c : ℕ) : BitVec 32 := corner (rowBase n) c (at1 gx n) (at1 gy n) (at1 gz n)
/-- The weight of corner `c` of point `n`. -/
def weightAt (n c : ℕ) : F .f32 := weight c (at1 gx n) (at1 gy n) (at1 gz n)
/-- Channel `ch` of point `n`: the weighted sum over the eight corners. -/
def chanAt (n ch : ℕ) : F .f32 := accum (fun c => at2 tab (cornerAt gx gy gz n c).toNat ch) (weightAt gx gy gz n) 8

/-- The first result's flat array. -/
def dens : S524288.Idx → F .f32 := fun i => chanAt tab gx gy gz (i 0).val 0
/-- The second result's flat array: eight channels a point. -/
def feat : S4194304.Idx → F .f32 := fun i => chanAt tab gx gy gz ((i 0).val / 8) ((i 0).val % 8 + 1)

end Spec

end Cert.KernelIdeal.Tile

end
-- ==== Proof.KernelIdeal.InterpSteps.lean ====
/-
  The steps of the kernel's second inner loop: a gather of sixteen rows' channel out of the rows buffer, a load of
  sixteen weights, and the stores of sixteen points' results, each with what it reads or leaves at naturals.
-/
module

public import proofs.«01_k».proof.Proof.KernelIdeal.Setup
public import Idealize.ShloMosaic.Lib.Pointwise.Reshape
public import Idealize.ShloMosaic.Lib.WritesUnit
public import proofs.«01_k».proof.Proof.Lanes

@[expose] public section

noncomputable section

namespace Cert.KernelIdeal.Tile

open Cert.KernelIdeal Cert.KernelIdeal.Gen Cert.Interp

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Sixteen gathered rows' channel `j` for corner `c`, of the sixteen points from `16 * t`. -/
def rv (f : S1024x16.Idx → F .f32) (t c j : ℕ) : FVec F S16 .f32 := fun x => at2 f (128 * c + 16 * t + (x 0).val) j
/-- The sixteen points' weights for corner `c`, as the load reads them. -/
def wv (g : S8x128.Idx → F .f32) (t c : ℕ) : FVec F S1x16 .f32 := fun x => at2 g c (16 * t + (x 1).val)
/-- The same as a vector of sixteen. -/
def wl (g : S8x128.Idx → F .f32) (t c : ℕ) : FVec F S16 .f32 := fun x => at2 g c (16 * t + (x 0).val)

/-- The weighted sum at point `p` of a chunk and channel `ch`, from the gathered rows and the weights. -/
def pv (f : S1024x16.Idx → F .f32) (g : S8x128.Idx → F .f32) (p ch : ℕ) : F .f32 :=
  accum (fun c => at2 f (128 * c + p) ch) (fun c => at2 g c p) 8

/-- The sixteen points' sums over the first `n` corners. -/
def accv (f : S1024x16.Idx → F .f32) (g : S8x128.Idx → F .f32) (t ch : ℕ) : ℕ → FVec F S16 .f32
  | 0 => broadcast S16 (Scalar.ofBits .f32 0x00000000#32)
  | n + 1 => addf (accv f g t ch n) (mulf (rv f t n ch) (shapeCast S16 (wv g t n) shapeCasts_S1x16_S16))

theorem shapeCast_wv (g : S8x128.Idx → F .f32) (t c : ℕ) : (shapeCast S16 (wv g t c) shapeCasts_S1x16_S16 : FVec F S16 .f32) = wl g t c := by
  funext x
  unfold shapeCast wv wl
  refine congrArg (fun n => at2 g c (16 * t + n)) ?_
  have h := rowMajor_val2 (d := ![1, 16]) (Shape.reshapeEquiv shapeCasts_S1x16_S16 x) 16 rfl
  have h' : ((⟨2, ![1, 16]⟩ : Shape).rowMajor (Shape.reshapeEquiv shapeCasts_S1x16_S16 x)).val = (S16.rowMajor x).val := by
    rw [Shape.rowMajor_reshapeEquiv]
  rw [rowMajor_val1] at h'
  have h0 : ((Shape.reshapeEquiv shapeCasts_S1x16_S16 x) 0).val < 1 := Fin.isLt _
  simp only [Matrix.cons_val_zero, Matrix.cons_val_one] at h h'
  omega

theorem accv_apply (f : S1024x16.Idx → F .f32) (g : S8x128.Idx → F .f32) (t ch n : ℕ) (x : S16.Idx) :
    accv f g t ch n x = accum (fun c => at2 f (128 * c + (16 * t + (x 0).val)) ch) (fun c => at2 g c (16 * t + (x 0).val)) n := by
  induction n with
  | zero => rfl
  | succ n ih =>
    show FloatOps.addf (accv f g t ch n x) (FloatOps.mulf (rv f t n ch x) ((shapeCast S16 (wv g t n) shapeCasts_S1x16_S16 : FVec F S16 .f32) x)) = _
    rw [ih, shapeCast_wv]
    show _ = FloatOps.addf _ (FloatOps.mulf _ _)
    unfold rv wl
    rw [Nat.add_assoc]

/-! ## The steps -/

variable (d : Dev nD) (L : grid0.Coords)

/-- What the loop holds: the gathered rows, the weights, and the two results' buffers. -/
def Res (f : S1024x16.Idx → F .f32) (g : S8x128.Idx → F .f32) (dn : S128.Idx → F .f32) (ft : S1024.Idx → F .f32) : sProp (MM F) :=
  iprop((rowsV.view.loc (thr d L) ↦{fullShare} f) ∗ (wV.view.loc (thr d L) ↦{fullShare} g)
    ∗ (dV.view.loc (thr d L) ↦{fullShare} dn) ∗ (fV.view.loc (thr d L) ↦{fullShare} ft))

abbrev PT (L : grid0.Coords) (F : FTy → Type) (α : Type) : Type 1 := Prog (TpuEff nD τ sig (Elt F) Λ₀ (.scVector ((L 0).castLE hcore0) ((L 1).castLE hsub0))) α

/-- A program of tile `L`, run on device `d`, ends with `Q`. -/
abbrev Runs {α : Type} (p : PT L F α) (Q : α → sProp (MM F)) : sProp (MM F) :=
  wp frame (wpE (defs₀ (F := F)) 𝒱₀ (thr d L) none) Set.univ p Q

variable {d L}
variable {f : S1024x16.Idx → F .f32} {g : S8x128.Idx → F .f32} {dn : S128.Idx → F .f32} {ft : S1024.Idx → F .f32}
variable {α : Type} {Q : α → sProp (MM F)} {P : sProp (MM F)}

/-- A program that has ended. -/
theorem st_pure {a : α} (h : P ⊢ Q a) :
    P ⊢ Runs d L (Pure.pure a : PT L F α) Q := by
  unfold Runs; rw [wp_pure]; exact h.trans fupd_intro

/-- A program in two parts: the second from what the first ends with. -/
theorem st_part {β : Type} {p : PT L F β} {k : β → PT L F α}
    (h : P ⊢ Runs d L p
      fun b => Runs d L (k b) Q) :
    P ⊢ Runs d L (p >>= k) Q := by
  unfold Runs; rw [wp_bind]; exact h

/-- A check that holds. -/
theorem st_assume {p : Prop} {dec : Decidable p} {k : PLift p → PT L F α} (hp : p)
    (h : P ⊢ Runs d L (k ⟨hp⟩) Q) :
    P ⊢ Runs d L (Prog.lift (TpuEff.assume p dec) >>= k) Q :=
  h.trans (wp_assume 𝒱₀ (thr d L) none Set.univ hp)

/-- The checks of a gather's two vectors of indices. -/
theorem chk_of {r ch : IVec S16 32} (hr : ∀ x, (r x).toNat < 1024) (hc : ∀ x, (ch x).toNat < 16) :
    ∀ a x, ((![r, ch] : Fin 2 → IVec S16 32) a x).toNat < S1024x16.size a := by
  intro a x
  match a with
  | 0 => exact hr x
  | 1 => exact hc x

theorem st_gather (t c j : ℕ) {r ch : IVec S16 32} {h : ∀ a x, ((![r, ch] : Fin 2 → IVec S16 32) a x).toNat < S1024x16.size a}
    {hl : rowsV.view.Loads} {k : Vec F S16 .f32 → PT L F α}
    (hr : ∀ x, (r x).toNat = 128 * c + 16 * t + (x 0).val) (hc : ∀ x, (ch x).toNat = j)
    (hk : Res d L f g dn ft ⊢ Runs d L (k (rv f t c j)) Q) :
    Res d L f g dn ft ⊢ Runs d L (SparseCore.vectorLoadIdx rowsV ![r, ch] h hl >>= k) Q := by
  have e : loadIdx ((rowsV.access (.whole S1024x16)).read (Elt F) f) ![r, ch] h = rv f t c j := by
    funext x
    show f _ = f _
    refine congrArg f ?_
    funext a
    match a with
    | 0 =>
      refine Fin.ext ?_
      show 0 + 1 * (r x).toNat = (128 * c + 16 * t + (x 0).val) % 1024
      have : (r x).toNat < 1024 := h 0 x
      rw [← hr x, Nat.mod_eq_of_lt this]; omega
    | 1 =>
      refine Fin.ext ?_
      show 0 + 1 * (ch x).toNat = j % 16
      have : (ch x).toNat < 16 := h 1 x
      rw [← hc x, Nat.mod_eq_of_lt this]; omega
  unfold Res Runs at hk ⊢
  iintro ⟨Hr, Hw, Hd, Hf⟩
  iapply (SparseCore.wp_vectorLoadIdx (base := rowsV) 𝒱₀ (thr d L) none Set.univ (S := Finset.univ) (q := fullShare) (f := f) (Finset.subset_univ _)) $$ Hr
  iintro Hr
  rw [e]
  iapply hk $$ [Hr Hw Hd Hf]
  isplitl [Hr]; · iexact Hr
  isplitl [Hw]; · iexact Hw
  isplitl [Hd]; · iexact Hd
  iexact Hf

theorem st_w (t c : ℕ) {off : Fin 2 → ℕ} {inb} {hl} {k : Vec F S1x16 .f32 → PT L F α} (ho : off = ![c, 16 * t])
    (hk : Res d L f g dn ft ⊢ Runs d L (k (wv g t c)) Q) :
    Res d L f g dn ft ⊢ Runs d L (Prog.lift (.load wV (Rect.unit (s := S8x128) off S1x16.size inb).toLoadRect hl) >>= k) Q := by
  have e : (wV.access (Rect.unit (s := S8x128) off S1x16.size inb)).read (Elt F) g = wv g t c := by
    subst ho
    funext x
    show g _ = g _
    refine congrArg g ?_
    have h0 := inb 0
    have h1 := inb 1
    funext a
    match a with
    | 0 =>
      refine Fin.ext ?_
      show c + 1 * (x 0).val = c % 8
      have hx : (x 0).val < 1 := (x 0).isLt
      have : c + 1 ≤ 8 := h0
      omega
    | 1 =>
      refine Fin.ext ?_
      show 16 * t + 1 * (x 1).val = (16 * t + (x 1).val) % 128
      have hx : (x 1).val < 16 := (x 1).isLt
      have : 16 * t + 16 ≤ 128 := h1
      omega
  unfold Res Runs at hk ⊢
  iintro ⟨Hr, Hw, Hd, Hf⟩
  iapply (wp_load_rect (m := wV) (r := Rect.unit (s := S8x128) off S1x16.size inb) 𝒱₀ (thr d L) none Set.univ (S := Finset.univ) (q := fullShare) (f := g) (Finset.subset_univ _)) $$ Hw
  iintro Hw
  rw [e]
  iapply hk $$ [Hr Hw Hd Hf]
  isplitl [Hr]; · iexact Hr
  isplitl [Hw]; · iexact Hw
  isplitl [Hd]; · iexact Hd
  iexact Hf

/-! ## The lanes' indices -/

/-- The numbers of the sixteen lanes. -/
abbrev lanes : IVec S16 32 := iota .scVector S16 32 [0] iota_S16_d0_w32_scVector

theorem lanes_apply (x : S16.Idx) : lanes x = BitVec.ofNat 32 (x 0).val := by
  show BitVec.ofNat 32 (0 * S16.size 0 + (x 0).val) = _
  rw [Nat.zero_mul, Nat.zero_add]

theorem iv_mul16 (t : ℕ) : Scalar.muli (Scf.iv (0#32 : BitVec 32) 1#32 t) 16#32 = BitVec.ofNat 32 (16 * t) := by
  unfold Scf.iv Scalar.muli IntOp.muli
  rw [BitVec.zero_add, BitVec.mul_one, Nat.mul_comm, BitVec.ofNat_mul]

/-- The rows of corner `c`, of the sixteen points from `16 * t`, in the rows buffer. -/
theorem row_lane (t : Fin k0_t3_loop.trips) (c : ℕ) (kc : BitVec 32) (hk : kc.toNat = 128 * c) (hc : c < 8) (x : S16.Idx) :
    (addi (addi (broadcast S16 (Scalar.muli (Scf.iv (0#32 : BitVec 32) 1#32 t) 16#32)) lanes) (broadcast S16 kc) x).toNat
      = 128 * c + 16 * t.val + (x 0).val := by
  show ((Scalar.muli (Scf.iv (0#32 : BitVec 32) 1#32 t) 16#32 + lanes x) + kc).toNat = _
  rw [iv_mul16, lanes_apply, BitVec.toNat_add, BitVec.toNat_add, hk, BitVec.toNat_ofNat, BitVec.toNat_ofNat]
  have ht : t.val < 8 := t.isLt
  have hx : (x 0).val < 16 := (x 0).isLt
  omega

theorem row_lane_lt (t : Fin k0_t3_loop.trips) (c : ℕ) (hc : c < 8) (x : S16.Idx) : 128 * c + 16 * t.val + (x 0).val < 1024 := by
  have ht : t.val < 8 := t.isLt
  have hx : (x 0).val < 16 := (x 0).isLt
  omega

/-- The places of channel `j` of the sixteen points, in the buffer of eight channels a point. -/
theorem feat_lane (t : Fin k0_t3_loop.trips) (j : ℕ) (kj : BitVec 32) (hk : kj.toNat = j) (hj : j < 8) (x : S16.Idx) :
    (addi (muli (addi (broadcast S16 (Scalar.muli (Scf.iv (0#32 : BitVec 32) 1#32 t) 16#32)) lanes) (broadcast S16 8#32)) (broadcast S16 kj) x).toNat
      = 8 * (16 * t.val + (x 0).val) + j := by
  show ((Scalar.muli (Scf.iv (0#32 : BitVec 32) 1#32 t) 16#32 + lanes x) * 8#32 + kj).toNat = _
  rw [iv_mul16, lanes_apply, BitVec.toNat_add, BitVec.toNat_mul, BitVec.toNat_add, hk, BitVec.toNat_ofNat, BitVec.toNat_ofNat, BitVec.toNat_ofNat]
  have ht : t.val < 8 := t.isLt
  have hx : (x 0).val < 16 := (x 0).isLt
  omega

theorem feat_lane_lt (t : Fin k0_t3_loop.trips) (j : ℕ) (hj : j < 8) (x : S16.Idx) : 8 * (16 * t.val + (x 0).val) + j < 1024 := by
  have ht : t.val < 8 := t.isLt
  have hx : (x 0).val < 16 := (x 0).isLt
  omega

/-! ## The stores -/

/-- The first `n` points' first results are in place. -/
def DenDone (f : S1024x16.Idx → F .f32) (g : S8x128.Idx → F .f32) (dn : S128.Idx → F .f32) (n : ℕ) : Prop :=
  ∀ p : Fin 128, p.val < n → dn (ix1 p) = pv f g p.val 0

/-- The first `n` points' eight channels are in place, and of the sixteen points after them the first `j` channels. -/
def FeatDone (f : S1024x16.Idx → F .f32) (g : S8x128.Idx → F .f32) (ft : S1024.Idx → F .f32) (n j : ℕ) : Prop :=
  ∀ q : Fin 1024, (q.val / 8 < n ∨ (q.val / 8 < n + 16 ∧ q.val % 8 < j)) → ft (ix1 q) = pv f g (q.val / 8) (q.val % 8 + 1)

theorem st_dload {off : Fin 1 → ℕ} {inb} {hl} {k : Vec F S16 .f32 → PT L F α}
    (hk : ∀ v, Res d L f g dn ft ⊢ Runs d L (k v) Q) :
    Res d L f g dn ft ⊢ Runs d L
      (Prog.lift (.load dV (Rect.unit (s := S128) off S16.size inb).toLoadRect hl) >>= k) Q := by
  unfold Res Runs at hk ⊢
  iintro ⟨Hr, Hw, Hd, Hf⟩
  iapply (wp_load_rect (m := dV) (r := Rect.unit (s := S128) off S16.size inb) 𝒱₀ (thr d L) none Set.univ (S := Finset.univ) (q := fullShare) (f := dn) (Finset.subset_univ _)) $$ Hd
  iintro Hd
  iapply (hk _) $$ [Hr Hw Hd Hf]
  isplitl [Hr]; · iexact Hr
  isplitl [Hw]; · iexact Hw
  isplitl [Hd]; · iexact Hd
  iexact Hf

theorem st_dstore (t : Fin k0_t3_loop.trips) {off : Fin 1 → ℕ} {inb} {hx} {hm} {v : Vec F S16 .f32} {k : PUnit → PT L F α} (ho : off = ![16 * t.val])
    (hv : ∀ x : S16.Idx, v x = pv f g (16 * t.val + (x 0).val) 0) (hD : DenDone f g dn (16 * t.val))
    (hk : ∀ dn', DenDone f g dn' (16 * t.val + 16) → Res d L f g dn' ft ⊢ Runs d L (k ⟨⟩) Q) :
    Res d L f g dn ft ⊢ Runs d L
      (Prog.lift (.store dV (Rect.unit (s := S128) off S16.size inb) v Finset.univ hx hm) >>= k) Q := by
  have hk' := hk ((dV.access (Rect.unit (s := S128) off S16.size inb)).write (Elt F) dn v Finset.univ) (by
    intro p hp
    by_cases h : p.val < 16 * t.val
    · exact (View.read_writes_cons_unit_of_not_mem (Val := Elt F) dV.view dn inb v [] (ix1 p) ho 0 (Or.inl h)).trans (hD p h)
    · refine (View.read_writes_cons_unit_of_mem (Val := Elt F) dV.view dn inb v [] (ix1 p) (ix1 ⟨p.val - 16 * t.val, by omega⟩) ho ?_).trans ?_
      · intro a
        match a with
        | 0 => show p.val = 16 * t.val + (p.val - 16 * t.val); omega
      · rw [hv]
        refine congrArg (fun n => pv f g n 0) ?_
        show 16 * t.val + (p.val - 16 * t.val) = p.val
        omega)
  clear hk
  unfold Res Runs at hk' ⊢
  iintro ⟨Hr, Hw, Hd, Hf⟩
  iapply (wp_store (m := dV) (r := Rect.unit (s := S128) off S16.size inb) 𝒱₀ (thr d L) none Set.univ (S := Finset.univ) (f := dn) (Finset.subset_univ _)) $$ Hd
  iintro Hd
  iapply hk' $$ [Hr Hw Hd Hf]
  isplitl [Hr]; · iexact Hr
  isplitl [Hw]; · iexact Hw
  isplitl [Hd]; · iexact Hd
  iexact Hf

/-- The check of a scatter's vector of indices. -/
theorem chk_of₁ {r : IVec S16 32} (hr : ∀ x, (r x).toNat < 1024) :
    ∀ a x, ((![r] : Fin 1 → IVec S16 32) a x).toNat < S1024.size a := by
  intro a x
  match a with
  | 0 => exact hr x

/-- A scatter of channel `j` of sixteen points, their first `j` channels in place. -/
theorem feat_scatter (t : ℕ) (j : ℕ) (hj : j < 8) {r : IVec S16 32} {v : Vec F S16 .f32}
    (h : ∀ a x, ((![r] : Fin 1 → IVec S16 32) a x).toNat < S1024.size a)
    (hr : ∀ x, (r x).toNat = 8 * (16 * t + (x 0).val) + j)
    (hv : ∀ x : S16.Idx, v x = pv f g (16 * t + (x 0).val) (j + 1)) (hF : FeatDone f g ft (16 * t) j) :
    FeatDone f g (storeIdx (d := ![16]) ft ![r] v (fun _ => 1#1) false h) (16 * t) (j + 1) := by
  intro q hq
  by_cases hc : 16 * t ≤ q.val / 8 ∧ q.val / 8 < 16 * t + 16 ∧ q.val % 8 = j
  · obtain ⟨h1, h2, h3⟩ := hc
    obtain ⟨k, hk⟩ : ∃ k : ℕ, k = q.val / 8 - 16 * t := ⟨_, rfl⟩
    have h16 : k < 16 := by omega
    have e1 := storeIdx_at (N := 1024) (n := 16) ft r v h (fun k => 8 * (16 * t + k) + j) hr (ix1 q) ⟨k, h16⟩
      (show q.val = 8 * (16 * t + k) + j by omega) (fun k' hk' => by
        have hk' : q.val = 8 * (16 * t + k'.val) + j := hk'
        exact Fin.ext (show k'.val = k by omega))
    have e2 : v (Shape.ofLane (d := ![16]) ⟨k, h16⟩) = pv f g (16 * t + k) (j + 1) := hv _
    have e3 : q.val / 8 = 16 * t + k := by omega
    rw [e3, h3]
    exact e1.trans e2
  · have e1 := storeIdx_off (N := 1024) (n := 16) ft r v h (fun k => 8 * (16 * t + k) + j) hr (ix1 q) (fun k' hk' => by
        have hk' : q.val = 8 * (16 * t + k'.val) + j := hk'
        have := k'.isLt
        omega)
    exact e1.trans (hF q (by omega))

theorem st_scatter (t : Fin k0_t3_loop.trips) (j : ℕ) (hj : j < 8) {r : IVec S16 32} {v : Vec F S16 .f32} {h : ∀ a x, ((![r] : Fin 1 → IVec S16 32) a x).toNat < S1024.size a}
    {hs} {k : PUnit → PT L F α}
    (hr : ∀ x, (r x).toNat = 8 * (16 * t.val + (x 0).val) + j)
    (hv : ∀ x : S16.Idx, v x = pv f g (16 * t.val + (x 0).val) (j + 1)) (hF : FeatDone f g ft (16 * t.val) j)
    (hk : ∀ ft', FeatDone f g ft' (16 * t.val) (j + 1) → Res d L f g dn ft' ⊢ Runs d L (k ⟨⟩) Q) :
    Res d L f g dn ft ⊢ Runs d L
      (SparseCore.vectorStoreIdx fV ![r] v (fun _ => 1#1) false h hs >>= k) Q := by
  have hk' := hk _ (feat_scatter t.val j hj h hr hv hF)
  clear hk
  unfold Res Runs at hk' ⊢
  iintro ⟨Hr, Hw, Hd, Hf⟩
  have hset : (fV.access (.whole S1024)).set = Finset.univ := by
    rw [View.set_slice, Rect.set_whole]; exact View.setOn_whole_univ _
  have hw : ∀ w : Vec F S1024 .f32, (fV.access (.whole S1024)).write (Elt F) ft w Finset.univ = w := fun w =>
    Memref.write_access_whole_univ (Elt F) cc0_scratch7 ft w
  have hrd : (fV.access (.whole S1024)).read (Elt F) ft = ft := Memref.read_access_whole (Elt F) cc0_scratch7 ft
  ihave Hf' := (Entails.of_eq (show (fV.view.loc (thr d L) ↦{fullShare} ft : sProp (MM F))
      = ((fV.access (.whole S1024)).loc (thr d L) ↦[(fV.access (.whole S1024)).set]{fullShare} ft) by rw [hset])) $$ Hf
  iapply (SparseCore.wp_vectorStoreIdx (base := fV) 𝒱₀ (thr d L) none Set.univ (f := ft)) $$ Hf'
  iintro Hf
  rw [hw, hrd, hset]
  iapply hk' $$ [Hr Hw Hd Hf]
  isplitl [Hr]; · iexact Hr
  isplitl [Hw]; · iexact Hw
  isplitl [Hd]; · iexact Hd
  iexact Hf

end Cert.KernelIdeal.Tile

end
-- ==== Proof.KernelIdeal.Fetch.lean ====
/-
The eight gathers of a chunk: gather `c` fetches, for each of the chunk's 128 points, the table's row its corner `c`
names, into rows `128 * c` to `128 * c + 127` of the rows buffer.  All eight are outstanding on one semaphore: 1024 row
transfers of one batch, each of which takes its row of the buffer, its entry of the list, and a piece of the table's share.
-/
module
public import proofs.«01_k».proof.Proof.KernelIdeal.InterpSteps
public import proofs.«01_k».proof.Proof.Gather

@[expose] public section

noncomputable section

namespace Cert.KernelIdeal.Tile

open Cert.KernelIdeal Cert.KernelIdeal.Gen Cert.Interp

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)

variable {F : FTy → Type} [FloatOps F]
variable (d : Dev nD) (L : grid0.Coords)

/-- Row `t` of the rows buffer. -/
def rowSet (t : Fin 1024) : Finset S1024x16.Idx := Finset.univ.filter fun j => (j 0).val = t.val

theorem mem_rowSet {t : Fin 1024} {j : S1024x16.Idx} : j ∈ rowSet t ↔ (j 0).val = t.val := by simp [rowSet]

/-- The entry of the list that row `t` is fetched for. -/
def entry (t : Fin 1024) : S8x128.Idx := ix2 ⟨t.val / 128, by omega⟩ ⟨t.val % 128, by omega⟩

theorem entry_bijective : Function.Bijective entry := by
  constructor
  · intro a b h
    have h0 : a.val / 128 = b.val / 128 := congrArg Fin.val (congrFun h 0)
    have h1 : a.val % 128 = b.val % 128 := congrArg Fin.val (congrFun h 1)
    exact Fin.ext (by omega)
  · intro j
    have h0 : (j 0).val < 8 := (j 0).isLt
    have h1 : (j 1).val < 128 := (j 1).isLt
    refine ⟨⟨128 * (j 0).val + (j 1).val, by omega⟩, ?_⟩
    funext a
    match a with
    | 0 => exact Fin.ext (show (128 * (j 0).val + (j 1).val) / 128 = (j 0).val by omega)
    | 1 => exact Fin.ext (show (128 * (j 0).val + (j 1).val) % 128 = (j 1).val by omega)

/-- What the gathers leave in the rows buffer. -/
def gathered (T : S8388608x16.Idx → F .f32) (ib : S8x128.Idx → BitVec 32) : S1024x16.Idx → F .f32 :=
  fun j => at2 T (at2 ib ((j 0).val / 128) ((j 0).val % 128)).toNat (j 1).val

/-- What row `t`'s transfer takes and brings back. -/
def Slot (q : PosShare TreeShare) (T : S8388608x16.Idx → F .f32) (ib : S8x128.Idx → BitVec 32) (f : S1024x16.Idx → F .f32)
    (t : Fin 1024) : sProp (MM F) :=
  iprop(((rowsV.view.loc (thr d L) ↦[rowSet t]{fullShare} f)
    ∗ (idxV.view.loc (thr d L) ↦[{entry t}]{fullShare} (ib : Buf (Elt F) (idxV.view.loc (thr d L)))))
    ∗ (tabV.view.loc (thr d L) ↦{pieceOf q 1024 (by decide) t} T))

instance (q : PosShare TreeShare) (T : S8388608x16.Idx → F .f32) (ib : S8x128.Idx → BitVec 32) (f : S1024x16.Idx → F .f32)
    (t : Fin 1024) : BI.Storable (upEmb : UEmb _ (MM F)) (Slot d L q T ib f t) := by unfold Slot; infer_instance

/-- The rows buffer, the list, and the tile's share of the table are the 1024 slots. -/
theorem slots_eq (q : PosShare TreeShare) (T : S8388608x16.Idx → F .f32) (ib : S8x128.Idx → BitVec 32) (f : S1024x16.Idx → F .f32) :
    (bigSep Finset.univ (Slot d L q T ib f) : sProp (MM F))
      = iprop(((rowsV.view.loc (thr d L) ↦{fullShare} f) ∗ (idxV.view.loc (thr d L) ↦{fullShare} (ib : Buf (Elt F) (idxV.view.loc (thr d L)))))
        ∗ (tabV.view.loc (thr d L) ↦{q} T)) := by
  have h1 : (rowsV.view.loc (thr d L) ↦{fullShare} f : sProp (MM F))
      = bigSep Finset.univ fun t : Fin 1024 => rowsV.view.loc (thr d L) ↦[rowSet t]{fullShare} f := by
    have hu : (Finset.univ : Finset S1024x16.Idx) = Finset.univ.biUnion rowSet := by
      ext j; simp only [Finset.mem_univ, Finset.mem_biUnion, _root_.true_and, mem_rowSet, true_iff]
      exact ⟨⟨(j 0).val, (j 0).isLt⟩, rfl⟩
    have := pointsTo_biUnion (Ix := HIx 1) (Name := ℕ) (U := UU) (Lvl := ℕ) (Val := Elt F) (ℓ := rowsV.view.loc (thr d L)) (q := fullShare) (f := (f : Buf (Elt F) (rowsV.view.loc (thr d L)))) Finset.univ rowSet fun k _ k' _ h => by
      rw [Finset.disjoint_left]; intro j hj hj'
      exact h (Fin.ext ((mem_rowSet.mp hj).symm.trans (mem_rowSet.mp hj')))
    rw [← this]
    exact congrArg (fun s : Finset S1024x16.Idx => (rowsV.view.loc (thr d L) ↦[s]{fullShare} f : sProp (MM F))) hu
  have h2 : (idxV.view.loc (thr d L) ↦{fullShare} (ib : Buf (Elt F) (idxV.view.loc (thr d L))) : sProp (MM F))
      = bigSep Finset.univ fun t : Fin 1024 => idxV.view.loc (thr d L) ↦[{entry t}]{fullShare} (ib : Buf (Elt F) (idxV.view.loc (thr d L))) := by
    have := pointsTo_entries (Ix := HIx 1) (Name := ℕ) (U := UU) (Lvl := ℕ) (Val := Elt F) (thr d L) idxV.view entry entry_bijective fullShare (ib : Buf (Elt F) (idxV.view.loc (thr d L)))
    rw [show idxV.view.set = Finset.univ from View.set_whole _] at this
    exact this
  have h3 := pointsTo_piecesOf (Ix := HIx 1) (Name := ℕ) (U := UU) (Lvl := ℕ) (Val := Elt F) (ℓ := tabV.view.loc (thr d L)) Finset.univ T (o := 1024) (by decide) q
  rw [h1, h2, h3, ← bigSep_sep', ← bigSep_sep']
  rfl

/-! ## One gather's memrefs -/

abbrev winD (off : Fin 2 → ℕ) (inb : ∀ a, off a + S128x16.size a ≤ S1024x16.size a) : Memref sig .scVector .vmem S128x16 .f32 :=
  rowsV.slice (Rect.unit (s := S1024x16) off S128x16.size inb) (fun _ => rfl)
abbrev winI (off : Fin 2 → ℕ) (inb : ∀ a, off a + S1x128.size a ≤ S8x128.size a) : Memref sig .scVector .vmem S128 .i32 :=
  (idxV.slice (Rect.unit (s := S8x128) off S1x128.size inb) (fun _ => rfl)).squeeze S128 squeezes_S1x128_S128
abbrev winT (inb : ∀ a, (![0, 0] : Fin 2 → ℕ) a + S8388608x16.size a ≤ S8388608x16.size a) : Memref sig .scVector .hbm S8388608x16 .f32 :=
  tabV.slice (Rect.unit (s := S8388608x16) ![0, 0] S8388608x16.size inb) (fun _ => rfl)

/-- The units of one row's transfer. -/
def rowCredit : ℕ := ((winD ![0, 0] inb_S1024x16_S128x16_0_0).slice (S128x16.rowRect 0 (⟨0, by decide⟩ : Fin 128)) (S128x16.stride_rowRect 0 (⟨0, by decide⟩ : Fin 128))).view.dmaCredit

theorem rowCredit_pos : 0 < rowCredit := View.dmaCredit_pos _ (by decide)

theorem win_credit : (winD ![0, 0] inb_S1024x16_S128x16_0_0).view.dmaCredit = 128 * rowCredit := by decide

theorem winI_emb (c : ℕ) (inb) (hc : c < 8) (k : Fin 128) :
    (winI ![c, 0] inb).view.emb (S128.rowMajor.symm (k.cast rfl)) = (ix2 ⟨c, hc⟩ k : S8x128.Idx) := by
  obtain ⟨y, hy⟩ : ∃ y, y = Shape.reshapeEquiv squeezes_S1x128_S128.numel_eq (S128.rowMajor.symm (k.cast rfl)) := ⟨_, rfl⟩
  have h1 : (S1x128.rowMajor y).val = k.val := by
    rw [hy, Shape.rowMajor_reshapeEquiv, Equiv.apply_symm_apply]; rfl
  have h2 : (S1x128.rowMajor y).val = (y 0).val * 128 + (y 1).val := rowMajor_val2 (d := ![1, 128]) y 128 rfl
  have h0 : (y 0).val < 1 := (y 0).isLt
  have e : (winI ![c, 0] inb).view.emb (S128.rowMajor.symm (k.cast rfl)) = (Rect.unit (s := S8x128) ![c, 0] S1x128.size inb).emb y := by
    rw [hy]; rfl
  rw [e]
  funext a
  match a with
  | 0 => exact Fin.ext (show c + 1 * (y 0).val = c by omega)
  | 1 => exact Fin.ext (show 0 + 1 * (y 1).val = k.val by omega)

theorem winT_set (inb) : (winT inb).view.set = Finset.univ := by
  refine Finset.eq_univ_of_forall fun j => ?_
  refine Finset.mem_map.mpr ⟨j, Finset.mem_univ _, ?_⟩
  funext a
  match a with
  | 0 => exact Fin.ext (show 0 + 1 * (j 0).val = (j 0).val by omega)
  | 1 => exact Fin.ext (show 0 + 1 * (j 1).val = (j 1).val by omega)

theorem winD_emb (c : ℕ) (inb) (k : Fin 128) (x : (S128x16.rowShape 0).Idx) :
    (((winD ![128 * c, 0] inb).view.slice (S128x16.rowRect 0 k)).emb x (0 : Fin 2)).val = 128 * c + k.val
    ∧ (((winD ![128 * c, 0] inb).view.slice (S128x16.rowRect 0 k)).emb x (1 : Fin 2)).val = (x (1 : Fin 2)).val := by
  have hx : (x (0 : Fin 2)).val < 1 := (x (0 : Fin 2)).isLt
  constructor
  · show 128 * c + 1 * (k.val + 1 * (x (0 : Fin 2)).val) = _; omega
  · show 0 + 1 * (0 + 1 * (x (1 : Fin 2)).val) = _; omega

theorem winD_set (c : ℕ) (inb) (hc : c < 8) (k : Fin 128) :
    ((winD ![128 * c, 0] inb).view.slice (S128x16.rowRect 0 k)).set = rowSet ⟨128 * c + k.val, by omega⟩ := by
  ext j
  rw [mem_rowSet]
  constructor
  · intro hj
    obtain ⟨x, -, rfl⟩ := Finset.mem_map.mp hj
    exact (winD_emb c inb k x).1
  · intro hj
    refine Finset.mem_map.mpr ⟨fun a => match a with | ⟨0, _⟩ => ⟨0, Nat.one_pos⟩ | ⟨1, _⟩ => ⟨(j 1).val, (j 1).isLt⟩, Finset.mem_univ _, ?_⟩
    funext a
    match a with
    | 0 => exact Fin.ext ((winD_emb c inb k _).1.trans hj.symm)
    | 1 => exact Fin.ext (winD_emb c inb k _).2

variable {d L}
variable {q : PosShare TreeShare} {T : S8388608x16.Idx → F .f32} {ib : S8x128.Idx → BitVec 32} {f : S1024x16.Idx → F .f32}
variable {α : Type} {Q : α → sProp (MM F)}

theorem row_delivered (c : ℕ) (hc : c < 8) (inbD) (inbI) (inbT) (hin : ∀ x, ((winI ![c, 0] inbI).view.read (Elt F) ib x).toNat < 8388608)
    (k : Fin 128) (j : ((winD ![128 * c, 0] inbD).view.slice (S128x16.rowRect 0 k)).ty.Idx)
    (hj : j ∈ ((winD ![128 * c, 0] inbD).view.slice (S128x16.rowRect 0 k)).set) :
    (((winD ![128 * c, 0] inbD).view.slice (S128x16.rowRect 0 k)).write (Elt F) f
      (fun i => (winT inbT).view.read (Elt F) T (gathers_S8388608x16_S128x16.rowIdx (SparseCore.rows (F := F) ((winI ![c, 0] inbI).view.read (Elt F) ib) rfl hin k) i)) Finset.univ) j
    = gathered T ib j := by
  obtain ⟨x, -, rfl⟩ := Finset.mem_map.mp hj
  have e := winD_emb c inbD k x
  refine (View.write_emb_of_mem (Val := Elt F) (v := (winD ![128 * c, 0] inbD).view.slice (S128x16.rowRect 0 k)) f _ (Finset.mem_univ x)).trans ?_
  unfold gathered
  rw [e.1, e.2]
  have hk := k.isLt
  have e1 : (128 * c + k.val) / 128 = c := by omega
  have e2 : (128 * c + k.val) % 128 = k.val := by omega
  rw [e1, e2]
  have e3 : at2 ib c k.val = (winI ![c, 0] inbI).view.read (Elt F) ib (S128.rowMajor.symm (k.cast rfl)) :=
    (at2_ix ib ⟨c, hc⟩ k).trans (congrArg ib (winI_emb c inbI hc k).symm)
  rw [e3]
  obtain ⟨r, hr⟩ : ∃ r, r = ((winI ![c, 0] inbI).view.read (Elt F) ib (S128.rowMajor.symm (k.cast rfl))).toNat := ⟨_, rfl⟩
  have hr' : r < 8388608 := hr ▸ hin _
  rw [← hr]
  show T _ = T _
  refine congrArg T ?_
  funext a
  match a with
  | 0 =>
    refine Fin.ext ?_
    have h := congrArg Fin.val (Shape.Gathers.rowIdx_axis gathers_S8388608x16_S128x16
      (SparseCore.rows (F := F) ((winI ![c, 0] inbI).view.read (Elt F) ib) rfl hin k) x)
    have h' : (gathers_S8388608x16_S128x16.rowIdx (SparseCore.rows (F := F) ((winI ![c, 0] inbI).view.read (Elt F) ib) rfl hin k) x (0 : Fin 2)).val = r :=
      h.trans hr.symm
    show 0 + 1 * (gathers_S8388608x16_S128x16.rowIdx (SparseCore.rows (F := F) ((winI ![c, 0] inbI).view.read (Elt F) ib) rfl hin k) x (0 : Fin 2)).val = r % 8388608
    omega
  | 1 =>
    refine Fin.ext ?_
    have hx : (x (1 : Fin 2)).val < 16 := (x (1 : Fin 2)).isLt
    have h : (gathers_S8388608x16_S128x16.rowIdx (SparseCore.rows (F := F) ((winI ![c, 0] inbI).view.read (Elt F) ib) rfl hin k) x (1 : Fin 2)).val = (x (1 : Fin 2)).val :=
      Shape.Gathers.rowIdx_of_ne gathers_S8388608x16_S128x16 _ x (1 : Fin 2) (by decide)
    show 0 + 1 * (gathers_S8388608x16_S128x16.rowIdx (SparseCore.rows (F := F) ((winI ![c, 0] inbI).view.read (Elt F) ib) rfl hin k) x (1 : Fin 2)).val = (x (1 : Fin 2)).val % 16
    omega

variable (d L q T ib) in
/-- A slot as gather `c`'s memrefs name its parts. -/
theorem slot_eq (c : ℕ) (hc : c < 8) (hle : 128 * c + 128 ≤ 1024) (inbD) (inbI) (inbT) (f : S1024x16.Idx → F .f32) (k : Fin 128) :
    Slot d L q T ib f (nextEmb hle k)
      = iprop((((winD ![128 * c, 0] inbD).view.loc (thr d L) ↦[((winD ![128 * c, 0] inbD).view.slice (S128x16.rowRect 0 k)).set]{fullShare} f)
        ∗ ((winI ![c, 0] inbI).view.loc (thr d L) ↦[{(winI ![c, 0] inbI).view.emb (S128.rowMajor.symm (k.cast rfl))}]{fullShare} (ib : Buf (Elt F) (idxV.view.loc (thr d L)))))
        ∗ ((winT inbT).view.loc (thr d L) ↦[(winT inbT).view.set]{pieceOf q 1024 (by decide) (nextEmb hle k)} T)) := by
  rw [winD_set c inbD hc k, winT_set, winI_emb c inbI hc k]
  have e : entry (nextEmb hle k) = ix2 ⟨c, hc⟩ k := by
    have hk := k.isLt
    funext a
    match a with
    | 0 => exact Fin.ext (show (128 * c + k.val) / 128 = c by omega)
    | 1 => exact Fin.ext (show (128 * c + k.val) % 128 = k.val by omega)
  unfold Slot
  rw [e]
  rfl

/-- What gather `c` delivers of row `k` is the row's slot, the row at what the gathers leave there. -/
theorem slot_delivered (c : ℕ) (hc : c < 8) (hle : 128 * c + 128 ≤ 1024) (inbD) (inbI) (inbT)
    (hin : ∀ x, ((winI ![c, 0] inbI).view.read (Elt F) ib x).toNat < 8388608) (k : Fin 128) :
    iprop((((winD ![128 * c, 0] inbD).view.loc (thr d L) ↦[((winD ![128 * c, 0] inbD).view.slice (S128x16.rowRect 0 k)).set]{fullShare}
          (((winD ![128 * c, 0] inbD).view.slice (S128x16.rowRect 0 k)).write (Elt F) f
            (fun i => (winT inbT).view.read (Elt F) T (gathers_S8388608x16_S128x16.rowIdx (SparseCore.rows (F := F) ((winI ![c, 0] inbI).view.read (Elt F) ib) rfl hin k) i)) Finset.univ))
        ∗ ((winI ![c, 0] inbI).view.loc (thr d L) ↦[{(winI ![c, 0] inbI).view.emb (S128.rowMajor.symm (k.cast rfl))}]{fullShare} (ib : Buf (Elt F) (idxV.view.loc (thr d L)))))
        ∗ ((winT inbT).view.loc (thr d L) ↦[(winT inbT).view.set]{pieceOf q 1024 (by decide) (nextEmb hle k)} T))
      ⊢ (Slot d L q T ib (gathered T ib) (nextEmb hle k) : sProp (MM F)) := by
  refine BIBase.Entails.trans ?_ (Entails.of_eq (slot_eq d L q T ib c hc hle inbD inbI inbT (gathered T ib) k).symm)
  iintro ⟨⟨Hr, He⟩, Ht⟩
  ihave Hr' := (Entails.of_eq (pointsTo_congr (ℓ := (winD ![128 * c, 0] inbD).view.loc (thr d L)) (q := fullShare) (f := (((winD ![128 * c, 0] inbD).view.slice (S128x16.rowRect 0 k)).write (Elt F) f
    (fun i => (winT inbT).view.read (Elt F) T (gathers_S8388608x16_S128x16.rowIdx (SparseCore.rows (F := F) ((winI ![c, 0] inbI).view.read (Elt F) ib) rfl hin k) i)) Finset.univ))
    (g := gathered T ib) (fun j hj => row_delivered (f := f) c hc inbD inbI inbT hin k j hj))) $$ Hr
  isplitl [Hr' He]
  · isplitl [Hr']; · iexact Hr'
    iexact He
  iexact Ht

variable (d L) in
/-- What the tile owes at a point of its run: what it did at the start, and waits only for local transfers. -/
def Owing (O : CellTallies nD τ sig (HIx 1)) (W : Waits sig (HIx 1)) : sProp (MM F) :=
  iprop(∃ W', ⌜∀ p ∈ W', p ∈ W ∨ p.2 = none⌝ ∗ owes (thr d L) O W')

variable (d L q T ib) in
/-- The batch of the chunk's 1024 row transfers, `j` of them issued and `u` units of them waited for. -/
abbrev Fetching (j u : ℕ) : sProp (MM F) :=
  Batch countersEmb (thr d L) (.dma cc0_scratch8.sem) (none : HIx 1) rowCredit (Slot d L q T (ib : S8x128.Idx → BitVec 32) (gathered T ib)) j u

/-- Gather `c` issued. -/
theorem st_fetch {R : sProp (MM F)} (c j j' : ℕ) (hc : c < 8) (hj : j = 128 * c) (hj' : j' = 128 * c + 128) {offD offI : Fin 2 → ℕ}
    (hD : offD = ![128 * c, 0]) (hI : offI = ![c, 0]) (inbD) (inbI) (inbT) {hn} {h1} {h2} {h3} {h4} {k : PUnit → PT L F α}
    (hib : ∀ x, (ib x).toNat < 8388608)
    (hk : iprop(R ∗ bigSep (pending j') (Slot d L q T ib f) ∗ Fetching d L q T ib j' 0) ⊢ Runs d L (k ⟨⟩) Q) :
    iprop(R ∗ bigSep (pending j) (Slot d L q T ib f) ∗ Fetching d L q T ib j 0)
      ⊢ Runs d L (SparseCore.enqueueIndirectGather rfl (winT inbT) (winD offD inbD) gathers_S8388608x16_S128x16 (winI offI inbI) hn
          cc0_scratch8.sem h1 h2 h3 h4 >>= k) Q := by
  subst hD hI hj hj'
  unfold Runs at hk ⊢
  have hle : 128 * c + 128 ≤ 1024 := by omega
  have hin : ∀ x, ((winI ![c, 0] inbI).view.read (Elt F) ib x).toNat < 8388608 := fun x => hib _
  iintro ⟨HR, Hp, HB⟩
  ihave Hp' := (Entails.of_eq (bigSep_pending_add hle (Slot d L q T ib f))) $$ Hp
  icases Hp' with ⟨Hs, Hp⟩
  have he := bigSep_congr (M := MM F) (s := (Finset.univ : Finset (Fin 128))) fun k _ => slot_eq d L q T ib c hc hle inbD inbI inbT f k
  ihave Hs' := (Entails.of_eq he) $$ Hs
  iapply (wp_gatherOnBatch countersEmb 𝒱₀ (thr d L) none (hg := gathers_S8388608x16_S128x16)
    (qk := fun k : Fin 128 => pieceOf q 1024 (by decide) (nextEmb hle k)) (qo := fullShare) (fs := T) (fd := f)
    (fo := (ib : Buf (Elt F) (idxV.view.loc (thr d L)))) (D := Slot d L q T ib (gathered T ib)) (N := rowCredit) (none : HIx 1)
    (fun _ => rfl) hle (Nat.zero_le _) hin (fun k => ?hD)) $$ [Hs' HB]
  case hD =>
    exact slot_delivered c hc hle inbD inbI inbT hin k
  · isplitl [Hs']; · iexact Hs'
    iexact HB
  · iintro HB
    iapply hk
    isplitl [HR]; · iexact HR
    isplitl [Hp]; · iexact Hp
    iexact HB

/-- The wait for one gather's units. -/
theorem st_await {R : sProp (MM F)} {O : CellTallies nD τ sig (HIx 1)} {W : Waits sig (HIx 1)} (u u' : ℕ) (hu : u' = u + 128 * rowCredit) (hle : u' ≤ rowCredit * 1024)
    {offD : Fin 2 → ℕ} (inbD) (inbT) {h1} {h2} {k : PUnit → PT L F α}
    (hk : iprop((Transfers.MayWaits (thr d L) (none : HIx 1) O ∗ R) ∗ Fetching d L q T ib 1024 u' ∗ Owing d L O W) ⊢ Runs d L (k ⟨⟩) Q) :
    iprop((Transfers.MayWaits (thr d L) (none : HIx 1) O ∗ R) ∗ Fetching d L q T ib 1024 u ∗ Owing d L O W)
      ⊢ Runs d L (SparseCore.waitIndirectGather cc0_scratch8.sem (winT inbT) (winD offD inbD) h1 h2 >>= k) Q := by
  subst hu
  unfold Runs Owing at hk ⊢
  change _ ⊢ wp frame (wpE (defs₀ (F := F)) 𝒱₀ (thr d L) none) Set.univ (.op (.waitDma2 cc0_scratch8.sem (winT inbT) (winD offD inbD) h1 h2) k) Q
  iintro ⟨⟨#Hmw, HR⟩, HB, %W', %hW, HO⟩
  iapply (Transfers.wp_waitBatchMulO countersEmb 𝒱₀ (thr d L) none (none : HIx 1) 128 (show (winD offD inbD).view.dmaCredit = 128 * rowCredit from win_credit) hle) $$ [HB HO]
  · isplitl [HB]; · iexact HB
    isplitl [HO]; · iexact HO
    iapply (Transfers.MayWaits.elim (SemLoc.dma cc0_scratch8.sem)) $$ Hmw
  · iintro ⟨HB, HO⟩
    iapply hk
    isplitl [HR]
    · isplitr; · iexact Hmw
      iexact HR
    isplitl [HB]; · iexact HB
    iexists (insert (SemLoc.dma cc0_scratch8.sem, (none : HIx 1)) W')
    isplitr
    · ipureintro
      intro p hp
      rcases Finset.mem_insert.mp hp with rfl | hp
      · exact Or.inr rfl
      · exact hW p hp
    iexact HO

end Cert.KernelIdeal.Tile
-- ==== Proof.KernelIdeal.Build.lean ====
/-
One trip of the loop that builds a chunk's corners: for sixteen points, each of the eight corners' rows of the
table and weights, stored a corner to a row of the two buffers.
-/
module
public import proofs.«01_k».proof.Proof.KernelIdeal.InterpSteps

@[expose] public section

noncomputable section

namespace Cert.KernelIdeal.Tile

open Cert.KernelIdeal Cert.KernelIdeal.Gen Cert.Interp

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Sixteen entries of a chunk's coordinates, from `16 * t`. -/
def lv (x : S128.Idx → F .f32) (t : ℕ) : FVec F S16 .f32 := fun i => at1 x (16 * t + (i 0).val)

theorem shapeCast_row {α : Type} (v : S16.Idx → α) (x : S1x16.Idx) :
    shapeCast S1x16 v shapeCasts_S16_S1x16 x = v (ix1 (x 1)) := by
  unfold shapeCast
  refine congrArg v ?_
  have h : (S1x16.rowMajor x).val = (x 0).val * 16 + (x 1).val := rowMajor_val2 (d := ![1, 16]) x 16 rfl
  have h' : (S16.rowMajor (Shape.reshapeEquiv shapeCasts_S16_S1x16 x)).val = (S1x16.rowMajor x).val := by
    rw [Shape.rowMajor_reshapeEquiv]
  rw [rowMajor_val1] at h'
  have h0 : (x 0).val < 1 := (x 0).isLt
  funext a
  match a with
  | 0 =>
    refine Fin.ext ?_
    show ((Shape.reshapeEquiv shapeCasts_S16_S1x16 x) 0).val = (x 1).val
    omega

/-- Of a buffer of eight rows: the first `n` columns are in place, and of the sixteen columns after them the first `m` rows. -/
def RowsDone {α : Type} (G : ℕ → ℕ → α) (b : S8x128.Idx → α) (n m : ℕ) : Prop :=
  ∀ (c : Fin 8) (p : Fin 128), (p.val < n ∨ (p.val < n + 16 ∧ c.val < m)) → b (ix2 c p) = G c.val p.val

theorem rowsDone_write {e : EltTy} (mm : Memref sig .scVector .vmem S8x128 e)
    {G : ℕ → ℕ → Elt F e} (b : mm.view.ty.Contents (Elt F)) (t m : ℕ) (hm : m < 8)
    {off : Fin 2 → ℕ} {inb} {v : S16.Idx → Elt F e} (ho : off = ![m, 16 * t])
    (hv : ∀ i : S16.Idx, v i = G m (16 * t + (i 0).val)) (hD : RowsDone G (mm.view.read (Elt F) b) (16 * t) m) :
    RowsDone G (mm.view.read (Elt F) ((mm.access (Rect.unit (s := S8x128) off S1x16.size inb)).write (Elt F) b
      (shapeCast S1x16 v shapeCasts_S16_S1x16) Finset.univ)) (16 * t) (m + 1) := by
  intro c p hp
  by_cases h : c.val = m ∧ 16 * t ≤ p.val ∧ p.val < 16 * t + 16
  · obtain ⟨h1, h2, h3⟩ := h
    obtain ⟨k, hk⟩ : ∃ k : ℕ, p.val = 16 * t + k := ⟨p.val - 16 * t, by omega⟩
    have hk16 : k < 16 := by omega
    refine (View.read_writes_cons_unit_of_mem (Val := Elt F) mm.view b inb _ [] (ix2 c p) (ix2 0 ⟨k, hk16⟩) ho ?_).trans ?_
    · intro a
      match a with
      | 0 => show c.val = m + 0; omega
      | 1 => exact hk
    · refine (shapeCast_row v (ix2 (n0 := 1) (n1 := 16) 0 ⟨k, hk16⟩)).trans ((hv _).trans ?_)
      rw [h1, hk]
      rfl
  · refine Eq.trans ?_ (hD c p (by omega))
    by_cases hc : c.val = m
    · refine View.read_writes_cons_unit_of_not_mem (Val := Elt F) mm.view b inb _ [] (ix2 c p) ho 1 ?_
      show p.val < 16 * t ∨ 16 * t + 16 ≤ p.val
      omega
    · refine View.read_writes_cons_unit_of_not_mem (Val := Elt F) mm.view b inb _ [] (ix2 c p) ho 0 ?_
      show c.val < m ∨ m + 1 ≤ c.val
      omega

variable (d : Dev nD) (L : grid0.Coords)

/-- What the loop holds: the chunk's coordinates, the corners' rows, and their weights. -/
def BRes (x y z : S128.Idx → F .f32) (ib : S8x128.Idx → BitVec 32) (wb : S8x128.Idx → F .f32) : sProp (MM F) :=
  iprop((xV.view.loc (thr d L) ↦{fullShare} x) ∗ (yV.view.loc (thr d L) ↦{fullShare} y) ∗ (zV.view.loc (thr d L) ↦{fullShare} z)
    ∗ (idxV.view.loc (thr d L) ↦{fullShare} (ib : Buf (Elt F) (idxV.view.loc (thr d L)))) ∗ (wV.view.loc (thr d L) ↦{fullShare} wb))

variable {d L}
variable {x y z : S128.Idx → F .f32} {ib : S8x128.Idx → BitVec 32} {wb : S8x128.Idx → F .f32}
variable {α : Type} {Q : α → sProp (MM F)}

theorem st_lx (t : ℕ) {off : Fin 1 → ℕ} {inb} {hl} {k : Vec F S16 .f32 → PT L F α} (ho : off = ![16 * t])
    (hk : BRes d L x y z ib wb ⊢ Runs d L (k (lv x t)) Q) :
    BRes d L x y z ib wb ⊢ Runs d L (Prog.lift (.load xV (Rect.unit (s := S128) off S16.size inb).toLoadRect hl) >>= k) Q := by
  have e : (xV.access (Rect.unit (s := S128) off S16.size inb)).read (Elt F) x = lv x t := by
    subst ho
    funext i
    show x _ = x _
    refine congrArg x ?_
    have h0 := inb 0
    funext a
    match a with
    | 0 =>
      refine Fin.ext ?_
      show 16 * t + 1 * (i 0).val = (16 * t + (i 0).val) % 128
      have hx : (i 0).val < 16 := (i 0).isLt
      have : 16 * t + 16 ≤ 128 := h0
      omega
  unfold BRes Runs at hk ⊢
  iintro ⟨Hx, Hy, Hz, Hi, Hw⟩
  iapply (wp_load_rect (m := xV) (r := Rect.unit (s := S128) off S16.size inb) 𝒱₀ (thr d L) none Set.univ (S := Finset.univ) (q := fullShare) (f := x) (Finset.subset_univ _)) $$ Hx
  iintro Hx
  rw [e]
  iapply hk $$ [Hx Hy Hz Hi Hw]
  isplitl [Hx]; · iexact Hx
  isplitl [Hy]; · iexact Hy
  isplitl [Hz]; · iexact Hz
  isplitl [Hi]; · iexact Hi
  iexact Hw

theorem st_ly (t : ℕ) {off : Fin 1 → ℕ} {inb} {hl} {k : Vec F S16 .f32 → PT L F α} (ho : off = ![16 * t])
    (hk : BRes d L x y z ib wb ⊢ Runs d L (k (lv y t)) Q) :
    BRes d L x y z ib wb ⊢ Runs d L (Prog.lift (.load yV (Rect.unit (s := S128) off S16.size inb).toLoadRect hl) >>= k) Q := by
  have e : (yV.access (Rect.unit (s := S128) off S16.size inb)).read (Elt F) y = lv y t := by
    subst ho
    funext i
    show y _ = y _
    refine congrArg y ?_
    have h0 := inb 0
    funext a
    match a with
    | 0 =>
      refine Fin.ext ?_
      show 16 * t + 1 * (i 0).val = (16 * t + (i 0).val) % 128
      have hx : (i 0).val < 16 := (i 0).isLt
      have : 16 * t + 16 ≤ 128 := h0
      omega
  unfold BRes Runs at hk ⊢
  iintro ⟨Hx, Hy, Hz, Hi, Hw⟩
  iapply (wp_load_rect (m := yV) (r := Rect.unit (s := S128) off S16.size inb) 𝒱₀ (thr d L) none Set.univ (S := Finset.univ) (q := fullShare) (f := y) (Finset.subset_univ _)) $$ Hy
  iintro Hy
  rw [e]
  iapply hk $$ [Hx Hy Hz Hi Hw]
  isplitl [Hx]; · iexact Hx
  isplitl [Hy]; · iexact Hy
  isplitl [Hz]; · iexact Hz
  isplitl [Hi]; · iexact Hi
  iexact Hw

theorem st_lz (t : ℕ) {off : Fin 1 → ℕ} {inb} {hl} {k : Vec F S16 .f32 → PT L F α} (ho : off = ![16 * t])
    (hk : BRes d L x y z ib wb ⊢ Runs d L (k (lv z t)) Q) :
    BRes d L x y z ib wb ⊢ Runs d L (Prog.lift (.load zV (Rect.unit (s := S128) off S16.size inb).toLoadRect hl) >>= k) Q := by
  have e : (zV.access (Rect.unit (s := S128) off S16.size inb)).read (Elt F) z = lv z t := by
    subst ho
    funext i
    show z _ = z _
    refine congrArg z ?_
    have h0 := inb 0
    funext a
    match a with
    | 0 =>
      refine Fin.ext ?_
      show 16 * t + 1 * (i 0).val = (16 * t + (i 0).val) % 128
      have hx : (i 0).val < 16 := (i 0).isLt
      have : 16 * t + 16 ≤ 128 := h0
      omega
  unfold BRes Runs at hk ⊢
  iintro ⟨Hx, Hy, Hz, Hi, Hw⟩
  iapply (wp_load_rect (m := zV) (r := Rect.unit (s := S128) off S16.size inb) 𝒱₀ (thr d L) none Set.univ (S := Finset.univ) (q := fullShare) (f := z) (Finset.subset_univ _)) $$ Hz
  iintro Hz
  rw [e]
  iapply hk $$ [Hx Hy Hz Hi Hw]
  isplitl [Hx]; · iexact Hx
  isplitl [Hy]; · iexact Hy
  isplitl [Hz]; · iexact Hz
  isplitl [Hi]; · iexact Hi
  iexact Hw

theorem st_iload {off : Fin 2 → ℕ} {inb} {hl} {k : Vec F S1x16 .i32 → PT L F α}
    (hk : ∀ v, BRes d L x y z ib wb ⊢ Runs d L (k v) Q) :
    BRes d L x y z ib wb ⊢ Runs d L (Prog.lift (.load idxV (Rect.unit (s := S8x128) off S1x16.size inb).toLoadRect hl) >>= k) Q := by
  unfold BRes Runs at hk ⊢
  iintro ⟨Hx, Hy, Hz, Hi, Hw⟩
  iapply (wp_load_rect (m := idxV) (r := Rect.unit (s := S8x128) off S1x16.size inb) 𝒱₀ (thr d L) none Set.univ (S := Finset.univ) (q := fullShare) (f := ib) (Finset.subset_univ _)) $$ Hi
  iintro Hi
  iapply (hk _) $$ [Hx Hy Hz Hi Hw]
  isplitl [Hx]; · iexact Hx
  isplitl [Hy]; · iexact Hy
  isplitl [Hz]; · iexact Hz
  isplitl [Hi]; · iexact Hi
  iexact Hw

theorem st_wload {off : Fin 2 → ℕ} {inb} {hl} {k : Vec F S1x16 .f32 → PT L F α}
    (hk : ∀ v, BRes d L x y z ib wb ⊢ Runs d L (k v) Q) :
    BRes d L x y z ib wb ⊢ Runs d L (Prog.lift (.load wV (Rect.unit (s := S8x128) off S1x16.size inb).toLoadRect hl) >>= k) Q := by
  unfold BRes Runs at hk ⊢
  iintro ⟨Hx, Hy, Hz, Hi, Hw⟩
  iapply (wp_load_rect (m := wV) (r := Rect.unit (s := S8x128) off S1x16.size inb) 𝒱₀ (thr d L) none Set.univ (S := Finset.univ) (q := fullShare) (f := wb) (Finset.subset_univ _)) $$ Hw
  iintro Hw
  iapply (hk _) $$ [Hx Hy Hz Hi Hw]
  isplitl [Hx]; · iexact Hx
  isplitl [Hy]; · iexact Hy
  isplitl [Hz]; · iexact Hz
  isplitl [Hi]; · iexact Hi
  iexact Hw

theorem st_istore (t m : ℕ) (hm : m < 8) {G : ℕ → ℕ → BitVec 32} {off : Fin 2 → ℕ} {inb} {hx} {hq} {v : S16.Idx → BitVec 32}
    {k : PUnit → PT L F α} (ho : off = ![m, 16 * t]) (hv : ∀ i : S16.Idx, v i = G m (16 * t + (i 0).val)) (hD : RowsDone G ib (16 * t) m)
    (hk : ∀ B, RowsDone G B (16 * t) (m + 1) → BRes d L x y z B wb ⊢ Runs d L (k ⟨⟩) Q) :
    BRes d L x y z ib wb ⊢ Runs d L
      (Prog.lift (.store idxV (Rect.unit (s := S8x128) off S1x16.size inb) (shapeCast S1x16 v shapeCasts_S16_S1x16) Finset.univ hx hq) >>= k) Q := by
  have hk' := hk _ (rowsDone_write (F := F) idxV (G := G) ib t m hm (inb := inb) (v := v) ho hv hD)
  clear hk
  unfold BRes Runs at hk' ⊢
  iintro ⟨Hx, Hy, Hz, Hi, Hw⟩
  iapply (wp_store (m := idxV) (r := Rect.unit (s := S8x128) off S1x16.size inb) 𝒱₀ (thr d L) none Set.univ (S := Finset.univ) (f := ib) (Finset.subset_univ _)) $$ Hi
  iintro Hi
  iapply hk' $$ [Hx Hy Hz Hi Hw]
  isplitl [Hx]; · iexact Hx
  isplitl [Hy]; · iexact Hy
  isplitl [Hz]; · iexact Hz
  isplitl [Hi]; · iexact Hi
  iexact Hw

theorem st_wstore (t m : ℕ) (hm : m < 8) {G : ℕ → ℕ → F .f32} {off : Fin 2 → ℕ} {inb} {hx} {hq} {v : S16.Idx → F .f32}
    {k : PUnit → PT L F α} (ho : off = ![m, 16 * t]) (hv : ∀ i : S16.Idx, v i = G m (16 * t + (i 0).val)) (hD : RowsDone G wb (16 * t) m)
    (hk : ∀ B, RowsDone G B (16 * t) (m + 1) → BRes d L x y z ib B ⊢ Runs d L (k ⟨⟩) Q) :
    BRes d L x y z ib wb ⊢ Runs d L
      (Prog.lift (.store wV (Rect.unit (s := S8x128) off S1x16.size inb) (shapeCast S1x16 v shapeCasts_S16_S1x16) Finset.univ hx hq) >>= k) Q := by
  have hk' := hk _ (rowsDone_write (F := F) wV (G := G) wb t m hm (inb := inb) (v := v) ho hv hD)
  clear hk
  unfold BRes Runs at hk' ⊢
  iintro ⟨Hx, Hy, Hz, Hi, Hw⟩
  iapply (wp_store (m := wV) (r := Rect.unit (s := S8x128) off S1x16.size inb) 𝒱₀ (thr d L) none Set.univ (S := Finset.univ) (f := wb) (Finset.subset_univ _)) $$ Hw
  iintro Hw
  iapply hk' $$ [Hx Hy Hz Hi Hw]
  isplitl [Hx]; · iexact Hx
  isplitl [Hy]; · iexact Hy
  isplitl [Hz]; · iexact Hz
  isplitl [Hi]; · iexact Hi
  iexact Hw

/-- Corner `c`'s row of the table for point `p` of the chunk. -/
abbrev chunkCorner (base : BitVec 32) (x y z : S128.Idx → F .f32) (c p : ℕ) : BitVec 32 := corner base c (at1 x p) (at1 y p) (at1 z p)
/-- Corner `c`'s weight for point `p` of the chunk. -/
abbrev chunkWeight (x y z : S128.Idx → F .f32) (c p : ℕ) : F .f32 := weight c (at1 x p) (at1 y p) (at1 z p)

set_option maxHeartbeats 4000000 in
/-- Trip `t` of the loop building the corners: sixteen more points done. -/
theorem build_trip (v1 base c0 c1 : BitVec 32) (k1 : Fin k0_t1_loop.trips) (t : Fin k0_t2_loop.trips)
    (hI0 : RowsDone (chunkCorner base x y z) ib (16 * t.val) 0) (hW0 : RowsDone (chunkWeight x y z) wb (16 * t.val) 0) :
    BRes d L x y z ib wb ⊢ Runs d L
      (k0_t2_body L tabV (Memref.isWhole_whole _) gxV (Memref.isWhole_whole _) gyV (Memref.isWhole_whole _) gzV (Memref.isWhole_whole _) densV (Memref.isWhole_whole _) featV (Memref.isWhole_whole _) xV (Memref.isWhole_whole _) yV (Memref.isWhole_whole _) zV (Memref.isWhole_whole _) idxV (Memref.isWhole_whole _) wV (Memref.isWhole_whole _) rowsV (Memref.isWhole_whole _) dV (Memref.isWhole_whole _) fV (Memref.isWhole_whole _) cc0_scratch8 cc0_scoped0 cc0_scoped1 cc0_scoped2 cc0_scoped3 cc0_scoped4
        v1 base c0 c1 k1 t ())
      (fun _ => iprop(∃ ib' : S8x128.Idx → BitVec 32, ∃ wb' : S8x128.Idx → F .f32,
        ⌜RowsDone (chunkCorner base x y z) ib' (16 * t.val) 8 ∧ RowsDone (chunkWeight x y z) wb' (16 * t.val) 8⌝ ∗ BRes d L x y z ib' wb')) := by
  unfold k0_t2_body
  refine st_part ?_
  rw [k0_part1_eq_skeleton]; unfold k0_part1_skel
  refine st_lx t.val (k0_off2_eq t) ?_
  refine st_pure ?_
  dsimp only
  refine st_part ?_
  rw [k0_part2_eq_skeleton]; unfold k0_part2_skel
  refine st_ly t.val (k0_off2_eq t) ?_
  refine st_lz t.val (k0_off2_eq t) ?_
  refine st_pure ?_
  dsimp only
  refine st_part ?_
  rw [k0_part3_eq_skeleton]; unfold k0_part3_skel
  refine st_pure ?_
  dsimp only
  refine st_part ?_
  rw [k0_part4_eq_skeleton]; unfold k0_part4_skel
  refine st_iload fun _ => ?_
  refine st_istore t.val 0 (by decide) (k0_off3_eq t) (fun _ => rfl) hI0 ?_
  intro ib1 hI1
  refine st_wload fun _ => ?_
  refine st_wstore t.val 0 (by decide) (k0_off3_eq t) (fun _ => rfl) hW0 ?_
  intro wb1 hW1
  refine st_iload fun _ => ?_
  refine st_istore t.val 1 (by decide) (k0_off4_eq t) (fun _ => rfl) hI1 ?_
  intro ib2 hI2
  refine st_wload fun _ => ?_
  refine st_wstore t.val 1 (by decide) (k0_off4_eq t) (fun _ => rfl) hW1 ?_
  intro wb2 hW2
  refine st_iload fun _ => ?_
  refine st_istore t.val 2 (by decide) (k0_off5_eq t) (fun _ => rfl) hI2 ?_
  intro ib3 hI3
  refine st_pure ?_
  refine st_part ?_
  rw [k0_part5_eq_skeleton]; unfold k0_part5_skel
  refine st_wload fun _ => ?_
  refine st_wstore t.val 2 (by decide) (k0_off5_eq t) (fun _ => rfl) hW2 ?_
  intro wb3 hW3
  refine st_iload fun _ => ?_
  refine st_istore t.val 3 (by decide) (k0_off6_eq t) (fun _ => rfl) hI3 ?_
  intro ib4 hI4
  refine st_wload fun _ => ?_
  refine st_wstore t.val 3 (by decide) (k0_off6_eq t) (fun _ => rfl) hW3 ?_
  intro wb4 hW4
  refine st_iload fun _ => ?_
  refine st_istore t.val 4 (by decide) (k0_off7_eq t) (fun _ => rfl) hI4 ?_
  intro ib5 hI5
  refine st_wload fun _ => ?_
  refine st_wstore t.val 4 (by decide) (k0_off7_eq t) (fun _ => rfl) hW4 ?_
  intro wb5 hW5
  refine st_pure ?_
  dsimp only
  refine st_part ?_
  rw [k0_part6_eq_skeleton]; unfold k0_part6_skel
  refine st_iload fun _ => ?_
  refine st_istore t.val 5 (by decide) (k0_off8_eq t) (fun _ => rfl) hI5 ?_
  intro ib6 hI6
  refine st_wload fun _ => ?_
  refine st_wstore t.val 5 (by decide) (k0_off8_eq t) (fun _ => rfl) hW5 ?_
  intro wb6 hW6
  refine st_iload fun _ => ?_
  refine st_istore t.val 6 (by decide) (k0_off9_eq t) (fun _ => rfl) hI6 ?_
  intro ib7 hI7
  refine st_wload fun _ => ?_
  refine st_wstore t.val 6 (by decide) (k0_off9_eq t) (fun _ => rfl) hW6 ?_
  intro wb7 hW7
  refine st_iload fun _ => ?_
  refine st_istore t.val 7 (by decide) (k0_off10_eq t) (fun _ => rfl) hI7 ?_
  intro ib8 hI8
  refine st_pure ?_
  refine st_wload fun _ => ?_
  refine st_wstore t.val 7 (by decide) (k0_off10_eq t) (fun _ => rfl) hW7 ?_
  intro wb8 hW8
  refine st_pure ?_
  iintro H
  iexists ib8, wb8
  isplitr; · ipureintro; exact ⟨hI8, hW8⟩
  iexact H

end Cert.KernelIdeal.Tile
-- ==== Proof.KernelIdeal.Copy.lean ====
/-
One chunk's copies: a slice of an array in HBM brought to a buffer of the tile, and a buffer taken back to a slice; and
what the chunk's buffers hold in terms of the points' numbers.
-/
module
public import proofs.«01_k».proof.Proof.KernelIdeal.Fetch
public import proofs.«01_k».proof.Proof.KernelIdeal.Build

@[expose] public section

noncomputable section

namespace Cert.KernelIdeal.Tile

open Cert.KernelIdeal Cert.KernelIdeal.Gen Cert.Interp

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)

variable {F : FTy → Type} [FloatOps F]
variable {d : Dev nD} {L : grid0.Coords}
variable {α : Type} {Q : α → sProp (MM F)}
variable {O : CellTallies nD τ sig (HIx 1)} {W : Waits sig (HIx 1)}

theorem owing_insert (sm : SemLoc sig) (W' : Waits sig (HIx 1)) (hW : ∀ p ∈ W', p ∈ W ∨ p.2 = none) :
    (owes (thr d L) O (insert (sm, (none : HIx 1)) W') : sProp (MM F)) ⊢ Owing d L O W := by
  unfold Owing
  iintro HO
  iexists (insert (sm, (none : HIx 1)) W')
  isplitr
  · ipureintro
    intro p hp
    rcases Finset.mem_insert.mp hp with rfl | hp
    · exact Or.inr rfl
    · exact hW p hp
  iexact HO

/-- A copy issued and waited for at once: the destination at what the source held. -/
theorem wp_copy {sp sp' : Space} {s : Shape} {e : EltTy} (src : Memref sig .scVector sp s e) (dst : Memref sig .scVector sp' s e) (sem : DmaSem sig)
    {q : PosShare TreeShare} {fs : Buf (Elt F) (src.view.loc (thr d L))} {fd : Buf (Elt F) (dst.view.loc (thr d L))}
    (Ss : Finset (Idx (src.view.loc (thr d L)))) (Sd : Finset (Idx (dst.view.loc (thr d L))))
    (hS : src.view.set ⊆ Ss) (hD : dst.view.set ⊆ Sd) (hN : 0 < dst.view.dmaCredit) {h1} {h2} {h3} {h4} {h5} {k : PUnit → PT L F α} :
    iprop((src.view.loc (thr d L) ↦[Ss]{q} fs) ∗ (dst.view.loc (thr d L) ↦[Sd]{fullShare} fd) ∗ semVal (thr d L, .dma sem) 0
        ∗ Transfers.MayWaits (thr d L) (none : HIx 1) O ∗ Owing d L O W)
      ⊢ iprop((((src.view.loc (thr d L) ↦[Ss]{q} fs)
          ∗ (dst.view.loc (thr d L) ↦[Sd]{fullShare} (dst.view.write (Elt F) fd (src.view.read (Elt F) fs) Finset.univ))
          ∗ semVal (thr d L, .dma sem) 0 ∗ Owing d L O W) -∗ Runs d L (k ⟨⟩) Q)
        -∗ Runs d L (Prog.lift (.enqueueDma src (.here dst) (.dma sem) h1 h2 h3) >>= fun _ => Prog.lift (.waitDma2 sem src dst h4 h5) >>= k) Q) := by
  unfold Runs
  iintro ⟨Hs, Hd, Hv, #Hmw, HO⟩ Hk
  ihave HO' := (show Owing d L O W ⊢ (iprop(∃ W', ⌜∀ p ∈ W', p ∈ W ∨ p.2 = none⌝ ∗ owes (thr d L) O W') : sProp (MM F)) from .rfl) $$ HO
  icases HO' with ⟨%W', %hW, HO⟩
  ihave Hs' := (pointsTo_split_subset (q := q) (f := fs) hS).1 $$ Hs
  icases Hs' with ⟨Hs, Hr⟩
  iapply (Transfers.wp_dmaLocal countersEmb 𝒱₀ (thr d L) none (src := src) (dst := dst) (sm := .dma sem) (via := ReadAs.same) (none : HIx 1) dst.view.dmaCredit rfl hN hD) $$ [Hs Hd Hv]
  · isplitl [Hs]; · iexact Hs
    isplitl [Hd]; · iexact Hd
    iexact Hv
  iintro Hf
  iapply (Transfers.wp_waitLocalO countersEmb 𝒱₀ (thr d L) none (none : HIx 1) (rfl : dst.view.dmaCredit = _)) $$ [Hf HO]
  · isplitl [Hf]; · iexact Hf
    isplitl [HO]; · iexact HO
    iapply (Transfers.MayWaits.elim (SemLoc.dma sem)) $$ Hmw
  iintro ⟨⟨Hd, Hs⟩, Hv, HO⟩
  iapply Hk
  isplitl [Hs Hr]
  · iapply (pointsTo_split_subset (q := q) (f := fs) hS).2
    isplitl [Hs] <;> iassumption
  isplitl [Hd]; · iexact Hd
  isplitl [Hv]; · iexact Hv
  iapply (owing_insert (SemLoc.dma sem) W' hW) $$ HO

variable {q : PosShare TreeShare} {T : S8388608x16.Idx → F .f32} {ib : S8x128.Idx → BitVec 32} {f : S1024x16.Idx → F .f32}

theorem wp_fetch (c j j' : ℕ) (hc : c < 8) (hj : j = 128 * c) (hj' : j' = 128 * c + 128) {offD offI : Fin 2 → ℕ}
    (hD : offD = ![128 * c, 0]) (hI : offI = ![c, 0]) (inbD) (inbI) (inbT) {hn} {h1} {h2} {h3} {h4} {k : PUnit → PT L F α}
    (hib : ∀ x, (ib x).toNat < 8388608) :
    iprop(bigSep (pending j) (Slot d L q T ib f) ∗ Fetching d L q T ib j 0)
      ⊢ iprop(((bigSep (pending j') (Slot d L q T ib f) ∗ Fetching d L q T ib j' 0) -∗ Runs d L (k ⟨⟩) Q)
        -∗ Runs d L (SparseCore.enqueueIndirectGather rfl (winT inbT) (winD offD inbD) gathers_S8388608x16_S128x16 (winI offI inbI) hn
          cc0_scratch8.sem h1 h2 h3 h4 >>= k) Q) := by
  iintro ⟨Hp, HB⟩ Hk
  iapply (st_fetch (d := d) (L := L) (q := q) (T := T) (f := f)
    (R := iprop((bigSep (pending j') (Slot d L q T ib f) ∗ Fetching d L q T ib j' 0) -∗ Runs d L (k ⟨⟩) Q)) c j j' hc hj hj' hD hI inbD inbI inbT hib
    (by iintro ⟨Hk, Hp, HB⟩; iapply Hk; isplitl [Hp] <;> iassumption))
  isplitl [Hk]; · iexact Hk
  isplitl [Hp]; · iexact Hp
  iexact HB

theorem wp_await (u u' : ℕ) (hu : u' = u + 128 * rowCredit) (hle : u' ≤ rowCredit * 1024)
    {offD : Fin 2 → ℕ} (inbD) (inbT) {h1} {h2} {k : PUnit → PT L F α} :
    iprop(Fetching d L q T ib 1024 u ∗ Transfers.MayWaits (thr d L) (none : HIx 1) O ∗ Owing d L O W)
      ⊢ iprop(((Fetching d L q T ib 1024 u' ∗ Owing d L O W) -∗ Runs d L (k ⟨⟩) Q)
        -∗ Runs d L (SparseCore.waitIndirectGather cc0_scratch8.sem (winT inbT) (winD offD inbD) h1 h2 >>= k) Q) := by
  iintro ⟨HB, #Hmw, HO⟩ Hk
  iapply (st_await (d := d) (L := L) (q := q) (T := T) (ib := ib) (O := O) (W := W)
    (R := iprop((Fetching d L q T ib 1024 u' ∗ Owing d L O W) -∗ Runs d L (k ⟨⟩) Q)) u u' hu hle inbD inbT
    (by iintro ⟨⟨#Hmw, Hk⟩, HB, HO⟩; iapply Hk; isplitl [HB] <;> iassumption))
  isplitl [Hk]
  · isplitr; · iexact Hmw
    iexact Hk
  isplitl [HB]; · iexact HB
  iexact HO

/-! ## The numbers of the points -/

/-- The first point of the tile's chunk `k`. -/
def first (L : grid0.Coords) (k : ℕ) : ℕ := 16384 * wid L + 128 * k

/-- The chunk's part of an array of coordinates. -/
def part (X : S524288.Idx → F .f32) (n : ℕ) : S128.Idx → F .f32 := fun j => at1 X (n + (j 0).val)

theorem at1_part (X : S524288.Idx → F .f32) (n p : ℕ) (hp : p < 128) : at1 (part X n) p = at1 X (n + p) := by
  have := at1_ix (part X n) ⟨p, hp⟩
  exact this

/-- The tile's points of the first result, and its elements of the second. -/
def ptsD (L : grid0.Coords) : Finset S524288.Idx := Finset.univ.filter fun j => (j 0).val / 16384 = wid L
def ptsF (L : grid0.Coords) : Finset S4194304.Idx := Finset.univ.filter fun j => (j 0).val / 131072 = wid L

section Windows

variable {N M : ℕ} [NeZero N]

theorem unit_emb1 {off : Fin 1 → ℕ} {n : ℕ} (ho : off = ![n]) (inb : ∀ a, off a + (![M] : Fin 1 → ℕ) a ≤ (⟨1, ![N]⟩ : Shape).size a) (x) :
    ((Rect.unit (s := ⟨1, ![N]⟩) off ![M] inb).emb x 0).val = n + (x 0).val := by
  subst ho
  show n + 1 * (x 0).val = _
  omega

end Windows

section Spec

variable {tab : S8388608x16.Idx → F .f32} {gx gy gz : S524288.Idx → F .f32}

theorem rowBase_toNat {n : ℕ} (hn : n < 524288) : (rowBase n).toNat ≤ 6291456 := by
  unfold rowBase
  rw [BitVec.toNat_ofNat, Nat.mod_eq_of_lt (by omega)]
  omega

/-- The chunk's corners and weights are its points'. -/
theorem chunkCorner_eq {n p : ℕ} (c : ℕ) (hp : p < 128) (hb : n / 131072 = (n + p) / 131072) :
    chunkCorner (rowBase n) (part gx n) (part gy n) (part gz n) c p = cornerAt gx gy gz (n + p) c := by
  unfold chunkCorner cornerAt
  rw [at1_part _ _ _ hp, at1_part _ _ _ hp, at1_part _ _ _ hp]
  unfold rowBase
  rw [hb]

theorem chunkWeight_eq {n p : ℕ} (c : ℕ) (hp : p < 128) :
    chunkWeight (part gx n) (part gy n) (part gz n) c p = weightAt gx gy gz (n + p) c := by
  unfold chunkWeight weightAt
  rw [at1_part _ _ _ hp, at1_part _ _ _ hp, at1_part _ _ _ hp]

/-- What the interpolation leaves for point `p` of the chunk. -/
theorem pv_eq {n p ch : ℕ} {ib : S8x128.Idx → BitVec 32} {wb : S8x128.Idx → F .f32} (hp : p < 128) (hch : ch < 16)
    (hb : n / 131072 = (n + p) / 131072)
    (hI : RowsDone (chunkCorner (rowBase n) (part gx n) (part gy n) (part gz n)) ib 128 0)
    (hW : RowsDone (chunkWeight (part gx n) (part gy n) (part gz n)) wb 128 0) :
    pv (gathered tab ib) wb p ch = chanAt tab gx gy gz (n + p) ch := by
  unfold pv chanAt
  refine accum_congr (fun c hc => ?_) (fun c hc => ?_)
  · have e1 := at2_ix (gathered tab ib) ⟨128 * c + p, by omega⟩ ⟨ch, hch⟩
    refine e1.trans ?_
    unfold gathered
    show at2 tab (at2 ib ((128 * c + p) / 128) ((128 * c + p) % 128)).toNat ch = _
    have e2 : (128 * c + p) / 128 = c := by omega
    have e3 : (128 * c + p) % 128 = p := by omega
    rw [e2, e3]
    have e4 := at2_ix ib ⟨c, hc⟩ ⟨p, hp⟩
    rw [show at2 ib c p = ib (ix2 ⟨c, hc⟩ ⟨p, hp⟩) from e4, hI ⟨c, hc⟩ ⟨p, hp⟩ (Or.inl hp), chunkCorner_eq c hp hb]
  · have e4 := at2_ix wb ⟨c, hc⟩ ⟨p, hp⟩
    rw [show at2 wb c p = wb (ix2 ⟨c, hc⟩ ⟨p, hp⟩) from e4, hW ⟨c, hc⟩ ⟨p, hp⟩ (Or.inl hp), chunkWeight_eq c hp]

theorem corners_lt {n : ℕ} {ib : S8x128.Idx → BitVec 32} (hn : n < 524288) {x y z : S128.Idx → F .f32}
    (hI : RowsDone (chunkCorner (rowBase n) x y z) ib 128 0) (j : S8x128.Idx) : (ib j).toNat < 8388608 := by
  have h := hI (j 0) (j 1) (Or.inl (j 1).isLt)
  have e : (ix2 (j 0) (j 1) : S8x128.Idx) = j := (eq_ix2 j).symm
  rw [e] at h
  rw [h]
  exact corner_lt (rowBase_toNat hn) _ _ _ _

end Spec

/-! ## The two results' arrays after a chunk's copies out -/

abbrev sliceD (off : Fin 1 → ℕ) (inb : ∀ a, off a + S128.size a ≤ S524288.size a) : Memref sig .scVector .hbm S128 .f32 :=
  densV.slice (Rect.unit (s := S524288) off S128.size inb) (fun _ => rfl)
abbrev sliceF (off : Fin 1 → ℕ) (inb : ∀ a, off a + S1024.size a ≤ S4194304.size a) : Memref sig .scVector .hbm S1024 .f32 :=
  featV.slice (Rect.unit (s := S4194304) off S1024.size inb) (fun _ => rfl)

theorem sliceD_val {n : ℕ} {off : Fin 1 → ℕ} (ho : off = ![n]) (inb) (x : S128.Idx) : ((sliceD off inb).view.emb x (0 : Fin 1)).val = n + (x 0).val := by
  subst ho
  show n + 1 * (x 0).val = _
  omega
theorem sliceF_val {n : ℕ} {off : Fin 1 → ℕ} (ho : off = ![n]) (inb) (x : S1024.Idx) : ((sliceF off inb).view.emb x (0 : Fin 1)).val = n + (x 0).val := by
  subst ho
  show n + 1 * (x 0).val = _
  omega

theorem sliceD_set {n : ℕ} {off : Fin 1 → ℕ} (ho : off = ![n]) (inb) (hn : n / 16384 = wid L) (hn' : (n + 127) / 16384 = wid L) :
    (sliceD off inb).view.set ⊆ ptsD L := by
  intro j hj
  obtain ⟨x, -, rfl⟩ := Finset.mem_map.mp hj
  have h := sliceD_val ho inb x
  have hx : (x 0).val < 128 := (x 0).isLt
  refine Finset.mem_filter.mpr ⟨Finset.mem_univ _, ?_⟩
  rw [h]; omega
theorem sliceF_set {n : ℕ} {off : Fin 1 → ℕ} (ho : off = ![n]) (inb) (hn : n / 131072 = wid L) (hn' : (n + 1023) / 131072 = wid L) :
    (sliceF off inb).view.set ⊆ ptsF L := by
  intro j hj
  obtain ⟨x, -, rfl⟩ := Finset.mem_map.mp hj
  have h := sliceF_val ho inb x
  have hx : (x 0).val < 1024 := (x 0).isLt
  refine Finset.mem_filter.mpr ⟨Finset.mem_univ _, ?_⟩
  rw [h]; omega

theorem sliceD_write {n : ℕ} {off : Fin 1 → ℕ} (ho : off = ![n]) (inb) (fo : S524288.Idx → F .f32) (dn : S128.Idx → F .f32)
    (v : S524288.Idx → F .f32) {lo : ℕ} (hlo : ∀ j : S524288.Idx, lo ≤ (j 0).val → (j 0).val < n → fo j = v j)
    (hdn : ∀ x : S128.Idx, ∀ j : S524288.Idx, (j 0).val = n + (x 0).val → dn x = v j) :
    ∀ j : S524288.Idx, lo ≤ (j 0).val → (j 0).val < n + 128 → (sliceD off inb).view.write (Elt F) fo dn Finset.univ j = v j := by
  intro j h1 h2
  by_cases hj : (j 0).val < n
  · refine (View.write_of_not_mem (Val := Elt F) (v := (sliceD off inb).view) fo dn Finset.univ ?_).trans (hlo j h1 hj)
    intro hm
    obtain ⟨x, -, rfl⟩ := Finset.mem_map.mp hm
    have := sliceD_val ho inb x
    omega
  · obtain ⟨x, hx⟩ : ∃ x : S128.Idx, (x 0).val = (j 0).val - n := ⟨ix1 ⟨(j 0).val - n, by omega⟩, rfl⟩
    have e : (sliceD off inb).view.emb x = j := by
      funext a
      match a with
      | 0 => refine Fin.ext ((sliceD_val ho inb x).trans ?_); omega
    subst e
    refine (View.write_emb_of_mem (Val := Elt F) (v := (sliceD off inb).view) fo dn (Finset.mem_univ x)).trans ?_
    exact hdn x _ (sliceD_val ho inb x)

theorem sliceF_write {n : ℕ} {off : Fin 1 → ℕ} (ho : off = ![n]) (inb) (fo : S4194304.Idx → F .f32) (dn : S1024.Idx → F .f32)
    (v : S4194304.Idx → F .f32) {lo : ℕ} (hlo : ∀ j : S4194304.Idx, lo ≤ (j 0).val → (j 0).val < n → fo j = v j)
    (hdn : ∀ x : S1024.Idx, ∀ j : S4194304.Idx, (j 0).val = n + (x 0).val → dn x = v j) :
    ∀ j : S4194304.Idx, lo ≤ (j 0).val → (j 0).val < n + 1024 → (sliceF off inb).view.write (Elt F) fo dn Finset.univ j = v j := by
  intro j h1 h2
  by_cases hj : (j 0).val < n
  · refine (View.write_of_not_mem (Val := Elt F) (v := (sliceF off inb).view) fo dn Finset.univ ?_).trans (hlo j h1 hj)
    intro hm
    obtain ⟨x, -, rfl⟩ := Finset.mem_map.mp hm
    have := sliceF_val ho inb x
    omega
  · obtain ⟨x, hx⟩ : ∃ x : S1024.Idx, (x 0).val = (j 0).val - n := ⟨ix1 ⟨(j 0).val - n, by omega⟩, rfl⟩
    have e : (sliceF off inb).view.emb x = j := by
      funext a
      match a with
      | 0 => refine Fin.ext ((sliceF_val ho inb x).trans ?_); omega
    subst e
    refine (View.write_emb_of_mem (Val := Elt F) (v := (sliceF off inb).view) fo dn (Finset.mem_univ x)).trans ?_
    exact hdn x _ (sliceF_val ho inb x)

/-- The chunk's slice of an array of coordinates holds the chunk's part of it. -/
theorem gx_read {n : ℕ} {off : Fin 1 → ℕ} (ho : off = ![n]) (inb) (X : S524288.Idx → F .f32) :
    (gxV.slice (Rect.unit (s := S524288) off S128.size inb) (fun _ => rfl)).view.read (Elt F) X = part X n := by
  subst ho
  funext x
  have hx : (x 0).val < 128 := (x 0).isLt
  have hi : n + 128 ≤ 524288 := inb 0
  have e := at1_ix X ⟨n + (x 0).val, by omega⟩
  refine Eq.trans ?_ e.symm
  show X _ = X _
  refine congrArg X ?_
  funext a
  match a with
  | 0 => exact Fin.ext (show n + 1 * (x 0).val = n + (x 0).val by omega)
theorem gy_read {n : ℕ} {off : Fin 1 → ℕ} (ho : off = ![n]) (inb) (X : S524288.Idx → F .f32) :
    (gyV.slice (Rect.unit (s := S524288) off S128.size inb) (fun _ => rfl)).view.read (Elt F) X = part X n := gx_read ho inb X
theorem gz_read {n : ℕ} {off : Fin 1 → ℕ} (ho : off = ![n]) (inb) (X : S524288.Idx → F .f32) :
    (gzV.slice (Rect.unit (s := S524288) off S128.size inb) (fun _ => rfl)).view.read (Elt F) X = part X n := gx_read ho inb X

end Cert.KernelIdeal.Tile
-- ==== Proof.KernelIdeal.InterpTrip.lean ====
/-
One trip of the interpolation loop: sixteen points' nine channels, each the weighted sum of eight gathered
rows' entries.  The first channel goes to its own buffer in one store, the other eight are scattered to the
places `8 * point + channel` of the second buffer.
-/
module
public import proofs.«01_k».proof.Proof.KernelIdeal.InterpSteps

@[expose] public section

noncomputable section

namespace Cert.KernelIdeal.Tile

open Cert.KernelIdeal Cert.KernelIdeal.Gen Cert.Interp

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {d : Dev nD} {L : grid0.Coords}
variable {f : S1024x16.Idx → F .f32} {g : S8x128.Idx → F .f32} {dn : S128.Idx → F .f32} {ft : S1024.Idx → F .f32}

theorem chk_lane (t : Fin k0_t3_loop.trips) (c j : ℕ) {r ch : IVec S16 32} (hr : ∀ x, (r x).toNat = 128 * c + 16 * t.val + (x 0).val)
    (hc : ∀ x, (ch x).toNat = j) (h8 : c < 8) (hj : j < 16) :
    ∀ a x, ((![r, ch] : Fin 2 → IVec S16 32) a x).toNat < S1024x16.size a :=
  chk_of (fun x => (hr x).trans_lt (row_lane_lt t c h8 x)) fun x => (hc x).trans_lt hj

theorem chk_feat (t : Fin k0_t3_loop.trips) (j : ℕ) {r : IVec S16 32} (hr : ∀ x, (r x).toNat = 8 * (16 * t.val + (x 0).val) + j)
    (hj : j < 8) : ∀ a x, ((![r] : Fin 1 → IVec S16 32) a x).toNat < S1024.size a :=
  chk_of₁ fun x => (hr x).trans_lt (feat_lane_lt t j hj x)

set_option maxHeartbeats 4000000 in
/-- Trip `t` of the interpolation loop: sixteen more points done. -/
theorem interp_trip (t : Fin k0_t3_loop.trips) (hD : DenDone f g dn (16 * t.val)) (hF0 : FeatDone f g ft (16 * t.val) 0) :
    Res d L f g dn ft ⊢ Runs d L
      (k0_t3_body L tabV (Memref.isWhole_whole _) gxV (Memref.isWhole_whole _) gyV (Memref.isWhole_whole _) gzV (Memref.isWhole_whole _)
        densV (Memref.isWhole_whole _) featV (Memref.isWhole_whole _) xV (Memref.isWhole_whole _) yV (Memref.isWhole_whole _)
        zV (Memref.isWhole_whole _) idxV (Memref.isWhole_whole _) wV (Memref.isWhole_whole _) rowsV (Memref.isWhole_whole _)
        dV (Memref.isWhole_whole _) fV (Memref.isWhole_whole _) cc0_scratch8 cc0_scoped0 cc0_scoped1 cc0_scoped2 cc0_scoped3 cc0_scoped4
        lanes t ())
      (fun _ => iprop(∃ dn' : S128.Idx → F .f32, ∃ ft' : S1024.Idx → F .f32,
        ⌜DenDone f g dn' (16 * t.val + 16) ∧ FeatDone f g ft' (16 * t.val) 8⌝ ∗ Res d L f g dn' ft')) := by
  unfold k0_t3_body
  refine st_part ?_
  rw [k0_part23_eq_skeleton]; unfold k0_part23_skel
  refine st_part ?_
  rw [k0_part7_eq_skeleton]; unfold k0_part7_skel
  refine st_assume (chk_lane t 0 0 (row_lane t 0 0#32 rfl (by decide)) (fun _ => rfl) (by decide) (by decide)) ?_
  refine st_gather t 0 0 (row_lane t 0 0#32 rfl (by decide)) (fun _ => rfl) ?_
  refine st_w t 0 (k0_off11_eq t) ?_
  refine st_assume (chk_lane t 1 0 (row_lane t 1 128#32 rfl (by decide)) (fun _ => rfl) (by decide) (by decide)) ?_
  refine st_gather t 1 0 (row_lane t 1 128#32 rfl (by decide)) (fun _ => rfl) ?_
  refine st_w t 1 (k0_off12_eq t) ?_
  refine st_assume (chk_lane t 2 0 (row_lane t 2 256#32 rfl (by decide)) (fun _ => rfl) (by decide) (by decide)) ?_
  refine st_gather t 2 0 (row_lane t 2 256#32 rfl (by decide)) (fun _ => rfl) ?_
  refine st_w t 2 (k0_off13_eq t) ?_
  refine st_assume (chk_lane t 3 0 (row_lane t 3 384#32 rfl (by decide)) (fun _ => rfl) (by decide) (by decide)) ?_
  refine st_gather t 3 0 (row_lane t 3 384#32 rfl (by decide)) (fun _ => rfl) ?_
  refine st_w t 3 (k0_off14_eq t) ?_
  refine st_pure ?_
  dsimp only
  refine st_part ?_
  rw [k0_part8_eq_skeleton]; unfold k0_part8_skel
  refine st_assume (chk_lane t 4 0 (row_lane t 4 512#32 rfl (by decide)) (fun _ => rfl) (by decide) (by decide)) ?_
  refine st_gather t 4 0 (row_lane t 4 512#32 rfl (by decide)) (fun _ => rfl) ?_
  refine st_w t 4 (k0_off15_eq t) ?_
  refine st_assume (chk_lane t 5 0 (row_lane t 5 640#32 rfl (by decide)) (fun _ => rfl) (by decide) (by decide)) ?_
  refine st_gather t 5 0 (row_lane t 5 640#32 rfl (by decide)) (fun _ => rfl) ?_
  refine st_w t 5 (k0_off16_eq t) ?_
  refine st_assume (chk_lane t 6 0 (row_lane t 6 768#32 rfl (by decide)) (fun _ => rfl) (by decide) (by decide)) ?_
  refine st_gather t 6 0 (row_lane t 6 768#32 rfl (by decide)) (fun _ => rfl) ?_
  refine st_w t 6 (k0_off17_eq t) ?_
  refine st_assume (chk_lane t 7 0 (row_lane t 7 896#32 rfl (by decide)) (fun _ => rfl) (by decide) (by decide)) ?_
  refine st_gather t 7 0 (row_lane t 7 896#32 rfl (by decide)) (fun _ => rfl) ?_
  refine st_w t 7 (k0_off18_eq t) ?_
  refine st_dload fun _ => ?_
  refine st_dstore t (k0_off19_eq t) (accv_apply f g t 0 8) hD ?_
  intro dn1 hD1
  refine st_assume (chk_lane t 0 1 (row_lane t 0 0#32 rfl (by decide)) (fun _ => rfl) (by decide) (by decide)) ?_
  refine st_gather t 0 1 (row_lane t 0 0#32 rfl (by decide)) (fun _ => rfl) ?_
  refine st_pure ?_
  dsimp only
  refine st_part ?_
  rw [k0_part9_eq_skeleton]; unfold k0_part9_skel
  refine st_w t 0 (k0_off20_eq t) ?_
  refine st_assume (chk_lane t 1 1 (row_lane t 1 128#32 rfl (by decide)) (fun _ => rfl) (by decide) (by decide)) ?_
  refine st_gather t 1 1 (row_lane t 1 128#32 rfl (by decide)) (fun _ => rfl) ?_
  refine st_w t 1 (k0_off21_eq t) ?_
  refine st_assume (chk_lane t 2 1 (row_lane t 2 256#32 rfl (by decide)) (fun _ => rfl) (by decide) (by decide)) ?_
  refine st_gather t 2 1 (row_lane t 2 256#32 rfl (by decide)) (fun _ => rfl) ?_
  refine st_w t 2 (k0_off22_eq t) ?_
  refine st_assume (chk_lane t 3 1 (row_lane t 3 384#32 rfl (by decide)) (fun _ => rfl) (by decide) (by decide)) ?_
  refine st_gather t 3 1 (row_lane t 3 384#32 rfl (by decide)) (fun _ => rfl) ?_
  refine st_w t 3 (k0_off23_eq t) ?_
  refine st_assume (chk_lane t 4 1 (row_lane t 4 512#32 rfl (by decide)) (fun _ => rfl) (by decide) (by decide)) ?_
  refine st_gather t 4 1 (row_lane t 4 512#32 rfl (by decide)) (fun _ => rfl) ?_
  refine st_w t 4 (k0_off24_eq t) ?_
  refine st_assume (chk_lane t 5 1 (row_lane t 5 640#32 rfl (by decide)) (fun _ => rfl) (by decide) (by decide)) ?_
  refine st_gather t 5 1 (row_lane t 5 640#32 rfl (by decide)) (fun _ => rfl) ?_
  refine st_pure ?_
  dsimp only
  refine st_part ?_
  rw [k0_part10_eq_skeleton]; unfold k0_part10_skel
  refine st_w t 5 (k0_off25_eq t) ?_
  refine st_assume (chk_lane t 6 1 (row_lane t 6 768#32 rfl (by decide)) (fun _ => rfl) (by decide) (by decide)) ?_
  refine st_gather t 6 1 (row_lane t 6 768#32 rfl (by decide)) (fun _ => rfl) ?_
  refine st_w t 6 (k0_off26_eq t) ?_
  refine st_assume (chk_lane t 7 1 (row_lane t 7 896#32 rfl (by decide)) (fun _ => rfl) (by decide) (by decide)) ?_
  refine st_gather t 7 1 (row_lane t 7 896#32 rfl (by decide)) (fun _ => rfl) ?_
  refine st_w t 7 (k0_off27_eq t) ?_
  refine st_assume (chk_feat t 0 (feat_lane t 0 0#32 rfl (by decide)) (by decide)) ?_
  refine st_scatter t 0 (by decide) (feat_lane t 0 0#32 rfl (by decide)) (accv_apply f g t 1 8) hF0 ?_
  intro ft1 hF1
  refine st_assume (chk_lane t 0 2 (row_lane t 0 0#32 rfl (by decide)) (fun _ => rfl) (by decide) (by decide)) ?_
  refine st_gather t 0 2 (row_lane t 0 0#32 rfl (by decide)) (fun _ => rfl) ?_
  refine st_w t 0 (k0_off28_eq t) ?_
  refine st_pure ?_
  dsimp only
  refine st_part ?_
  rw [k0_part11_eq_skeleton]; unfold k0_part11_skel
  refine st_assume (chk_lane t 1 2 (row_lane t 1 128#32 rfl (by decide)) (fun _ => rfl) (by decide) (by decide)) ?_
  refine st_gather t 1 2 (row_lane t 1 128#32 rfl (by decide)) (fun _ => rfl) ?_
  refine st_w t 1 (k0_off29_eq t) ?_
  refine st_assume (chk_lane t 2 2 (row_lane t 2 256#32 rfl (by decide)) (fun _ => rfl) (by decide) (by decide)) ?_
  refine st_gather t 2 2 (row_lane t 2 256#32 rfl (by decide)) (fun _ => rfl) ?_
  refine st_w t 2 (k0_off30_eq t) ?_
  refine st_assume (chk_lane t 3 2 (row_lane t 3 384#32 rfl (by decide)) (fun _ => rfl) (by decide) (by decide)) ?_
  refine st_gather t 3 2 (row_lane t 3 384#32 rfl (by decide)) (fun _ => rfl) ?_
  refine st_w t 3 (k0_off31_eq t) ?_
  refine st_assume (chk_lane t 4 2 (row_lane t 4 512#32 rfl (by decide)) (fun _ => rfl) (by decide) (by decide)) ?_
  refine st_gather t 4 2 (row_lane t 4 512#32 rfl (by decide)) (fun _ => rfl) ?_
  refine st_w t 4 (k0_off32_eq t) ?_
  refine st_assume (chk_lane t 5 2 (row_lane t 5 640#32 rfl (by decide)) (fun _ => rfl) (by decide) (by decide)) ?_
  refine st_gather t 5 2 (row_lane t 5 640#32 rfl (by decide)) (fun _ => rfl) ?_
  refine st_w t 5 (k0_off33_eq t) ?_
  refine st_pure ?_
  dsimp only
  refine st_part ?_
  rw [k0_part12_eq_skeleton]; unfold k0_part12_skel
  refine st_assume (chk_lane t 6 2 (row_lane t 6 768#32 rfl (by decide)) (fun _ => rfl) (by decide) (by decide)) ?_
  refine st_gather t 6 2 (row_lane t 6 768#32 rfl (by decide)) (fun _ => rfl) ?_
  refine st_w t 6 (k0_off34_eq t) ?_
  refine st_assume (chk_lane t 7 2 (row_lane t 7 896#32 rfl (by decide)) (fun _ => rfl) (by decide) (by decide)) ?_
  refine st_gather t 7 2 (row_lane t 7 896#32 rfl (by decide)) (fun _ => rfl) ?_
  refine st_w t 7 (k0_off35_eq t) ?_
  refine st_assume (chk_feat t 1 (feat_lane t 1 1#32 rfl (by decide)) (by decide)) ?_
  refine st_scatter t 1 (by decide) (feat_lane t 1 1#32 rfl (by decide)) (accv_apply f g t 2 8) hF1 ?_
  intro ft2 hF2
  refine st_assume (chk_lane t 0 3 (row_lane t 0 0#32 rfl (by decide)) (fun _ => rfl) (by decide) (by decide)) ?_
  refine st_gather t 0 3 (row_lane t 0 0#32 rfl (by decide)) (fun _ => rfl) ?_
  refine st_w t 0 (k0_off36_eq t) ?_
  refine st_assume (chk_lane t 1 3 (row_lane t 1 128#32 rfl (by decide)) (fun _ => rfl) (by decide) (by decide)) ?_
  refine st_gather t 1 3 (row_lane t 1 128#32 rfl (by decide)) (fun _ => rfl) ?_
  refine st_w t 1 (k0_off37_eq t) ?_
  refine st_pure ?_
  dsimp only
  refine st_part ?_
  rw [k0_part13_eq_skeleton]; unfold k0_part13_skel
  refine st_assume (chk_lane t 2 3 (row_lane t 2 256#32 rfl (by decide)) (fun _ => rfl) (by decide) (by decide)) ?_
  refine st_gather t 2 3 (row_lane t 2 256#32 rfl (by decide)) (fun _ => rfl) ?_
  refine st_w t 2 (k0_off38_eq t) ?_
  refine st_assume (chk_lane t 3 3 (row_lane t 3 384#32 rfl (by decide)) (fun _ => rfl) (by decide) (by decide)) ?_
  refine st_gather t 3 3 (row_lane t 3 384#32 rfl (by decide)) (fun _ => rfl) ?_
  refine st_w t 3 (k0_off39_eq t) ?_
  refine st_assume (chk_lane t 4 3 (row_lane t 4 512#32 rfl (by decide)) (fun _ => rfl) (by decide) (by decide)) ?_
  refine st_gather t 4 3 (row_lane t 4 512#32 rfl (by decide)) (fun _ => rfl) ?_
  refine st_w t 4 (k0_off40_eq t) ?_
  refine st_assume (chk_lane t 5 3 (row_lane t 5 640#32 rfl (by decide)) (fun _ => rfl) (by decide) (by decide)) ?_
  refine st_gather t 5 3 (row_lane t 5 640#32 rfl (by decide)) (fun _ => rfl) ?_
  refine st_w t 5 (k0_off41_eq t) ?_
  refine st_assume (chk_lane t 6 3 (row_lane t 6 768#32 rfl (by decide)) (fun _ => rfl) (by decide) (by decide)) ?_
  refine st_gather t 6 3 (row_lane t 6 768#32 rfl (by decide)) (fun _ => rfl) ?_
  refine st_w t 6 (k0_off42_eq t) ?_
  refine st_pure ?_
  dsimp only
  refine st_part ?_
  rw [k0_part14_eq_skeleton]; unfold k0_part14_skel
  refine st_assume (chk_lane t 7 3 (row_lane t 7 896#32 rfl (by decide)) (fun _ => rfl) (by decide) (by decide)) ?_
  refine st_gather t 7 3 (row_lane t 7 896#32 rfl (by decide)) (fun _ => rfl) ?_
  refine st_w t 7 (k0_off43_eq t) ?_
  refine st_assume (chk_feat t 2 (feat_lane t 2 2#32 rfl (by decide)) (by decide)) ?_
  refine st_scatter t 2 (by decide) (feat_lane t 2 2#32 rfl (by decide)) (accv_apply f g t 3 8) hF2 ?_
  intro ft3 hF3
  refine st_assume (chk_lane t 0 4 (row_lane t 0 0#32 rfl (by decide)) (fun _ => rfl) (by decide) (by decide)) ?_
  refine st_gather t 0 4 (row_lane t 0 0#32 rfl (by decide)) (fun _ => rfl) ?_
  refine st_w t 0 (k0_off44_eq t) ?_
  refine st_assume (chk_lane t 1 4 (row_lane t 1 128#32 rfl (by decide)) (fun _ => rfl) (by decide) (by decide)) ?_
  refine st_gather t 1 4 (row_lane t 1 128#32 rfl (by decide)) (fun _ => rfl) ?_
  refine st_w t 1 (k0_off45_eq t) ?_
  refine st_assume (chk_lane t 2 4 (row_lane t 2 256#32 rfl (by decide)) (fun _ => rfl) (by decide) (by decide)) ?_
  refine st_gather t 2 4 (row_lane t 2 256#32 rfl (by decide)) (fun _ => rfl) ?_
  refine st_pure ?_
  dsimp only
  refine st_part ?_
  rw [k0_part15_eq_skeleton]; unfold k0_part15_skel
  refine st_w t 2 (k0_off46_eq t) ?_
  refine st_assume (chk_lane t 3 4 (row_lane t 3 384#32 rfl (by decide)) (fun _ => rfl) (by decide) (by decide)) ?_
  refine st_gather t 3 4 (row_lane t 3 384#32 rfl (by decide)) (fun _ => rfl) ?_
  refine st_w t 3 (k0_off47_eq t) ?_
  refine st_assume (chk_lane t 4 4 (row_lane t 4 512#32 rfl (by decide)) (fun _ => rfl) (by decide) (by decide)) ?_
  refine st_gather t 4 4 (row_lane t 4 512#32 rfl (by decide)) (fun _ => rfl) ?_
  refine st_w t 4 (k0_off48_eq t) ?_
  refine st_assume (chk_lane t 5 4 (row_lane t 5 640#32 rfl (by decide)) (fun _ => rfl) (by decide) (by decide)) ?_
  refine st_gather t 5 4 (row_lane t 5 640#32 rfl (by decide)) (fun _ => rfl) ?_
  refine st_w t 5 (k0_off49_eq t) ?_
  refine st_assume (chk_lane t 6 4 (row_lane t 6 768#32 rfl (by decide)) (fun _ => rfl) (by decide) (by decide)) ?_
  refine st_gather t 6 4 (row_lane t 6 768#32 rfl (by decide)) (fun _ => rfl) ?_
  refine st_w t 6 (k0_off50_eq t) ?_
  refine st_assume (chk_lane t 7 4 (row_lane t 7 896#32 rfl (by decide)) (fun _ => rfl) (by decide) (by decide)) ?_
  refine st_gather t 7 4 (row_lane t 7 896#32 rfl (by decide)) (fun _ => rfl) ?_
  refine st_pure ?_
  dsimp only
  refine st_part ?_
  rw [k0_part16_eq_skeleton]; unfold k0_part16_skel
  refine st_w t 7 (k0_off51_eq t) ?_
  refine st_assume (chk_feat t 3 (feat_lane t 3 3#32 rfl (by decide)) (by decide)) ?_
  refine st_scatter t 3 (by decide) (feat_lane t 3 3#32 rfl (by decide)) (accv_apply f g t 4 8) hF3 ?_
  intro ft4 hF4
  refine st_assume (chk_lane t 0 5 (row_lane t 0 0#32 rfl (by decide)) (fun _ => rfl) (by decide) (by decide)) ?_
  refine st_gather t 0 5 (row_lane t 0 0#32 rfl (by decide)) (fun _ => rfl) ?_
  refine st_w t 0 (k0_off52_eq t) ?_
  refine st_assume (chk_lane t 1 5 (row_lane t 1 128#32 rfl (by decide)) (fun _ => rfl) (by decide) (by decide)) ?_
  refine st_gather t 1 5 (row_lane t 1 128#32 rfl (by decide)) (fun _ => rfl) ?_
  refine st_w t 1 (k0_off53_eq t) ?_
  refine st_assume (chk_lane t 2 5 (row_lane t 2 256#32 rfl (by decide)) (fun _ => rfl) (by decide) (by decide)) ?_
  refine st_gather t 2 5 (row_lane t 2 256#32 rfl (by decide)) (fun _ => rfl) ?_
  refine st_w t 2 (k0_off54_eq t) ?_
  refine st_pure ?_
  dsimp only
  refine st_part ?_
  rw [k0_part17_eq_skeleton]; unfold k0_part17_skel
  refine st_assume (chk_lane t 3 5 (row_lane t 3 384#32 rfl (by decide)) (fun _ => rfl) (by decide) (by decide)) ?_
  refine st_gather t 3 5 (row_lane t 3 384#32 rfl (by decide)) (fun _ => rfl) ?_
  refine st_w t 3 (k0_off55_eq t) ?_
  refine st_assume (chk_lane t 4 5 (row_lane t 4 512#32 rfl (by decide)) (fun _ => rfl) (by decide) (by decide)) ?_
  refine st_gather t 4 5 (row_lane t 4 512#32 rfl (by decide)) (fun _ => rfl) ?_
  refine st_w t 4 (k0_off56_eq t) ?_
  refine st_assume (chk_lane t 5 5 (row_lane t 5 640#32 rfl (by decide)) (fun _ => rfl) (by decide) (by decide)) ?_
  refine st_gather t 5 5 (row_lane t 5 640#32 rfl (by decide)) (fun _ => rfl) ?_
  refine st_w t 5 (k0_off57_eq t) ?_
  refine st_assume (chk_lane t 6 5 (row_lane t 6 768#32 rfl (by decide)) (fun _ => rfl) (by decide) (by decide)) ?_
  refine st_gather t 6 5 (row_lane t 6 768#32 rfl (by decide)) (fun _ => rfl) ?_
  refine st_w t 6 (k0_off58_eq t) ?_
  refine st_assume (chk_lane t 7 5 (row_lane t 7 896#32 rfl (by decide)) (fun _ => rfl) (by decide) (by decide)) ?_
  refine st_gather t 7 5 (row_lane t 7 896#32 rfl (by decide)) (fun _ => rfl) ?_
  refine st_w t 7 (k0_off59_eq t) ?_
  refine st_pure ?_
  dsimp only
  refine st_part ?_
  rw [k0_part18_eq_skeleton]; unfold k0_part18_skel
  refine st_assume (chk_feat t 4 (feat_lane t 4 4#32 rfl (by decide)) (by decide)) ?_
  refine st_scatter t 4 (by decide) (feat_lane t 4 4#32 rfl (by decide)) (accv_apply f g t 5 8) hF4 ?_
  intro ft5 hF5
  refine st_assume (chk_lane t 0 6 (row_lane t 0 0#32 rfl (by decide)) (fun _ => rfl) (by decide) (by decide)) ?_
  refine st_gather t 0 6 (row_lane t 0 0#32 rfl (by decide)) (fun _ => rfl) ?_
  refine st_w t 0 (k0_off60_eq t) ?_
  refine st_assume (chk_lane t 1 6 (row_lane t 1 128#32 rfl (by decide)) (fun _ => rfl) (by decide) (by decide)) ?_
  refine st_gather t 1 6 (row_lane t 1 128#32 rfl (by decide)) (fun _ => rfl) ?_
  refine st_w t 1 (k0_off61_eq t) ?_
  refine st_assume (chk_lane t 2 6 (row_lane t 2 256#32 rfl (by decide)) (fun _ => rfl) (by decide) (by decide)) ?_
  refine st_gather t 2 6 (row_lane t 2 256#32 rfl (by decide)) (fun _ => rfl) ?_
  refine st_w t 2 (k0_off62_eq t) ?_
  refine st_assume (chk_lane t 3 6 (row_lane t 3 384#32 rfl (by decide)) (fun _ => rfl) (by decide) (by decide)) ?_
  refine st_gather t 3 6 (row_lane t 3 384#32 rfl (by decide)) (fun _ => rfl) ?_
  refine st_w t 3 (k0_off63_eq t) ?_
  refine st_pure ?_
  dsimp only
  refine st_part ?_
  rw [k0_part19_eq_skeleton]; unfold k0_part19_skel
  refine st_assume (chk_lane t 4 6 (row_lane t 4 512#32 rfl (by decide)) (fun _ => rfl) (by decide) (by decide)) ?_
  refine st_gather t 4 6 (row_lane t 4 512#32 rfl (by decide)) (fun _ => rfl) ?_
  refine st_w t 4 (k0_off64_eq t) ?_
  refine st_assume (chk_lane t 5 6 (row_lane t 5 640#32 rfl (by decide)) (fun _ => rfl) (by decide) (by decide)) ?_
  refine st_gather t 5 6 (row_lane t 5 640#32 rfl (by decide)) (fun _ => rfl) ?_
  refine st_w t 5 (k0_off65_eq t) ?_
  refine st_assume (chk_lane t 6 6 (row_lane t 6 768#32 rfl (by decide)) (fun _ => rfl) (by decide) (by decide)) ?_
  refine st_gather t 6 6 (row_lane t 6 768#32 rfl (by decide)) (fun _ => rfl) ?_
  refine st_w t 6 (k0_off66_eq t) ?_
  refine st_assume (chk_lane t 7 6 (row_lane t 7 896#32 rfl (by decide)) (fun _ => rfl) (by decide) (by decide)) ?_
  refine st_gather t 7 6 (row_lane t 7 896#32 rfl (by decide)) (fun _ => rfl) ?_
  refine st_w t 7 (k0_off67_eq t) ?_
  refine st_pure ?_
  dsimp only
  refine st_part ?_
  rw [k0_part20_eq_skeleton]; unfold k0_part20_skel
  refine st_assume (chk_feat t 5 (feat_lane t 5 5#32 rfl (by decide)) (by decide)) ?_
  refine st_scatter t 5 (by decide) (feat_lane t 5 5#32 rfl (by decide)) (accv_apply f g t 6 8) hF5 ?_
  intro ft6 hF6
  refine st_assume (chk_lane t 0 7 (row_lane t 0 0#32 rfl (by decide)) (fun _ => rfl) (by decide) (by decide)) ?_
  refine st_gather t 0 7 (row_lane t 0 0#32 rfl (by decide)) (fun _ => rfl) ?_
  refine st_w t 0 (k0_off68_eq t) ?_
  refine st_assume (chk_lane t 1 7 (row_lane t 1 128#32 rfl (by decide)) (fun _ => rfl) (by decide) (by decide)) ?_
  refine st_gather t 1 7 (row_lane t 1 128#32 rfl (by decide)) (fun _ => rfl) ?_
  refine st_w t 1 (k0_off69_eq t) ?_
  refine st_assume (chk_lane t 2 7 (row_lane t 2 256#32 rfl (by decide)) (fun _ => rfl) (by decide) (by decide)) ?_
  refine st_gather t 2 7 (row_lane t 2 256#32 rfl (by decide)) (fun _ => rfl) ?_
  refine st_w t 2 (k0_off70_eq t) ?_
  refine st_assume (chk_lane t 3 7 (row_lane t 3 384#32 rfl (by decide)) (fun _ => rfl) (by decide) (by decide)) ?_
  refine st_gather t 3 7 (row_lane t 3 384#32 rfl (by decide)) (fun _ => rfl) ?_
  refine st_w t 3 (k0_off71_eq t) ?_
  refine st_assume (chk_lane t 4 7 (row_lane t 4 512#32 rfl (by decide)) (fun _ => rfl) (by decide) (by decide)) ?_
  refine st_gather t 4 7 (row_lane t 4 512#32 rfl (by decide)) (fun _ => rfl) ?_
  refine st_pure ?_
  dsimp only
  refine st_part ?_
  rw [k0_part21_eq_skeleton]; unfold k0_part21_skel
  refine st_w t 4 (k0_off72_eq t) ?_
  refine st_assume (chk_lane t 5 7 (row_lane t 5 640#32 rfl (by decide)) (fun _ => rfl) (by decide) (by decide)) ?_
  refine st_gather t 5 7 (row_lane t 5 640#32 rfl (by decide)) (fun _ => rfl) ?_
  refine st_w t 5 (k0_off73_eq t) ?_
  refine st_assume (chk_lane t 6 7 (row_lane t 6 768#32 rfl (by decide)) (fun _ => rfl) (by decide) (by decide)) ?_
  refine st_gather t 6 7 (row_lane t 6 768#32 rfl (by decide)) (fun _ => rfl) ?_
  refine st_w t 6 (k0_off74_eq t) ?_
  refine st_assume (chk_lane t 7 7 (row_lane t 7 896#32 rfl (by decide)) (fun _ => rfl) (by decide) (by decide)) ?_
  refine st_gather t 7 7 (row_lane t 7 896#32 rfl (by decide)) (fun _ => rfl) ?_
  refine st_w t 7 (k0_off75_eq t) ?_
  refine st_assume (chk_feat t 6 (feat_lane t 6 6#32 rfl (by decide)) (by decide)) ?_
  refine st_scatter t 6 (by decide) (feat_lane t 6 6#32 rfl (by decide)) (accv_apply f g t 7 8) hF6 ?_
  intro ft7 hF7
  refine st_pure ?_
  dsimp only
  refine st_part ?_
  rw [k0_part22_eq_skeleton]; unfold k0_part22_skel
  refine st_assume (chk_lane t 0 8 (row_lane t 0 0#32 rfl (by decide)) (fun _ => rfl) (by decide) (by decide)) ?_
  refine st_gather t 0 8 (row_lane t 0 0#32 rfl (by decide)) (fun _ => rfl) ?_
  refine st_w t 0 (k0_off76_eq t) ?_
  refine st_assume (chk_lane t 1 8 (row_lane t 1 128#32 rfl (by decide)) (fun _ => rfl) (by decide) (by decide)) ?_
  refine st_gather t 1 8 (row_lane t 1 128#32 rfl (by decide)) (fun _ => rfl) ?_
  refine st_w t 1 (k0_off77_eq t) ?_
  refine st_assume (chk_lane t 2 8 (row_lane t 2 256#32 rfl (by decide)) (fun _ => rfl) (by decide) (by decide)) ?_
  refine st_gather t 2 8 (row_lane t 2 256#32 rfl (by decide)) (fun _ => rfl) ?_
  refine st_w t 2 (k0_off78_eq t) ?_
  refine st_assume (chk_lane t 3 8 (row_lane t 3 384#32 rfl (by decide)) (fun _ => rfl) (by decide) (by decide)) ?_
  refine st_gather t 3 8 (row_lane t 3 384#32 rfl (by decide)) (fun _ => rfl) ?_
  refine st_w t 3 (k0_off79_eq t) ?_
  refine st_assume (chk_lane t 4 8 (row_lane t 4 512#32 rfl (by decide)) (fun _ => rfl) (by decide) (by decide)) ?_
  refine st_gather t 4 8 (row_lane t 4 512#32 rfl (by decide)) (fun _ => rfl) ?_
  refine st_w t 4 (k0_off80_eq t) ?_
  refine st_pure ?_
  dsimp only
  refine st_assume (chk_lane t 5 8 (row_lane t 5 640#32 rfl (by decide)) (fun _ => rfl) (by decide) (by decide)) ?_
  refine st_gather t 5 8 (row_lane t 5 640#32 rfl (by decide)) (fun _ => rfl) ?_
  refine st_w t 5 (k0_off81_eq t) ?_
  refine st_assume (chk_lane t 6 8 (row_lane t 6 768#32 rfl (by decide)) (fun _ => rfl) (by decide) (by decide)) ?_
  refine st_gather t 6 8 (row_lane t 6 768#32 rfl (by decide)) (fun _ => rfl) ?_
  refine st_w t 6 (k0_off82_eq t) ?_
  refine st_assume (chk_lane t 7 8 (row_lane t 7 896#32 rfl (by decide)) (fun _ => rfl) (by decide) (by decide)) ?_
  refine st_gather t 7 8 (row_lane t 7 896#32 rfl (by decide)) (fun _ => rfl) ?_
  refine st_w t 7 (k0_off83_eq t) ?_
  refine st_pure ?_
  dsimp only
  refine st_assume (chk_feat t 7 (feat_lane t 7 7#32 rfl (by decide)) (by decide)) ?_
  refine st_scatter t 7 (by decide) (feat_lane t 7 7#32 rfl (by decide)) (accv_apply f g t 8 8) hF7 ?_
  intro ft8 hF8
  refine st_pure ?_
  iintro H
  iexists dn1, ft8
  isplitr; · ipureintro; exact ⟨hD1, hF8⟩
  iexact H

end Cert.KernelIdeal.Tile
-- ==== Proof.KernelIdeal.Loops.lean ====
/-
The two inner loops of a chunk, each run to its end: the corners and weights of all the chunk's points, and all their
channels.
-/
module
public import proofs.«01_k».proof.Proof.KernelIdeal.Copy
public import proofs.«01_k».proof.Proof.KernelIdeal.InterpTrip

@[expose] public section

noncomputable section

namespace Cert.KernelIdeal.Tile

open Cert.KernelIdeal Cert.KernelIdeal.Gen Cert.Interp

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {d : Dev nD} {L : grid0.Coords}
variable {α : Type} {Q : α → sProp (MM F)}

theorem trips1 : k0_t1_loop.trips = 128 := by decide
theorem trips2 : k0_t2_loop.trips = 8 := by decide
theorem trips3 : k0_t3_loop.trips = 8 := by decide

/-- Eight corners of sixteen points done are sixteen more points done. -/
theorem rowsDone_next {β : Type} {G : ℕ → ℕ → β} {b : S8x128.Idx → β} {t : ℕ} (h : RowsDone G b (16 * t) 8) : RowsDone G b (16 * (t + 1)) 0 := by
  intro c p hp
  have hc := c.isLt
  exact h c p (by rcases hp with hp | ⟨_, hp⟩ <;> omega)

theorem rowsDone_zero {β : Type} {G : ℕ → ℕ → β} {b : S8x128.Idx → β} : RowsDone G b (16 * 0) 0 := by
  intro c p hp
  rcases hp with hp | ⟨_, hp⟩ <;> omega

set_option maxHeartbeats 4000000 in
theorem build_loop {x y z : S128.Idx → F .f32} (v1 base c0 c1 : BitVec 32) (k1 : Fin k0_t1_loop.trips) (kk : Unit → PT L F α) :
    iprop(∃ ib : S8x128.Idx → BitVec 32, ∃ wb : S8x128.Idx → F .f32, BRes d L x y z ib wb)
      ⊢ iprop((∀ ib : S8x128.Idx → BitVec 32, ∀ wb : S8x128.Idx → F .f32,
          ⌜RowsDone (chunkCorner base x y z) ib 128 0 ∧ RowsDone (chunkWeight x y z) wb 128 0⌝ -∗ BRes d L x y z ib wb -∗ Runs d L (kk ()) Q)
        -∗ Runs d L (Scf.Loop.for k0_t2_loop k0_t2_ok ⟨⟩ (k0_t2_body L tabV (Memref.isWhole_whole _) gxV (Memref.isWhole_whole _) gyV (Memref.isWhole_whole _) gzV (Memref.isWhole_whole _) densV (Memref.isWhole_whole _) featV (Memref.isWhole_whole _) xV (Memref.isWhole_whole _) yV (Memref.isWhole_whole _) zV (Memref.isWhole_whole _) idxV (Memref.isWhole_whole _) wV (Memref.isWhole_whole _) rowsV (Memref.isWhole_whole _) dV (Memref.isWhole_whole _) fV (Memref.isWhole_whole _) cc0_scratch8 cc0_scoped0 cc0_scoped1 cc0_scoped2 cc0_scoped3 cc0_scoped4
          v1 base c0 c1 k1) >>= kk) Q) := by
  iintro ⟨%ib, %wb, HR⟩ Hk
  iapply (Scf.wp_for_bind (Fr := frame) (wpE := wpE (defs₀ (F := F)) 𝒱₀ (thr d L) none) (Es := Set.univ) (lb := k0_t2_loop.lb) (ub := k0_t2_loop.ub) (st := k0_t2_loop.st)
    (I := fun t _ => iprop(∃ ib : S8x128.Idx → BitVec 32, ∃ wb : S8x128.Idx → F .f32,
      ⌜RowsDone (chunkCorner base x y z) ib (16 * t) 0 ∧ RowsDone (chunkWeight x y z) wb (16 * t) 0⌝ ∗ BRes d L x y z ib wb)) ?hbody) $$ [HR]
  case hbody =>
    intro t acc
    iintro ⟨%ib, %wb, %h, HR⟩
    iapply ((build_trip (d := d) v1 base c0 c1 k1 t h.1 h.2).trans (wp_mono _ _ _ (fun _ => ?_))) $$ HR
    iintro ⟨%ib', %wb', %h', HR⟩
    iexists ib', wb'
    isplitr
    · ipureintro; exact ⟨rowsDone_next h'.1, rowsDone_next h'.2⟩
    iexact HR
  · iexists ib, wb
    isplitr
    · ipureintro; exact ⟨rowsDone_zero, rowsDone_zero⟩
    iexact HR
  iintro %acc ⟨%ib', %wb', %h, HR⟩
  iapply Hk $$ [] HR
  ipureintro
  exact h

theorem denDone_zero {f : S1024x16.Idx → F .f32} {g : S8x128.Idx → F .f32} {dn : S128.Idx → F .f32} : DenDone f g dn (16 * 0) := by
  intro p hp; omega

theorem featDone_zero {f : S1024x16.Idx → F .f32} {g : S8x128.Idx → F .f32} {ft : S1024.Idx → F .f32} : FeatDone f g ft (16 * 0) 0 := by
  intro p hp; omega

theorem featDone_next {f : S1024x16.Idx → F .f32} {g : S8x128.Idx → F .f32} {ft : S1024.Idx → F .f32} {t : ℕ} (h : FeatDone f g ft (16 * t) 8) :
    FeatDone f g ft (16 * (t + 1)) 0 := by
  intro q hq
  exact h q (by omega)

set_option maxHeartbeats 4000000 in
theorem interp_loop {f : S1024x16.Idx → F .f32} {g : S8x128.Idx → F .f32} (kk : Unit → PT L F α) :
    iprop(∃ dn : S128.Idx → F .f32, ∃ ft : S1024.Idx → F .f32, Res d L f g dn ft)
      ⊢ iprop((∀ dn : S128.Idx → F .f32, ∀ ft : S1024.Idx → F .f32,
          ⌜DenDone f g dn 128 ∧ FeatDone f g ft 128 0⌝ -∗ Res d L f g dn ft -∗ Runs d L (kk ()) Q)
        -∗ Runs d L (Scf.Loop.for k0_t3_loop k0_t3_ok ⟨⟩ (k0_t3_body L tabV (Memref.isWhole_whole _) gxV (Memref.isWhole_whole _) gyV (Memref.isWhole_whole _) gzV (Memref.isWhole_whole _) densV (Memref.isWhole_whole _) featV (Memref.isWhole_whole _) xV (Memref.isWhole_whole _) yV (Memref.isWhole_whole _) zV (Memref.isWhole_whole _) idxV (Memref.isWhole_whole _) wV (Memref.isWhole_whole _) rowsV (Memref.isWhole_whole _) dV (Memref.isWhole_whole _) fV (Memref.isWhole_whole _) cc0_scratch8 cc0_scoped0 cc0_scoped1 cc0_scoped2 cc0_scoped3 cc0_scoped4
          lanes) >>= kk) Q) := by
  iintro ⟨%dn, %ft, HR⟩ Hk
  iapply (Scf.wp_for_bind (Fr := frame) (wpE := wpE (defs₀ (F := F)) 𝒱₀ (thr d L) none) (Es := Set.univ) (lb := k0_t3_loop.lb) (ub := k0_t3_loop.ub) (st := k0_t3_loop.st)
    (I := fun t _ => iprop(∃ dn : S128.Idx → F .f32, ∃ ft : S1024.Idx → F .f32,
      ⌜DenDone f g dn (16 * t) ∧ FeatDone f g ft (16 * t) 0⌝ ∗ Res d L f g dn ft)) ?hbody) $$ [HR]
  case hbody =>
    intro t acc
    iintro ⟨%dn, %ft, %h, HR⟩
    iapply ((interp_trip (d := d) t h.1 h.2).trans (wp_mono _ _ _ (fun _ => ?_))) $$ HR
    iintro ⟨%dn', %ft', %h', HR⟩
    iexists dn', ft'
    isplitr
    · ipureintro; exact ⟨by have := h'.1; rwa [show 16 * (t.val + 1) = 16 * t.val + 16 by omega], featDone_next h'.2⟩
    iexact HR
  · iexists dn, ft
    isplitr
    · ipureintro; exact ⟨denDone_zero, featDone_zero⟩
    iexact HR
  iintro %acc ⟨%dn', %ft', %h, HR⟩
  iapply Hk $$ [] HR
  ipureintro
  exact h

end Cert.KernelIdeal.Tile
-- ==== Proof.KernelIdeal.Chunk.lean ====
/-
One chunk of a tile: its coordinates brought in, its corners and weights built, its corners' rows gathered, its channels
summed, and its two results taken out.
-/
module
public import proofs.«01_k».proof.Proof.KernelIdeal.Loops

@[expose] public section

noncomputable section

namespace Cert.KernelIdeal.Tile

open Cert.KernelIdeal Cert.KernelIdeal.Gen Cert.Interp

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)

variable {F : FTy → Type} [FloatOps F]

/-- What the tile holds between chunks: shares of the table and of the coordinates, its parts of the two results, its
    buffers at whatever they hold, its semaphores at zero, and what it owes. -/
def TileSt (d : Dev nD) (L : grid0.Coords) (q : PosShare TreeShare) (tab : S8388608x16.Idx → F .f32) (gx gy gz fo : S524288.Idx → F .f32)
    (ff : S4194304.Idx → F .f32) (O : CellTallies nD τ sig (HIx 1)) (W : Waits sig (HIx 1)) : sProp (MM F) :=
  iprop((tabV.view.loc (thr d L) ↦{q} tab) ∗ (gxV.view.loc (thr d L) ↦{q} gx) ∗ (gyV.view.loc (thr d L) ↦{q} gy) ∗ (gzV.view.loc (thr d L) ↦{q} gz)
    ∗ (densV.view.loc (thr d L) ↦[ptsD L]{fullShare} fo) ∗ (featV.view.loc (thr d L) ↦[ptsF L]{fullShare} ff)
    ∗ (∃ x, xV.view.loc (thr d L) ↦{fullShare} x) ∗ (∃ x, yV.view.loc (thr d L) ↦{fullShare} x) ∗ (∃ x, zV.view.loc (thr d L) ↦{fullShare} x)
    ∗ (∃ x, idxV.view.loc (thr d L) ↦{fullShare} x) ∗ (∃ x, wV.view.loc (thr d L) ↦{fullShare} x) ∗ (∃ x, rowsV.view.loc (thr d L) ↦{fullShare} x)
    ∗ (∃ x, dV.view.loc (thr d L) ↦{fullShare} x) ∗ (∃ x, fV.view.loc (thr d L) ↦{fullShare} x)
    ∗ semVal (thr d L, .dma cc0_scratch8.sem) 0 ∗ semVal (thr d L, .dma cc0_scoped0.sem) 0 ∗ semVal (thr d L, .dma cc0_scoped1.sem) 0
    ∗ semVal (thr d L, .dma cc0_scoped2.sem) 0 ∗ semVal (thr d L, .dma cc0_scoped3.sem) 0 ∗ semVal (thr d L, .dma cc0_scoped4.sem) 0
    ∗ Owing d L O W)

/-- The tile's points below `n` are done in the first result, -/
def DensTo (L : grid0.Coords) (tab : S8388608x16.Idx → F .f32) (gx gy gz : S524288.Idx → F .f32) (fo : S524288.Idx → F .f32) (n : ℕ) : Prop :=
  ∀ j : S524288.Idx, 16384 * wid L ≤ (j 0).val → (j 0).val < n → fo j = dens tab gx gy gz j
/-- and in the second. -/
def FeatTo (L : grid0.Coords) (tab : S8388608x16.Idx → F .f32) (gx gy gz : S524288.Idx → F .f32) (ff : S4194304.Idx → F .f32) (n : ℕ) : Prop :=
  ∀ j : S4194304.Idx, 131072 * wid L ≤ (j 0).val → (j 0).val < 8 * n → ff j = feat tab gx gy gz j

variable {d : Dev nD} {L : grid0.Coords} {q : PosShare TreeShare} {tab : S8388608x16.Idx → F .f32} {gx gy gz fo : S524288.Idx → F .f32}
  {ff : S4194304.Idx → F .f32} {O : CellTallies nD τ sig (HIx 1)} {W : Waits sig (HIx 1)}
variable {α : Type} {Q : α → sProp (MM F)}

theorem wp_part {β : Type} {p : PT L F β} {k : β → PT L F α} : Runs d L p (fun b => Runs d L (k b) Q) ⊢ Runs d L (p >>= k) Q := st_part .rfl

theorem wp_done {a : α} : Q a ⊢ Runs d L (Pure.pure a : PT L F α) Q := st_pure .rfl

theorem write_x (fd w : S128.Idx → F .f32) : xV.view.write (Elt F) fd w Finset.univ = w := View.write_whole_univ _ _ _
theorem write_y (fd w : S128.Idx → F .f32) : yV.view.write (Elt F) fd w Finset.univ = w := View.write_whole_univ _ _ _
theorem write_z (fd w : S128.Idx → F .f32) : zV.view.write (Elt F) fd w Finset.univ = w := View.write_whole_univ _ _ _
theorem read_d (fd : S128.Idx → F .f32) : dV.view.read (Elt F) fd = fd := View.read_whole _ _
theorem read_f (fd : S1024.Idx → F .f32) : fV.view.read (Elt F) fd = fd := View.read_whole _ _

/-- The chunk's first element of the first result, and of the second. -/
theorem off_first (k : Fin k0_t1_loop.trips) : k0_off1 L k = ![first L k.val] := by
  rw [k0_off1_eq]; unfold first wid; congr 1; omega
theorem off_first8 (k : Fin k0_t1_loop.trips) : k0_off84 L k = ![8 * first L k.val] := by
  rw [k0_off84_eq]; unfold first wid; congr 1; omega

/-- After the chunk's copies out its points are done in both results. -/
theorem chunk_done {ib : S8x128.Idx → BitVec 32} {wb : S8x128.Idx → F .f32} {dn : S128.Idx → F .f32} {ft : S1024.Idx → F .f32}
    (k : Fin k0_t1_loop.trips) (hk : k.val < 128)
    (hD : DensTo L tab gx gy gz fo (first L k.val)) (hF : FeatTo L tab gx gy gz ff (first L k.val))
    (hB : RowsDone (chunkCorner (rowBase (first L k.val)) (part gx (first L k.val)) (part gy (first L k.val)) (part gz (first L k.val))) ib 128 0
      ∧ RowsDone (chunkWeight (part gx (first L k.val)) (part gy (first L k.val)) (part gz (first L k.val))) wb 128 0)
    (hR : DenDone (gathered tab ib) wb dn 128 ∧ FeatDone (gathered tab ib) wb ft 128 0) :
    DensTo L tab gx gy gz ((sliceD (k0_off1 L k) (k0_off1_inb L k)).view.write (Elt F) fo dn Finset.univ) (first L (k.val + 1))
      ∧ FeatTo L tab gx gy gz ((sliceF (k0_off84 L k) (k0_off84_inb L k)).view.write (Elt F) ff ft Finset.univ) (first L (k.val + 1)) := by
  have hw := wid_lt L
  have hnext : first L (k.val + 1) = first L k.val + 128 := by unfold first; omega
  have hsame : ∀ p < 128, first L k.val / 131072 = (first L k.val + p) / 131072 := by
    intro p hp; unfold first; omega
  constructor
  · intro j h1 h2
    rw [hnext] at h2
    refine sliceD_write (off_first k) _ fo dn (dens tab gx gy gz) hD (fun x j hj => ?_) j h1 h2
    have hx : (x 0).val < 128 := (x 0).isLt
    have e := hR.1 (x 0) hx
    rw [show dn x = dn (ix1 (x 0)) from congrArg dn (eq_ix1 x), e, pv_eq hx (by omega) (hsame _ hx) hB.1 hB.2]
    unfold dens
    rw [hj]
  · intro j h1 h2
    rw [hnext] at h2
    refine sliceF_write (off_first8 k) _ ff ft (feat tab gx gy gz) hF (fun x j hj => ?_) j h1 (by omega)
    have hx : (x 0).val < 1024 := (x 0).isLt
    have e := hR.2 (x 0) (Or.inl (by show (x 0).val / 8 < 128; omega))
    rw [show ft x = ft (ix1 (x 0)) from congrArg ft (eq_ix1 x), e, pv_eq (by omega) (by omega) (hsame _ (by omega)) hB.1 hB.2]
    unfold feat
    rw [hj]
    congr 1 <;> omega

set_option maxHeartbeats 16000000 in
theorem chunk (v1 base : BitVec 32) (k : Fin k0_t1_loop.trips) (hb : base = rowBase (first L k.val))
    (hD : DensTo L tab gx gy gz fo (first L k.val)) (hF : FeatTo L tab gx gy gz ff (first L k.val)) :
    iprop(Transfers.MayWaits (thr d L) (none : HIx 1) O ∗ TileSt d L q tab gx gy gz fo ff O W)
      ⊢ Runs d L (k0_t1_body L tabV (Memref.isWhole_whole _) gxV (Memref.isWhole_whole _) gyV (Memref.isWhole_whole _) gzV (Memref.isWhole_whole _) densV (Memref.isWhole_whole _) featV (Memref.isWhole_whole _) xV (Memref.isWhole_whole _) yV (Memref.isWhole_whole _) zV (Memref.isWhole_whole _) idxV (Memref.isWhole_whole _) wV (Memref.isWhole_whole _) rowsV (Memref.isWhole_whole _) dV (Memref.isWhole_whole _) fV (Memref.isWhole_whole _) cc0_scratch8 cc0_scoped0 cc0_scoped1 cc0_scoped2 cc0_scoped3 cc0_scoped4
        v1 base lanes k ())
      (fun _ => iprop(∃ fo' : S524288.Idx → F .f32, ∃ ff' : S4194304.Idx → F .f32,
        ⌜DensTo L tab gx gy gz fo' (first L (k.val + 1)) ∧ FeatTo L tab gx gy gz ff' (first L (k.val + 1))⌝ ∗ TileSt d L q tab gx gy gz fo' ff' O W)) := by
  subst hb
  have hk : k.val < 128 := trips1 ▸ k.isLt
  have hw := wid_lt L
  have hn : first L k.val < 524288 := by unfold first; omega
  have ho := off_first (L := L) k
  have ho8 := off_first8 (L := L) k
  unfold k0_t1_body TileSt
  refine st_part ?_
  rw [k0_part24_eq_skeleton]; unfold k0_part24_skel
  dsimp only
  iintro ⟨#Hmw, Ht, Hgx, Hgy, Hgz, Hd, Hf, ⟨%x0, Hx⟩, ⟨%y0, Hy⟩, ⟨%z0, Hz⟩, ⟨%i0, Hi⟩, ⟨%w0, Hw⟩, ⟨%r0, Hr⟩, ⟨%d0, Hdv⟩, ⟨%f0, Hfv⟩, Hs8, Hs0, Hs1, Hs2, Hs3, Hs4, HO⟩
  iapply (wp_copy (q := q) (gxV.slice (Rect.unit (s := S524288) (k0_off1 L k) S128.size (k0_off1_inb L k)) (fun _ => rfl)) xV cc0_scoped0.sem
    Finset.univ Finset.univ (Finset.subset_univ _) (Finset.subset_univ _) (View.dmaCredit_pos xV.view (show 0 < S128.numel by decide))) $$ [Hgx Hx Hs0 HO]
  · isplitl [Hgx]; · iexact Hgx
    isplitl [Hx]; · iexact Hx
    isplitl [Hs0]; · iexact Hs0
    isplitr; · iexact Hmw
    iexact HO
  iintro ⟨Hgx, Hx, Hs0, HO⟩
  rw [gx_read ho, write_x]
  iapply (wp_copy (q := q) (gyV.slice (Rect.unit (s := S524288) (k0_off1 L k) S128.size (k0_off1_inb L k)) (fun _ => rfl)) yV cc0_scoped1.sem
    Finset.univ Finset.univ (Finset.subset_univ _) (Finset.subset_univ _) (View.dmaCredit_pos yV.view (show 0 < S128.numel by decide))) $$ [Hgy Hy Hs1 HO]
  · isplitl [Hgy]; · iexact Hgy
    isplitl [Hy]; · iexact Hy
    isplitl [Hs1]; · iexact Hs1
    isplitr; · iexact Hmw
    iexact HO
  iintro ⟨Hgy, Hy, Hs1, HO⟩
  rw [gy_read ho, write_y]
  iapply (wp_copy (q := q) (gzV.slice (Rect.unit (s := S524288) (k0_off1 L k) S128.size (k0_off1_inb L k)) (fun _ => rfl)) zV cc0_scoped2.sem
    Finset.univ Finset.univ (Finset.subset_univ _) (Finset.subset_univ _) (View.dmaCredit_pos zV.view (show 0 < S128.numel by decide))) $$ [Hgz Hz Hs2 HO]
  · isplitl [Hgz]; · iexact Hgz
    isplitl [Hz]; · iexact Hz
    isplitl [Hs2]; · iexact Hs2
    isplitr; · iexact Hmw
    iexact HO
  iintro ⟨Hgz, Hz, Hs2, HO⟩
  rw [gz_read ho, write_z]
  iapply (build_loop (d := d) (L := L)) $$ [Hx Hy Hz Hi Hw]
  · iexists i0, w0
    unfold BRes
    isplitl [Hx]; · iexact Hx
    isplitl [Hy]; · iexact Hy
    isplitl [Hz]; · iexact Hz
    isplitl [Hi]; · iexact Hi
    iexact Hw
  iintro %ib %wb %hB HB
  unfold BRes
  icases HB with ⟨Hx, Hy, Hz, Hi, Hw⟩
  have hib := corners_lt hn hB.1
  imod (Transfers.batch_alloc' (Lvl := ℕ) countersEmb (thr d L) (none : HIx 1) rowCredit (Slot d L q tab ib (gathered tab ib)) (sm := .dma cc0_scratch8.sem) (E := Set.univ)) $$ Hs8 with HB
  ihave Hp := (Entails.of_eq (slots_eq d L q tab ib r0).symm) $$ [Hr Hi Ht]
  · isplitl [Hr Hi]
    · isplitl [Hr]; · iexact Hr
      iexact Hi
    iexact Ht
  ihave Hp := (Entails.of_eq (show (bigSep Finset.univ (Slot d L q tab ib r0) : sProp (MM F)) = bigSep (pending 0) (Slot d L q tab ib r0) by
    rw [Transfers.pending_zero])) $$ Hp
  iapply (wp_fetch (d := d) (L := L) 0 0 128 (by omega) rfl rfl rfl rfl _ _ _ hib) $$ [Hp HB]
  · isplitl [Hp] <;> iassumption
  iintro ⟨Hp, HB⟩
  iapply (wp_fetch (d := d) (L := L) 1 128 256 (by omega) rfl rfl rfl rfl _ _ _ hib) $$ [Hp HB]
  · isplitl [Hp] <;> iassumption
  iintro ⟨Hp, HB⟩
  iapply wp_done
  iapply wp_part
  rw [k0_part25_eq_skeleton]; unfold k0_part25_skel
  dsimp only
  iapply (wp_fetch (d := d) (L := L) 2 256 384 (by omega) rfl rfl rfl rfl _ _ _ hib) $$ [Hp HB]
  · isplitl [Hp] <;> iassumption
  iintro ⟨Hp, HB⟩
  iapply (wp_fetch (d := d) (L := L) 3 384 512 (by omega) rfl rfl rfl rfl _ _ _ hib) $$ [Hp HB]
  · isplitl [Hp] <;> iassumption
  iintro ⟨Hp, HB⟩
  iapply (wp_fetch (d := d) (L := L) 4 512 640 (by omega) rfl rfl rfl rfl _ _ _ hib) $$ [Hp HB]
  · isplitl [Hp] <;> iassumption
  iintro ⟨Hp, HB⟩
  iapply (wp_fetch (d := d) (L := L) 5 640 768 (by omega) rfl rfl rfl rfl _ _ _ hib) $$ [Hp HB]
  · isplitl [Hp] <;> iassumption
  iintro ⟨Hp, HB⟩
  iapply (wp_fetch (d := d) (L := L) 6 768 896 (by omega) rfl rfl rfl rfl _ _ _ hib) $$ [Hp HB]
  · isplitl [Hp] <;> iassumption
  iintro ⟨Hp, HB⟩
  iapply (wp_fetch (d := d) (L := L) 7 896 1024 (by omega) rfl rfl rfl rfl _ _ _ hib) $$ [Hp HB]
  · isplitl [Hp] <;> iassumption
  iintro ⟨Hp, HB⟩
  iapply wp_done
  iapply wp_part
  rw [k0_part26_eq_skeleton]; unfold k0_part26_skel
  dsimp only
  iapply (wp_await (d := d) (L := L) 0 (128 * rowCredit) (by omega) (by omega) _ _) $$ [HB HO]
  · isplitl [HB]; · iexact HB
    isplitr; · iexact Hmw
    iexact HO
  iintro ⟨HB, HO⟩
  iapply (wp_await (d := d) (L := L) (128 * rowCredit) (256 * rowCredit) (by omega) (by omega) _ _) $$ [HB HO]
  · isplitl [HB]; · iexact HB
    isplitr; · iexact Hmw
    iexact HO
  iintro ⟨HB, HO⟩
  iapply (wp_await (d := d) (L := L) (256 * rowCredit) (384 * rowCredit) (by omega) (by omega) _ _) $$ [HB HO]
  · isplitl [HB]; · iexact HB
    isplitr; · iexact Hmw
    iexact HO
  iintro ⟨HB, HO⟩
  iapply (wp_await (d := d) (L := L) (384 * rowCredit) (512 * rowCredit) (by omega) (by omega) _ _) $$ [HB HO]
  · isplitl [HB]; · iexact HB
    isplitr; · iexact Hmw
    iexact HO
  iintro ⟨HB, HO⟩
  iapply (wp_await (d := d) (L := L) (512 * rowCredit) (640 * rowCredit) (by omega) (by omega) _ _) $$ [HB HO]
  · isplitl [HB]; · iexact HB
    isplitr; · iexact Hmw
    iexact HO
  iintro ⟨HB, HO⟩
  iapply wp_done
  iapply (wp_await (d := d) (L := L) (640 * rowCredit) (768 * rowCredit) (by omega) (by omega) _ _) $$ [HB HO]
  · isplitl [HB]; · iexact HB
    isplitr; · iexact Hmw
    iexact HO
  iintro ⟨HB, HO⟩
  iapply (wp_await (d := d) (L := L) (768 * rowCredit) (896 * rowCredit) (by omega) (by omega) _ _) $$ [HB HO]
  · isplitl [HB]; · iexact HB
    isplitr; · iexact Hmw
    iexact HO
  iintro ⟨HB, HO⟩
  iapply (wp_await (d := d) (L := L) (896 * rowCredit) (1024 * rowCredit) (by omega) (by omega) _ _) $$ [HB HO]
  · isplitl [HB]; · iexact HB
    isplitr; · iexact Hmw
    iexact HO
  iintro ⟨HB, HO⟩
  ihave HB := (Entails.of_eq (show (Fetching d L q tab ib 1024 (1024 * rowCredit) : sProp (MM F)) = Fetching d L q tab ib 1024 (rowCredit * 1024) by
    rw [Nat.mul_comm])) $$ HB
  imod (Transfers.batch_collect' countersEmb (thr d L) rowCredit_pos) $$ HB with ⟨HB, Hs8⟩
  ihave HB := (Entails.of_eq (slots_eq d L q tab ib (gathered tab ib))) $$ HB
  icases HB with ⟨⟨Hr, Hi⟩, Ht⟩
  iapply (interp_loop (d := d) (L := L)) $$ [Hr Hw Hdv Hfv]
  · iexists d0, f0
    unfold Res
    isplitl [Hr]; · iexact Hr
    isplitl [Hw]; · iexact Hw
    isplitl [Hdv]; · iexact Hdv
    iexact Hfv
  iintro %dn %ft %hR HR
  unfold Res
  icases HR with ⟨Hr, Hw, Hdv, Hfv⟩
  iapply (wp_copy (q := fullShare) dV (densV.slice (Rect.unit (s := S524288) (k0_off1 L k) S128.size (k0_off1_inb L k)) (fun _ => rfl)) cc0_scoped3.sem
    Finset.univ (ptsD L) (Finset.subset_univ _) (sliceD_set ho _ (by unfold first; omega) (by unfold first; omega)) (View.dmaCredit_pos _ (by decide))) $$ [Hdv Hd Hs3 HO]
  · isplitl [Hdv]; · iexact Hdv
    isplitl [Hd]; · iexact Hd
    isplitl [Hs3]; · iexact Hs3
    isplitr; · iexact Hmw
    iexact HO
  iintro ⟨Hdv, Hd, Hs3, HO⟩
  iapply (wp_copy (q := fullShare) fV (featV.slice (Rect.unit (s := S4194304) (k0_off84 L k) S1024.size (k0_off84_inb L k)) (fun _ => rfl)) cc0_scoped4.sem
    Finset.univ (ptsF L) (Finset.subset_univ _) (sliceF_set ho8 _ (by unfold first; omega) (by unfold first; omega)) (View.dmaCredit_pos _ (by decide))) $$ [Hfv Hf Hs4 HO]
  · isplitl [Hfv]; · iexact Hfv
    isplitl [Hf]; · iexact Hf
    isplitl [Hs4]; · iexact Hs4
    isplitr; · iexact Hmw
    iexact HO
  iintro ⟨Hfv, Hf, Hs4, HO⟩
  iapply wp_done
  rw [read_d, read_f]
  iexists (sliceD (k0_off1 L k) (k0_off1_inb L k)).view.write (Elt F) fo dn Finset.univ, (sliceF (k0_off84 L k) (k0_off84_inb L k)).view.write (Elt F) ff ft Finset.univ
  isplitr
  · ipureintro
    exact chunk_done k hk hD hF hB hR
  isplitl [Ht]; · iexact Ht
  isplitl [Hgx]; · iexact Hgx
  isplitl [Hgy]; · iexact Hgy
  isplitl [Hgz]; · iexact Hgz
  isplitl [Hd]; · iexact Hd
  isplitl [Hf]; · iexact Hf
  isplitl [Hx]; · iexists _; iexact Hx
  isplitl [Hy]; · iexists _; iexact Hy
  isplitl [Hz]; · iexists _; iexact Hz
  isplitl [Hi]; · iexists _; iexact Hi
  isplitl [Hw]; · iexists _; iexact Hw
  isplitl [Hr]; · iexists _; iexact Hr
  isplitl [Hdv]; · iexists _; iexact Hdv
  isplitl [Hfv]; · iexists _; iexact Hfv
  isplitl [Hs8]; · iexact Hs8
  isplitl [Hs0]; · iexact Hs0
  isplitl [Hs1]; · iexact Hs1
  isplitl [Hs2]; · iexact Hs2
  isplitl [Hs3]; · iexact Hs3
  isplitl [Hs4]; · iexact Hs4
  iexact HO

end Cert.KernelIdeal.Tile
-- ==== Proof.KernelIdeal.Body.lean ====
/-
A tile's whole task: its batch's first row, found from its number, and its chunks one after another.
-/
module
public import proofs.«01_k».proof.Proof.KernelIdeal.Chunk

@[expose] public section

noncomputable section

namespace Cert.KernelIdeal.Tile

open Cert.KernelIdeal Cert.KernelIdeal.Gen Cert.Interp

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)

variable {F : FTy → Type} [FloatOps F]

variable {d : Dev nD} {L : grid0.Coords} {q : PosShare TreeShare} {tab : S8388608x16.Idx → F .f32} {gx gy gz fo : S524288.Idx → F .f32}
  {ff : S4194304.Idx → F .f32} {O : CellTallies nD τ sig (HIx 1)} {W : Waits sig (HIx 1)}

/-- The quotient by eight that the program computes from its tile's number, rounded down, times a batch's rows. -/
def batchRow (v1 : BitVec 32) : BitVec 32 :=
  Scalar.muli (Scalar.select
    (Scalar.andi
      (Scalar.cmpi .ne (Scalar.subi (Scalar.extui (Scalar.cmpi .sgt v1 0#32)) (Scalar.extui (Scalar.cmpi .slt v1 0#32)))
        (Scalar.subi (Scalar.extui (Scalar.cmpi .sgt 8#32 0#32)) (Scalar.extui (Scalar.cmpi .slt 8#32 0#32))))
      (Scalar.cmpi .ne (Scalar.remsi v1 8#32) 0#32))
    (Scalar.subi (Scalar.divsi v1 8#32) 1#32) (Scalar.divsi v1 8#32)) 2097152#32

theorem batchRow_tile : ∀ (c : Fin 2) (s : Fin 16),
    batchRow (Scalar.addi (Scalar.muli (BitVec.ofNat 32 s.val) 2#32) (BitVec.ofNat 32 c.val)) = BitVec.ofNat 32 ((2 * s.val + c.val) / 8 * 2097152) := by
  decide

/-- The row the program starts from is that of every point of the tile. -/
theorem batchRow_eq (k : ℕ) (hk : k < 128) :
    batchRow (Scalar.addi (Scalar.muli (BitVec.ofNat 32 (L 1).val) 2#32) (BitVec.ofNat 32 (L 0).val)) = rowBase (first L k) := by
  refine (batchRow_tile (L 0) (L 1)).trans ?_
  unfold rowBase first wid
  congr 2
  have : ((L 0 : Fin 2)).val < 2 := (L 0).isLt
  have h : (16384 * (2 * (L 1).val + (L 0).val) + 128 * k) / 131072 = (2 * (L 1).val + (L 0).val) / 8 := by omega
  exact h.symm

/-- The tile's chunks, one after another: all of its points done. -/
theorem chunks (v1 base : BitVec 32) (hb : ∀ k : ℕ, k < 128 → base = rowBase (first L k)) {α : Type} {Q : α → sProp (MM F)} {cont : Unit → PT L F α} :
    iprop(Transfers.MayWaits (thr d L) (none : HIx 1) O ∗ TileSt d L q tab gx gy gz fo ff O W
        ∗ (∀ fo' ff', ⌜DensTo L tab gx gy gz fo' (first L 128) ∧ FeatTo L tab gx gy gz ff' (first L 128)⌝ -∗ TileSt d L q tab gx gy gz fo' ff' O W -∗ Runs d L (cont ()) Q))
      ⊢ Runs d L (Scf.Loop.for k0_t1_loop k0_t1_ok ⟨⟩ (k0_t1_body L tabV (Memref.isWhole_whole _) gxV (Memref.isWhole_whole _) gyV (Memref.isWhole_whole _) gzV (Memref.isWhole_whole _) densV (Memref.isWhole_whole _) featV (Memref.isWhole_whole _) xV (Memref.isWhole_whole _) yV (Memref.isWhole_whole _) zV (Memref.isWhole_whole _) idxV (Memref.isWhole_whole _) wV (Memref.isWhole_whole _) rowsV (Memref.isWhole_whole _) dV (Memref.isWhole_whole _) fV (Memref.isWhole_whole _) cc0_scratch8 cc0_scoped0 cc0_scoped1 cc0_scoped2 cc0_scoped3 cc0_scoped4 v1 base lanes) >>= cont) Q := by
  iintro ⟨#Hmw, HT, HK⟩
  iapply (Scf.wp_for_bind (Fr := frame) (wpE := wpE (defs₀ (F := F)) 𝒱₀ (thr d L) none) (Es := Set.univ) (lb := k0_t1_loop.lb) (ub := k0_t1_loop.ub)
    (st := k0_t1_loop.st)
    (I := fun t _ => iprop(Transfers.MayWaits (thr d L) (none : HIx 1) O ∗ ∃ fo' ff',
      ⌜DensTo L tab gx gy gz fo' (first L t) ∧ FeatTo L tab gx gy gz ff' (first L t)⌝ ∗ TileSt d L q tab gx gy gz fo' ff' O W)) ?hbody) $$ [HT]
  case hbody =>
    intro t acc
    iintro ⟨#Hmw, %fo', %ff', %hD, HT⟩
    iapply (wp_wand_r frame (wpE (defs₀ (F := F)) 𝒱₀ (thr d L) none) Set.univ)
    isplitl [HT]
    · iapply (chunk (d := d) (L := L) v1 base t (hb _ (by rw [← trips1]; exact t.isLt)) hD.1 hD.2) $$ [HT]
      isplitr; · iexact Hmw
      iexact HT
    iintro %acc' ⟨%fo'', %ff'', %hD', HT⟩
    isplitr; · iexact Hmw
    iexists fo'', ff''
    isplitr; · ipureintro; exact hD'
    iexact HT
  · isplitr; · iexact Hmw
    iexists fo, ff
    isplitr
    · ipureintro
      refine ⟨fun j h1 h2 => ?_, fun j h1 h2 => ?_⟩
      · unfold first at h2; omega
      · unfold first at h2; omega
    iexact HT
  iintro %acc ⟨-, %fo', %ff', %hD, HT⟩
  iapply HK $$ [] HT
  ipureintro
  exact hD

/-- The task: from its shares, its parts of the results and its buffers, the same with its points' results in place. -/
theorem task :
    iprop(Transfers.MayWaits (thr d L) (none : HIx 1) O ∗ TileSt d L q tab gx gy gz fo ff O W)
      ⊢ Runs d L (cc0__interp_body L tabV (Memref.isWhole_whole _) gxV (Memref.isWhole_whole _) gyV (Memref.isWhole_whole _) gzV (Memref.isWhole_whole _) densV (Memref.isWhole_whole _) featV (Memref.isWhole_whole _) xV (Memref.isWhole_whole _) yV (Memref.isWhole_whole _) zV (Memref.isWhole_whole _) idxV (Memref.isWhole_whole _) wV (Memref.isWhole_whole _) rowsV (Memref.isWhole_whole _) dV (Memref.isWhole_whole _) fV (Memref.isWhole_whole _) cc0_scratch8 cc0_scoped0 cc0_scoped1 cc0_scoped2 cc0_scoped3 cc0_scoped4)
          (fun _ => iprop(∃ fo' ff', ⌜DensTo L tab gx gy gz fo' (first L 128) ∧ FeatTo L tab gx gy gz ff' (first L 128)⌝ ∗ TileSt d L q tab gx gy gz fo' ff' O W)) := by
  simp only [cc0__interp_body_eq_skeleton]; unfold cc0__interp_body_skel
  iintro ⟨#Hmw, HT⟩
  iapply (chunks (d := d) (L := L) _ _ (fun k hk => batchRow_eq (L := L) k hk)) $$ [HT]
  isplitr; · iexact Hmw
  isplitl [HT]; · iexact HT
  iintro %fo' %ff' %hD HT
  iapply wp_done
  iexists fo', ff'
  isplitr; · ipureintro; exact hD
  iexact HT

end Cert.KernelIdeal.Tile
-- ==== Proof.KernelIdeal.Shares.lean ====
/-
How the call's arrays are dealt: the table and the coordinates by shares, the results by points, to the two cores and
to each core's sixteen tiles; and a tile's own buffers and semaphores.
-/
module
public import proofs.«01_k».proof.Proof.KernelIdeal.Body

@[expose] public section

noncomputable section

namespace Cert.KernelIdeal.Tile

open Cert.KernelIdeal Cert.KernelIdeal.Gen Cert.Interp

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.SparseCore.Cfg (ownCells ownRefs mem_ownCells)

/-! ## How the call's arrays are dealt -/

abbrev tLoc (d : Dev nD) : Loc nD τ sig := (SparseCore.T d).loc main_v30
abbrev xLoc (d : Dev nD) : Loc nD τ sig := (SparseCore.T d).loc main_v19
abbrev yLoc (d : Dev nD) : Loc nD τ sig := (SparseCore.T d).loc main_v22
abbrev zLoc (d : Dev nD) : Loc nD τ sig := (SparseCore.T d).loc main_v25
abbrev dLoc (d : Dev nD) : Loc nD τ sig := (SparseCore.T d).loc main_v31_0
abbrev fLoc (d : Dev nD) : Loc nD τ sig := (SparseCore.T d).loc main_v31_1

/-- Tile `w`'s points in the first result, -/
def tileD (w : ℕ) : Finset S524288.Idx := Finset.univ.filter fun j => (j 0).val / 16384 = w
/-- and in the second. -/
def tileF (w : ℕ) : Finset S4194304.Idx := Finset.univ.filter fun j => (j 0).val / 131072 = w
/-- Core `c`'s points in the first result, every other tile's, -/
def coreD (c : ℕ) : Finset S524288.Idx := Finset.univ.filter fun j => (j 0).val / 16384 % 2 = c
/-- and in the second. -/
def coreF (c : ℕ) : Finset S4194304.Idx := Finset.univ.filter fun j => (j 0).val / 131072 % 2 = c

theorem tileD_disjoint (c : ℕ) : ∀ i ∈ (Finset.univ : Finset (Fin 16)), ∀ j ∈ (Finset.univ : Finset (Fin 16)), i ≠ j → Disjoint (tileD (2 * i.val + c)) (tileD (2 * j.val + c)) := by
  intro i _ j _ h
  rw [Finset.disjoint_left]
  intro x hx hy
  have h1 := (Finset.mem_filter.mp hx).2
  have h2 := (Finset.mem_filter.mp hy).2
  exact h (Fin.ext (by omega))
theorem tileF_disjoint (c : ℕ) : ∀ i ∈ (Finset.univ : Finset (Fin 16)), ∀ j ∈ (Finset.univ : Finset (Fin 16)), i ≠ j → Disjoint (tileF (2 * i.val + c)) (tileF (2 * j.val + c)) := by
  intro i _ j _ h
  rw [Finset.disjoint_left]
  intro x hx hy
  have h1 := (Finset.mem_filter.mp hx).2
  have h2 := (Finset.mem_filter.mp hy).2
  exact h (Fin.ext (by omega))
theorem tileD_cover (c : Fin 2) : (Finset.univ : Finset (Fin 16)).biUnion (fun i => tileD (2 * i.val + c.val)) = coreD c.val := by
  ext x
  have hx : (x 0).val < 524288 := (x 0).isLt
  have hc := c.isLt
  simp only [Finset.mem_biUnion, Finset.mem_univ, true_and, tileD, coreD, Finset.mem_filter]
  constructor
  · rintro ⟨i, h⟩; omega
  · intro h
    exact ⟨⟨(x 0).val / 16384 / 2, by omega⟩, by show _ = 2 * ((x 0).val / 16384 / 2) + c.val; omega⟩
theorem tileF_cover (c : Fin 2) : (Finset.univ : Finset (Fin 16)).biUnion (fun i => tileF (2 * i.val + c.val)) = coreF c.val := by
  ext x
  have hx : (x 0).val < 4194304 := (x 0).isLt
  have hc := c.isLt
  simp only [Finset.mem_biUnion, Finset.mem_univ, true_and, tileF, coreF, Finset.mem_filter]
  constructor
  · rintro ⟨i, h⟩; omega
  · intro h
    exact ⟨⟨(x 0).val / 131072 / 2, by omega⟩, by show _ = 2 * ((x 0).val / 131072 / 2) + c.val; omega⟩
theorem coreD_disjoint : ∀ i ∈ (Finset.univ : Finset (Fin 2)), ∀ j ∈ (Finset.univ : Finset (Fin 2)), i ≠ j → Disjoint (coreD i.val) (coreD j.val) := by
  intro i _ j _ h
  rw [Finset.disjoint_left]
  intro x hx hy
  have h1 := (Finset.mem_filter.mp hx).2
  have h2 := (Finset.mem_filter.mp hy).2
  exact h (Fin.ext (by omega))
theorem coreF_disjoint : ∀ i ∈ (Finset.univ : Finset (Fin 2)), ∀ j ∈ (Finset.univ : Finset (Fin 2)), i ≠ j → Disjoint (coreF i.val) (coreF j.val) := by
  intro i _ j _ h
  rw [Finset.disjoint_left]
  intro x hx hy
  have h1 := (Finset.mem_filter.mp hx).2
  have h2 := (Finset.mem_filter.mp hy).2
  exact h (Fin.ext (by omega))
theorem coreD_cover : (Finset.univ : Finset (Fin 2)).biUnion (fun c => coreD c.val) = Finset.univ := by
  ext x
  simp only [Finset.mem_biUnion, Finset.mem_univ, true_and, iff_true, coreD, Finset.mem_filter]
  exact ⟨⟨(x 0).val / 16384 % 2, by omega⟩, rfl⟩
theorem coreF_cover : (Finset.univ : Finset (Fin 2)).biUnion (fun c => coreF c.val) = Finset.univ := by
  ext x
  simp only [Finset.mem_biUnion, Finset.mem_univ, true_and, iff_true, coreF, Finset.mem_filter]
  exact ⟨⟨(x 0).val / 131072 % 2, by omega⟩, rfl⟩

/-- Core `c`'s share of what every tile reads, -/
abbrev coreShare (c : Fin 2) : PosShare TreeShare := pieceOf fullShare 2 (by decide) c
/-- and tile `i` of core `c`'s. -/
abbrev tileShare (c : Fin 2) (i : Fin 16) : PosShare TreeShare := pieceOf (coreShare c) 16 (by decide) i

variable {F : FTy → Type} [FloatOps F]

/-- The four arrays read, at a share. -/
def Inputs (d : Dev nD) (q : PosShare TreeShare) (tab : S8388608x16.Idx → F .f32) (gx gy gz : S524288.Idx → F .f32) : sProp (MM F) :=
  iprop((tLoc d ↦{q} tab) ∗ (xLoc d ↦{q} gx) ∗ (yLoc d ↦{q} gy) ∗ (zLoc d ↦{q} gz))
/-- The two results over a set of points each. -/
def Outputs (d : Dev nD) (I : Finset S524288.Idx) (J : Finset S4194304.Idx) (fo : S524288.Idx → F .f32) (ff : S4194304.Idx → F .f32) : sProp (MM F) :=
  iprop((dLoc d ↦[I]{fullShare} fo) ∗ (fLoc d ↦[J]{fullShare} ff))

/-- What core `c` is given of the call's arrays, the results at `fo` and `ff`; -/
def CoreRes (d : Dev nD) (c : Fin 2) (tab : S8388608x16.Idx → F .f32) (gx gy gz fo : S524288.Idx → F .f32) (ff : S4194304.Idx → F .f32) : sProp (MM F) :=
  iprop(Inputs d (coreShare c) tab gx gy gz ∗ Outputs d (coreD c.val) (coreF c.val) fo ff)
/-- and tile `i` of core `c`. -/
def TileRes (d : Dev nD) (c : Fin 2) (i : Fin 16) (tab : S8388608x16.Idx → F .f32) (gx gy gz fo : S524288.Idx → F .f32) (ff : S4194304.Idx → F .f32) : sProp (MM F) :=
  iprop(Inputs d (tileShare c i) tab gx gy gz ∗ Outputs d (tileD (2 * i.val + c.val)) (tileF (2 * i.val + c.val)) fo ff)

omit [FloatOps F] in
theorem inputs_pieces (d : Dev nD) (q : PosShare TreeShare) (o : ℕ) (ho : 0 < o) (tab : S8388608x16.Idx → F .f32) (gx gy gz : S524288.Idx → F .f32) :
    (Inputs d q tab gx gy gz : sProp (MM F)) = bigSep Finset.univ fun j : Fin o => Inputs d (pieceOf q o ho j) tab gx gy gz := by
  unfold Inputs
  rw [bigSep_sep', bigSep_sep', bigSep_sep', ← pointsTo_piecesOf, ← pointsTo_piecesOf, ← pointsTo_piecesOf, ← pointsTo_piecesOf]

omit [FloatOps F] in
theorem outputs_parts {n : ℕ} (d : Dev nD) (I : Fin n → Finset S524288.Idx) (J : Fin n → Finset S4194304.Idx) (fo : S524288.Idx → F .f32) (ff : S4194304.Idx → F .f32)
    (hI : ∀ i ∈ (Finset.univ : Finset (Fin n)), ∀ j ∈ (Finset.univ : Finset (Fin n)), i ≠ j → Disjoint (I i) (I j))
    (hJ : ∀ i ∈ (Finset.univ : Finset (Fin n)), ∀ j ∈ (Finset.univ : Finset (Fin n)), i ≠ j → Disjoint (J i) (J j)) :
    (Outputs d (Finset.univ.biUnion I) (Finset.univ.biUnion J) fo ff : sProp (MM F)) = bigSep Finset.univ fun j : Fin n => Outputs d (I j) (J j) fo ff := by
  unfold Outputs
  rw [bigSep_sep', ← pointsTo_biUnion Finset.univ (ℓ := dLoc d) (Val := Elt F) I hI, ← pointsTo_biUnion Finset.univ (ℓ := fLoc d) (Val := Elt F) J hJ]

omit [FloatOps F] in
/-- A core's arrays are its tiles'. -/
theorem core_tiles (d : Dev nD) (c : Fin 2) (tab : S8388608x16.Idx → F .f32) (gx gy gz fo : S524288.Idx → F .f32) (ff : S4194304.Idx → F .f32) :
    (CoreRes d c tab gx gy gz fo ff : sProp (MM F)) = bigSep Finset.univ fun i : Fin 16 => TileRes d c i tab gx gy gz fo ff := by
  unfold CoreRes TileRes
  rw [bigSep_sep', inputs_pieces d (coreShare c) 16 (by decide), ← outputs_parts d _ _ fo ff (tileD_disjoint c.val) (tileF_disjoint c.val), tileD_cover, tileF_cover]

omit [FloatOps F] in
/-- The call's arrays are its two cores'. -/
theorem call_cores (d : Dev nD) (tab : S8388608x16.Idx → F .f32) (gx gy gz fo : S524288.Idx → F .f32) (ff : S4194304.Idx → F .f32) :
    (iprop(Inputs d fullShare tab gx gy gz ∗ Outputs d Finset.univ Finset.univ fo ff) : sProp (MM F))
      = bigSep Finset.univ fun c : Fin 2 => CoreRes d c tab gx gy gz fo ff := by
  unfold CoreRes
  rw [bigSep_sep', inputs_pieces d fullShare 2 (by decide), ← outputs_parts d _ _ fo ff coreD_disjoint coreF_disjoint, coreD_cover, coreF_cover]

/-! ## What the handshakes carry -/

omit [FloatOps F] in
theorem nCore_zero : (K (F := F)).nCore 0 = 2 := rfl
omit [FloatOps F] in
theorem nSub_zero : (K (F := F)).nSub 0 = 16 := rfl

instance inputs_storable (d : Dev nD) (q : PosShare TreeShare) (tab : S8388608x16.Idx → F .f32) (gx gy gz : S524288.Idx → F .f32) :
    BI.Storable (upEmb : UEmb _ (MM F)) (Inputs d q tab gx gy gz) := by
  unfold Inputs; infer_instance
instance outputs_storable (d : Dev nD) (I : Finset S524288.Idx) (J : Finset S4194304.Idx) (fo : S524288.Idx → F .f32) (ff : S4194304.Idx → F .f32) :
    BI.Storable (upEmb : UEmb _ (MM F)) (Outputs d I J fo ff) := by
  unfold Outputs; infer_instance
instance coreRes_storable (d : Dev nD) (c : Fin 2) (tab : S8388608x16.Idx → F .f32) (gx gy gz fo : S524288.Idx → F .f32) (ff : S4194304.Idx → F .f32) :
    BI.Storable (upEmb : UEmb _ (MM F)) (CoreRes d c tab gx gy gz fo ff) := by
  unfold CoreRes; infer_instance
instance tileRes_storable (d : Dev nD) (c : Fin 2) (i : Fin 16) (tab : S8388608x16.Idx → F .f32) (gx gy gz fo : S524288.Idx → F .f32) (ff : S4194304.Idx → F .f32) :
    BI.Storable (upEmb : UEmb _ (MM F)) (TileRes d c i tab gx gy gz fo ff) := by
  unfold TileRes; infer_instance

variable (tab : Dev nD → S8388608x16.Idx → F .f32) (gx gy gz : Dev nD → S524288.Idx → F .f32)

/-- What a core is handed, -/
def CoreIn (d : Dev nD) (c : Fin 2) : sProp (MM F) := iprop(∃ fo ff, CoreRes d c (tab d) (gx d) (gy d) (gz d) fo ff)
/-- what it hands back, -/
def CoreOut (d : Dev nD) (c : Fin 2) : sProp (MM F) :=
  CoreRes d c (tab d) (gx d) (gy d) (gz d) (dens (tab d) (gx d) (gy d) (gz d)) (feat (tab d) (gx d) (gy d) (gz d))
/-- what a tile is handed, -/
def TileIn (d : Dev nD) (c : Fin 2) (i : Fin 16) : sProp (MM F) := iprop(∃ fo ff, TileRes d c i (tab d) (gx d) (gy d) (gz d) fo ff)
/-- and what it hands back. -/
def TileOut (d : Dev nD) (c : Fin 2) (i : Fin 16) : sProp (MM F) :=
  TileRes d c i (tab d) (gx d) (gy d) (gz d) (dens (tab d) (gx d) (gy d) (gz d)) (feat (tab d) (gx d) (gy d) (gz d))

instance coreIn_storable (d : Dev nD) (c : Fin 2) : BI.Storable (upEmb : UEmb _ (MM F)) (CoreIn tab gx gy gz d c) := by
  unfold CoreIn; infer_instance
instance coreOut_storable (d : Dev nD) (c : Fin 2) : BI.Storable (upEmb : UEmb _ (MM F)) (CoreOut tab gx gy gz d c) := by
  unfold CoreOut; infer_instance
instance tileIn_storable (d : Dev nD) (c : Fin 2) (i : Fin 16) : BI.Storable (upEmb : UEmb _ (MM F)) (TileIn tab gx gy gz d c i) := by
  unfold TileIn; infer_instance
instance tileOut_storable (d : Dev nD) (c : Fin 2) (i : Fin 16) : BI.Storable (upEmb : UEmb _ (MM F)) (TileOut tab gx gy gz d c i) := by
  unfold TileOut; infer_instance

/-- The call's arrays go to the cores and their tiles by parts, and come back with the results in place. -/
def P : (K (F := F)).Pay (nD := nD) (Val := Elt F) (Name := ℕ) (U := UU) where
  st := fun q d c => match q with | 0 => CoreIn tab gx gy gz d (Fin.cast nCore_zero c)
  dn := fun q d c => match q with | 0 => CoreOut tab gx gy gz d (Fin.cast nCore_zero c)
  go := fun q d c i => match q with | 0 => TileIn tab gx gy gz d (Fin.cast nCore_zero c) (Fin.cast nSub_zero i)
  td := fun q d c i => match q with | 0 => TileOut tab gx gy gz d (Fin.cast nCore_zero c) (Fin.cast nSub_zero i)
  x := fun _ _ => iprop(emp)

instance P_storable : (P (F := F) tab gx gy gz).IsStorable where
  st q d c := match q with | 0 => coreIn_storable tab gx gy gz d (Fin.cast nCore_zero c)
  dn q d c := match q with | 0 => coreOut_storable tab gx gy gz d (Fin.cast nCore_zero c)
  go q d c i := match q with | 0 => tileIn_storable tab gx gy gz d (Fin.cast nCore_zero c) (Fin.cast nSub_zero i)
  td q d c i := match q with | 0 => tileOut_storable tab gx gy gz d (Fin.cast nCore_zero c) (Fin.cast nSub_zero i)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

omit [FloatOps F] in
theorem bigSep_cores (Φ : Fin 2 → sProp (MM F)) :
    (bigSep Finset.univ fun c : Fin ((K (F := F)).nCore 0) => Φ (Fin.cast nCore_zero c)) = bigSep Finset.univ Φ :=
  bigSep_congr fun _ _ => congrArg Φ (Fin.ext rfl)
omit [FloatOps F] in
theorem bigSep_tiles (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

/-- A core deals what it is handed to its tiles, and gathers what they hand back. -/
theorem vecSplit : (K (F := F)).VecSplit' (P tab gx gy gz) 0 := by
  intro d c
  show CoreIn tab gx gy gz d (Fin.cast nCore_zero c) ⊢ |={Set.univ}=> iprop(
      (bigSep Finset.univ fun i : Fin ((K (F := F)).nSub 0) => TileIn tab gx gy gz d (Fin.cast nCore_zero c) (Fin.cast nSub_zero i))
      ∗ ((bigSep Finset.univ fun i : Fin ((K (F := F)).nSub 0) => TileOut tab gx gy gz d (Fin.cast nCore_zero c) (Fin.cast nSub_zero i))
          -∗ CoreOut tab gx gy gz d (Fin.cast nCore_zero c)))
  rw [bigSep_tiles (F := F) (TileIn tab gx gy gz d (Fin.cast nCore_zero c)), bigSep_tiles (F := F) (TileOut tab gx gy gz d (Fin.cast nCore_zero c))]
  generalize Fin.cast nCore_zero c = c'
  have hm (fo : S524288.Idx → F .f32) (ff : S4194304.Idx → F .f32) :
      (bigSep Finset.univ fun i : Fin 16 => TileRes d c' i (tab d) (gx d) (gy d) (gz d) fo ff : sProp (MM F)) ⊢ bigSep Finset.univ (TileIn tab gx gy gz d c') := by
    refine bigSep_mono fun i _ => ?_
    unfold TileIn
    show TileRes d c' i (tab d) (gx d) (gy d) (gz d) fo ff ⊢ iprop(∃ fo ff, TileRes d c' i (tab d) (gx d) (gy d) (gz d) fo ff)
    iintro H; iexists fo, ff; iexact H
  unfold CoreIn CoreOut
  rw [core_tiles]
  iintro ⟨%fo, %ff, H⟩
  imodintro
  isplitl [H]
  · ihave H' := (Entails.of_eq (core_tiles d c' (tab d) (gx d) (gy d) (gz d) fo ff)) $$ H
    iapply (hm fo ff) $$ H'
  iintro H
  iexact H

/-! ## A tile's own buffers and semaphores -/

/-- A semaphore of the tile. -/
abbrev cell (d : Dev nD) (L : grid0.Coords) (s : DmaSems sig S_) : GSem nD τ sig := (thr d L, .dma s.sem)

theorem cell_ne (d : Dev nD) (L : grid0.Coords) {s t : DmaSems sig S_} (h : (SemLoc.dma s.sem : SemLoc sig) ≠ .dma t.sem) : cell d L s ≠ cell d L t :=
  fun e => h (Prod.mk.inj e).2

theorem scoped_cc0_scratch8 : (SemLoc.dma cc0_scratch8.sem : SemLoc sig).isScoped .scVector = true := by decide
theorem scoped_cc0_scoped0 : (SemLoc.dma cc0_scoped0.sem : SemLoc sig).isScoped .scVector = true := by decide
theorem scoped_cc0_scoped1 : (SemLoc.dma cc0_scoped1.sem : SemLoc sig).isScoped .scVector = true := by decide
theorem scoped_cc0_scoped2 : (SemLoc.dma cc0_scoped2.sem : SemLoc sig).isScoped .scVector = true := by decide
theorem scoped_cc0_scoped3 : (SemLoc.dma cc0_scoped3.sem : SemLoc sig).isScoped .scVector = true := by decide
theorem scoped_cc0_scoped4 : (SemLoc.dma cc0_scoped4.sem : SemLoc sig).isScoped .scVector = true := by decide

omit [FloatOps F] in
/-- The tile's semaphores: the six it waits on, and the rest. -/
theorem ownSems0_tile (d : Dev nD) (L : grid0.Coords) :
    (SparseCore.Cfg.ownSems0 (thr d L) : sProp (MM F)) = iprop(semVal (cell d L cc0_scratch8) 0 ∗ semVal (cell d L cc0_scoped0) 0 ∗ semVal (cell d L cc0_scoped1) 0 ∗ semVal (cell d L cc0_scoped2) 0 ∗ semVal (cell d L cc0_scoped3) 0 ∗ semVal (cell d L cc0_scoped4) 0
      ∗ bigSep (((((((ownCells (thr d L)).erase (cell d L cc0_scratch8)).erase (cell d L cc0_scoped0)).erase (cell d L cc0_scoped1)).erase (cell d L cc0_scoped2)).erase (cell d L cc0_scoped3)).erase (cell d L cc0_scoped4)) fun g => semVal g 0) := by
  unfold SparseCore.Cfg.ownSems0
  rw [SparseCore.bigSep_erase' ((mem_ownCells (g := cell d L cc0_scratch8)).mpr ⟨rfl, scoped_cc0_scratch8⟩),
    SparseCore.bigSep_erase' (Finset.mem_erase.mpr ⟨cell_ne d L (by decide), (mem_ownCells (g := cell d L cc0_scoped0)).mpr ⟨rfl, scoped_cc0_scoped0⟩⟩),
    SparseCore.bigSep_erase' (Finset.mem_erase.mpr ⟨cell_ne d L (by decide), Finset.mem_erase.mpr ⟨cell_ne d L (by decide), (mem_ownCells (g := cell d L cc0_scoped1)).mpr ⟨rfl, scoped_cc0_scoped1⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := cell d L cc0_scoped2)).mpr ⟨rfl, scoped_cc0_scoped2⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell d L cc0_scoped3)).mpr ⟨rfl, scoped_cc0_scoped3⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell d L cc0_scoped4)).mpr ⟨rfl, scoped_cc0_scoped4⟩⟩⟩⟩⟩⟩)]

omit [FloatOps F] in
/-- The tile's buffers: the eight it works in, at whatever they hold, and the rest. -/
theorem ownBufs_tile (d : Dev nD) (L : grid0.Coords) :
    (SparseCore.Cfg.ownBufs (thr d L) : sProp (MM F)) = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f) ∗ (∃ f, (thr d L).loc cc0_scratch7 ↦{fullShare} f)
      ∗ bigSep (((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := (Proc.scVector (cV L) (jV L)).devRef cc0_scratch7) rfl⟩⟩⟩⟩⟩⟩⟩)]

end Cert.KernelIdeal.Tile
-- ==== Proof.KernelIdeal.Launch.lean ====
/-
A tile's part of the call, from what it is handed to what it hands back.
-/
module
public import proofs.«01_k».proof.Proof.KernelIdeal.Shares

@[expose] public section

noncomputable section

namespace Cert.KernelIdeal.Tile

open Cert.KernelIdeal Cert.KernelIdeal.Gen Cert.Interp

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)

variable {F : FTy → Type} [FloatOps F]
variable (tab : Dev nD → S8388608x16.Idx → F .f32) (gx gy gz : Dev nD → S524288.Idx → F .f32)

abbrev coreOf (L : grid0.Coords) : Fin 2 := L 0
abbrev subOf (L : grid0.Coords) : Fin 16 := L 1

/-- All of a tile's points done, its part of the first result is the whole result's, -/
theorem densDone (d : Dev nD) (L : grid0.Coords) {tab : S8388608x16.Idx → F .f32} {gx gy gz fo : S524288.Idx → F .f32} (h : DensTo L tab gx gy gz fo (first L 128)) :
    (dLoc d ↦[tileD (2 * (subOf L).val + (coreOf L).val)]{fullShare} fo : sProp (MM F))
      = dLoc d ↦[tileD (2 * (subOf L).val + (coreOf L).val)]{fullShare} dens tab gx gy gz := by
  refine pointsTo_congr fun j hj => ?_
  have hj' : (j 0).val / 16384 = wid L := (Finset.mem_filter.mp hj).2
  exact h j (by omega) (by unfold first; omega)
/-- and of the second. -/
theorem featDone (d : Dev nD) (L : grid0.Coords) {tab : S8388608x16.Idx → F .f32} {gx gy gz : S524288.Idx → F .f32} {ff : S4194304.Idx → F .f32}
    (h : FeatTo L tab gx gy gz ff (first L 128)) :
    (fLoc d ↦[tileF (2 * (subOf L).val + (coreOf L).val)]{fullShare} ff : sProp (MM F))
      = fLoc d ↦[tileF (2 * (subOf L).val + (coreOf L).val)]{fullShare} feat tab gx gy gz := by
  refine pointsTo_congr fun j hj => ?_
  have hj' : (j 0).val / 131072 = wid L := (Finset.mem_filter.mp hj).2
  exact h j (by omega) (by unfold first; omega)

/-- The task as the launch asks for it. -/
theorem tile_body (d : Dev nD) (L : grid0.Coords) (O : CellTallies nD τ sig (HIx 1)) (W : Waits sig (HIx 1)) (hO : ∀ g, O g none = 0) :
    iprop(levAts (K (F := F)).L (K (F := F)).lev ∗ emp ∗ TileIn tab gx gy gz d (coreOf L) (subOf L)
        ∗ scopedBufs (thr d L) ∗ scopedSems0 (thr d L) ∗ owes (thr d L) O W)
      ⊢ Runs d L (cc0__interp_body L tabV (Memref.isWhole_whole _) gxV (Memref.isWhole_whole _) gyV (Memref.isWhole_whole _) gzV (Memref.isWhole_whole _) densV (Memref.isWhole_whole _) featV (Memref.isWhole_whole _) xV (Memref.isWhole_whole _) yV (Memref.isWhole_whole _) zV (Memref.isWhole_whole _) idxV (Memref.isWhole_whole _) wV (Memref.isWhole_whole _) rowsV (Memref.isWhole_whole _) dV (Memref.isWhole_whole _) fV (Memref.isWhole_whole _) cc0_scratch8 cc0_scoped0 cc0_scoped1 cc0_scoped2 cc0_scoped3 cc0_scoped4)
          fun _ => iprop(TileOut tab gx gy gz d (coreOf L) (subOf L) ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_tile, ownBufs_tile]
  unfold TileIn TileOut TileRes Inputs Outputs
  iintro ⟨#Hlv, -, ⟨%fo, %ff, ⟨Ht, Hx, Hy, Hz⟩, Hd, Hf⟩, ⟨B0, B1, B2, B3, B4, B5, B6, B7, HB⟩, ⟨S0, S1, S2, S3, S4, S5, HS⟩, HO⟩
  ihave Hmw := (show levAts (K (F := F)).L (K (F := F)).lev ⊢ Transfers.MayWaits (thr d L) (none : HIx 1) O from
    (K (F := F)).mayWaits_none (thr := thr d L) hO) $$ Hlv
  iapply (wp_wand_r frame (wpE (defs₀ (F := F)) 𝒱₀ (thr d L) none) Set.univ)
  isplitl [Hmw Ht Hx Hy Hz Hd Hf B0 B1 B2 B3 B4 B5 B6 B7 S0 S1 S2 S3 S4 S5 HO]
  · iapply (task (d := d) (L := L) (q := tileShare (coreOf L) (subOf L)) (tab := tab d) (gx := gx d) (gy := gy d) (gz := gz d) (fo := fo) (ff := ff) (O := O) (W := W)) $$ [Hmw Ht Hx Hy Hz Hd Hf B0 B1 B2 B3 B4 B5 B6 B7 S0 S1 S2 S3 S4 S5 HO]
    isplitl [Hmw]; · iexact Hmw
    unfold TileSt
    isplitl [Ht]; · iexact Ht
    isplitl [Hx]; · iexact Hx
    isplitl [Hy]; · iexact Hy
    isplitl [Hz]; · iexact Hz
    isplitl [Hd]; · iexact Hd
    isplitl [Hf]; · iexact Hf
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [S0]; · iexact S0
    isplitl [S1]; · iexact S1
    isplitl [S2]; · iexact S2
    isplitl [S3]; · iexact S3
    isplitl [S4]; · iexact S4
    isplitl [S5]; · iexact S5
    unfold Owing
    iexists W
    isplitr; · ipureintro; exact fun p hp => Or.inl hp
    iexact HO
  iintro %u ⟨%fo', %ff', %hD, HT⟩
  unfold TileSt
  icases HT with ⟨Ht, Hx, Hy, Hz, Hd, Hf, B0, B1, B2, B3, B4, B5, B6, B7, S0, S1, S2, S3, S4, S5, HO⟩
  isplitl [Ht Hx Hy Hz Hd Hf]
  · isplitl [Ht Hx Hy Hz]
    · isplitl [Ht]; · iexact Ht
      isplitl [Hx]; · iexact Hx
      isplitl [Hy]; · iexact Hy
      iexact Hz
    isplitl [Hd]
    · iapply (Entails.of_eq (densDone d L hD.1)); iexact Hd
    · iapply (Entails.of_eq (featDone d L hD.2)); iexact Hf
  isplitl [B0 B1 B2 B3 B4 B5 B6 B7 HB]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact HB
  isplitl [S0 S1 S2 S3 S4 S5 HS]
  · isplitl [S0]; · iexact S0
    isplitl [S1]; · iexact S1
    isplitl [S2]; · iexact S2
    isplitl [S3]; · iexact S3
    isplitl [S4]; · iexact S4
    isplitl [S5]; · iexact S5
    iexact HS
  iapply (show (Owing d L O W : sProp (MM F)) ⊢ iprop(∃ W', ⌜∀ p ∈ W', p ∈ W ∨ p.2 = none⌝ ∗ owes (thr d L) O W') from .rfl)
  iexact HO

/-! ## The obligation -/

/-- The pair `(core, subcore)` as grid coordinates. -/
def pair (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__interp_body (pair c s) tabV (Memref.isWhole_whole _) gxV (Memref.isWhole_whole _) gyV (Memref.isWhole_whole _) gzV (Memref.isWhole_whole _) densV (Memref.isWhole_whole _) featV (Memref.isWhole_whole _) xV (Memref.isWhole_whole _) yV (Memref.isWhole_whole _) zV (Memref.isWhole_whole _) idxV (Memref.isWhole_whole _) wV (Memref.isWhole_whole _) rowsV (Memref.isWhole_whole _) dV (Memref.isWhole_whole _) fV (Memref.isWhole_whole _) cc0_scratch8 cc0_scoped0 cc0_scoped1 cc0_scoped2 cc0_scoped3 cc0_scoped4) ⟨⟩ c s := rfl

omit [FloatOps F] in
/-- Waits recorded at no level are waits recorded at none or at a call's. -/
theorem waits_weaken {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's part of the call. -/
theorem tileObl : (K (F := F)).TileObl (D (F := F)) 𝒱 (P tab gx gy gz) v₀ 0 := by
  intro d c i O W hO _ _
  simp only [show (P tab gx gy gz).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tab gx gy gz d (pair ⟨_, hci.1⟩ ⟨_, hci.2⟩) O W hO).trans (wp_mono frame _ _ fun _ => waits_weaken)

end Cert.KernelIdeal.Tile
-- ==== Proof.KernelIdeal.Main.lean ====
/-
The program on the TensorCore: its host operations before the call and after it as lists, the call between them from
the arrays the first leave, and what every buffer holds at the end.
-/
module
public import proofs.«01_k».proof.Proof.KernelIdeal.Launch
public import Idealize.ShloMosaic.Lib.Pipeline.Frame

@[expose] public section

noncomputable section

namespace Cert.KernelIdeal.Tile

open Cert.KernelIdeal Cert.KernelIdeal.Gen Cert.Interp

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)

open Idealize.ShloMosaic.StableHlo (held held_sub_split held_congr seq after wp_seq tcRefs launchContents)
open Idealize.ShloMosaic.Pipeline (ucRefs unscopedBufs_held sub_ucRefs)

variable {F : FTy → Type} [FloatOps F]
/-- Directions and positions with a fourth coordinate put behind their three. -/
def withOnes : (⟨S4x2048x3, .f32⟩ : BufTy).Contents (Elt F) → (⟨S4x2048x1, .f32⟩ : BufTy).Contents (Elt F) → (⟨S4x2048x4, .f32⟩ : BufTy).Contents (Elt F) :=
  fun a b => concatenate S4x2048x4 2 [⟨S4x2048x3, a⟩, ⟨S4x2048x1, b⟩] concatenates_S4x2048x3_S4x2048x1_S4x2048x4_d2
/-- The two volumes, one behind the other. -/
def joined : (⟨S4x1x128x128x128, .f32⟩ : BufTy).Contents (Elt F) → (⟨S4x8x128x128x128, .f32⟩ : BufTy).Contents (Elt F) → (⟨S4x9x128x128x128, .f32⟩ : BufTy).Contents (Elt F) :=
  fun a b => concatenate S4x9x128x128x128 1 [⟨S4x1x128x128x128, a⟩, ⟨S4x8x128x128x128, b⟩] concatenates_S4x1x128x128x128_S4x8x128x128x128_S4x9x128x128x128_d1

/-- The host operations before the call. -/
abbrev before : List (HloOp τ sig (Elt F)) :=
  [StableHlo.nullary main_cst (constant S_ .f32 0x3F800000#32),
   StableHlo.unary main_cst main_v0 (broadcastInDim S4x2048x1 ![] bcast_S_S4x2048x1 : (⟨S_, .f32⟩ : BufTy).Contents (Elt F) → (⟨S4x2048x1, .f32⟩ : BufTy).Contents (Elt F)),
   StableHlo.binary main_arg0 main_v0 main_v1 (withOnes (F := F)),
   StableHlo.binary main_v1 main_arg5 main_v2 ((fun l r => Host.dotGeneral dot_S4x2048x4_S4x4x4_S4x2048x4_2_1_1_2_0_0 none l r) : (⟨S4x2048x4, .f32⟩ : BufTy).Contents (Elt F) → (⟨S4x4x4, .f32⟩ : BufTy).Contents (Elt F) → (⟨S4x2048x4, .f32⟩ : BufTy).Contents (Elt F)),
   StableHlo.unary main_v2 main_v3 ((extractStridedSlice S4x2048x3 ![0, 0, 0] · slices_S4x2048x4_S4x2048x3_0_0_0) : (⟨S4x2048x4, .f32⟩ : BufTy).Contents (Elt F) → (⟨S4x2048x3, .f32⟩ : BufTy).Contents (Elt F)),
   StableHlo.unary main_v2 main_v4 ((extractStridedSlice S4x2048x1 ![0, 0, 3] · slices_S4x2048x4_S4x2048x1_0_0_3) : (⟨S4x2048x4, .f32⟩ : BufTy).Contents (Elt F) → (⟨S4x2048x1, .f32⟩ : BufTy).Contents (Elt F)),
   StableHlo.unary main_v4 main_v5 (broadcastInDim S4x2048x3 ![0, 1, 2] bcast_S4x2048x1_S4x2048x3_0_1_2 : (⟨S4x2048x1, .f32⟩ : BufTy).Contents (Elt F) → (⟨S4x2048x3, .f32⟩ : BufTy).Contents (Elt F)),
   StableHlo.binary main_v3 main_v5 main_v6 (Host.divf : (⟨S4x2048x3, .f32⟩ : BufTy).Contents (Elt F) → (⟨S4x2048x3, .f32⟩ : BufTy).Contents (Elt F) → (⟨S4x2048x3, .f32⟩ : BufTy).Contents (Elt F)),
   StableHlo.unary main_arg5 main_v7 ((extractStridedSlice S4x3x3 ![0, 0, 0] · slices_S4x4x4_S4x3x3_0_0_0) : (⟨S4x4x4, .f32⟩ : BufTy).Contents (Elt F) → (⟨S4x3x3, .f32⟩ : BufTy).Contents (Elt F)),
   StableHlo.binary main_arg1 main_v7 main_v8 ((fun l r => Host.dotGeneral dot_S4x2048x3_S4x3x3_S4x2048x3_2_1_1_2_0_0 none l r) : (⟨S4x2048x3, .f32⟩ : BufTy).Contents (Elt F) → (⟨S4x3x3, .f32⟩ : BufTy).Contents (Elt F) → (⟨S4x2048x3, .f32⟩ : BufTy).Contents (Elt F)),
   StableHlo.unary main_v6 main_v9 (broadcastInDim S4x2048x1x3 ![0, 1, 3] bcast_S4x2048x3_S4x2048x1x3_0_1_3 : (⟨S4x2048x3, .f32⟩ : BufTy).Contents (Elt F) → (⟨S4x2048x1x3, .f32⟩ : BufTy).Contents (Elt F)),
   StableHlo.unary main_v8 main_v10 (broadcastInDim S4x2048x1x3 ![0, 1, 3] bcast_S4x2048x3_S4x2048x1x3_0_1_3 : (⟨S4x2048x3, .f32⟩ : BufTy).Contents (Elt F) → (⟨S4x2048x1x3, .f32⟩ : BufTy).Contents (Elt F)),
   StableHlo.unary main_arg2 main_v11 (broadcastInDim S4x2048x64x1 ![0, 1, 2] bcast_S4x2048x64_S4x2048x64x1_0_1_2 : (⟨S4x2048x64, .f32⟩ : BufTy).Contents (Elt F) → (⟨S4x2048x64x1, .f32⟩ : BufTy).Contents (Elt F)),
   StableHlo.unary main_v10 main_v12 (broadcastInDim S4x2048x64x3 ![0, 1, 2, 3] bcast_S4x2048x1x3_S4x2048x64x3_0_1_2_3 : (⟨S4x2048x1x3, .f32⟩ : BufTy).Contents (Elt F) → (⟨S4x2048x64x3, .f32⟩ : BufTy).Contents (Elt F)),
   StableHlo.unary main_v11 main_v13 (broadcastInDim S4x2048x64x3 ![0, 1, 2, 3] bcast_S4x2048x64x1_S4x2048x64x3_0_1_2_3 : (⟨S4x2048x64x1, .f32⟩ : BufTy).Contents (Elt F) → (⟨S4x2048x64x3, .f32⟩ : BufTy).Contents (Elt F)),
   StableHlo.binary main_v12 main_v13 main_v14 (mulf : (⟨S4x2048x64x3, .f32⟩ : BufTy).Contents (Elt F) → (⟨S4x2048x64x3, .f32⟩ : BufTy).Contents (Elt F) → (⟨S4x2048x64x3, .f32⟩ : BufTy).Contents (Elt F)),
   StableHlo.unary main_v9 main_v15 (broadcastInDim S4x2048x64x3 ![0, 1, 2, 3] bcast_S4x2048x1x3_S4x2048x64x3_0_1_2_3 : (⟨S4x2048x1x3, .f32⟩ : BufTy).Contents (Elt F) → (⟨S4x2048x64x3, .f32⟩ : BufTy).Contents (Elt F)),
   StableHlo.binary main_v15 main_v14 main_v16 (addf : (⟨S4x2048x64x3, .f32⟩ : BufTy).Contents (Elt F) → (⟨S4x2048x64x3, .f32⟩ : BufTy).Contents (Elt F) → (⟨S4x2048x64x3, .f32⟩ : BufTy).Contents (Elt F)),
   StableHlo.unary main_v16 main_v17 ((extractStridedSlice S4x2048x64x1 ![0, 0, 0, 0] · slices_S4x2048x64x3_S4x2048x64x1_0_0_0_0) : (⟨S4x2048x64x3, .f32⟩ : BufTy).Contents (Elt F) → (⟨S4x2048x64x1, .f32⟩ : BufTy).Contents (Elt F)),
   StableHlo.reshape main_v17 main_v18 (rfl : (.f32 : EltTy) = .f32) shapeCasts_S4x2048x64x1_S4x2048x64,
   StableHlo.reshape main_v18 main_v19 (rfl : (.f32 : EltTy) = .f32) shapeCasts_S4x2048x64_S524288,
   StableHlo.unary main_v16 main_v20 ((extractStridedSlice S4x2048x64x1 ![0, 0, 0, 1] · slices_S4x2048x64x3_S4x2048x64x1_0_0_0_1) : (⟨S4x2048x64x3, .f32⟩ : BufTy).Contents (Elt F) → (⟨S4x2048x64x1, .f32⟩ : BufTy).Contents (Elt F)),
   StableHlo.reshape main_v20 main_v21 (rfl : (.f32 : EltTy) = .f32) shapeCasts_S4x2048x64x1_S4x2048x64,
   StableHlo.reshape main_v21 main_v22 (rfl : (.f32 : EltTy) = .f32) shapeCasts_S4x2048x64_S524288,
   StableHlo.unary main_v16 main_v23 ((extractStridedSlice S4x2048x64x1 ![0, 0, 0, 2] · slices_S4x2048x64x3_S4x2048x64x1_0_0_0_2) : (⟨S4x2048x64x3, .f32⟩ : BufTy).Contents (Elt F) → (⟨S4x2048x64x1, .f32⟩ : BufTy).Contents (Elt F)),
   StableHlo.reshape main_v23 main_v24 (rfl : (.f32 : EltTy) = .f32) shapeCasts_S4x2048x64x1_S4x2048x64,
   StableHlo.reshape main_v24 main_v25 (rfl : (.f32 : EltTy) = .f32) shapeCasts_S4x2048x64_S524288,
   StableHlo.binary main_arg3 main_arg4 main_v26 (joined (F := F)),
   StableHlo.reshape main_v26 main_v27 (rfl : (.f32 : EltTy) = .f32) shapeCasts_S4x9x128x128x128_S4x9x2097152,
   StableHlo.unary main_v27 main_v28 ((transpose S4x2097152x9 [0, 2, 1] · transposes_S4x9x2097152_S4x2097152x9_0_2_1) : (⟨S4x9x2097152, .f32⟩ : BufTy).Contents (Elt F) → (⟨S4x2097152x9, .f32⟩ : BufTy).Contents (Elt F)),
   StableHlo.nullary main_c (constantI S_ 32 0#32),
   StableHlo.TRef.unary (StableHlo.TRef.of (T := ⟨S_, .i32⟩) main_c) (StableHlo.TRef.of (T := ⟨S_, .f32⟩) main_call0_v0) (sitofp .f32),
   StableHlo.TRef.binary (StableHlo.TRef.of (T := ⟨S4x2097152x9, .f32⟩) main_v28) (StableHlo.TRef.of (T := ⟨S_, .f32⟩) main_call0_v0) (StableHlo.TRef.of (T := ⟨S4x2097152x16, .f32⟩) main_v29) (fun x v => pad S4x2097152x16 ![0, 0, 0] ![0, 0, 7] ![0, 0, 0] x v pads_S4x2097152x9_S4x2097152x16_000_000_070 h_S_),
   StableHlo.reshape main_v29 main_v30 (rfl : (.f32 : EltTy) = .f32) shapeCasts_S4x2097152x16_S8388608x16]
/-- The host operations after it. -/
abbrev behind : List (HloOp τ sig (Elt F)) :=
  [StableHlo.reshape main_v31_0 main_v32 (rfl : (.f32 : EltTy) = .f32) shapeCasts_S524288_S4x2048x64x1,
   StableHlo.reshape main_v31_1 main_v33 (rfl : (.f32 : EltTy) = .f32) shapeCasts_S4194304_S4x2048x64x8]
set_option maxRecDepth 8192 in
/-- The program is its two stretches of host operations around the call. -/
theorem main_eq (d : Dev nD) : main (F := F) d = (seq before >>= fun _ => sc.run d 0 >>= fun _ => seq behind >>= fun u => Pure.pure u) := rfl

set_option maxRecDepth 8192 in
theorem before_sub : (before : List (HloOp τ sig (Elt F))).Forall fun op => op.bufs ⊆ tcRefs τ sig :=
  ⟨StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.reshape_bufs_sub .., StableHlo.reshape_bufs_sub .., StableHlo.unary_bufs_sub .., StableHlo.reshape_bufs_sub .., StableHlo.reshape_bufs_sub .., StableHlo.unary_bufs_sub .., StableHlo.reshape_bufs_sub .., StableHlo.reshape_bufs_sub .., StableHlo.binary_bufs_sub .., StableHlo.reshape_bufs_sub .., StableHlo.unary_bufs_sub .., StableHlo.nullary_bufs_sub .., StableHlo.unary_bufs_sub .., StableHlo.binary_bufs_sub .., StableHlo.reshape_bufs_sub ..⟩
theorem behind_sub : (behind : List (HloOp τ sig (Elt F))).Forall fun op => op.bufs ⊆ tcRefs τ sig :=
  ⟨StableHlo.reshape_bufs_sub .., StableHlo.reshape_bufs_sub ..⟩
set_option maxRecDepth 8192 in
theorem before_fresh : (before : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem behind_fresh : (behind : List (HloOp τ sig (Elt F))).Forall fun op => op.fresh = ∅ := ⟨rfl, rfl⟩

/-- What the operations before the call write, -/
abbrev beforeW : List (Ref sig .tc) := [main_cst, main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_c, main_call0_v0, main_v29, main_v30]
/-- and those after it. -/
abbrev behindW : List (Ref sig .tc) := [main_v32, main_v33]

set_option maxRecDepth 8192 in
theorem before_writes : (before : List (HloOp τ sig (Elt F))).Forall fun op => op.writes ⊆ (beforeW.map (Proc.devRef (τ := τ) .tc)).toFinset := by
  simp only [List.Forall]
  and_intros <;> (simp only [StableHlo.nullary_writes, StableHlo.unary_writes, StableHlo.binary_writes, StableHlo.reshape_writes, Finset.singleton_subset_iff, List.mem_toFinset]; exact List.mem_map_of_mem (by decide))
theorem behind_writes : (behind : List (HloOp τ sig (Elt F))).Forall fun op => op.writes ⊆ (behindW.map (Proc.devRef (τ := τ) .tc)).toFinset := by
  simp only [List.Forall]
  and_intros <;> (simp only [StableHlo.nullary_writes, StableHlo.unary_writes, StableHlo.binary_writes, StableHlo.reshape_writes, Finset.singleton_subset_iff, List.mem_toFinset]; exact List.mem_map_of_mem (by decide))

/-! ## What the call is given and what the results become -/

/-- The sampled points, from the origins, the directions, the distances and the matrices. -/
def points (a0 a1 : FVec F S4x2048x3 .f32) (a2 : FVec F S4x2048x64 .f32) (a5 : FVec F S4x4x4 .f32) : FVec F S4x2048x64x3 .f32 :=
  addf
    (broadcastInDim S4x2048x64x3 ![0, 1, 2, 3] bcast_S4x2048x1x3_S4x2048x64x3_0_1_2_3
      (broadcastInDim S4x2048x1x3 ![0, 1, 3] bcast_S4x2048x3_S4x2048x1x3_0_1_3
        (Host.divf
          (extractStridedSlice S4x2048x3 ![0, 0, 0]
            (Host.dotGeneral dot_S4x2048x4_S4x4x4_S4x2048x4_2_1_1_2_0_0 none (withOnes a0 (broadcastInDim S4x2048x1 ![] bcast_S_S4x2048x1 (constant S_ .f32 0x3F800000#32))) a5)
            slices_S4x2048x4_S4x2048x3_0_0_0)
          (broadcastInDim S4x2048x3 ![0, 1, 2] bcast_S4x2048x1_S4x2048x3_0_1_2
            (extractStridedSlice S4x2048x1 ![0, 0, 3]
              (Host.dotGeneral dot_S4x2048x4_S4x4x4_S4x2048x4_2_1_1_2_0_0 none (withOnes a0 (broadcastInDim S4x2048x1 ![] bcast_S_S4x2048x1 (constant S_ .f32 0x3F800000#32))) a5)
              slices_S4x2048x4_S4x2048x1_0_0_3)))))
    (mulf
      (broadcastInDim S4x2048x64x3 ![0, 1, 2, 3] bcast_S4x2048x1x3_S4x2048x64x3_0_1_2_3
        (broadcastInDim S4x2048x1x3 ![0, 1, 3] bcast_S4x2048x3_S4x2048x1x3_0_1_3
          (Host.dotGeneral dot_S4x2048x3_S4x3x3_S4x2048x3_2_1_1_2_0_0 none a1 (extractStridedSlice S4x3x3 ![0, 0, 0] a5 slices_S4x4x4_S4x3x3_0_0_0))))
      (broadcastInDim S4x2048x64x3 ![0, 1, 2, 3] bcast_S4x2048x64x1_S4x2048x64x3_0_1_2_3
        (broadcastInDim S4x2048x64x1 ![0, 1, 2] bcast_S4x2048x64_S4x2048x64x1_0_1_2 a2)))

/-- The points' first coordinates in a row, -/
def coordX (p : FVec F S4x2048x64x3 .f32) : FVec F S524288 .f32 :=
  shapeCast S524288 (shapeCast S4x2048x64 (extractStridedSlice S4x2048x64x1 ![0, 0, 0, 0] p slices_S4x2048x64x3_S4x2048x64x1_0_0_0_0) shapeCasts_S4x2048x64x1_S4x2048x64) shapeCasts_S4x2048x64_S524288
/-- their second ones, -/
def coordY (p : FVec F S4x2048x64x3 .f32) : FVec F S524288 .f32 :=
  shapeCast S524288 (shapeCast S4x2048x64 (extractStridedSlice S4x2048x64x1 ![0, 0, 0, 1] p slices_S4x2048x64x3_S4x2048x64x1_0_0_0_1) shapeCasts_S4x2048x64x1_S4x2048x64) shapeCasts_S4x2048x64_S524288
/-- and their third ones. -/
def coordZ (p : FVec F S4x2048x64x3 .f32) : FVec F S524288 .f32 :=
  shapeCast S524288 (shapeCast S4x2048x64 (extractStridedSlice S4x2048x64x1 ![0, 0, 0, 2] p slices_S4x2048x64x3_S4x2048x64x1_0_0_0_2) shapeCasts_S4x2048x64x1_S4x2048x64) shapeCasts_S4x2048x64_S524288

/-- The table: the two volumes joined, a row of channels a cell, padded to sixteen. -/
def table (a3 : FVec F S4x1x128x128x128 .f32) (a4 : FVec F S4x8x128x128x128 .f32) : FVec F S8388608x16 .f32 :=
  shapeCast S8388608x16
    (pad S4x2097152x16 ![0, 0, 0] ![0, 0, 7] ![0, 0, 0]
      (transpose S4x2097152x9 [0, 2, 1] (shapeCast S4x9x2097152 (joined a3 a4) shapeCasts_S4x9x128x128x128_S4x9x2097152) transposes_S4x9x2097152_S4x2097152x9_0_2_1)
      (sitofp .f32 (constantI S_ 32 0#32)) pads_S4x2097152x9_S4x2097152x16_000_000_070 h_S_)
    shapeCasts_S4x2097152x16_S8388608x16

section Values
variable (V : Valuation τ sig (Elt F))

set_option maxRecDepth 8192 in
theorem before_x : after before V (Proc.devRef .tc main_v19)
    = coordX (points (V (Proc.devRef .tc main_arg0)) (V (Proc.devRef .tc main_arg1)) (V (Proc.devRef .tc main_arg2)) (V (Proc.devRef .tc main_arg5))) := by
  after_results_simp; rfl
set_option maxRecDepth 8192 in
theorem before_y : after before V (Proc.devRef .tc main_v22)
    = coordY (points (V (Proc.devRef .tc main_arg0)) (V (Proc.devRef .tc main_arg1)) (V (Proc.devRef .tc main_arg2)) (V (Proc.devRef .tc main_arg5))) := by
  after_results_simp; rfl
set_option maxRecDepth 8192 in
theorem before_z : after before V (Proc.devRef .tc main_v25)
    = coordZ (points (V (Proc.devRef .tc main_arg0)) (V (Proc.devRef .tc main_arg1)) (V (Proc.devRef .tc main_arg2)) (V (Proc.devRef .tc main_arg5))) := by
  after_results_simp; rfl
theorem toBuf_pad (h1 h2 h3) (v : (⟨S4x2097152x16, .f32⟩ : BufTy).Contents (Elt F)) :
    (StableHlo.TRef.of (T := ⟨S4x2097152x16, .f32⟩) main_v29 h1 h2 h3).toBuf v = v := rfl
theorem ofBuf_rows (h1 h2 h3) (v : main_v28.ty.Contents (Elt F)) :
    (StableHlo.TRef.of (T := ⟨S4x2097152x9, .f32⟩) main_v28 h1 h2 h3).ofBuf v = v := rfl
theorem ofBuf_zero (h1 h2 h3) (v : main_c.ty.Contents (Elt F)) :
    (StableHlo.TRef.of (T := ⟨S_, .i32⟩) main_c h1 h2 h3).ofBuf v = v := rfl

set_option maxRecDepth 8192 in
theorem before_tab : after before V (Proc.devRef .tc main_v30) = table (V (Proc.devRef .tc main_arg3)) (V (Proc.devRef .tc main_arg4)) := by
  after_results_simp
  rw [StableHlo.TRef.ofBuf_toBuf, toBuf_pad, ofBuf_rows, ofBuf_zero]
  unfold table
  rfl
theorem before_keep (r : Ref sig .tc) (h : r ∉ beforeW) : after before V (Proc.devRef .tc r) = V (Proc.devRef .tc r) :=
  StableHlo.after_of_writes_sub before V before_writes h
theorem behind_keep (r : Ref sig .tc) (h : r ∉ behindW) : after behind V (Proc.devRef .tc r) = V (Proc.devRef .tc r) :=
  StableHlo.after_of_writes_sub behind V behind_writes h
theorem behind_dens : after behind V (Proc.devRef .tc main_v32) = shapeCast S4x2048x64x1 (V (Proc.devRef .tc main_v31_0)) shapeCasts_S524288_S4x2048x64x1 := by
  after_results_simp; rfl
theorem behind_feat : after behind V (Proc.devRef .tc main_v33) = shapeCast S4x2048x64x8 (V (Proc.devRef .tc main_v31_1)) shapeCasts_S4194304_S4x2048x64x8 := by
  after_results_simp; rfl

end Values

end Cert.KernelIdeal.Tile
-- ==== Proof.KernelIdeal.Ends.lean ====
/-
The program's run: from any memory, every execution ends with each of the TensorCore's arrays at what the host operations
and the call leave there, and with every counter at zero.
-/
module
public import proofs.«01_k».proof.Proof.KernelIdeal.Main

@[expose] public section

noncomputable section

namespace Cert.KernelIdeal.Tile

open Cert.KernelIdeal Cert.KernelIdeal.Gen Cert.Interp

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.Rounds

open Idealize.ShloMosaic.StableHlo (held held_sub_split held_congr seq after wp_seq tcRefs launchContents)
open Idealize.ShloMosaic.Pipeline (ucRefs unscopedBufs_held sub_ucRefs)

variable {F : FTy → Type} [FloatOps F]
/-! ## The arrays of the call among the TensorCore's -/

abbrev tRef : DevRef τ sig := Proc.devRef .tc (main_v30 : Ref sig .tc)
abbrev xRef : DevRef τ sig := Proc.devRef .tc (main_v19 : Ref sig .tc)
abbrev yRef : DevRef τ sig := Proc.devRef .tc (main_v22 : Ref sig .tc)
abbrev zRef : DevRef τ sig := Proc.devRef .tc (main_v25 : Ref sig .tc)
abbrev dRef : DevRef τ sig := Proc.devRef .tc (main_v31_0 : Ref sig .tc)
abbrev fRef : DevRef τ sig := Proc.devRef .tc (main_v31_1 : Ref sig .tc)
/-- The call's arrays. -/
abbrev callRefs : Finset (DevRef τ sig) := {tRef, xRef, yRef, zRef, dRef, fRef}

theorem mem_ucRefs (r : Ref sig .tc) (h : (Proc.devRef (τ := τ) .tc r).isScoped = false) : Proc.devRef (τ := τ) .tc r ∈ ucRefs τ sig :=
  Finset.mem_filter.mpr ⟨StableHlo.devRef_mem_tcRefs r, by rw [h]; exact Bool.false_ne_true⟩

theorem callRefs_sub : callRefs ⊆ ucRefs τ sig := by
  intro b hb
  simp only [callRefs, Finset.mem_insert, Finset.mem_singleton] at hb
  rcases hb with rfl | rfl | rfl | rfl | rfl | rfl <;> exact mem_ucRefs _ (by decide)

omit [FloatOps F] in
theorem six (A B C D E G : sProp (MM F)) : iprop(A ∗ B ∗ C ∗ D ∗ E ∗ G) = iprop((A ∗ B ∗ C ∗ D) ∗ E ∗ G) := by
  have h1 : iprop(A ∗ B ∗ C ∗ D ∗ E ∗ G) ⊢ iprop((A ∗ B ∗ C ∗ D) ∗ E ∗ G) := by
    iintro ⟨H1, H2, H3, H4, H5, H6⟩
    isplitl [H1 H2 H3 H4]
    · isplitl [H1]; · iexact H1
      isplitl [H2]; · iexact H2
      isplitl [H3]; · iexact H3
      iexact H4
    isplitl [H5]; · iexact H5
    iexact H6
  have h2 : iprop((A ∗ B ∗ C ∗ D) ∗ E ∗ G) ⊢ iprop(A ∗ B ∗ C ∗ D ∗ E ∗ G) := by
    iintro ⟨⟨H1, H2, H3, H4⟩, H5, H6⟩
    isplitl [H1]; · iexact H1
    isplitl [H2]; · iexact H2
    isplitl [H3]; · iexact H3
    isplitl [H4]; · iexact H4
    isplitl [H5]; · iexact H5
    iexact H6
  exact equiv_iff.mp ⟨h1, h2⟩

omit [FloatOps F] in
/-- The call's arrays held are its inputs whole and its outputs whole. -/
theorem held_call (d : Dev nD) (V : Valuation τ sig (Elt F)) :
    (held (SparseCore.T d) callRefs V : sProp (MM F))
      = iprop(Inputs d fullShare (V tRef) (V xRef) (V yRef) (V zRef) ∗ Outputs d Finset.univ Finset.univ (V dRef) (V fRef)) := by
  unfold held callRefs
  rw [SparseCore.bigSep_insert' (by decide), SparseCore.bigSep_insert' (by decide), SparseCore.bigSep_insert' (by decide),
    SparseCore.bigSep_insert' (by decide), SparseCore.bigSep_insert' (by decide), bigSep_singleton]
  unfold Inputs Outputs
  exact six _ _ _ _ _ _

/-! ## What every array holds -/

variable (m : (ℓ : Loc nD τ sig) → Buf (Elt F) ℓ) (ρ : Dev nD → PrngReg)

/-- Before the call, -/
def atCall (d : Dev nD) : Valuation τ sig (Elt F) := after before (launchContents m d)
abbrev tabAt (d : Dev nD) : S8388608x16.Idx → F .f32 := atCall m d tRef
abbrev xAt (d : Dev nD) : S524288.Idx → F .f32 := atCall m d xRef
abbrev yAt (d : Dev nD) : S524288.Idx → F .f32 := atCall m d yRef
abbrev zAt (d : Dev nD) : S524288.Idx → F .f32 := atCall m d zRef
/-- after it, -/
def pastCall (d : Dev nD) : Valuation τ sig (Elt F) :=
  Function.update (Function.update (atCall m d) dRef (dens (tabAt m d) (xAt m d) (yAt m d) (zAt m d))) fRef (feat (tabAt m d) (xAt m d) (yAt m d) (zAt m d))
/-- and at the end. -/
def atEnd (d : Dev nD) : Valuation τ sig (Elt F) := after behind (pastCall m d)

theorem pastCall_d (d : Dev nD) : pastCall m d dRef = dens (tabAt m d) (xAt m d) (yAt m d) (zAt m d) :=
  (Function.update_of_ne (show dRef ≠ fRef by decide) _ _).trans (Function.update_self _ _ _)
theorem pastCall_f (d : Dev nD) : pastCall m d fRef = feat (tabAt m d) (xAt m d) (yAt m d) (zAt m d) := Function.update_self _ _ _
theorem pastCall_of_ne (d : Dev nD) (b : DevRef τ sig) (h1 : b ≠ dRef) (h2 : b ≠ fRef) : pastCall m d b = atCall m d b :=
  (Function.update_of_ne h2 _ _).trans (Function.update_of_ne h1 _ _)

theorem held_past (d : Dev nD) :
    (held (SparseCore.T d) callRefs (pastCall m d) : sProp (MM F))
      = iprop(Inputs d fullShare (tabAt m d) (xAt m d) (yAt m d) (zAt m d)
        ∗ Outputs d Finset.univ Finset.univ (dens (tabAt m d) (xAt m d) (yAt m d) (zAt m d)) (feat (tabAt m d) (xAt m d) (yAt m d) (zAt m d))) := by
  rw [held_call, pastCall_d, pastCall_f, pastCall_of_ne m d tRef (by decide) (by decide), pastCall_of_ne m d xRef (by decide) (by decide),
    pastCall_of_ne m d yRef (by decide) (by decide), pastCall_of_ne m d zRef (by decide) (by decide)]

theorem held_rest (d : Dev nD) :
    (held (SparseCore.T d) (ucRefs τ sig \ callRefs) (pastCall m d) : sProp (MM F)) = held (SparseCore.T d) (ucRefs τ sig \ callRefs) (atCall m d) := by
  refine held_congr _ fun b hb => pastCall_of_ne m d b ?_ ?_
  · rintro rfl; exact (Finset.mem_sdiff.mp hb).2 (by decide)
  · rintro rfl; exact (Finset.mem_sdiff.mp hb).2 (by decide)

/-! ## The launch's ghost state -/

abbrev PP : (K (F := F)).Pay (nD := nD) (Val := Elt F) (Name := ℕ) (U := UU) := P (tabAt m) (xAt m) (yAt m) (zAt m)

def u₀ : UU := (initOf (K (F := F)).hsCells (K (F := F)).hsToks, 1)

omit [FloatOps F] in
theorem bigSep_nothing {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_nothing]
  iempintro

/-! ## The program on the TensorCore -/

theorem handed (d : Dev nD) :
    iprop(Inputs d fullShare (tabAt m d) (xAt m d) (yAt m d) (zAt m d) ∗ Outputs d Finset.univ Finset.univ (atCall m d dRef) (atCall m d fRef))
      ⊢ (bigSep Finset.univ fun c : Fin ((K (F := F)).nCore 0) => (PP m).st 0 d c : sProp (MM F)) := by
  show _ ⊢ bigSep Finset.univ fun c : Fin ((K (F := F)).nCore 0) => CoreIn (tabAt m) (xAt m) (yAt m) (zAt m) d (Fin.cast nCore_zero c)
  rw [bigSep_cores (F := F) (CoreIn (tabAt m) (xAt m) (yAt m) (zAt m) d), call_cores]
  refine bigSep_mono fun c _ => ?_
  show CoreRes d c (tabAt m d) (xAt m d) (yAt m d) (zAt m d) (atCall m d dRef) (atCall m d fRef) ⊢ iprop(∃ fo ff, CoreRes d c (tabAt m d) (xAt m d) (yAt m d) (zAt m d) fo ff)
  iintro H; iexists (atCall m d dRef), (atCall m d fRef); iexact H

theorem returned (d : Dev nD) :
    (bigSep Finset.univ fun c : Fin ((K (F := F)).nCore 0) => (PP m).dn 0 d c : sProp (MM F))
      = iprop(Inputs d fullShare (tabAt m d) (xAt m d) (yAt m d) (zAt m d)
        ∗ Outputs d Finset.univ Finset.univ (dens (tabAt m d) (xAt m d) (yAt m d) (zAt m d)) (feat (tabAt m d) (xAt m d) (yAt m d) (zAt m d))) := by
  show (bigSep Finset.univ fun c : Fin ((K (F := F)).nCore 0) => CoreOut (tabAt m) (xAt m) (yAt m) (zAt m) d (Fin.cast nCore_zero c)) = _
  rw [bigSep_cores (F := F) (CoreOut (tabAt m) (xAt m) (yAt m) (zAt m) d), call_cores]
  rfl

/-- What the program leaves the claims: every array at what it ends at. -/
abbrev FIN (d : Dev nD) : sProp (MM F) := held (SparseCore.T d) (ucRefs τ sig) (atEnd m d)

/-- The program on a device's TensorCore: the operations before the call, the call, and the operations after it. -/
theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp (MM F)) = held (SparseCore.T d) (ucRefs τ sig) (launchContents m d) from
    unscopedBufs_held d (launchContents m d), main_eq]
  iintro ⟨#Hctx, Hst, ⟨Hb, Hheld, Hts, -⟩, -⟩
  iapply (wp_seq 𝒱 none Set.univ d (ucRefs τ sig) _ before (fun op h => sub_ucRefs op (List.forall_iff_forall_mem.1 before_sub op h))
    (List.forall_iff_forall_mem.1 before_fresh) (launchContents m d)) $$ [Hb Hheld]
  · isplitl [Hb]; · iexact Hb
    iexact Hheld
  iintro ⟨Hb, Hheld⟩
  ihave Hh := (Entails.of_eq (show (held (SparseCore.T d) (ucRefs τ sig) (after before (launchContents m d)) : sProp (MM F))
      = iprop((Inputs d fullShare (tabAt m d) (xAt m d) (yAt m d) (zAt m d) ∗ Outputs d Finset.univ Finset.univ (atCall m d dRef) (atCall m d fRef))
        ∗ held (SparseCore.T d) (ucRefs τ sig \ callRefs) (atCall m d)) from
    (held_sub_split _ callRefs_sub _).trans (by rw [held_call]; rfl))) $$ Hheld
  icases Hh with ⟨Hcall, Hrest⟩
  rw [wp_bind]
  iapply ((K (F := F)).wp_run (D (F := F)) 𝒱 (EH := EH) (P := PP m) κ d 0) $$ [Hst Hcall Hrest Hb Hts]
  isplitr; · iexact Hctx
  isplitl [Hst]; · iexact Hst
  isplitl [Hcall]
  · iapply (handed m d); iexact Hcall
  iintro ⟨Hst, Hdn⟩
  ihave Hcall := (Entails.of_eq (returned m d)) $$ Hdn
  ihave Hheld := (Entails.of_eq (show (iprop((Inputs d fullShare (tabAt m d) (xAt m d) (yAt m d) (zAt m d)
        ∗ Outputs d Finset.univ Finset.univ (dens (tabAt m d) (xAt m d) (yAt m d) (zAt m d)) (feat (tabAt m d) (xAt m d) (yAt m d) (zAt m d)))
        ∗ held (SparseCore.T d) (ucRefs τ sig \ callRefs) (atCall m d)) : sProp (MM F)) = held (SparseCore.T d) (ucRefs τ sig) (pastCall m d) from
    (by rw [← held_past, ← held_rest]; exact (held_sub_split _ callRefs_sub _).symm))) $$ [Hcall Hrest]
  · isplitl [Hcall]; · iexact Hcall
    iexact Hrest
  iapply (wp_seq 𝒱 none Set.univ d (ucRefs τ sig) _ behind (fun op h => sub_ucRefs op (List.forall_iff_forall_mem.1 behind_sub op h))
    (List.forall_iff_forall_mem.1 behind_fresh) (pastCall m d)) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb]; · iexact Hb
  iexact Hts

/-- What the claims read of a final state: every array that outlives the program, at what it ends at. -/
def fq (d : Dev nD) (s' : Phys nD τ sig (Elt F)) : Prop :=
  ∀ r : Ref sig .tc, (Proc.devRef (τ := τ) .tc r).isScoped = false → s'.mem.mem ((SparseCore.T d).loc r) = atEnd m d (Proc.devRef .tc r)

theorem hfin (d : Dev nD) (s' : Phys nD τ sig (Elt F)) : iprop(FIN m d ∗ SI s') ⊢ (⌜fq m d s'⌝ : sProp (MM F)) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact fun r hr => h _ (mem_ucRefs r hr)

/-- What is claimed of a final memory. -/
def Ends : PUnit × MemSt nD τ sig (Elt F) → Prop := fun r =>
  (∀ (d : Dev nD) (b : Ref sig .tc), (Proc.devRef (τ := τ) .tc b).isScoped = false → r.2.mem ((SparseCore.T d).loc b) = atEnd m d (Proc.devRef .tc b))
    ∧ r.2.sem = fun _ => 0

/-- Every execution of the program ends, with every array at what it ends at and every counter at zero. -/
theorem run_main [∀ e, Nonempty (Elt F e)] : θ_run (defs (F := F)) (threads (F := F)) ⟨m, fun _ => 0, ρ⟩ (Ends m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tabAt m) (xAt m) (yAt m) (zAt m))
    (fun q _ => match q with | 0 => SparseCore.Cfg.VecSplit.of_plain (vecSplit (tabAt m) (xAt m) (yAt m) (zAt m)))
    m ρ main (fun _ => iprop(emp)) (FIN m) (u₀ (F := F)) (sep_elim_left.trans (hu₀ m)) (hmain m ρ) (fq m) (hfin m) (Ends m) (fun _ h hz => ⟨fun d b hb => h d b hb, hz⟩)

/-! ## What the arrays end at -/

theorem end_keep (d : Dev nD) (r : Ref sig .tc) (h : r ∉ beforeW) (h' : r ∉ behindW) (h1 : Proc.devRef (τ := τ) .tc r ≠ dRef) (h2 : Proc.devRef (τ := τ) .tc r ≠ fRef) :
    atEnd m d (Proc.devRef .tc r) = m ((SparseCore.T d).loc r) :=
  (behind_keep _ r h').trans ((pastCall_of_ne m d _ h1 h2).trans (before_keep _ r h))

/-- The points' coordinates and the table, from the arguments at launch. -/
abbrev pointsAt (d : Dev nD) : FVec F S4x2048x64x3 .f32 :=
  points (m ((SparseCore.T d).loc main_arg0)) (m ((SparseCore.T d).loc main_arg1)) (m ((SparseCore.T d).loc main_arg2)) (m ((SparseCore.T d).loc main_arg5))
theorem xAt_eq (d : Dev nD) : xAt m d = coordX (pointsAt m d) := before_x _
theorem yAt_eq (d : Dev nD) : yAt m d = coordY (pointsAt m d) := before_y _
theorem zAt_eq (d : Dev nD) : zAt m d = coordZ (pointsAt m d) := before_z _
theorem tabAt_eq (d : Dev nD) : tabAt m d = table (m ((SparseCore.T d).loc main_arg3)) (m ((SparseCore.T d).loc main_arg4)) := before_tab _

/-- The first result, -/
theorem end_dens (d : Dev nD) :
    atEnd m d (Proc.devRef .tc main_v32)
      = shapeCast S4x2048x64x1 (dens (tabAt m d) (xAt m d) (yAt m d) (zAt m d)) shapeCasts_S524288_S4x2048x64x1 :=
  (behind_dens _).trans (congrArg (fun f => shapeCast S4x2048x64x1 f shapeCasts_S524288_S4x2048x64x1) (pastCall_d m d))
/-- and the second. -/
theorem end_feat (d : Dev nD) :
    atEnd m d (Proc.devRef .tc main_v33)
      = shapeCast S4x2048x64x8 (feat (tabAt m d) (xAt m d) (yAt m d) (zAt m d)) shapeCasts_S4194304_S4x2048x64x8 :=
  (behind_feat _).trans (congrArg (fun f => shapeCast S4x2048x64x8 f shapeCasts_S4194304_S4x2048x64x8) (pastCall_f m d))

/-- The argument arrays end as they were at launch. -/
theorem args_kept (r : PUnit × MemSt nD τ sig (Elt F)) (h : Ends m r) (c : Dev nD) :
    r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_arg2) = m ((SparseCore.T c).loc main_arg2)
      ∧ r.2.mem ((SparseCore.T c).loc main_arg3) = m ((SparseCore.T c).loc main_arg3)
      ∧ r.2.mem ((SparseCore.T c).loc main_arg4) = m ((SparseCore.T c).loc main_arg4)
      ∧ r.2.mem ((SparseCore.T c).loc main_arg5) = m ((SparseCore.T c).loc main_arg5) :=
  ⟨(h.1 c main_arg0 (by decide)).trans (end_keep m c main_arg0 (by decide) (by decide) (by decide) (by decide)),
    (h.1 c main_arg1 (by decide)).trans (end_keep m c main_arg1 (by decide) (by decide) (by decide) (by decide)),
    (h.1 c main_arg2 (by decide)).trans (end_keep m c main_arg2 (by decide) (by decide) (by decide) (by decide)),
    (h.1 c main_arg3 (by decide)).trans (end_keep m c main_arg3 (by decide) (by decide) (by decide) (by decide)),
    (h.1 c main_arg4 (by decide)).trans (end_keep m c main_arg4 (by decide) (by decide) (by decide) (by decide)),
    (h.1 c main_arg5 (by decide)).trans (end_keep m c main_arg5 (by decide) (by decide) (by decide) (by decide))⟩

end Cert.KernelIdeal.Tile
-- ==== Proof.Frames.lean ====
/-
The frames: each program ends with its arguments as they were and every counter at zero.
-/
module
public import proofs.«01_k».proof.Defs
public import proofs.«01_k».proof.Proof.Kernel.Ends
public import proofs.«01_k».proof.Proof.KernelIdeal.Ends
public import proofs.«01_k».proof.Proof.Gen.ReferenceIdeal
public import proofs.«01_k».proof.Proof.Gen.ReferenceIdeal.Run

@[expose] public section
noncomputable section
namespace Cert.Proof
open Idealize.ShloMosaic Idealize.SL.Sem

/-- The kernel's frame, over floats as words, -/
theorem frame_kernel : Cert.quiescent_Kernel (hKernel := Cert.Kernel.Gen.facts) := fun m ρ _ =>
  (θ_run Cert.Kernel.defs _ _).mono (fun r h => ⟨Cert.Kernel.Tile.args_kept m r h, h.2⟩) (Cert.Kernel.Tile.run_main m ρ)

/-- and over floats as extended reals, -/
theorem frame_ideal : Cert.quiescent_KernelIdeal (hKernelIdeal := Cert.KernelIdeal.Gen.facts) := fun m ρ _ =>
  (θ_run Cert.KernelIdeal.defs _ _).mono (fun r h => ⟨Cert.KernelIdeal.Tile.args_kept m r h, h.2⟩) (Cert.KernelIdeal.Tile.run_main m ρ)

/-- and the reference's. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, Idealize.ShloMosaic.sem_eq_zero_of_no_sems (by decide) r.2⟩)
    (Cert.ReferenceIdeal.Value.run m ρ)

end Cert.Proof
-- ==== Proof.ReferenceIdeal.Sample.lean ====
/-
The reference's two results as the sampling of its two volumes: each the eight corners' parts summed, every array of the
printed operations under a name.
-/
module
public import proofs.«01_k».proof.Proof.Gen.ReferenceIdeal.Run

@[expose] public section
noncomputable section
namespace Cert.ReferenceIdeal.Sample
open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- A float or an integer at every point. -/
abbrev Flts (F : FTy → Type) : Type := FVec F S4x131072 .f32
abbrev Ints : Type := IVec S4x131072 32

abbrev allF (w : BitVec 32) : Flts F := broadcastInDim S4x131072 ![] bcast_S_S4x131072 (constant S_ .f32 w)
abbrev allI (w : BitVec 32) : Ints := broadcastInDim S4x131072 ![] bcast_S_S4x131072 (constantI S_ 32 w)

/-- A coordinate in voxels. -/
def vox (p : Flts F) : Flts F := mulf (mulf (addf p (allF 0x3F800000#32)) (allF 0x3F000000#32)) (allF 0x42FE0000#32)
/-- The voxels about it, -/
def below (v : Flts F) : Ints := fptosi 32 (Host.floor v : Flts F)
def above (v : Flts F) : Ints := addi (below v) (allI 1#32)
/-- and their weights. -/
def dist (v : Flts F) : Flts F := subf v (Host.floor v)
def rest (v : Flts F) : Flts F := subf (allF 0x3F800000#32) (dist v)
/-- A voxel, clipped to the axis. -/
def clipped (x : Ints) : Ints :=
  minsi (broadcastInDim S4x131072 ![] bcast_S_S4x131072 (id (constantI S_ 32 127#32))) (maxsi (broadcastInDim S4x131072 ![] bcast_S_S4x131072 (id (constantI S_ 32 0#32))) x)
/-- A corner's place in its batch's volume. -/
def place (x y z : Ints) : IVec S4x1x131072 32 :=
  broadcastInDim S4x1x131072 ![0, 2] bcast_S4x131072_S4x1x131072_0_2
    (addi (muli (addi (muli (clipped z) (allI 128#32)) (clipped y)) (allI 128#32)) (clipped x))
/-- The place as the volume's indexing takes it, -/
def start (p : IVec S4x1x131072 32) : IVec S4x131072x1 32 :=
  shapeCast S4x131072x1 (select (cmpi .slt p (broadcastInDim S4x1x131072 ![] bcast_S_S4x1x131072 (constantI S_ 32 0#32)))
    (addi p (broadcastInDim S4x1x131072 ![] bcast_S_S4x1x131072 (constantI S_ 32 2097152#32))) p) shapeCasts_S4x1x131072_S4x131072x1
/-- and whether it lies in the volume. -/
def inside (s : IVec S4x131072x1 32) : IVec S4x131072 1 :=
  Host.reduce IntOp.andi (andi (cmpi .sge s (broadcastInDim S4x131072x1 ![] bcast_S_S4x131072x1 (constantI S_ 32 0#32)))
      (cmpi .sle s (broadcastInDim S4x131072x1 ![0, 1, 2] bcast_S1x1x1_S4x131072x1_0_1_2 (broadcastInDim S1x1x1 ![2] bcast_S1_S1x1x1_2 (constantI S1 32 2097151#32)))))
    (constantI S_ 1 1#1) reducesTo_S4x131072x1_S4x131072_d2 h_S_
/-- One where a corner is on all three axes, zero elsewhere. -/
def within (x y z : Ints) : Flts F :=
  uitofp .f32 (andi (andi (andi (andi (andi (cmpi .sge x (allI 0#32)) (cmpi .slt x (allI 128#32))) (cmpi .sge y (allI 0#32))) (cmpi .slt y (allI 128#32)))
    (cmpi .sge z (allI 0#32))) (cmpi .slt z (allI 128#32)))
/-- A corner's weight. -/
def weight (x y z : Ints) (a b c : Flts F) : Flts F := mulf (within x y z) (mulf (mulf a b) c)

/-- A corner's part of the first sample, -/
def part1 (vol : FVec F S4x1x2097152 .f32) (x y z : Ints) (a b c : Flts F) : FVec F S4x1x131072 .f32 :=
  mulf (select (broadcastInDim S4x1x131072 ![0, 2] bcast_S4x131072_S4x1x131072_0_2 (inside (start (place x y z))))
      (Host.gather gather_S4x1x2097152_S4x131072x1_S4x1x131072_1_2_0_0_2_2_111 vol (start (place x y z)))
      (broadcastInDim S4x1x131072 ![] bcast_S_S4x1x131072 (constant S_ .f32 0x7FC00000#32)))
    (broadcastInDim S4x1x131072 ![0, 2] bcast_S4x131072_S4x1x131072_0_2 (weight x y z a b c))
/-- and of the second. -/
def part8 (vol : FVec F S4x8x2097152 .f32) (x y z : Ints) (a b c : Flts F) : FVec F S4x8x131072 .f32 :=
  mulf (select (broadcastInDim S4x8x131072 ![0, 2] bcast_S4x131072_S4x8x131072_0_2 (inside (start (place x y z))))
      (Host.gather gather_S4x8x2097152_S4x131072x1_S4x8x131072_1_2_0_0_2_2_181 vol (start (place x y z)))
      (broadcastInDim S4x8x131072 ![] bcast_S_S4x8x131072 (constant S_ .f32 0x7FC00000#32)))
    (broadcastInDim S4x8x131072 ![0, 1, 2] bcast_S4x1x131072_S4x8x131072_0_1_2
      (broadcastInDim S4x1x131072 ![0, 2] bcast_S4x131072_S4x1x131072_0_2 (weight x y z a b c)))

/-- The first sample: the eight corners' parts, summed in order. -/
def sample1 (vol : FVec F S4x1x2097152 .f32) (p q r : Flts F) : FVec F S4x1x131072 .f32 :=
  addf (addf (addf (addf (addf (addf (addf
    (part1 vol (below (vox p)) (below (vox q)) (below (vox r)) (rest (vox p)) (rest (vox q)) (rest (vox r)))
    (part1 vol (above (vox p)) (below (vox q)) (below (vox r)) (dist (vox p)) (rest (vox q)) (rest (vox r))))
    (part1 vol (below (vox p)) (above (vox q)) (below (vox r)) (rest (vox p)) (dist (vox q)) (rest (vox r))))
    (part1 vol (above (vox p)) (above (vox q)) (below (vox r)) (dist (vox p)) (dist (vox q)) (rest (vox r))))
    (part1 vol (below (vox p)) (below (vox q)) (above (vox r)) (rest (vox p)) (rest (vox q)) (dist (vox r))))
    (part1 vol (above (vox p)) (below (vox q)) (above (vox r)) (dist (vox p)) (rest (vox q)) (dist (vox r))))
    (part1 vol (below (vox p)) (above (vox q)) (above (vox r)) (rest (vox p)) (dist (vox q)) (dist (vox r))))
    (part1 vol (above (vox p)) (above (vox q)) (above (vox r)) (dist (vox p)) (dist (vox q)) (dist (vox r)))
/-- The second. -/
def sample8 (vol : FVec F S4x8x2097152 .f32) (p q r : Flts F) : FVec F S4x8x131072 .f32 :=
  addf (addf (addf (addf (addf (addf (addf
    (part8 vol (below (vox p)) (below (vox q)) (below (vox r)) (rest (vox p)) (rest (vox q)) (rest (vox r)))
    (part8 vol (above (vox p)) (below (vox q)) (below (vox r)) (dist (vox p)) (rest (vox q)) (rest (vox r))))
    (part8 vol (below (vox p)) (above (vox q)) (below (vox r)) (rest (vox p)) (dist (vox q)) (rest (vox r))))
    (part8 vol (above (vox p)) (above (vox q)) (below (vox r)) (dist (vox p)) (dist (vox q)) (rest (vox r))))
    (part8 vol (below (vox p)) (below (vox q)) (above (vox r)) (rest (vox p)) (rest (vox q)) (dist (vox r))))
    (part8 vol (above (vox p)) (below (vox q)) (above (vox r)) (dist (vox p)) (rest (vox q)) (dist (vox r))))
    (part8 vol (below (vox p)) (above (vox q)) (above (vox r)) (rest (vox p)) (dist (vox q)) (dist (vox r))))
    (part8 vol (above (vox p)) (above (vox q)) (above (vox r)) (dist (vox p)) (dist (vox q)) (dist (vox r)))

/-- The points, -/
def points (a0 a1 : FVec F S4x2048x3 .f32) (a2 : FVec F S4x2048x64 .f32) (a5 : FVec F S4x4x4 .f32) : FVec F S4x2048x64x3 .f32 :=
  let h := Host.dotGeneral dot_S4x2048x4_S4x4x4_S4x2048x4_2_1_1_2_0_0 none
    (concatenate S4x2048x4 2 [⟨S4x2048x3, a0⟩, ⟨S4x2048x1, broadcastInDim S4x2048x1 ![] bcast_S_S4x2048x1 (constant S_ .f32 0x3F800000#32)⟩] concatenates_S4x2048x3_S4x2048x1_S4x2048x4_d2) a5
  addf (broadcastInDim S4x2048x64x3 ![0, 1, 2, 3] bcast_S4x2048x1x3_S4x2048x64x3_0_1_2_3 (broadcastInDim S4x2048x1x3 ![0, 1, 3] bcast_S4x2048x3_S4x2048x1x3_0_1_3
      (Host.divf (extractStridedSlice S4x2048x3 ![0, 0, 0] h slices_S4x2048x4_S4x2048x3_0_0_0)
        (broadcastInDim S4x2048x3 ![0, 1, 2] bcast_S4x2048x1_S4x2048x3_0_1_2 (extractStridedSlice S4x2048x1 ![0, 0, 3] h slices_S4x2048x4_S4x2048x1_0_0_3)))))
    (mulf (broadcastInDim S4x2048x64x3 ![0, 1, 2, 3] bcast_S4x2048x1x3_S4x2048x64x3_0_1_2_3 (broadcastInDim S4x2048x1x3 ![0, 1, 3] bcast_S4x2048x3_S4x2048x1x3_0_1_3
        (Host.dotGeneral dot_S4x2048x3_S4x3x3_S4x2048x3_2_1_1_2_0_0 none a1 (extractStridedSlice S4x3x3 ![0, 0, 0] a5 slices_S4x4x4_S4x3x3_0_0_0))))
      (broadcastInDim S4x2048x64x3 ![0, 1, 2, 3] bcast_S4x2048x64x1_S4x2048x64x3_0_1_2_3 (broadcastInDim S4x2048x64x1 ![0, 1, 2] bcast_S4x2048x64_S4x2048x64x1_0_1_2 a2)))
/-- and their coordinates. -/
def axis0 (p : FVec F S4x2048x64x3 .f32) : Flts F :=
  shapeCast S4x131072 (extractStridedSlice S4x131072x1 ![0, 0, 0] (shapeCast S4x131072x3 p shapeCasts_S4x2048x64x3_S4x131072x3) slices_S4x131072x3_S4x131072x1_0_0_0) shapeCasts_S4x131072x1_S4x131072
def axis1 (p : FVec F S4x2048x64x3 .f32) : Flts F :=
  shapeCast S4x131072 (extractStridedSlice S4x131072x1 ![0, 0, 1] (shapeCast S4x131072x3 p shapeCasts_S4x2048x64x3_S4x131072x3) slices_S4x131072x3_S4x131072x1_0_0_1) shapeCasts_S4x131072x1_S4x131072
def axis2 (p : FVec F S4x2048x64x3 .f32) : Flts F :=
  shapeCast S4x131072 (extractStridedSlice S4x131072x1 ![0, 0, 2] (shapeCast S4x131072x3 p shapeCasts_S4x2048x64x3_S4x131072x3) slices_S4x131072x3_S4x131072x1_0_0_2) shapeCasts_S4x131072x1_S4x131072

/-- The results of the arguments. -/
def out1 (a0 a1 : FVec F S4x2048x3 .f32) (a2 : FVec F S4x2048x64 .f32) (a3 : FVec F S4x1x128x128x128 .f32) (a5 : FVec F S4x4x4 .f32) : FVec F S4x2048x64x1 .f32 :=
  shapeCast S4x2048x64x1 (transpose S4x131072x1 [0, 2, 1]
    (sample1 (shapeCast S4x1x2097152 a3 shapeCasts_S4x1x128x128x128_S4x1x2097152) (axis0 (points a0 a1 a2 a5)) (axis1 (points a0 a1 a2 a5)) (axis2 (points a0 a1 a2 a5)))
    transposes_S4x1x131072_S4x131072x1_0_2_1) shapeCasts_S4x131072x1_S4x2048x64x1
def out8 (a0 a1 : FVec F S4x2048x3 .f32) (a2 : FVec F S4x2048x64 .f32) (a4 : FVec F S4x8x128x128x128 .f32) (a5 : FVec F S4x4x4 .f32) : FVec F S4x2048x64x8 .f32 :=
  shapeCast S4x2048x64x8 (transpose S4x131072x8 [0, 2, 1]
    (sample8 (shapeCast S4x8x2097152 a4 shapeCasts_S4x8x128x128x128_S4x8x2097152) (axis0 (points a0 a1 a2 a5)) (axis1 (points a0 a1 a2 a5)) (axis2 (points a0 a1 a2 a5)))
    transposes_S4x8x131072_S4x131072x8_0_2_1) shapeCasts_S4x131072x8_S4x2048x64x8

/-- The reference's run, its results those. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v677)
        = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v679)
        = out8 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2.1.trans rfl, (h c).2.2⟩) (Value.run m ρ)

end Cert.ReferenceIdeal.Sample
-- ==== Proof.Scalar.lean ====
/-
One point, one corner, over the extended reals: the kernel's voxels and weights against the reference's, and the two
parts they make equal.
-/
module
public import proofs.«01_k».proof.Proof.Spec
public import Idealize.ShloMosaic.PureOps.Ideal
public import Idealize.ShloMosaic.PureOps.IdealRules
public import Idealize.ShloMosaic.Lib.IdealHost

@[expose] public section
noncomputable section
namespace Cert.Interp
open Idealize.ShloMosaic

/-! ## The reference's corner -/

/-- A coordinate in voxels, as the reference scales it. -/
def rvox (x : Ideal .f32) : Ideal .f32 :=
  FloatOps.mulf (FloatOps.mulf (FloatOps.addf x (FloatOps.ofBits .f32 0x3F800000#32)) (FloatOps.ofBits .f32 0x3F000000#32)) (FloatOps.ofBits .f32 0x42FE0000#32)
/-- The reference's voxel below and above a coordinate, -/
def rpos (b : Bool) (v : Ideal .f32) : BitVec 32 :=
  if b then IntOp.addi (FloatOps.fptosi 32 (FloatOps.hostUnary .floor v)) 1#32 else FloatOps.fptosi 32 (FloatOps.hostUnary .floor v)
/-- its weights for them, -/
def rwt (b : Bool) (v : Ideal .f32) : Ideal .f32 :=
  if b then FloatOps.subf v (FloatOps.hostUnary .floor v)
  else FloatOps.subf (FloatOps.ofBits .f32 0x3F800000#32) (FloatOps.subf v (FloatOps.hostUnary .floor v))
/-- whether a corner is on all three axes, -/
def onAll (x y z : BitVec 32) : BitVec 1 :=
  IntOp.andi (IntOp.andi (IntOp.andi (IntOp.andi (IntOp.andi (IntOp.cmpi .sge x 0#32) (IntOp.cmpi .slt x 128#32)) (IntOp.cmpi .sge y 0#32)) (IntOp.cmpi .slt y 128#32))
    (IntOp.cmpi .sge z 0#32)) (IntOp.cmpi .slt z 128#32)
/-- and its place in its batch's volume. -/
def placeOf (x y z : BitVec 32) : BitVec 32 :=
  IntOp.addi (IntOp.muli (IntOp.addi (IntOp.muli z 128#32) y) 128#32) x

/-! ## The constants -/

theorem half_bits : (FloatOps.ofBits .f32 0x3F000000#32 : Ideal .f32) = (((1 / 2 : ℝ)) : EReal) := by
  show Ideal.ofBits .f32 _ = _
  simp [Ideal.ofBits, Ideal.ieee, -EReal.coe_mul]; norm_num
theorem span_bits : (FloatOps.ofBits .f32 0x42FE0000#32 : Ideal .f32) = ((127 : ℝ) : EReal) := by
  show Ideal.ofBits .f32 _ = _
  simp [Ideal.ofBits, Ideal.ieee, -EReal.coe_mul]; norm_num
theorem scale_bits : (FloatOps.ofBits .f32 0x427E0000#32 : Ideal .f32) = (((127 / 2 : ℝ)) : EReal) := by
  show Ideal.ofBits .f32 _ = _
  simp [Ideal.ofBits, Ideal.ieee, -EReal.coe_mul]; norm_num
theorem zero_bits : (FloatOps.ofBits .f32 0x00000000#32 : Ideal .f32) = (0 : EReal) := by
  show Ideal.ofBits .f32 _ = _
  simp [Ideal.ofBits, Ideal.ieee]

/-- The two scalings of a coordinate agree. -/
theorem vox_eq (x : Ideal .f32) : vox x = rvox x := by
  unfold vox rvox
  show (_ : EReal) * (FloatOps.ofBits .f32 _ : Ideal .f32) = ((_ : EReal) * (FloatOps.ofBits .f32 _ : Ideal .f32)) * (FloatOps.ofBits .f32 _ : Ideal .f32)
  rw [half_bits, span_bits, scale_bits, mul_assoc, ← EReal.coe_mul]
  norm_num

/-! ## The voxels -/

/-- The kernel's lower voxel of a coordinate in voxels. -/
def loOf (v : Ideal .f32) : BitVec 32 :=
  IntOp.subi (FloatOps.fptosi 32 v) (if FloatOps.cmpf .ogt (FloatOps.sitofp .f32 (FloatOps.fptosi 32 v : BitVec 32)) v = 1 then 1#32 else 0#32)

theorem ofBool_one (p : Prop) [Decidable p] : (BitVec.ofBool (decide p) = 1) ↔ p := by
  by_cases h : p <;> simp [h]

theorem loOf_real (r : ℝ) :
    loOf ((r : ℝ) : EReal) = IntOp.subi (Ideal.fptosi 32 ((r : ℝ) : EReal)) (if r < ((Ideal.fptosi 32 ((r : ℝ) : EReal)).toInt : ℝ) then 1#32 else 0#32) := by
  unfold loOf
  congr 1
  refine if_congr ?_ rfl rfl
  show (BitVec.ofBool (decide (((r : ℝ) : EReal) < (((Ideal.fptosi 32 ((r : ℝ) : EReal)).toInt : ℝ) : EReal))) = 1) ↔ _
  rw [ofBool_one, EReal.coe_lt_coe_iff]

theorem fptosi_real (r : ℝ) : Ideal.fptosi 32 ((r : ℝ) : EReal)
    = BitVec.ofInt 32 (max (-2147483648) (min 2147483647 (if 0 ≤ r then ⌊r⌋ else ⌈r⌉))) := by
  show BitVec.ofInt 32 (max _ (min _ _)) = _
  norm_num

theorem fptosi_int (n : ℤ) : Ideal.fptosi 32 (((n : ℝ) : ℝ) : EReal) = BitVec.ofInt 32 (max (-2147483648) (min 2147483647 n)) := by
  rw [fptosi_real, Int.floor_intCast, Int.ceil_intCast, ite_self]

theorem toInt_of {n : ℤ} (h : -2147483648 ≤ n) (h' : n ≤ 2147483647) : (BitVec.ofInt 32 n).toInt = n := by
  rw [BitVec.toInt_ofInt]
  exact Int.bmod_eq_of_le (by norm_num; omega) (by norm_num; omega)

theorem onAxis_far : onAxis 2147483647#32 = 0#1 ∧ onAxis (IntOp.addi 2147483647#32 1#32) = 0#1
    ∧ onAxis (BitVec.ofInt 32 (-2147483648)) = 0#1 ∧ onAxis (IntOp.addi (BitVec.ofInt 32 (-2147483648)) 1#32) = 0#1 := by decide

/-- The kernel's lower voxel is the reference's, with its distance, or both voxels of both are off the axis. -/
theorem voxels (v : Ideal .f32) :
    (loOf v = rpos false v ∧ (FloatOps.sitofp .f32 (loOf v) : Ideal .f32) = FloatOps.hostUnary .floor v)
      ∨ (onAxis (loOf v) = 0#1 ∧ onAxis (IntOp.addi (loOf v) 1#32) = 0#1 ∧ onAxis (rpos false v) = 0#1 ∧ onAxis (rpos true v) = 0#1) := by
  obtain ⟨f1, f2, f3, f4⟩ := onAxis_far
  induction v using EReal.rec with
  | bot =>
    right
    have h : loOf (⊥ : EReal) = 2147483647#32 := by
      unfold loOf
      have hk : (FloatOps.fptosi (F := Ideal) (φ := .f32) 32 (⊥ : EReal) : BitVec 32) = BitVec.ofInt 32 (-2147483648) := rfl
      have hc : FloatOps.cmpf (F := Ideal) (φ := .f32) .ogt (FloatOps.sitofp .f32 (BitVec.ofInt 32 (-2147483648) : BitVec 32)) (⊥ : EReal) = (1 : BitVec 1) := by
        show BitVec.ofBool (decide ((⊥ : EReal) < (((BitVec.ofInt 32 (-2147483648)).toInt : ℝ) : EReal))) = 1
        rw [ofBool_one]; exact EReal.bot_lt_coe _
      rw [hk]
      rw [if_pos hc]; decide
    have hr : rpos false (⊥ : EReal) = BitVec.ofInt 32 (-2147483648) := rfl
    have hr' : rpos true (⊥ : EReal) = IntOp.addi (BitVec.ofInt 32 (-2147483648)) 1#32 := rfl
    rw [h, hr, hr']; exact ⟨f1, f2, f3, f4⟩
  | top =>
    right
    have h : loOf (⊤ : EReal) = 2147483647#32 := by
      unfold loOf
      have hk : (FloatOps.fptosi (F := Ideal) (φ := .f32) 32 (⊤ : EReal) : BitVec 32) = 2147483647#32 := rfl
      have hc : ¬ FloatOps.cmpf (F := Ideal) (φ := .f32) .ogt (FloatOps.sitofp .f32 (2147483647#32 : BitVec 32)) (⊤ : EReal) = (1 : BitVec 1) := by
        show ¬ BitVec.ofBool (decide ((⊤ : EReal) < (((2147483647#32 : BitVec 32).toInt : ℝ) : EReal))) = 1
        rw [ofBool_one]; exact not_top_lt
      rw [hk]
      rw [if_neg hc]; decide
    have hr : rpos false (⊤ : EReal) = 2147483647#32 := rfl
    have hr' : rpos true (⊤ : EReal) = IntOp.addi 2147483647#32 1#32 := rfl
    rw [h, hr, hr']; exact ⟨f1, f2, f1, f2⟩
  | coe r =>
    have hfl : (FloatOps.hostUnary .floor ((r : ℝ) : EReal) : Ideal .f32) = (((⌊r⌋ : ℤ) : ℝ) : EReal) := rfl
    have hr : rpos false ((r : ℝ) : EReal) = BitVec.ofInt 32 (max (-2147483648) (min 2147483647 ⌊r⌋)) := (fptosi_int ⌊r⌋)
    have hr' : rpos true ((r : ℝ) : EReal) = IntOp.addi (BitVec.ofInt 32 (max (-2147483648) (min 2147483647 ⌊r⌋))) 1#32 :=
      congrArg (IntOp.addi · 1#32) (fptosi_int ⌊r⌋)
    have hle := Int.floor_le r
    have hlt := Int.lt_floor_add_one r
    by_cases h1 : 2147483648 ≤ ⌊r⌋
    · right
      have hpos : (0 : ℝ) ≤ r := by
        have : ((2147483648 : ℤ) : ℝ) ≤ (⌊r⌋ : ℝ) := by exact_mod_cast h1
        push_cast at this; linarith
      have hk : Ideal.fptosi 32 ((r : ℝ) : EReal) = 2147483647#32 := by
        rw [fptosi_real, if_pos hpos, min_eq_left (by omega)]; rfl
      have h : loOf ((r : ℝ) : EReal) = 2147483647#32 := by
        rw [loOf_real, hk, if_neg]
        · decide
        · have : ((2147483648 : ℤ) : ℝ) ≤ (⌊r⌋ : ℝ) := by exact_mod_cast h1
          have e : (2147483647#32 : BitVec 32).toInt = 2147483647 := by decide
          rw [e]; push_cast at this ⊢; linarith
      rw [hr, hr', h, min_eq_left (by omega)]
      exact ⟨f1, f2, f1, f2⟩
    by_cases h2 : ⌊r⌋ < -2147483648
    · right
      have hneg : r < -2147483648 := by
        have : (⌊r⌋ : ℝ) + 1 ≤ ((-2147483648 : ℤ) : ℝ) := by exact_mod_cast h2
        push_cast at this; linarith
      have hceil : ⌈r⌉ ≤ -2147483648 := Int.ceil_le.mpr (by push_cast; linarith)
      have hk : Ideal.fptosi 32 ((r : ℝ) : EReal) = BitVec.ofInt 32 (-2147483648) := by
        rw [fptosi_real, if_neg (by linarith), min_eq_right (by omega), max_eq_left hceil]
      have h : loOf ((r : ℝ) : EReal) = 2147483647#32 := by
        rw [loOf_real, hk, if_pos]
        · decide
        · have e : (BitVec.ofInt 32 (-2147483648)).toInt = -2147483648 := by decide
          rw [e]; push_cast; exact hneg
      rw [hr, hr', h, min_eq_right (by omega), max_eq_left (by omega)]
      exact ⟨f1, f2, f3, f4⟩
    · left
      have hlo : loOf ((r : ℝ) : EReal) = BitVec.ofInt 32 ⌊r⌋ := by
        rw [loOf_real, fptosi_real]
        by_cases hp : 0 ≤ r
        · rw [if_pos hp, min_eq_right (by omega), max_eq_right (by omega), toInt_of (by omega) (by omega), if_neg (by push_cast; linarith)]
          exact BitVec.sub_zero _
        · have hc0 : ⌈r⌉ ≤ 0 := Int.ceil_le.mpr (by push_cast; linarith)
          have hfc := Int.floor_le_ceil r
          rw [if_neg hp, min_eq_right (by omega), max_eq_right (by omega), toInt_of (by omega) (by omega)]
          by_cases hlt' : r < (⌈r⌉ : ℝ)
          · rw [if_pos hlt']
            have e : ⌈r⌉ = ⌊r⌋ + 1 := by
              have a := Int.ceil_le_floor_add_one r
              have b : ⌊r⌋ < ⌈r⌉ := by exact_mod_cast lt_of_le_of_lt hle hlt'
              omega
            rw [e, BitVec.ofInt_add]
            exact BitVec.add_sub_cancel _ _
          · rw [if_neg hlt']
            have e : ⌈r⌉ = ⌊r⌋ := by
              have a : (⌈r⌉ : ℝ) = r := le_antisymm (not_lt.mp hlt') (Int.le_ceil r)
              have b : ⌈r⌉ ≤ ⌊r⌋ := Int.le_floor.mpr (le_of_eq a)
              omega
            rw [e]; exact BitVec.sub_zero _
      rw [hr, hlo, min_eq_right (by omega), max_eq_right (by omega)]
      refine ⟨rfl, ?_⟩
      rw [hfl]
      show (((BitVec.ofInt 32 ⌊r⌋).toInt : ℝ) : EReal) = _
      rw [toInt_of (by omega) (by omega)]

theorem bit_cases (b : BitVec 1) : b = 0#1 ∨ b = 1#1 := by
  revert b; decide

/-- Along an axis the two agree on a voxel on it, and off it the kernel's weight is zero. -/
theorem along (b : Bool) (x : Ideal .f32) :
    (onAxis (rpos b (rvox x)) = 1#1 ∧ pos b x = clip (rpos b (rvox x)) ∧ wt b x = rwt b (rvox x))
      ∨ (onAxis (rpos b (rvox x)) = 0#1 ∧ wt b x = (0 : EReal)) := by
  have hlo : lo x = loOf (rvox x) := by unfold lo loOf; rw [vox_eq]
  have hz : (Scalar.ofBits .f32 0x00000000#32 : Ideal .f32) = (0 : EReal) := zero_bits
  rcases voxels (rvox x) with ⟨h, hf⟩ | ⟨h1, h2, h3, h4⟩
  · have hfrac : frac x = FloatOps.subf (rvox x) (FloatOps.hostUnary .floor (rvox x)) := by unfold frac; rw [vox_eq, hlo, hf]
    rw [h] at hlo
    have hhi : hi x = rpos true (rvox x) := by unfold hi; rw [hlo]; rfl
    cases b
    · rcases bit_cases (onAxis (rpos false (rvox x))) with e | e
      · right; refine ⟨e, ?_⟩
        show wLo x = _
        unfold wLo; rw [hlo, e, if_neg (by decide)]; exact hz
      · left; refine ⟨e, ?_, ?_⟩
        · show clip (lo x) = _; rw [hlo]
        · show wLo x = _
          unfold wLo; rw [hlo, e, if_pos (by decide), hfrac]; rfl
    · rcases bit_cases (onAxis (rpos true (rvox x))) with e | e
      · right; refine ⟨e, ?_⟩
        show wHi x = _
        unfold wHi; rw [hhi, e, if_neg (by decide)]; exact hz
      · left; refine ⟨e, ?_, ?_⟩
        · show clip (hi x) = _; rw [hhi]
        · show wHi x = _
          unfold wHi; rw [hhi, e, if_pos (by decide), hfrac]; rfl
  · right
    cases b
    · refine ⟨h3, ?_⟩
      show wLo x = _
      unfold wLo; rw [hlo, h1, if_neg (by decide)]; exact hz
    · refine ⟨h4, ?_⟩
      show wHi x = _
      unfold wHi; unfold hi; rw [hlo, h2, if_neg (by decide)]; exact hz

theorem onAll_eq (x y z : BitVec 32) : onAll x y z = IntOp.andi (IntOp.andi (onAxis x) (onAxis y)) (onAxis z) := by
  unfold onAll onAxis IntOp.andi
  simp only [BitVec.and_assoc]

/-- A corner's part of a channel: the kernel's voxel by its weight is the reference's voxel by its. -/
theorem corner_part (val : BitVec 32 → Ideal .f32) (bx bY bz : Bool) (x y z : Ideal .f32) :
    FloatOps.mulf (val (placeOf (pos bx x) (pos bY y) (pos bz z))) (FloatOps.mulf (FloatOps.mulf (wt bz z) (wt bY y)) (wt bx x))
      = FloatOps.mulf (val (placeOf (clip (rpos bx (rvox x))) (clip (rpos bY (rvox y))) (clip (rpos bz (rvox z)))))
          (FloatOps.mulf (FloatOps.uitofp .f32 (onAll (rpos bx (rvox x)) (rpos bY (rvox y)) (rpos bz (rvox z))))
            (FloatOps.mulf (FloatOps.mulf (rwt bx (rvox x)) (rwt bY (rvox y))) (rwt bz (rvox z)))) := by
  have u0 : (FloatOps.uitofp .f32 (0#1 : BitVec 1) : Ideal .f32) = (0 : EReal) := by
    show (((0#1 : BitVec 1).toNat : ℝ) : EReal) = 0
    norm_num
  have u1 : (FloatOps.uitofp .f32 (1#1 : BitVec 1) : Ideal .f32) = (1 : EReal) := by
    show (((1#1 : BitVec 1).toNat : ℝ) : EReal) = 1
    norm_num
  rw [onAll_eq]
  show (_ : EReal) * (_ * _ * _) = (_ : EReal) * ((FloatOps.uitofp .f32 _ : Ideal .f32) * (_ * _ * _))
  rcases along bx x with ⟨ox, px, wx⟩ | ⟨ox, wx⟩
  · rcases along bY y with ⟨oy, py, wy⟩ | ⟨oy, wy⟩
    · rcases along bz z with ⟨oz, pz, wz⟩ | ⟨oz, wz⟩
      · rw [ox, oy, oz, px, py, pz, wx, wy, wz, show IntOp.andi (IntOp.andi 1#1 1#1) 1#1 = 1#1 from rfl, u1, one_mul]
        congr 1
        rw [mul_comm (rwt bz _ : EReal) (rwt bY _), mul_assoc, mul_comm (rwt bz _ : EReal) (rwt bx _), ← mul_assoc, mul_comm (rwt bY _ : EReal) (rwt bx _)]
      · rw [oz, wz, show IntOp.andi (IntOp.andi (onAxis (rpos bx (rvox x))) (onAxis (rpos bY (rvox y)))) 0#1 = 0#1 from BitVec.and_zero, u0]
        simp only [zero_mul, mul_zero]
    · rw [oy, wy, show IntOp.andi (IntOp.andi (onAxis (rpos bx (rvox x))) 0#1) (onAxis (rpos bz (rvox z))) = 0#1 from (by rw [show IntOp.andi (onAxis (rpos bx (rvox x))) 0#1 = 0#1 from BitVec.and_zero]; exact BitVec.zero_and), u0]
      simp only [zero_mul, mul_zero]
  · rw [ox, wx, show IntOp.andi (IntOp.andi 0#1 (onAxis (rpos bY (rvox y)))) (onAxis (rpos bz (rvox z))) = 0#1 from (by rw [show IntOp.andi 0#1 (onAxis (rpos bY (rvox y))) = 0#1 from BitVec.zero_and]; exact BitVec.zero_and), u0]
    simp only [zero_mul, mul_zero]

end Cert.Interp
-- ==== Proof.ReferenceIdeal.Read.lean ====
/-
The reference's samples read at a point: one corner's part, and the eight summed.
-/
module
public import proofs.«01_k».proof.Proof.ReferenceIdeal.Sample
public import proofs.«01_k».proof.Proof.Scalar
public import Idealize.ShloMosaic.Lib.Pointwise

@[expose] public section
noncomputable section
namespace Cert.ReferenceIdeal.Sample
open Cert.ReferenceIdeal Cert.ReferenceIdeal.Gen Cert.Interp
open Idealize.ShloMosaic

variable {F : FTy → Type} [FloatOps F]

/-! ## The indexing -/

theorem placeOf_lt (x y z : BitVec 32) : (placeOf (clip x) (clip y) (clip z)).toNat < 2097152 := by
  have h1 := clip_toNat_lt x
  have h2 := clip_toNat_lt y
  have h3 := clip_toNat_lt z
  unfold placeOf IntOp.addi IntOp.muli
  simp only [BitVec.toNat_add, BitVec.toNat_mul, BitVec.toNat_ofNat]
  omega

theorem place_apply (x y z : Ints) (i : Fin 4) (u : Fin 1) (n : Fin 131072) :
    place x y z (ix3 i u n) = placeOf (clip (x (ix2 i n))) (clip (y (ix2 i n))) (clip (z (ix2 i n))) := by
  unfold place clipped
  pointwise
  rfl

theorem not_slt_zero {w : BitVec 32} (h : w.toNat < 2097152) : IntOp.cmpi .slt w 0#32 = 0#1 := by
  have : w.slt 0#32 = false := by
    rw [BitVec.slt_eq_decide, BitVec.toInt_eq_toNat_of_lt (by omega)]
    simp
  show BitVec.ofBool (w.slt 0#32) = 0#1
  rw [this]; rfl

theorem start_apply (p : IVec S4x1x131072 32) (hp : ∀ j, (p j).toNat < 2097152) (i : Fin 4) (n : Fin 131072) (u : Fin 1) :
    start p (ix3 i n u) = p (ix3 i 0 n) := by
  unfold start
  pointwise
  rw [not_slt_zero (hp _)]
  rfl

theorem sge_zero {w : BitVec 32} (h : w.toNat < 2097152) : IntOp.cmpi .sge w 0#32 = 1#1 := by
  have : (0#32).sle w = true := by
    rw [BitVec.sle_eq_decide, BitVec.toInt_eq_toNat_of_lt (x := w) (by omega), show (0#32 : BitVec 32).toInt = 0 from rfl]
    simp
  show BitVec.ofBool ((0#32).sle w) = 1#1
  rw [this]; rfl

theorem sle_last {w : BitVec 32} (h : w.toNat < 2097152) : IntOp.cmpi .sle w 2097151#32 = 1#1 := by
  have : w.sle 2097151#32 = true := by
    rw [BitVec.sle_eq_decide, BitVec.toInt_eq_toNat_of_lt (by omega), BitVec.toInt_eq_toNat_of_lt (by decide)]
    simp; omega
  show BitVec.ofBool (w.sle 2097151#32) = 1#1
  rw [this]; rfl

theorem foldl_and {α : Type} (l : List α) (x : α → BitVec 1) (h : ∀ a, x a = 1#1) : l.foldl (fun r a => IntOp.andi r (x a)) 1#1 = 1#1 := by
  induction l with
  | nil => rfl
  | cons a l ih => rw [List.foldl_cons, h a]; exact ih

/-- Places all in the volume are found to be. -/
theorem inside_apply (s : IVec S4x131072x1 32) (hs : ∀ j, (s j).toNat < 2097152) (j : S4x131072.Idx) : inside s j = 1#1 := by
  unfold inside Host.reduce
  exact foldl_and _ (fun n => _) fun n => by
    show IntOp.andi (IntOp.cmpi .sge (s _) 0#32) (IntOp.cmpi .sle (s _) 2097151#32) = 1#1
    rw [sge_zero (hs _), sle_last (hs _)]; rfl

theorem toInt_place {w : BitVec 32} (h : w.toNat < 2097152) : min w.toInt.toNat 2097151 = w.toNat := by
  rw [BitVec.toInt_eq_toNat_of_lt (by omega)]; simp; omega

/-! ## The volumes indexed: each point's place in its batch's volume, channel by channel -/

theorem gather1_apply {α : Type} (v : S4x1x2097152.Idx → α) (s : IVec S4x131072x1 32) (i : Fin 4) (u : Fin 1) (n : Fin 131072)
    (hs : (s (ix3 i n 0)).toNat < 2097152) :
    Host.gather gather_S4x1x2097152_S4x131072x1_S4x1x131072_1_2_0_0_2_2_111 v s (ix3 i u n) = v (ix3 i u ⟨(s (ix3 i n 0)).toNat, hs⟩) := by
  unfold Host.gather
  congr 1
  funext a
  refine Fin.ext ?_
  show gather_S4x1x2097152_S4x131072x1_S4x1x131072_1_2_0_0_2_2_111.start (ix3 i u n) s a + gather_S4x1x2097152_S4x131072x1_S4x1x131072_1_2_0_0_2_2_111.batchCoord (ix3 i u n) a + gather_S4x1x2097152_S4x131072x1_S4x1x131072_1_2_0_0_2_2_111.offCoord (ix3 i u n) a = _
  match a with
  | ⟨0, h0⟩ =>
    have hb : (⟨0, h0⟩ : Fin S4x1x2097152.rank) ∈ gather_S4x1x2097152_S4x131072x1_S4x1x131072_1_2_0_0_2_2_111.operandBatchingDims := List.mem_singleton.mpr rfl
    rw [GatherDims.start_batching _ _ _ _ hb, GatherDims.offCoord_eq_zero _ _ _ (fun h => ((GatherDims.mem_sKept _ _).mp h).2 hb)]
    unfold GatherDims.batchCoord
    rw [dif_pos hb]
    simp only [Nat.zero_add, Nat.add_zero]
    rfl
  | ⟨1, h1⟩ =>
    have hb : (⟨1, h1⟩ : Fin S4x1x2097152.rank) ∉ gather_S4x1x2097152_S4x131072x1_S4x1x131072_1_2_0_0_2_2_111.operandBatchingDims := by
      show (1 : Fin 3) ∉ [(0 : Fin 3)]; decide
    have hc : (⟨1, h1⟩ : Fin S4x1x2097152.rank) ∉ gather_S4x1x2097152_S4x131072x1_S4x1x131072_1_2_0_0_2_2_111.collapsedSliceDims := by
      show (1 : Fin 3) ∉ [(2 : Fin 3)]; decide
    have hm : (⟨1, h1⟩ : Fin S4x1x2097152.rank) ∉ gather_S4x1x2097152_S4x131072x1_S4x1x131072_1_2_0_0_2_2_111.startIndexMap := by
      show (1 : Fin 3) ∉ [(2 : Fin 3)]; decide
    rw [GatherDims.batchCoord_eq_zero _ _ _ hb]
    unfold GatherDims.start GatherDims.offCoord
    rw [dif_neg hm, dif_pos ((GatherDims.mem_sKept _ _).mpr ⟨hc, hb⟩)]
    simp only [Nat.zero_add, Nat.add_zero]
    rfl
  | ⟨2, h2⟩ =>
    have hb : (⟨2, h2⟩ : Fin S4x1x2097152.rank) ∉ gather_S4x1x2097152_S4x131072x1_S4x1x131072_1_2_0_0_2_2_111.operandBatchingDims := by
      show (2 : Fin 3) ∉ [(0 : Fin 3)]; decide
    have hc : (⟨2, h2⟩ : Fin S4x1x2097152.rank) ∈ gather_S4x1x2097152_S4x131072x1_S4x1x131072_1_2_0_0_2_2_111.collapsedSliceDims := List.mem_singleton.mpr rfl
    have hm : (⟨2, h2⟩ : Fin S4x1x2097152.rank) ∈ gather_S4x1x2097152_S4x131072x1_S4x1x131072_1_2_0_0_2_2_111.startIndexMap := List.mem_singleton.mpr rfl
    rw [GatherDims.batchCoord_eq_zero _ _ _ hb, GatherDims.offCoord_eq_zero _ _ _ (fun h => ((GatherDims.mem_sKept _ _).mp h).1 hc)]
    simp only [Nat.add_zero]
    unfold GatherDims.start
    rw [dif_pos hm]
    have hsi : gather_S4x1x2097152_S4x131072x1_S4x1x131072_1_2_0_0_2_2_111.siIdx (ix3 i u n) ⟨gather_S4x1x2097152_S4x131072x1_S4x1x131072_1_2_0_0_2_2_111.startIndexMap.idxOf ⟨2, h2⟩, List.idxOf_lt_length_iff.2 hm⟩ = ix3 i n 0 := by
      funext b
      refine Fin.ext ?_
      match b with
      | ⟨0, _⟩ => rfl
      | ⟨1, _⟩ => rfl
      | ⟨2, _⟩ => rfl
    rw [hsi]
    exact toInt_place hs

theorem gather8_apply {α : Type} (v : S4x8x2097152.Idx → α) (s : IVec S4x131072x1 32) (i : Fin 4) (u : Fin 8) (n : Fin 131072)
    (hs : (s (ix3 i n 0)).toNat < 2097152) :
    Host.gather gather_S4x8x2097152_S4x131072x1_S4x8x131072_1_2_0_0_2_2_181 v s (ix3 i u n) = v (ix3 i u ⟨(s (ix3 i n 0)).toNat, hs⟩) := by
  unfold Host.gather
  congr 1
  funext a
  refine Fin.ext ?_
  show gather_S4x8x2097152_S4x131072x1_S4x8x131072_1_2_0_0_2_2_181.start (ix3 i u n) s a + gather_S4x8x2097152_S4x131072x1_S4x8x131072_1_2_0_0_2_2_181.batchCoord (ix3 i u n) a + gather_S4x8x2097152_S4x131072x1_S4x8x131072_1_2_0_0_2_2_181.offCoord (ix3 i u n) a = _
  match a with
  | ⟨0, h0⟩ =>
    have hb : (⟨0, h0⟩ : Fin S4x8x2097152.rank) ∈ gather_S4x8x2097152_S4x131072x1_S4x8x131072_1_2_0_0_2_2_181.operandBatchingDims := List.mem_singleton.mpr rfl
    rw [GatherDims.start_batching _ _ _ _ hb, GatherDims.offCoord_eq_zero _ _ _ (fun h => ((GatherDims.mem_sKept _ _).mp h).2 hb)]
    unfold GatherDims.batchCoord
    rw [dif_pos hb]
    simp only [Nat.zero_add, Nat.add_zero]
    rfl
  | ⟨1, h1⟩ =>
    have hb : (⟨1, h1⟩ : Fin S4x8x2097152.rank) ∉ gather_S4x8x2097152_S4x131072x1_S4x8x131072_1_2_0_0_2_2_181.operandBatchingDims := by
      show (1 : Fin 3) ∉ [(0 : Fin 3)]; decide
    have hc : (⟨1, h1⟩ : Fin S4x8x2097152.rank) ∉ gather_S4x8x2097152_S4x131072x1_S4x8x131072_1_2_0_0_2_2_181.collapsedSliceDims := by
      show (1 : Fin 3) ∉ [(2 : Fin 3)]; decide
    have hm : (⟨1, h1⟩ : Fin S4x8x2097152.rank) ∉ gather_S4x8x2097152_S4x131072x1_S4x8x131072_1_2_0_0_2_2_181.startIndexMap := by
      show (1 : Fin 3) ∉ [(2 : Fin 3)]; decide
    rw [GatherDims.batchCoord_eq_zero _ _ _ hb]
    unfold GatherDims.start GatherDims.offCoord
    rw [dif_neg hm, dif_pos ((GatherDims.mem_sKept _ _).mpr ⟨hc, hb⟩)]
    simp only [Nat.zero_add, Nat.add_zero]
    rfl
  | ⟨2, h2⟩ =>
    have hb : (⟨2, h2⟩ : Fin S4x8x2097152.rank) ∉ gather_S4x8x2097152_S4x131072x1_S4x8x131072_1_2_0_0_2_2_181.operandBatchingDims := by
      show (2 : Fin 3) ∉ [(0 : Fin 3)]; decide
    have hc : (⟨2, h2⟩ : Fin S4x8x2097152.rank) ∈ gather_S4x8x2097152_S4x131072x1_S4x8x131072_1_2_0_0_2_2_181.collapsedSliceDims := List.mem_singleton.mpr rfl
    have hm : (⟨2, h2⟩ : Fin S4x8x2097152.rank) ∈ gather_S4x8x2097152_S4x131072x1_S4x8x131072_1_2_0_0_2_2_181.startIndexMap := List.mem_singleton.mpr rfl
    rw [GatherDims.batchCoord_eq_zero _ _ _ hb, GatherDims.offCoord_eq_zero _ _ _ (fun h => ((GatherDims.mem_sKept _ _).mp h).1 hc)]
    simp only [Nat.add_zero]
    unfold GatherDims.start
    rw [dif_pos hm]
    have hsi : gather_S4x8x2097152_S4x131072x1_S4x8x131072_1_2_0_0_2_2_181.siIdx (ix3 i u n) ⟨gather_S4x8x2097152_S4x131072x1_S4x8x131072_1_2_0_0_2_2_181.startIndexMap.idxOf ⟨2, h2⟩, List.idxOf_lt_length_iff.2 hm⟩ = ix3 i n 0 := by
      funext b
      refine Fin.ext ?_
      match b with
      | ⟨0, _⟩ => rfl
      | ⟨1, _⟩ => rfl
      | ⟨2, _⟩ => rfl
    rw [hsi]
    exact toInt_place hs

/-! ## A corner's part at a point -/

/-- A voxel of a volume, by its place in the batch. -/
def vol1 (v : FVec F S4x1x2097152 .f32) (i : Fin 4) (u : Fin 1) (w : BitVec 32) : F .f32 := v (ix3 i u ⟨w.toNat % 2097152, Nat.mod_lt _ (by decide)⟩)
def vol8 (v : FVec F S4x8x2097152 .f32) (i : Fin 4) (u : Fin 8) (w : BitVec 32) : F .f32 := v (ix3 i u ⟨w.toNat % 2097152, Nat.mod_lt _ (by decide)⟩)

theorem place_lt (x y z : Ints) (j : S4x1x131072.Idx) : (place x y z j).toNat < 2097152 := by
  idx_vars j
  rw [place_apply]; exact placeOf_lt _ _ _

theorem startPlace_apply (x y z : Ints) (i : Fin 4) (n : Fin 131072) (u : Fin 1) :
    start (place x y z) (ix3 i n u) = placeOf (clip (x (ix2 i n))) (clip (y (ix2 i n))) (clip (z (ix2 i n))) := by
  rw [start_apply _ (place_lt x y z), place_apply]

theorem startPlace_lt (x y z : Ints) (j : S4x131072x1.Idx) : (start (place x y z) j).toNat < 2097152 := by
  idx_vars j
  rw [startPlace_apply]; exact placeOf_lt _ _ _

theorem weight_apply (x y z : Ints) (a b c : Flts F) (i : Fin 4) (n : Fin 131072) :
    weight x y z a b c (ix2 i n) = FloatOps.mulf (FloatOps.uitofp .f32 (onAll (x (ix2 i n)) (y (ix2 i n)) (z (ix2 i n))))
      (FloatOps.mulf (FloatOps.mulf (a (ix2 i n)) (b (ix2 i n))) (c (ix2 i n))) := rfl

theorem part1_apply (v : FVec F S4x1x2097152 .f32) (x y z : Ints) (a b c : Flts F) (i : Fin 4) (u : Fin 1) (n : Fin 131072) :
    part1 v x y z a b c (ix3 i u n)
      = FloatOps.mulf (vol1 v i u (placeOf (clip (x (ix2 i n))) (clip (y (ix2 i n))) (clip (z (ix2 i n)))))
          (FloatOps.mulf (FloatOps.uitofp .f32 (onAll (x (ix2 i n)) (y (ix2 i n)) (z (ix2 i n))))
            (FloatOps.mulf (FloatOps.mulf (a (ix2 i n)) (b (ix2 i n))) (c (ix2 i n)))) := by
  rw [← weight_apply]
  have hi := inside_apply _ (startPlace_lt x y z)
  have hg := (gather1_apply v (start (place x y z)) i u n (startPlace_lt x y z _)).trans (show _ = vol1 v i u (placeOf (clip (x (ix2 i n))) (clip (y (ix2 i n))) (clip (z (ix2 i n)))) by
    unfold vol1
    congr 2
    exact Fin.ext (by
      show (start (place x y z) (ix3 i n 0)).toNat = _
      rw [← startPlace_apply x y z i n 0]
      exact (Nat.mod_eq_of_lt (startPlace_lt x y z _)).symm))
  unfold part1
  generalize weight x y z a b c = w at *
  generalize Host.gather gather_S4x1x2097152_S4x131072x1_S4x1x131072_1_2_0_0_2_2_111 v (start (place x y z)) = g at *
  generalize inside (start (place x y z)) = t at *
  rw [← hg]
  clear hg
  pointwise
  rw [hi]; rfl

theorem part8_apply (v : FVec F S4x8x2097152 .f32) (x y z : Ints) (a b c : Flts F) (i : Fin 4) (u : Fin 8) (n : Fin 131072) :
    part8 v x y z a b c (ix3 i u n)
      = FloatOps.mulf (vol8 v i u (placeOf (clip (x (ix2 i n))) (clip (y (ix2 i n))) (clip (z (ix2 i n)))))
          (FloatOps.mulf (FloatOps.uitofp .f32 (onAll (x (ix2 i n)) (y (ix2 i n)) (z (ix2 i n))))
            (FloatOps.mulf (FloatOps.mulf (a (ix2 i n)) (b (ix2 i n))) (c (ix2 i n)))) := by
  rw [← weight_apply]
  have hi := inside_apply _ (startPlace_lt x y z)
  have hg := (gather8_apply v (start (place x y z)) i u n (startPlace_lt x y z _)).trans (show _ = vol8 v i u (placeOf (clip (x (ix2 i n))) (clip (y (ix2 i n))) (clip (z (ix2 i n)))) by
    unfold vol8
    congr 2
    exact Fin.ext (by
      show (start (place x y z) (ix3 i n 0)).toNat = _
      rw [← startPlace_apply x y z i n 0]
      exact (Nat.mod_eq_of_lt (startPlace_lt x y z _)).symm))
  unfold part8
  generalize weight x y z a b c = w at *
  generalize Host.gather gather_S4x8x2097152_S4x131072x1_S4x8x131072_1_2_0_0_2_2_181 v (start (place x y z)) = g at *
  generalize inside (start (place x y z)) = t at *
  rw [← hg]
  clear hg
  pointwise
  rw [hi]; rfl

/-! ## The samples at a point -/

/-- A corner's part of a point, by the corner's three sides. -/
def piece (val : BitVec 32 → Ideal .f32) (x y z : Ideal .f32) (bx bY bz : Bool) : Ideal .f32 :=
  FloatOps.mulf (val (placeOf (clip (rpos bx (rvox x))) (clip (rpos bY (rvox y))) (clip (rpos bz (rvox z)))))
    (FloatOps.mulf (FloatOps.uitofp .f32 (onAll (rpos bx (rvox x)) (rpos bY (rvox y)) (rpos bz (rvox z))))
      (FloatOps.mulf (FloatOps.mulf (rwt bx (rvox x)) (rwt bY (rvox y))) (rwt bz (rvox z))))

/-- The eight, summed in order. -/
def eight (val : BitVec 32 → Ideal .f32) (x y z : Ideal .f32) : Ideal .f32 :=
  FloatOps.addf (FloatOps.addf (FloatOps.addf (FloatOps.addf (FloatOps.addf (FloatOps.addf (FloatOps.addf
    (piece val x y z false false false) (piece val x y z true false false)) (piece val x y z false true false)) (piece val x y z true true false))
    (piece val x y z false false true)) (piece val x y z true false true)) (piece val x y z false true true)) (piece val x y z true true true)

theorem sample1_apply (v : FVec Ideal S4x1x2097152 .f32) (p q r : Flts Ideal) (i : Fin 4) (u : Fin 1) (n : Fin 131072) :
    sample1 v p q r (ix3 i u n) = eight (vol1 v i u) (p (ix2 i n)) (q (ix2 i n)) (r (ix2 i n)) := by
  unfold sample1 eight
  simp only [addf, part1_apply]
  rfl

theorem sample8_apply (v : FVec Ideal S4x8x2097152 .f32) (p q r : Flts Ideal) (i : Fin 4) (u : Fin 8) (n : Fin 131072) :
    sample8 v p q r (ix3 i u n) = eight (vol8 v i u) (p (ix2 i n)) (q (ix2 i n)) (r (ix2 i n)) := by
  unfold sample8 eight
  simp only [addf, part8_apply]
  rfl

end Cert.ReferenceIdeal.Sample
-- ==== Proof.KernelIdeal.Read.lean ====
/-
The kernel's channel of a point, over the extended reals, as the reference's eight corners summed.
-/
module
public import proofs.«01_k».proof.Proof.KernelIdeal.Main
public import proofs.«01_k».proof.Proof.ReferenceIdeal.Read

@[expose] public section
noncomputable section
namespace Cert.KernelIdeal.Tile
open Cert.KernelIdeal Cert.KernelIdeal.Gen Cert.Interp
open Idealize.ShloMosaic
open Cert.ReferenceIdeal.Sample (piece eight)

/-- A voxel's channel in the table, by its place in a batch. -/
def voxAt (tab : S8388608x16.Idx → Ideal .f32) (base ch : ℕ) (w : BitVec 32) : Ideal .f32 := at2 tab (base + w.toNat % 2097152) ch

theorem rowBase_val {n : ℕ} (hn : n < 524288) : (rowBase n).toNat = n / 131072 * 2097152 := by
  unfold rowBase
  rw [BitVec.toNat_ofNat]
  omega

theorem rowBase_le {n : ℕ} (hn : n < 524288) : (rowBase n).toNat ≤ 6291456 := by
  rw [rowBase_val hn]; omega

theorem placeOf_pos_toNat (x y z : BitVec 32) (hx : x.toNat < 128) (hy : y.toNat < 128) (hz : z.toNat < 128) :
    (placeOf x y z).toNat = (z.toNat * 128 + y.toNat) * 128 + x.toNat := by
  unfold placeOf IntOp.addi IntOp.muli
  simp only [BitVec.toNat_add, BitVec.toNat_mul, BitVec.toNat_ofNat]
  omega

/-- A corner's part of a channel: its voxel by its weight is the reference's part. -/
theorem part_eq (tab : S8388608x16.Idx → Ideal .f32) {n : ℕ} (hn : n < 524288) (ch c : ℕ) (x y z : Ideal .f32) :
    (FloatOps.mulf (at2 tab (corner (rowBase n) c x y z).toNat ch) (weight c x y z) : Ideal .f32)
      = piece (voxAt tab (n / 131072 * 2097152) ch) x y z (cx c) (cy c) (cz c) := by
  refine Eq.trans ?_ (corner_part (voxAt tab (n / 131072 * 2097152) ch) (cx c) (cy c) (cz c) x y z)
  have h : at2 tab (corner (rowBase n) c x y z).toNat ch
      = voxAt tab (n / 131072 * 2097152) ch (placeOf (pos (cx c) x) (pos (cy c) y) (pos (cz c) z)) := by
    have hx := pos_toNat_lt (cx c) x
    have hy := pos_toNat_lt (cy c) y
    have hz := pos_toNat_lt (cz c) z
    unfold voxAt
    congr 1
    rw [corner_toNat (rowBase_le hn), rowBase_val hn, placeOf_pos_toNat _ _ _ hx hy hz]
    omega
  rw [h]; rfl

variable (tab : S8388608x16.Idx → Ideal .f32) (gx gy gz : S524288.Idx → Ideal .f32)

/-- A channel of a point is the eight corners' parts summed. -/
theorem chanAt_eq {n : ℕ} (hn : n < 524288) (ch : ℕ) :
    chanAt tab gx gy gz n ch = eight (voxAt tab (n / 131072 * 2097152) ch) (at1 gx n) (at1 gy n) (at1 gz n) := by
  have h : ∀ c, (FloatOps.mulf (at2 tab (cornerAt gx gy gz n c).toNat ch) (weightAt gx gy gz n c) : Ideal .f32) = _ :=
    fun c => part_eq tab hn ch c (at1 gx n) (at1 gy n) (at1 gz n)
  have hz : ∀ a : Ideal .f32, FloatOps.addf (Scalar.ofBits .f32 0x00000000#32) a = a := fun a =>
    (congrArg (fun e : EReal => e + a) zero_bits).trans (zero_add (a : EReal))
  unfold chanAt
  simp only [accum, h]
  rw [hz]
  rfl

/-! ## The coordinates and the table -/

theorem coordX_apply (p : FVec Ideal S4x2048x64x3 .f32) (n : Fin 524288) :
    coordX p (ix1 n) = p (ix4 ⟨n.val / 131072, by omega⟩ ⟨n.val / 64 % 2048, by omega⟩ ⟨n.val % 64, by omega⟩ 0) := by
  unfold coordX
  pointwise
theorem coordY_apply (p : FVec Ideal S4x2048x64x3 .f32) (n : Fin 524288) :
    coordY p (ix1 n) = p (ix4 ⟨n.val / 131072, by omega⟩ ⟨n.val / 64 % 2048, by omega⟩ ⟨n.val % 64, by omega⟩ 1) := by
  unfold coordY
  pointwise
theorem coordZ_apply (p : FVec Ideal S4x2048x64x3 .f32) (n : Fin 524288) :
    coordZ p (ix1 n) = p (ix4 ⟨n.val / 131072, by omega⟩ ⟨n.val / 64 % 2048, by omega⟩ ⟨n.val % 64, by omega⟩ 2) := by
  unfold coordZ
  pointwise

theorem axis0_apply (p : FVec Ideal S4x2048x64x3 .f32) (b : Fin 4) (m : Fin 131072) :
    Cert.ReferenceIdeal.Sample.axis0 p (ix2 b m) = p (ix4 b ⟨m.val / 64, by omega⟩ ⟨m.val % 64, by omega⟩ 0) := by
  unfold Cert.ReferenceIdeal.Sample.axis0
  pointwise
theorem axis1_apply (p : FVec Ideal S4x2048x64x3 .f32) (b : Fin 4) (m : Fin 131072) :
    Cert.ReferenceIdeal.Sample.axis1 p (ix2 b m) = p (ix4 b ⟨m.val / 64, by omega⟩ ⟨m.val % 64, by omega⟩ 1) := by
  unfold Cert.ReferenceIdeal.Sample.axis1
  pointwise
theorem axis2_apply (p : FVec Ideal S4x2048x64x3 .f32) (b : Fin 4) (m : Fin 131072) :
    Cert.ReferenceIdeal.Sample.axis2 p (ix2 b m) = p (ix4 b ⟨m.val / 64, by omega⟩ ⟨m.val % 64, by omega⟩ 2) := by
  unfold Cert.ReferenceIdeal.Sample.axis2
  pointwise

end Cert.KernelIdeal.Tile
-- ==== Proof.KernelIdeal.Table.lean ====
/-
The kernel's table read at a cell's row: the first volume in its first channel, the second in its next eight.
-/
module
public import proofs.«01_k».proof.Proof.KernelIdeal.Read
@[expose] public section
noncomputable section
namespace Cert.KernelIdeal.Tile
open Cert.KernelIdeal Cert.KernelIdeal.Gen Cert.Interp
open Idealize.ShloMosaic

/-! ## The table's rearrangements, one at a time -/

theorem rows_apply (t : FVec Ideal S4x2097152x16 .f32) (b : Fin 4) (r : Fin 2097152) (k : Fin 16) :
    shapeCast S8388608x16 t shapeCasts_S4x2097152x16_S8388608x16 (ix2 ⟨b.val * 2097152 + r.val, by omega⟩ k) = t (ix3 b r k) := by
  pointwise
theorem padded_apply (t : FVec Ideal S4x2097152x9 .f32) (e : FVec Ideal S_ .f32) (b : Fin 4) (r : Fin 2097152) (k : Fin 9) :
    pad S4x2097152x16 ![0, 0, 0] ![0, 0, 7] ![0, 0, 0] t e pads_S4x2097152x9_S4x2097152x16_000_000_070 h_S_ (ix3 b r ⟨k.val, by omega⟩) = t (ix3 b r k) := by
  pointwise
theorem turned_apply (t : FVec Ideal S4x9x2097152 .f32) (b : Fin 4) (r : Fin 2097152) (k : Fin 9) :
    transpose S4x2097152x9 [0, 2, 1] t transposes_S4x9x2097152_S4x2097152x9_0_2_1 (ix3 b r k) = t (ix3 b k r) := by
  pointwise
theorem cells_apply (t : FVec Ideal S4x9x128x128x128 .f32) (b : Fin 4) (r : Fin 2097152) (k : Fin 9) :
    shapeCast S4x9x2097152 t shapeCasts_S4x9x128x128x128_S4x9x2097152 (ix3 b k r) = t (ix5 b k ⟨r.val / 16384, by omega⟩ ⟨r.val / 128 % 128, by omega⟩ ⟨r.val % 128, by omega⟩) := by
  pointwise
theorem joined_first (a3 : FVec Ideal S4x1x128x128x128 .f32) (a4 : FVec Ideal S4x8x128x128x128 .f32) (b : Fin 4) (x y z : Fin 128) :
    (joined (F := Ideal) a3 a4 : FVec Ideal S4x9x128x128x128 .f32) (ix5 b 0 x y z) = a3 (ix5 b 0 x y z) := by
  unfold joined
  pointwise
theorem joined_second (a3 : FVec Ideal S4x1x128x128x128 .f32) (a4 : FVec Ideal S4x8x128x128x128 .f32) (b : Fin 4) (c : Fin 8) (x y z : Fin 128) :
    (joined (F := Ideal) a3 a4 : FVec Ideal S4x9x128x128x128 .f32) (ix5 b ⟨c.val + 1, by omega⟩ x y z) = a4 (ix5 b c x y z) := by
  unfold joined
  pointwise
  rw [dif_neg (by omega)]
  rfl
theorem cells8_apply (t : FVec Ideal S4x8x128x128x128 .f32) (b : Fin 4) (r : Fin 2097152) (k : Fin 8) :
    shapeCast Cert.ReferenceIdeal.S4x8x2097152 t Cert.ReferenceIdeal.Gen.shapeCasts_S4x8x128x128x128_S4x8x2097152 (ix3 b k r) = t (ix5 b k ⟨r.val / 16384, by omega⟩ ⟨r.val / 128 % 128, by omega⟩ ⟨r.val % 128, by omega⟩) := by
  pointwise
theorem cells1_apply (t : FVec Ideal S4x1x128x128x128 .f32) (b : Fin 4) (r : Fin 2097152) :
    shapeCast Cert.ReferenceIdeal.S4x1x2097152 t Cert.ReferenceIdeal.Gen.shapeCasts_S4x1x128x128x128_S4x1x2097152 (ix3 b 0 r) = t (ix5 b 0 ⟨r.val / 16384, by omega⟩ ⟨r.val / 128 % 128, by omega⟩ ⟨r.val % 128, by omega⟩) := by
  pointwise

/-! ## The table -/

/-- A cell's row in channel `k` is the joined volumes' cell. -/
theorem table_apply (a3 : FVec Ideal S4x1x128x128x128 .f32) (a4 : FVec Ideal S4x8x128x128x128 .f32) (b : Fin 4) (r : Fin 2097152) (k : Fin 9) :
    table a3 a4 (ix2 ⟨b.val * 2097152 + r.val, by omega⟩ ⟨k.val, by omega⟩)
      = (joined (F := Ideal) a3 a4 : FVec Ideal S4x9x128x128x128 .f32) (ix5 b k ⟨r.val / 16384, by omega⟩ ⟨r.val / 128 % 128, by omega⟩ ⟨r.val % 128, by omega⟩) := by
  unfold table
  exact (rows_apply _ b r _).trans ((padded_apply _ _ b r k).trans ((turned_apply _ b r k).trans (cells_apply _ b r k)))

/-- Its first channel is the first volume's cell, -/
theorem table_first (a3 : FVec Ideal S4x1x128x128x128 .f32) (a4 : FVec Ideal S4x8x128x128x128 .f32) (b : Fin 4) (r : Fin 2097152) :
    table a3 a4 (ix2 ⟨b.val * 2097152 + r.val, by omega⟩ 0)
      = shapeCast Cert.ReferenceIdeal.S4x1x2097152 a3 Cert.ReferenceIdeal.Gen.shapeCasts_S4x1x128x128x128_S4x1x2097152 (ix3 b 0 r) :=
  (table_apply a3 a4 b r 0).trans ((joined_first a3 a4 b _ _ _).trans (cells1_apply a3 b r).symm)

/-- and its next eight the second's. -/
theorem table_second (a3 : FVec Ideal S4x1x128x128x128 .f32) (a4 : FVec Ideal S4x8x128x128x128 .f32) (b : Fin 4) (r : Fin 2097152) (c : Fin 8) :
    table a3 a4 (ix2 ⟨b.val * 2097152 + r.val, by omega⟩ ⟨c.val + 1, by omega⟩)
      = shapeCast Cert.ReferenceIdeal.S4x8x2097152 a4 Cert.ReferenceIdeal.Gen.shapeCasts_S4x8x128x128x128_S4x8x2097152 (ix3 b c r) :=
  (table_apply a3 a4 b r ⟨c.val + 1, by omega⟩).trans ((joined_second a3 a4 b c _ _ _).trans (cells8_apply a4 b r c).symm)

end Cert.KernelIdeal.Tile
-- ==== Proof.Agree.lean ====
/-
The two programs' results of the same arguments are equal over the extended reals.
-/
module
public import proofs.«01_k».proof.Proof.KernelIdeal.Table

@[expose] public section
noncomputable section
namespace Cert.Agree
open Cert.KernelIdeal Cert.KernelIdeal.Gen Cert.KernelIdeal.Tile Cert.Interp
open Idealize.ShloMosaic
open Cert.ReferenceIdeal.Sample (eight vol1 vol8 axis0 axis1 axis2 out1 out8 sample1 sample8 sample1_apply sample8_apply)

/-- The kernel's points are the reference's. -/
theorem points_eq (a0 a1 : FVec Ideal S4x2048x3 .f32) (a2 : FVec Ideal S4x2048x64 .f32) (a5 : FVec Ideal S4x4x4 .f32) :
    points a0 a1 a2 a5 = Cert.ReferenceIdeal.Sample.points a0 a1 a2 a5 := rfl

/-! ## The volumes in the table -/

theorem voxAt_first (a3 : FVec Ideal S4x1x128x128x128 .f32) (a4 : FVec Ideal S4x8x128x128x128 .f32) (b : Fin 4) :
    voxAt (table a3 a4) (b.val * 2097152) 0
      = vol1 (shapeCast Cert.ReferenceIdeal.S4x1x2097152 a3 Cert.ReferenceIdeal.Gen.shapeCasts_S4x1x128x128x128_S4x1x2097152) b 0 := by
  funext w
  have h := table_first a3 a4 b ⟨w.toNat % 2097152, Nat.mod_lt _ (by omega)⟩
  refine Eq.trans ?_ h
  unfold voxAt at2
  congr 2
  exact Fin.ext (Nat.mod_eq_of_lt (by omega))

theorem voxAt_second (a3 : FVec Ideal S4x1x128x128x128 .f32) (a4 : FVec Ideal S4x8x128x128x128 .f32) (b : Fin 4) (c : Fin 8) :
    voxAt (table a3 a4) (b.val * 2097152) (c.val + 1)
      = vol8 (shapeCast Cert.ReferenceIdeal.S4x8x2097152 a4 Cert.ReferenceIdeal.Gen.shapeCasts_S4x8x128x128x128_S4x8x2097152) b c := by
  funext w
  have h := table_second a3 a4 b ⟨w.toNat % 2097152, Nat.mod_lt _ (by omega)⟩ c
  refine Eq.trans ?_ h
  unfold voxAt at2
  congr 2
  · exact Fin.ext (Nat.mod_eq_of_lt (by omega))
  · exact Fin.ext (Nat.mod_eq_of_lt (by omega))

/-! ## The points' coordinates -/

/-- A point's number in a row of all the points. -/
theorem at_point (f : S524288.Idx → Ideal .f32) (b : Fin 4) (i : Fin 2048) (j : Fin 64) :
    at1 f ((b.val * 2048 + i.val) * 64 + j.val) = f (ix1 ⟨(b.val * 2048 + i.val) * 64 + j.val, by omega⟩) := by
  unfold at1
  congr 2
  exact Fin.ext (Nat.mod_eq_of_lt (by omega))

theorem coordX_eq (p : FVec Ideal S4x2048x64x3 .f32) (b : Fin 4) (i : Fin 2048) (j : Fin 64) :
    at1 (coordX p) ((b.val * 2048 + i.val) * 64 + j.val) = axis0 p (ix2 b ⟨i.val * 64 + j.val, by omega⟩) := by
  rw [at_point, coordX_apply, axis0_apply]
  congr 2 <;> exact Fin.ext (by simp only []; omega)
theorem coordY_eq (p : FVec Ideal S4x2048x64x3 .f32) (b : Fin 4) (i : Fin 2048) (j : Fin 64) :
    at1 (coordY p) ((b.val * 2048 + i.val) * 64 + j.val) = axis1 p (ix2 b ⟨i.val * 64 + j.val, by omega⟩) := by
  rw [at_point, coordY_apply, axis1_apply]
  congr 2 <;> exact Fin.ext (by simp only []; omega)
theorem coordZ_eq (p : FVec Ideal S4x2048x64x3 .f32) (b : Fin 4) (i : Fin 2048) (j : Fin 64) :
    at1 (coordZ p) ((b.val * 2048 + i.val) * 64 + j.val) = axis2 p (ix2 b ⟨i.val * 64 + j.val, by omega⟩) := by
  rw [at_point, coordZ_apply, axis2_apply]
  congr 2 <;> exact Fin.ext (by simp only []; omega)

/-! ## The results' rearrangements -/

theorem first_apply (f : FVec Ideal S524288 .f32) (b : Fin 4) (i : Fin 2048) (j : Fin 64) (u : Fin 1) :
    shapeCast S4x2048x64x1 f shapeCasts_S524288_S4x2048x64x1 (ix4 b i j u) = f (ix1 ⟨(b.val * 2048 + i.val) * 64 + j.val, by omega⟩) := by
  pointwise
  congr 2
  exact Fin.ext (by simp only []; omega)
theorem second_apply (f : FVec Ideal S4194304 .f32) (b : Fin 4) (i : Fin 2048) (j : Fin 64) (c : Fin 8) :
    shapeCast S4x2048x64x8 f shapeCasts_S4194304_S4x2048x64x8 (ix4 b i j c) = f (ix1 ⟨((b.val * 2048 + i.val) * 64 + j.val) * 8 + c.val, by omega⟩) := by
  pointwise
  congr 2
  exact Fin.ext (by simp only []; omega)

theorem first_back (f : FVec Ideal Cert.ReferenceIdeal.S4x1x131072 .f32) (b : Fin 4) (i : Fin 2048) (j : Fin 64) (u : Fin 1) :
    shapeCast Cert.ReferenceIdeal.S4x2048x64x1 (transpose Cert.ReferenceIdeal.S4x131072x1 [0, 2, 1] f Cert.ReferenceIdeal.Gen.transposes_S4x1x131072_S4x131072x1_0_2_1)
      Cert.ReferenceIdeal.Gen.shapeCasts_S4x131072x1_S4x2048x64x1 (ix4 b i j u) = f (ix3 b 0 ⟨i.val * 64 + j.val, by omega⟩) := by
  pointwise
theorem second_back (f : FVec Ideal Cert.ReferenceIdeal.S4x8x131072 .f32) (b : Fin 4) (i : Fin 2048) (j : Fin 64) (c : Fin 8) :
    shapeCast Cert.ReferenceIdeal.S4x2048x64x8 (transpose Cert.ReferenceIdeal.S4x131072x8 [0, 2, 1] f Cert.ReferenceIdeal.Gen.transposes_S4x8x131072_S4x131072x8_0_2_1)
      Cert.ReferenceIdeal.Gen.shapeCasts_S4x131072x8_S4x2048x64x8 (ix4 b i j c) = f (ix3 b c ⟨i.val * 64 + j.val, by omega⟩) := by
  pointwise

/-! ## The results -/

variable (a0 a1 : FVec Ideal S4x2048x3 .f32) (a2 : FVec Ideal S4x2048x64 .f32) (a3 : FVec Ideal S4x1x128x128x128 .f32)
  (a4 : FVec Ideal S4x8x128x128x128 .f32) (a5 : FVec Ideal S4x4x4 .f32)

/-- The first results are equal, -/
theorem first_eq (p : FVec Ideal S4x2048x64x3 .f32) (hp : p = points a0 a1 a2 a5) :
    shapeCast S4x2048x64x1 (dens (table a3 a4) (coordX p) (coordY p) (coordZ p)) shapeCasts_S524288_S4x2048x64x1 = out1 a0 a1 a2 a3 a5 := by
  rw [points_eq] at hp
  suffices h : ∀ (b : Fin 4) (i : Fin 2048) (j : Fin 64) (u : Fin 1),
      shapeCast S4x2048x64x1 (dens (table a3 a4) (coordX p) (coordY p) (coordZ p)) shapeCasts_S524288_S4x2048x64x1 (ix4 b i j u) = out1 a0 a1 a2 a3 a5 (ix4 b i j u) by
    funext k
    idx_vars k
    exact h _ _ _ _
  intro b i j u
  unfold out1
  rw [← hp]
  refine (first_apply _ b i j u).trans (Eq.trans ?_ (first_back _ b i j u).symm)
  rw [sample1_apply]
  show chanAt _ _ _ _ ((b.val * 2048 + i.val) * 64 + j.val) 0 = _
  rw [chanAt_eq _ _ _ _ (by omega), coordX_eq, coordY_eq, coordZ_eq, show ((b.val * 2048 + i.val) * 64 + j.val) / 131072 = b.val by omega, voxAt_first]

/-- and the second. -/
theorem second_eq (p : FVec Ideal S4x2048x64x3 .f32) (hp : p = points a0 a1 a2 a5) :
    shapeCast S4x2048x64x8 (feat (table a3 a4) (coordX p) (coordY p) (coordZ p)) shapeCasts_S4194304_S4x2048x64x8 = out8 a0 a1 a2 a4 a5 := by
  rw [points_eq] at hp
  suffices h : ∀ (b : Fin 4) (i : Fin 2048) (j : Fin 64) (c : Fin 8),
      shapeCast S4x2048x64x8 (feat (table a3 a4) (coordX p) (coordY p) (coordZ p)) shapeCasts_S4194304_S4x2048x64x8 (ix4 b i j c) = out8 a0 a1 a2 a4 a5 (ix4 b i j c) by
    funext k
    idx_vars k
    exact h _ _ _ _
  intro b i j c
  unfold out8
  rw [← hp]
  refine (second_apply _ b i j c).trans (Eq.trans ?_ (second_back _ b i j c).symm)
  rw [sample8_apply]
  show chanAt _ _ _ _ ((((b.val * 2048 + i.val) * 64 + j.val) * 8 + c.val) / 8) ((((b.val * 2048 + i.val) * 64 + j.val) * 8 + c.val) % 8 + 1) = _
  rw [show (((b.val * 2048 + i.val) * 64 + j.val) * 8 + c.val) / 8 = (b.val * 2048 + i.val) * 64 + j.val by omega,
    show (((b.val * 2048 + i.val) * 64 + j.val) * 8 + c.val) % 8 = c.val by omega,
    chanAt_eq _ _ _ _ (by omega), coordX_eq, coordY_eq, coordZ_eq, show ((b.val * 2048 + i.val) * 64 + j.val) / 131072 = b.val by omega, voxAt_second]

end Cert.Agree
-- ==== Proof.Algebraic.lean ====
/-
The value claim: over the extended reals the kernel and the reference, given the same arguments, end with the same two
results.
-/
module
public import proofs.«01_k».proof.Defs
public import proofs.«01_k».proof.Proof.KernelIdeal.Ends
public import proofs.«01_k».proof.Proof.Agree

@[expose] public section
noncomputable section
namespace Cert.Proof
open Idealize.ShloMosaic Idealize.SL.Sem
open Cert.KernelIdeal (nD τ sig main_arg0 main_arg1 main_arg2 main_arg3 main_arg4 main_arg5 main_v32 main_v33)
open Cert.KernelIdeal.Tile (Ends atEnd end_dens end_feat xAt_eq yAt_eq zAt_eq tabAt_eq pointsAt args_kept run_main)
open Cert.ReferenceIdeal.Sample (out1 out8)

/-- The kernel's first result, at its end, is the reference's of its arguments, -/
theorem kernel_first (m : (ℓ : Loc nD τ sig) → Buf (Elt Ideal) ℓ) (r : PUnit × MemSt nD τ sig (Elt Ideal)) (h : Ends m r) (c : Dev nD) :
    r.2.mem ((c.tc : Thread nD τ).loc main_v32)
      = out1 (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg5)) := by
  refine (h.1 c main_v32 rfl).trans ((end_dens m c).trans ?_)
  rw [xAt_eq, yAt_eq, zAt_eq, tabAt_eq]
  exact Cert.Agree.first_eq _ _ _ _ _ _ _ rfl

/-- and its second. -/
theorem kernel_second (m : (ℓ : Loc nD τ sig) → Buf (Elt Ideal) ℓ) (r : PUnit × MemSt nD τ sig (Elt Ideal)) (h : Ends m r) (c : Dev nD) :
    r.2.mem ((c.tc : Thread nD τ).loc main_v33)
      = out8 (F := Ideal) (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) := by
  refine (h.1 c main_v33 rfl).trans ((end_feat m c).trans ?_)
  rw [xAt_eq, yAt_eq, zAt_eq, tabAt_eq]
  exact Cert.Agree.second_eq _ _ _ _ _ _ _ rfl

/-- The two programs' results agree. -/
theorem algebraic : Cert.algebraic_KernelIdeal_ReferenceIdeal (hKernelIdeal := Cert.KernelIdeal.Gen.facts) (hReferenceIdeal := Cert.ReferenceIdeal.Gen.facts) :=
  fun m g m' g' _ hargs =>
    ⟨fun c => out1 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg5)),
      fun c => out8 (F := Ideal) (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)),
      (θ_run Cert.KernelIdeal.defs _ _).mono (fun r h c => ⟨kernel_first m r h c, kernel_second m r h c, args_kept m r h c⟩) (run_main m g),
      (θ_run Cert.ReferenceIdeal.defs _ _).mono (fun r h c => by
        obtain ⟨h0, h1, h2, h3, h4, h5⟩ := hargs c
        refine ⟨(h c).1.trans ?_, (h c).2.1.trans ?_, (h c).2.2⟩
        · rw [h0, h1, h2, h3, h5]
        · rw [h0, h1, h2, h4, h5]) (Cert.ReferenceIdeal.Sample.run m' g')⟩

end Cert.Proof
-- ==== Proof.lean ====
/-
The certificate: the three frames, the ideal program's relation to the kernel (nothing is rewritten) and the equality of
the two programs' results, each from its own module.
-/
module

public import proofs.«01_k».proof.Defs
public import proofs.«01_k».proof.Proof.Frames
public import proofs.«01_k».proof.Proof.Algebraic

@[expose] public section

noncomputable section

namespace Cert.Proof

/-- Everything the statement claims. -/
theorem claim : Cert.Claim :=
  ⟨Cert.Kernel.Gen.facts, Cert.KernelIdeal.Gen.facts, Cert.ReferenceIdeal.Gen.facts, frame_kernel, frame_ideal, frame_reference, trivial, algebraic⟩

end Cert.Proof

end
